-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v59) = v0 c
          ∧ r.2.mem ((c.tc : Thread Cert.Reference21Ideal.nD Cert.Reference21Ideal.τ).loc Cert.Reference21Ideal.main_v64) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v59) = v0 c
          ∧ r.2.mem ((c.tc : Thread Cert.Reference22Ideal.nD Cert.Reference22Ideal.τ).loc Cert.Reference22Ideal.main_v77) = v1 c
          ∧ r.2.mem ((c.tc : Thread Cert.Reference22Ideal.nD Cert.Reference22Ideal.τ).loc Cert.Reference22Ideal.main_v78) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v59) = v0 c
          ∧ r.2.mem ((c.tc : Thread Cert.Reference23Ideal.nD Cert.Reference23Ideal.τ).loc Cert.Reference23Ideal.main_v77) = v1 c
          ∧ r.2.mem ((c.tc : Thread Cert.Reference23Ideal.nD Cert.Reference23Ideal.τ).loc Cert.Reference23Ideal.main_v78) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v68) = v0 c
          ∧ r.2.mem ((c.tc : Thread Cert.Reference20Ideal.nD Cert.Reference20Ideal.τ).loc Cert.Reference20Ideal.main_v51) = v1 c
          ∧ r.2.mem ((c.tc : Thread Cert.Reference20Ideal.nD Cert.Reference20Ideal.τ).loc Cert.Reference20Ideal.main_v67) = v2 c
          ∧ r.2.mem ((c.tc : Thread Cert.Reference20Ideal.nD Cert.Reference20Ideal.τ).loc Cert.Reference20Ideal.main_v69) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v15) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_v7) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v28) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_v18) = v1 c
          ∧ r.2.mem ((c.tc : Thread Cert.Reference24Ideal.nD Cert.Reference24Ideal.τ).loc Cert.Reference24Ideal.main_v24) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v4) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel20 : Cert.Kernel20.Facts) (hKernel20Ideal : Cert.Kernel20Ideal.Facts) (hReference20Ideal : Cert.Reference20Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel25 : Cert.Kernel25.Facts) (hKernel25Ideal : Cert.Kernel25Ideal.Facts) (hReference25Ideal : Cert.Reference25Ideal.Facts) (hKernel24 : Cert.Kernel24.Facts) (hKernel24Ideal : Cert.Kernel24Ideal.Facts) (hReference24Ideal : Cert.Reference24Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel20_Kernel20Ideal
    ∧ algebraic_Kernel20Ideal_Reference20Ideal (hKernel20Ideal := hKernel20Ideal) (hReference20Ideal := hReference20Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel25_Kernel25Ideal
    ∧ algebraic_Kernel25Ideal_Reference25Ideal (hKernel25Ideal := hKernel25Ideal) (hReference25Ideal := hReference25Ideal)
    ∧ preserves_Kernel24_Kernel24Ideal
    ∧ algebraic_Kernel24Ideal_Reference24Ideal (hKernel24Ideal := hKernel24Ideal) (hReference24Ideal := hReference24Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
-- ==== Kernel.lean ====
abbrev S4096x1024 : Shape := ⟨2, ![4096, 1024]⟩
abbrev S4096x3072 : Shape := ⟨2, ![4096, 3072]⟩
abbrev S3x1024 : Shape := ⟨2, ![3, 1024]⟩
abbrev S8x1024 : Shape := ⟨2, ![8, 1024]⟩
abbrev S4096x128 : Shape := ⟨2, ![4096, 128]⟩
abbrev S3x128 : Shape := ⟨2, ![3, 128]⟩
abbrev S8x128 : Shape := ⟨2, ![8, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S8x128, .f32⟩
  | .local _ .vmem, ⟨17, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x1024 : Shape := ⟨2, ![4096, 1024]⟩
abbrev S4096x3072 : Shape := ⟨2, ![4096, 3072]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S4098x1024, .f32⟩
  | .hbm, ⟨50, _⟩ => ⟨S1x1024, .f32⟩
  | .hbm, ⟨51, _⟩ => ⟨S_, .f32⟩
  | .hbm, ⟨52, _⟩ => ⟨S3x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S4098x1024, .f32⟩
  | .hbm, ⟨63, _⟩ => ⟨S4098x1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S4098x1024, .f32⟩
  | .hbm, ⟨78, _⟩ => ⟨S4098x1024, .f32⟩
  | .hbm, ⟨79, _⟩ => ⟨S1x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S2x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .bf16⟩
  | .hbm, ⟨88, _⟩ => ⟨S4096x1024, .bf16⟩
  | .hbm, ⟨89, _⟩ => ⟨S4096x1024, .bf16⟩
  | .hbm, ⟨90, _⟩ => ⟨S_, .i32⟩
  | .hbm, ⟨91, _⟩ => ⟨S_, .f32⟩
  | .hbm, ⟨92, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_call0_v0 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Kernel3.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x2048x1408 : Shape := ⟨3, ![1, 2048, 1408]⟩
abbrev S1x1024x1408 : Shape := ⟨3, ![1, 1024, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2x4096x2816 : Shape := ⟨3, ![2, 4096, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩
abbrev S4096x2816 : Shape := ⟨2, ![4096, 2816]⟩
abbrev S1x4096x2816 : Shape := ⟨3, ![1, 4096, 2816]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S2x4096x2816, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S1x4096x2816, .f32⟩
  | .hbm, ⟨12, _⟩ => ⟨S4096x2816, .f32⟩
  | .hbm, ⟨13, _⟩ => ⟨S1x4096x2816, .f32⟩
  | .hbm, ⟨14, _⟩ => ⟨S4096x2816, .f32⟩
  | .hbm, ⟨15, _⟩ => ⟨S4096x5632, .f32⟩
  | .hbm, ⟨16, _⟩ => ⟨S4096x1024, .f32⟩
  | .hbm, ⟨17, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel4.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S2x4096x2816, .f32⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S4096x2816, .f32⟩
  | .hbm, ⟨11, _⟩ => ⟨S1x4096x2816, .f32⟩
  | .hbm, ⟨12, _⟩ => ⟨S4096x2816, .f32⟩
  | .hbm, ⟨13, _⟩ => ⟨S4096x5632, .f32⟩
  | .hbm, ⟨14, _⟩ => ⟨S5632x1024, .f32⟩
  | .hbm, ⟨15, _⟩ => ⟨S1024x5632, .f32⟩
  | .hbm, ⟨16, _⟩ => ⟨S1024x4x1408, .f32⟩
  | .hbm, ⟨17, _⟩ => ⟨S4x1024x1408, .f32⟩
  | .hbm, ⟨18, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S1x4096x1024 : Shape := ⟨3, ![1, 4096, 1024]⟩
abbrev S1x2816x1024 : Shape := ⟨3, ![1, 2816, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x4096x1024, .bf16⟩
  | .hbm, ⟨3, _⟩ => ⟨S1x2816x1024, .bf16⟩
  | .local _ .vmem, ⟨0, _⟩ => ⟨S4096x256, .bf16⟩
  | .local _ .vmem, ⟨1, _⟩ => ⟨S4096x256, .bf16⟩
  | .local _ .vmem, ⟨2, _⟩ => ⟨S1x4096x1024, .bf16⟩
  | .local _ .vmem, ⟨3, _⟩ => ⟨S1x256x1024, .bf16⟩
  | .local _ .vmem, ⟨4, _⟩ => ⟨S1x256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S2x4096x2816, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference6Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel7.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference7Ideal.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4096x3072 : Shape := ⟨2, ![4096, 3072]⟩
abbrev S4x1024x768 : Shape := ⟨3, ![4, 1024, 768]⟩
abbrev S1x4096x3072 : Shape := ⟨3, ![1, 4096, 3072]⟩
abbrev S4096x1024 : Shape := ⟨2, ![4096, 1024]⟩
abbrev S1x2048x768 : Shape := ⟨3, ![1, 2048, 768]⟩
abbrev S1x1024x768 : Shape := ⟨3, ![1, 1024, 768]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4x1024x768, .bf16⟩
  | .hbm, ⟨2, _⟩ => ⟨S1x4096x3072, .bf16⟩
  | .hbm, ⟨3, _⟩ => ⟨S4096x1024, .bf16⟩
  | .local _ .vmem, ⟨0, _⟩ => ⟨S1x2048x768, .bf16⟩
  | .local _ .vmem, ⟨1, _⟩ => ⟨S1x2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x3072 : Shape := ⟨2, ![4096, 3072]⟩
abbrev S4x1024x768 : Shape := ⟨3, ![4, 1024, 768]⟩
abbrev S1024x4x768 : Shape := ⟨3, ![1024, 4, 768]⟩
abbrev S1024x3072 : Shape := ⟨2, ![1024, 3072]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x1024x768, .bf16⟩
  | .hbm, ⟨2, _⟩ => ⟨S4x1024x768, .f32⟩
  | .hbm, ⟨3, _⟩ => ⟨S1024x4x768, .f32⟩
  | .hbm, ⟨4, _⟩ => ⟨S1024x3072, .f32⟩
  | .hbm, ⟨5, _⟩ => ⟨S_, .f32⟩
  | .hbm, ⟨6, _⟩ => ⟨S4096x1024, .f32⟩
  | .hbm, ⟨7, _⟩ => ⟨S4096x3072, .f32⟩
  | .hbm, ⟨8, _⟩ => ⟨S4096x3072, .f32⟩
  | .hbm, ⟨9, _⟩ => ⟨S4096x1024, .f32⟩
  | .hbm, ⟨10, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S4096x3072 : Shape := ⟨2, ![4096, 3072]⟩
abbrev S1x4096x3072 : Shape := ⟨3, ![1, 4096, 3072]⟩
abbrev S4x1024x768 : Shape := ⟨3, ![4, 1024, 768]⟩
abbrev S1x4096x768 : Shape := ⟨3, ![1, 4096, 768]⟩
abbrev S1x1024x768 : Shape := ⟨3, ![1, 1024, 768]⟩
abbrev S4096x768 : Shape := ⟨2, ![4096, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1x4096x3072, .bf16⟩
  | .hbm, ⟨3, _⟩ => ⟨S4x1024x768, .bf16⟩
  | .local _ .vmem, ⟨0, _⟩ => ⟨S4096x1024, .bf16⟩
  | .local _ .vmem, ⟨1, _⟩ => ⟨S1x4096x768, .bf16⟩
  | .local _ .vmem, ⟨2, _⟩ => ⟨S1x4096x768, .bf16⟩
  | .local _ .vmem, ⟨3, _⟩ => ⟨S1x1024x768, .bf16⟩
  | .local _ .vmem, ⟨4, _⟩ => ⟨S1x1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S4x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x1024 : Shape := ⟨2, ![4096, 1024]⟩
abbrev S4x1024x768 : Shape := ⟨3, ![4, 1024, 768]⟩
abbrev S4096x3072 : Shape := ⟨2, ![4096, 3072]⟩
abbrev S2048x1024 : Shape := ⟨2, ![2048, 1024]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference11Ideal.lean ====
abbrev S4096x1024 : Shape := ⟨2, ![4096, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S4x1024x768, .f32⟩
  | .hbm, ⟨3, _⟩ => ⟨S1024x4x768, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S2x4096x1024 : Shape := ⟨3, ![2, 4096, 1024]⟩
abbrev S512x1024 : Shape := ⟨2, ![512, 1024]⟩
abbrev S2x512x1024 : Shape := ⟨3, ![2, 512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S2x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S2x4096x1024 : Shape := ⟨3, ![2, 4096, 1024]⟩
abbrev S1x4096x1024 : Shape := ⟨3, ![1, 4096, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S2x4096x1024, .f32⟩
  | .hbm, ⟨3, _⟩ => ⟨S1x4096x1024, .f32⟩
  | .hbm, ⟨4, _⟩ => ⟨S4096x1024, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x4096x1024, .f32⟩
  | .hbm, ⟨25, _⟩ => ⟨S_, .f32⟩
  | .hbm, ⟨26, _⟩ => ⟨S2x4096x1024, .f32⟩
  | .hbm, ⟨27, _⟩ => ⟨S1x4096x1024, .f32⟩
  | .hbm, ⟨28, _⟩ => ⟨S_, .f32⟩
  | .hbm, ⟨29, _⟩ => ⟨S2x4096x1024, .f32⟩
  | .hbm, ⟨30, _⟩ => ⟨S2x4096x1024, .f32⟩
  | .hbm, ⟨31, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel12.lean ====
abbrev S4x1024x1408 : Shape := ⟨3, ![4, 1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S4x1024x1408 : Shape := ⟨3, ![4, 1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S_, .f32⟩
  | .hbm, ⟨7, _⟩ => ⟨S4x1024x1408, .f32⟩
  | .hbm, ⟨8, _⟩ => ⟨S4x1024x1408, .f32⟩
  | .hbm, ⟨9, _⟩ => ⟨S_, .f32⟩
  | .hbm, ⟨10, _⟩ => ⟨S4x1024x1408, .f32⟩
  | .hbm, ⟨11, _⟩ => ⟨S4x1024x1408, .f32⟩
  | .hbm, ⟨12, _⟩ => ⟨S4x1024x1408, .f32⟩
  | .hbm, ⟨13, _⟩ => ⟨S_, .f32⟩
  | .hbm, ⟨14, _⟩ => ⟨S4x1024x1408, .f32⟩
  | .hbm, ⟨15, _⟩ => ⟨S4x1024x1408, .f32⟩
  | .hbm, ⟨16, _⟩ => ⟨S4x1024x1408, .f32⟩
  | .hbm, ⟨17, _⟩ => ⟨S_, .f32⟩
  | .hbm, ⟨18, _⟩ => ⟨S4x1024x1408, .f32⟩
  | .hbm, ⟨19, _⟩ => ⟨S4x1024x1408, .f32⟩
  | .hbm, ⟨20, _⟩ => ⟨S4x1024x1408, .f32⟩
  | .hbm, ⟨21, _⟩ => ⟨S_, .f32⟩
  | .hbm, ⟨22, _⟩ => ⟨S4x1024x1408, .f32⟩
  | .hbm, ⟨23, _⟩ => ⟨S4x1024x1408, .f32⟩
  | .hbm, ⟨24, _⟩ => ⟨S_, .f32⟩
  | .hbm, ⟨25, _⟩ => ⟨S4x1024x1408, .f32⟩
  | .hbm, ⟨26, _⟩ => ⟨S4x1024x1408, .f32⟩
  | .hbm, ⟨27, _⟩ => ⟨S4x1024x1408, .f32⟩
  | .hbm, ⟨28, _⟩ => ⟨S_, .f32⟩
  | .hbm, ⟨29, _⟩ => ⟨S4x1024x1408, .f32⟩
  | .hbm, ⟨30, _⟩ => ⟨S4x1024x1408, .f32⟩
  | .hbm, ⟨31, _⟩ => ⟨S4x1024x1408, .f32⟩
  | .hbm, ⟨32, _⟩ => ⟨S_, .f32⟩
  | .hbm, ⟨33, _⟩ => ⟨S4x1024x1408, .f32⟩
  | .hbm, ⟨34, _⟩ => ⟨S4x1024x1408, .f32⟩
  | .hbm, ⟨35, _⟩ => ⟨S4x1024x1408, .f32⟩
  | .hbm, ⟨36, _⟩ => ⟨S_, .f32⟩
  | .hbm, ⟨37, _⟩ => ⟨S4x1024x1408, .f32⟩
  | .hbm, ⟨38, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S4x704x1024 : Shape := ⟨3, ![4, 704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S4x704x1024 : Shape := ⟨3, ![4, 704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S_, .f32⟩
  | .hbm, ⟨7, _⟩ => ⟨S4x704x1024, .f32⟩
  | .hbm, ⟨8, _⟩ => ⟨S4x704x1024, .f32⟩
  | .hbm, ⟨9, _⟩ => ⟨S_, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S4x704x1024, .f32⟩
  | .hbm, ⟨15, _⟩ => ⟨S4x704x1024, .f32⟩
  | .hbm, ⟨16, _⟩ => ⟨S4x704x1024, .f32⟩
  | .hbm, ⟨17, _⟩ => ⟨S_, .f32⟩
  | .hbm, ⟨18, _⟩ => ⟨S4x704x1024, .f32⟩
  | .hbm, ⟨19, _⟩ => ⟨S4x704x1024, .f32⟩
  | .hbm, ⟨20, _⟩ => ⟨S4x704x1024, .f32⟩
  | .hbm, ⟨21, _⟩ => ⟨S_, .f32⟩
  | .hbm, ⟨22, _⟩ => ⟨S4x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S4x704x1024, .f32⟩
  | .hbm, ⟨28, _⟩ => ⟨S_, .f32⟩
  | .hbm, ⟨29, _⟩ => ⟨S4x704x1024, .f32⟩
  | .hbm, ⟨30, _⟩ => ⟨S4x704x1024, .f32⟩
  | .hbm, ⟨31, _⟩ => ⟨S4x704x1024, .f32⟩
  | .hbm, ⟨32, _⟩ => ⟨S_, .f32⟩
  | .hbm, ⟨33, _⟩ => ⟨S4x704x1024, .f32⟩
  | .hbm, ⟨34, _⟩ => ⟨S4x704x1024, .f32⟩
  | .hbm, ⟨35, _⟩ => ⟨S4x704x1024, .f32⟩
  | .hbm, ⟨36, _⟩ => ⟨S_, .f32⟩
  | .hbm, ⟨37, _⟩ => ⟨S4x704x1024, .f32⟩
  | .hbm, ⟨38, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S2x1024x768 : Shape := ⟨3, ![2, 1024, 768]⟩
abbrev S1x256x768 : Shape := ⟨3, ![1, 256, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S2x1024x768 : Shape := ⟨3, ![2, 1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S_, .f32⟩
  | .hbm, ⟨7, _⟩ => ⟨S2x1024x768, .f32⟩
  | .hbm, ⟨8, _⟩ => ⟨S2x1024x768, .f32⟩
  | .hbm, ⟨9, _⟩ => ⟨S_, .f32⟩
  | .hbm, ⟨10, _⟩ => ⟨S2x1024x768, .f32⟩
  | .hbm, ⟨11, _⟩ => ⟨S2x1024x768, .f32⟩
  | .hbm, ⟨12, _⟩ => ⟨S2x1024x768, .f32⟩
  | .hbm, ⟨13, _⟩ => ⟨S_, .f32⟩
  | .hbm, ⟨14, _⟩ => ⟨S2x1024x768, .f32⟩
  | .hbm, ⟨15, _⟩ => ⟨S2x1024x768, .f32⟩
  | .hbm, ⟨16, _⟩ => ⟨S2x1024x768, .f32⟩
  | .hbm, ⟨17, _⟩ => ⟨S_, .f32⟩
  | .hbm, ⟨18, _⟩ => ⟨S2x1024x768, .f32⟩
  | .hbm, ⟨19, _⟩ => ⟨S2x1024x768, .f32⟩
  | .hbm, ⟨20, _⟩ => ⟨S2x1024x768, .f32⟩
  | .hbm, ⟨21, _⟩ => ⟨S_, .f32⟩
  | .hbm, ⟨22, _⟩ => ⟨S2x1024x768, .f32⟩
  | .hbm, ⟨23, _⟩ => ⟨S2x1024x768, .f32⟩
  | .hbm, ⟨24, _⟩ => ⟨S_, .f32⟩
  | .hbm, ⟨25, _⟩ => ⟨S2x1024x768, .f32⟩
  | .hbm, ⟨26, _⟩ => ⟨S2x1024x768, .f32⟩
  | .hbm, ⟨27, _⟩ => ⟨S2x1024x768, .f32⟩
  | .hbm, ⟨28, _⟩ => ⟨S_, .f32⟩
  | .hbm, ⟨29, _⟩ => ⟨S2x1024x768, .f32⟩
  | .hbm, ⟨30, _⟩ => ⟨S2x1024x768, .f32⟩
  | .hbm, ⟨31, _⟩ => ⟨S2x1024x768, .f32⟩
  | .hbm, ⟨32, _⟩ => ⟨S_, .f32⟩
  | .hbm, ⟨33, _⟩ => ⟨S2x1024x768, .f32⟩
  | .hbm, ⟨34, _⟩ => ⟨S2x1024x768, .f32⟩
  | .hbm, ⟨35, _⟩ => ⟨S2x1024x768, .f32⟩
  | .hbm, ⟨36, _⟩ => ⟨S_, .f32⟩
  | .hbm, ⟨37, _⟩ => ⟨S2x1024x768, .f32⟩
  | .hbm, ⟨38, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S2x256x1024 : Shape := ⟨3, ![2, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S2x1024x512 : Shape := ⟨3, ![2, 1024, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S2x1024x512 : Shape := ⟨3, ![2, 1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S_, .f32⟩
  | .hbm, ⟨7, _⟩ => ⟨S2x1024x512, .f32⟩
  | .hbm, ⟨8, _⟩ => ⟨S2x1024x512, .f32⟩
  | .hbm, ⟨9, _⟩ => ⟨S_, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S_, .f32⟩
  | .hbm, ⟨14, _⟩ => ⟨S2x1024x512, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S_, .f32⟩
  | .hbm, ⟨25, _⟩ => ⟨S2x1024x512, .f32⟩
  | .hbm, ⟨26, _⟩ => ⟨S2x1024x512, .f32⟩
  | .hbm, ⟨27, _⟩ => ⟨S2x1024x512, .f32⟩
  | .hbm, ⟨28, _⟩ => ⟨S_, .f32⟩
  | .hbm, ⟨29, _⟩ => ⟨S2x1024x512, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference17Ideal.lean ====
abbrev S6x256 : Shape := ⟨2, ![6, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S_, .f32⟩
  | .hbm, ⟨5, _⟩ => ⟨S6x256, .f32⟩
  | .hbm, ⟨6, _⟩ => ⟨S6x256, .f32⟩
  | .hbm, ⟨7, _⟩ => ⟨S_, .f32⟩
  | .hbm, ⟨8, _⟩ => ⟨S6x256, .f32⟩
  | .hbm, ⟨9, _⟩ => ⟨S6x256, .f32⟩
  | .hbm, ⟨10, _⟩ => ⟨S6x256, .f32⟩
  | .hbm, ⟨11, _⟩ => ⟨S_, .f32⟩
  | .hbm, ⟨12, _⟩ => ⟨S6x256, .f32⟩
  | .hbm, ⟨13, _⟩ => ⟨S6x256, .f32⟩
  | .hbm, ⟨14, _⟩ => ⟨S6x256, .f32⟩
  | .hbm, ⟨15, _⟩ => ⟨S_, .f32⟩
  | .hbm, ⟨16, _⟩ => ⟨S6x256, .f32⟩
  | .hbm, ⟨17, _⟩ => ⟨S6x256, .f32⟩
  | .hbm, ⟨18, _⟩ => ⟨S6x256, .f32⟩
  | .hbm, ⟨19, _⟩ => ⟨S_, .f32⟩
  | .hbm, ⟨20, _⟩ => ⟨S6x256, .f32⟩
  | .hbm, ⟨21, _⟩ => ⟨S6x256, .f32⟩
  | .hbm, ⟨22, _⟩ => ⟨S_, .f32⟩
  | .hbm, ⟨23, _⟩ => ⟨S6x256, .f32⟩
  | .hbm, ⟨24, _⟩ => ⟨S6x256, .f32⟩
  | .hbm, ⟨25, _⟩ => ⟨S6x256, .f32⟩
  | .hbm, ⟨26, _⟩ => ⟨S_, .f32⟩
  | .hbm, ⟨27, _⟩ => ⟨S6x256, .f32⟩
  | .hbm, ⟨28, _⟩ => ⟨S6x256, .f32⟩
  | .hbm, ⟨29, _⟩ => ⟨S6x256, .f32⟩
  | .hbm, ⟨30, _⟩ => ⟨S_, .f32⟩
  | .hbm, ⟨31, _⟩ => ⟨S6x256, .f32⟩
  | .hbm, ⟨32, _⟩ => ⟨S6x256, .f32⟩
  | .hbm, ⟨33, _⟩ => ⟨S6x256, .f32⟩
  | .hbm, ⟨34, _⟩ => ⟨S_, .f32⟩
  | .hbm, ⟨35, _⟩ => ⟨S6x256, .f32⟩
  | .hbm, ⟨36, _⟩ => ⟨S6x256, .f32⟩
  | _, _ => ⟨S6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x8 : Shape := ⟨2, ![1024, 8]⟩
abbrev S4x8x1536 : Shape := ⟨3, ![4, 8, 1536]⟩
abbrev S4x1024x1536 : Shape := ⟨3, ![4, 1024, 1536]⟩
abbrev S256x8 : Shape := ⟨2, ![256, 8]⟩
abbrev S1x8x1536 : Shape := ⟨3, ![1, 8, 1536]⟩
abbrev S1x256x1536 : Shape := ⟨3, ![1, 256, 1536]⟩
abbrev S8x1536 : Shape := ⟨2, ![8, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S1024x8, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S256x8, .f32⟩
  | .local _ .vmem, ⟨1, _⟩ => ⟨S256x8, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S1024x8 : Shape := ⟨2, ![1024, 8]⟩
abbrev S4x8x1536 : Shape := ⟨3, ![4, 8, 1536]⟩
abbrev S4x1024x1536 : Shape := ⟨3, ![4, 1024, 1536]⟩
abbrev S_ : Shape := ⟨0, ![]⟩
abbrev S4x1536x1024 : Shape := ⟨3, ![4, 1536, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S1024x8, .f32⟩
  | .hbm, ⟨6, _⟩ => ⟨S1024x8, .f32⟩
  | .hbm, ⟨7, _⟩ => ⟨S_, .f32⟩
  | .hbm, ⟨8, _⟩ => ⟨S1024x8, .f32⟩
  | .hbm, ⟨9, _⟩ => ⟨S1024x8, .f32⟩
  | .hbm, ⟨10, _⟩ => ⟨S_, .f32⟩
  | .hbm, ⟨11, _⟩ => ⟨S1024x8, .f32⟩
  | .hbm, ⟨12, _⟩ => ⟨S1024x8, .f32⟩
  | .hbm, ⟨13, _⟩ => ⟨S1024x8, .f32⟩
  | .hbm, ⟨14, _⟩ => ⟨S4x1536x1024, .f32⟩
  | .hbm, ⟨15, _⟩ => ⟨S4x1024x1536, .f32⟩
  | .hbm, ⟨16, _⟩ => ⟨S_, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S4x1024x1536, .f32⟩
  | .hbm, ⟨23, _⟩ => ⟨S_, .f32⟩
  | .hbm, ⟨24, _⟩ => ⟨S4x1024x1536, .f32⟩
  | .hbm, ⟨25, _⟩ => ⟨S4x1024x1536, .f32⟩
  | .hbm, ⟨26, _⟩ => ⟨S4x1024x1536, .f32⟩
  | .hbm, ⟨27, _⟩ => ⟨S_, .f32⟩
  | .hbm, ⟨28, _⟩ => ⟨S4x1024x1536, .f32⟩
  | .hbm, ⟨29, _⟩ => ⟨S4x1024x1536, .f32⟩
  | .hbm, ⟨30, _⟩ => ⟨S4x1024x1536, .f32⟩
  | .hbm, ⟨31, _⟩ => ⟨S_, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4x1024x1536, .f32⟩
  | .hbm, ⟨38, _⟩ => ⟨S_, .f32⟩
  | .hbm, ⟨39, _⟩ => ⟨S4x1024x1536, .f32⟩
  | .hbm, ⟨40, _⟩ => ⟨S4x1024x1536, .f32⟩
  | .hbm, ⟨41, _⟩ => ⟨S4x1024x1536, .f32⟩
  | .hbm, ⟨42, _⟩ => ⟨S_, .f32⟩
  | .hbm, ⟨43, _⟩ => ⟨S4x1024x1536, .f32⟩
  | .hbm, ⟨44, _⟩ => ⟨S4x1024x1536, .f32⟩
  | .hbm, ⟨45, _⟩ => ⟨S4x1024x1536, .f32⟩
  | .hbm, ⟨46, _⟩ => ⟨S_, .f32⟩
  | .hbm, ⟨47, _⟩ => ⟨S4x1024x1536, .f32⟩
  | .hbm, ⟨48, _⟩ => ⟨S4x1024x1536, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Kernel19.lean ====
abbrev S640x1024 : Shape := ⟨2, ![640, 1024]⟩
abbrev S160x1024 : Shape := ⟨2, ![160, 1024]⟩

abbrev nBuf : Space → Nat
  | .hbm => 7
  | .vmem => 14
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S640x1024, .f32⟩
  | .hbm, ⟨5, _⟩ => ⟨S640x1024, .f32⟩
  | .hbm, ⟨6, _⟩ => ⟨S640x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S640x1024 : Shape := ⟨2, ![640, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S_, .f32⟩
  | .hbm, ⟨5, _⟩ => ⟨S640x1024, .f32⟩
  | .hbm, ⟨6, _⟩ => ⟨S640x1024, .f32⟩
  | .hbm, ⟨7, _⟩ => ⟨S_, .f32⟩
  | .hbm, ⟨8, _⟩ => ⟨S640x1024, .f32⟩
  | .hbm, ⟨9, _⟩ => ⟨S640x1024, .f32⟩
  | .hbm, ⟨10, _⟩ => ⟨S640x1024, .f32⟩
  | .hbm, ⟨11, _⟩ => ⟨S_, .f32⟩
  | .hbm, ⟨12, _⟩ => ⟨S640x1024, .f32⟩
  | .hbm, ⟨13, _⟩ => ⟨S640x1024, .f32⟩
  | .hbm, ⟨14, _⟩ => ⟨S640x1024, .f32⟩
  | .hbm, ⟨15, _⟩ => ⟨S_, .f32⟩
  | .hbm, ⟨16, _⟩ => ⟨S640x1024, .f32⟩
  | .hbm, ⟨17, _⟩ => ⟨S640x1024, .f32⟩
  | .hbm, ⟨18, _⟩ => ⟨S640x1024, .f32⟩
  | .hbm, ⟨19, _⟩ => ⟨S_, .f32⟩
  | .hbm, ⟨20, _⟩ => ⟨S640x1024, .f32⟩
  | .hbm, ⟨21, _⟩ => ⟨S640x1024, .f32⟩
  | .hbm, ⟨22, _⟩ => ⟨S_, .f32⟩
  | .hbm, ⟨23, _⟩ => ⟨S640x1024, .f32⟩
  | .hbm, ⟨24, _⟩ => ⟨S640x1024, .f32⟩
  | .hbm, ⟨25, _⟩ => ⟨S640x1024, .f32⟩
  | .hbm, ⟨26, _⟩ => ⟨S_, .f32⟩
  | .hbm, ⟨27, _⟩ => ⟨S640x1024, .f32⟩
  | .hbm, ⟨28, _⟩ => ⟨S640x1024, .f32⟩
  | .hbm, ⟨29, _⟩ => ⟨S640x1024, .f32⟩
  | .hbm, ⟨30, _⟩ => ⟨S_, .f32⟩
  | .hbm, ⟨31, _⟩ => ⟨S640x1024, .f32⟩
  | .hbm, ⟨32, _⟩ => ⟨S640x1024, .f32⟩
  | .hbm, ⟨33, _⟩ => ⟨S640x1024, .f32⟩
  | .hbm, ⟨34, _⟩ => ⟨S_, .f32⟩
  | .hbm, ⟨35, _⟩ => ⟨S640x1024, .f32⟩
  | .hbm, ⟨36, _⟩ => ⟨S640x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S6x1024 : Shape := ⟨2, ![6, 1024]⟩
abbrev S8x1024 : Shape := ⟨2, ![8, 1024]⟩
abbrev S512x1024 : Shape := ⟨2, ![512, 1024]⟩
abbrev S3x8x1024 : Shape := ⟨3, ![3, 8, 1024]⟩
abbrev S512 : Shape := ⟨1, ![512]⟩
abbrev S512x1 : Shape := ⟨2, ![512, 1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S6x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S3x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v64 : BitVec 1 := Scalar.cmpi .eq arg0 c7_i32
  let v65 : BitVec 32 := Scalar.extui v64
  let c0_i32_36 : BitVec 32 := 0#32
  let v66 : BitVec 1 := Scalar.cmpi .ne v65 c0_i32_36
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S4096x1024 : Shape := ⟨2, ![4096, 1024]⟩
abbrev S1x1024 : Shape := ⟨2, ![1, 1024]⟩
abbrev S6x1024 : Shape := ⟨2, ![6, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S5x1024 : Shape := ⟨2, ![5, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S5x1024, .f32⟩
  | .hbm, ⟨84, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S6x1024 : Shape := ⟨2, ![6, 1024]⟩
abbrev S8x1024 : Shape := ⟨2, ![8, 1024]⟩
abbrev S512x1024 : Shape := ⟨2, ![512, 1024]⟩
abbrev S4x8x1024 : Shape := ⟨3, ![4, 8, 1024]⟩
abbrev S512 : Shape := ⟨1, ![512]⟩
abbrev S512x1 : Shape := ⟨2, ![512, 1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .bf16⟩
  | .hbm, ⟨6, _⟩ => ⟨S6x1024, .f32⟩
  | .hbm, ⟨7, _⟩ => ⟨S4096x1024, .f32⟩
  | .hbm, ⟨8, _⟩ => ⟨S8x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S6x1024, .f32⟩
  | .local _ .vmem, ⟨8, _⟩ => ⟨S512x1024, .bf16⟩
  | .local _ .vmem, ⟨9, _⟩ => ⟨S512x1024, .bf16⟩
  | .local _ .vmem, ⟨10, _⟩ => ⟨S6x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | .local _ .vmem, ⟨16, _⟩ => ⟨S4x8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_47 : BitVec 32 := 0#32
  let v83 : BitVec 1 := Scalar.cmpi .ne v82 c0_i32_47
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference22Ideal.lean ====
abbrev S4096x1024 : Shape := ⟨2, ![4096, 1024]⟩
abbrev S1x1024 : Shape := ⟨2, ![1, 1024]⟩
abbrev S6x1024 : Shape := ⟨2, ![6, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x1024 : Shape := ⟨2, ![4, 1024]⟩
abbrev S8x1024 : Shape := ⟨2, ![8, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .bf16⟩
  | .hbm, ⟨6, _⟩ => ⟨S6x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S_, .f32⟩
  | .hbm, ⟨100, _⟩ => ⟨S4x1024, .f32⟩
  | .hbm, ⟨101, _⟩ => ⟨S8x1024, .f32⟩
  | .hbm, ⟨102, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S6x1024 : Shape := ⟨2, ![6, 1024]⟩
abbrev S8x1024 : Shape := ⟨2, ![8, 1024]⟩
abbrev S512x1024 : Shape := ⟨2, ![512, 1024]⟩
abbrev S4x8x1024 : Shape := ⟨3, ![4, 8, 1024]⟩
abbrev S512 : Shape := ⟨1, ![512]⟩
abbrev S512x1 : Shape := ⟨2, ![512, 1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .bf16⟩
  | .hbm, ⟨6, _⟩ => ⟨S6x1024, .f32⟩
  | .hbm, ⟨7, _⟩ => ⟨S4096x1024, .f32⟩
  | .hbm, ⟨8, _⟩ => ⟨S8x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S6x1024, .f32⟩
  | .local _ .vmem, ⟨8, _⟩ => ⟨S512x1024, .bf16⟩
  | .local _ .vmem, ⟨9, _⟩ => ⟨S512x1024, .bf16⟩
  | .local _ .vmem, ⟨10, _⟩ => ⟨S6x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | .local _ .vmem, ⟨16, _⟩ => ⟨S4x8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_47 : BitVec 32 := 0#32
  let v83 : BitVec 1 := Scalar.cmpi .ne v82 c0_i32_47
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference23Ideal.lean ====
abbrev S4096x1024 : Shape := ⟨2, ![4096, 1024]⟩
abbrev S1x1024 : Shape := ⟨2, ![1, 1024]⟩
abbrev S6x1024 : Shape := ⟨2, ![6, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x1024 : Shape := ⟨2, ![4, 1024]⟩
abbrev S8x1024 : Shape := ⟨2, ![8, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .bf16⟩
  | .hbm, ⟨6, _⟩ => ⟨S6x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S_, .f32⟩
  | .hbm, ⟨100, _⟩ => ⟨S4x1024, .f32⟩
  | .hbm, ⟨101, _⟩ => ⟨S8x1024, .f32⟩
  | .hbm, ⟨102, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel20.lean ====
abbrev S4096x1024 : Shape := ⟨2, ![4096, 1024]⟩
abbrev S1x1024 : Shape := ⟨2, ![1, 1024]⟩
abbrev S6x1024 : Shape := ⟨2, ![6, 1024]⟩
abbrev S8x128 : Shape := ⟨2, ![8, 128]⟩
abbrev S8x1024 : Shape := ⟨2, ![8, 1024]⟩
abbrev S512x1024 : Shape := ⟨2, ![512, 1024]⟩
abbrev S2x8x1024 : Shape := ⟨3, ![2, 8, 1024]⟩
abbrev S1x1 : Shape := ⟨2, ![1, 1]⟩
abbrev S512 : Shape := ⟨1, ![512]⟩
abbrev S512x1 : Shape := ⟨2, ![512, 1]⟩
abbrev S1 : Shape := ⟨1, ![1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S6x1024, .f32⟩
  | .hbm, ⟨5, _⟩ => ⟨S8x128, .f32⟩
  | .hbm, ⟨6, _⟩ => ⟨S4096x1024, .f32⟩
  | .hbm, ⟨7, _⟩ => ⟨S8x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S6x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | .local _ .vmem, ⟨14, _⟩ => ⟨S2x8x1024, .f32⟩
  | .local _ .vmem, ⟨15, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v73 : BitVec 1 := Scalar.cmpi .eq arg0 c7_i32
  let v74 : BitVec 32 := Scalar.extui v73
  let c0_i32_39 : BitVec 32 := 0#32
  let v75 : BitVec 1 := Scalar.cmpi .ne v74 c0_i32_39
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S4096x1024 : Shape := ⟨2, ![4096, 1024]⟩
abbrev S1x1024 : Shape := ⟨2, ![1, 1024]⟩
abbrev S6x1024 : Shape := ⟨2, ![6, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩
abbrev S8x128 : Shape := ⟨2, ![8, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S6x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S1x1024, .f32⟩
  | .hbm, ⟨90, _⟩ => ⟨S_, .f32⟩
  | .hbm, ⟨91, _⟩ => ⟨S6x1024, .f32⟩
  | .hbm, ⟨92, _⟩ => ⟨S8x1024, .f32⟩
  | .hbm, ⟨93, _⟩ => ⟨S8x128, .f32⟩
  | .hbm, ⟨94, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Kernel26.lean ====
abbrev S4096x1024 : Shape := ⟨2, ![4096, 1024]⟩
abbrev S2x4096x1024 : Shape := ⟨3, ![2, 4096, 1024]⟩
abbrev S4x1024x512 : Shape := ⟨3, ![4, 1024, 512]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S4x1024x512, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4096x1024 : Shape := ⟨2, ![4096, 1024]⟩
abbrev S2x4096x1024 : Shape := ⟨3, ![2, 4096, 1024]⟩
abbrev S_ : Shape := ⟨0, ![]⟩
abbrev S1024x2048 : Shape := ⟨2, ![1024, 2048]⟩
abbrev S4096x2048 : Shape := ⟨2, ![4096, 2048]⟩
abbrev S1x4096x1024 : Shape := ⟨3, ![1, 4096, 1024]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S2x4096x1024, .f32⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S4096x2048, .f32⟩
  | .hbm, ⟨14, _⟩ => ⟨S2048x1024, .f32⟩
  | .hbm, ⟨15, _⟩ => ⟨S1024x2048, .f32⟩
  | .hbm, ⟨16, _⟩ => ⟨S1024x4x512, .f32⟩
  | .hbm, ⟨17, _⟩ => ⟨S4x1024x512, .f32⟩
  | .hbm, ⟨18, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel27.lean ====
abbrev S2x4096x1024 : Shape := ⟨3, ![2, 4096, 1024]⟩
abbrev S4x1024x512 : Shape := ⟨3, ![4, 1024, 512]⟩
abbrev S4096x1024 : Shape := ⟨2, ![4096, 1024]⟩
abbrev S1x2048x512 : Shape := ⟨3, ![1, 2048, 512]⟩
abbrev S1x1024x512 : Shape := ⟨3, ![1, 1024, 512]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S4x1024x512, .bf16⟩
  | .hbm, ⟨2, _⟩ => ⟨S4096x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference27Ideal.lean ====
abbrev S2x4096x1024 : Shape := ⟨3, ![2, 4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S4096x1024 : Shape := ⟨2, ![4096, 1024]⟩
abbrev S4096x2048 : Shape := ⟨2, ![4096, 2048]⟩
abbrev S1x4096x1024 : Shape := ⟨3, ![1, 4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S4x1024x512, .bf16⟩
  | .hbm, ⟨2, _⟩ => ⟨S4x1024x512, .f32⟩
  | .hbm, ⟨3, _⟩ => ⟨S1024x4x512, .f32⟩
  | .hbm, ⟨4, _⟩ => ⟨S1024x2048, .f32⟩
  | .hbm, ⟨5, _⟩ => ⟨S2x4096x1024, .f32⟩
  | .hbm, ⟨6, _⟩ => ⟨S_, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S4096x2048, .f32⟩
  | .hbm, ⟨16, _⟩ => ⟨S4096x1024, .f32⟩
  | .hbm, ⟨17, _⟩ => ⟨S4096x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel28.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x1024x1024, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1024, .bf16⟩
  | .local _ .vmem, ⟨3, _⟩ => ⟨S1x512x1024, .bf16⟩
  | .local _ .vmem, ⟨4, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel29.lean ====
abbrev S4096x1024 : Shape := ⟨2, ![4096, 1024]⟩
abbrev S1x1024x1024 : Shape := ⟨3, ![1, 1024, 1024]⟩
abbrev S1x4096x1024 : Shape := ⟨3, ![1, 4096, 1024]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S1x4096x1024, .bf16⟩
  | .hbm, ⟨3, _⟩ => ⟨S4096x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_10 : BitVec 32 := 0#32
  let v13 : BitVec 1 := Scalar.cmpi .eq arg1 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference29Ideal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S_, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference30Ideal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel25.lean ====
abbrev S4096x3072 : Shape := ⟨2, ![4096, 3072]⟩
abbrev S3x1024 : Shape := ⟨2, ![3, 1024]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel24.lean ====
abbrev S4096x1024 : Shape := ⟨2, ![4096, 1024]⟩
abbrev S4x1024x512 : Shape := ⟨3, ![4, 1024, 512]⟩
abbrev S6x1024 : Shape := ⟨2, ![6, 1024]⟩
abbrev S2x4096x1024 : Shape := ⟨3, ![2, 4096, 1024]⟩
abbrev S1024x1024 : Shape := ⟨2, ![1024, 1024]⟩
abbrev S1x1024x512 : Shape := ⟨3, ![1, 1024, 512]⟩
abbrev S1024x512 : Shape := ⟨2, ![1024, 512]⟩
abbrev S6x512 : Shape := ⟨2, ![6, 512]⟩
abbrev S2x1024x512 : Shape := ⟨3, ![2, 1024, 512]⟩
abbrev S1x1024x256 : Shape := ⟨3, ![1, 1024, 256]⟩
abbrev S1024x256 : Shape := ⟨2, ![1024, 256]⟩
abbrev S1x256 : Shape := ⟨2, ![1, 256]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .f32⟩
  | .hbm, ⟨3, _⟩ => ⟨S6x1024, .f32⟩
  | .hbm, ⟨4, _⟩ => ⟨S2x4096x1024, .bf16⟩
  | .hbm, ⟨5, _⟩ => ⟨S4096x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | .local _ .vmem, ⟨7, _⟩ => ⟨S1024x512, .f32⟩
  | .local _ .vmem, ⟨8, _⟩ => ⟨S6x512, .f32⟩
  | .local _ .vmem, ⟨9, _⟩ => ⟨S6x512, .f32⟩
  | .local _ .vmem, ⟨10, _⟩ => ⟨S2x1024x512, .bf16⟩
  | .local _ .vmem, ⟨11, _⟩ => ⟨S2x1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![v0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference24Ideal.lean ====
abbrev S4096x1024 : Shape := ⟨2, ![4096, 1024]⟩
abbrev S4x1024x512 : Shape := ⟨3, ![4, 1024, 512]⟩
abbrev S6x1024 : Shape := ⟨2, ![6, 1024]⟩
abbrev S1024x4x512 : Shape := ⟨3, ![1024, 4, 512]⟩
abbrev S1024x2048 : Shape := ⟨2, ![1024, 2048]⟩
abbrev S4096x2048 : Shape := ⟨2, ![4096, 2048]⟩
abbrev S_ : Shape := ⟨0, ![]⟩
abbrev S1x4096x1024 : Shape := ⟨3, ![1, 4096, 1024]⟩
abbrev S2x4096x1024 : Shape := ⟨3, ![2, 4096, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .f32⟩
  | .hbm, ⟨3, _⟩ => ⟨S6x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x4096x1024, .f32⟩
  | .hbm, ⟨21, _⟩ => ⟨S1x4096x1024, .f32⟩
  | .hbm, ⟨22, _⟩ => ⟨S2x4096x1024, .f32⟩
  | .hbm, ⟨23, _⟩ => ⟨S2x4096x1024, .bf16⟩
  | .hbm, ⟨24, _⟩ => ⟨S4096x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel31.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference31Ideal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel32.lean ====
abbrev S2x4x1024x512 : Shape := ⟨4, ![2, 4, 1024, 512]⟩
abbrev S2x1024x512 : Shape := ⟨3, ![2, 1024, 512]⟩
abbrev S1x4x512x512 : Shape := ⟨4, ![1, 4, 512, 512]⟩
abbrev S1x512x512 : Shape := ⟨3, ![1, 512, 512]⟩
abbrev S1x1x512x512 : Shape := ⟨4, ![1, 1, 512, 512]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S2x4x1024x512, .bf16⟩
  | .hbm, ⟨1, _⟩ => ⟨S2x1024x512, .f32⟩
  | .local _ .vmem, ⟨0, _⟩ => ⟨S1x4x512x512, .bf16⟩
  | .local _ .vmem, ⟨1, _⟩ => ⟨S1x4x512x512, .bf16⟩
  | .local _ .vmem, ⟨2, _⟩ => ⟨S1x512x512, .f32⟩
  | .local _ .vmem, ⟨3, _⟩ => ⟨S1x512x512, .f32⟩
  | _, _ => ⟨S2x4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference32Ideal.lean ====
abbrev S2x4x1024x512 : Shape := ⟨4, ![2, 4, 1024, 512]⟩
abbrev S_ : Shape := ⟨0, ![]⟩
abbrev S2x1024x512 : Shape := ⟨3, ![2, 1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2x4x1024x512, .bf16⟩
  | .hbm, ⟨1, _⟩ => ⟨S2x4x1024x512, .f32⟩
  | .hbm, ⟨2, _⟩ => ⟨S_, .f32⟩
  | .hbm, ⟨3, _⟩ => ⟨S2x1024x512, .f32⟩
  | _, _ => ⟨S2x4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel33.lean ====
abbrev S2x4x1024x768 : Shape := ⟨4, ![2, 4, 1024, 768]⟩
abbrev S2x1024x768 : Shape := ⟨3, ![2, 1024, 768]⟩
abbrev S1x4x256x768 : Shape := ⟨4, ![1, 4, 256, 768]⟩
abbrev S1x256x768 : Shape := ⟨3, ![1, 256, 768]⟩
abbrev S1x1x256x768 : Shape := ⟨4, ![1, 1, 256, 768]⟩
abbrev S256x768 : Shape := ⟨2, ![256, 768]⟩

abbrev nBuf : Space → Nat
  | .hbm => 2
  | .vmem => 4
  | .smem => 0
  | _ => 0

abbrev bufTy : (tb : Table) → Fin (tcTables nBuf tb) → BufTy
  | .hbm, ⟨0, _⟩ => ⟨S2x4x1024x768, .bf16⟩
  | .hbm, ⟨1, _⟩ => ⟨S2x1024x768, .f32⟩
  | .local _ .vmem, ⟨0, _⟩ => ⟨S1x4x256x768, .bf16⟩
  | .local _ .vmem, ⟨1, _⟩ => ⟨S1x4x256x768, .bf16⟩
  | .local _ .vmem, ⟨2, _⟩ => ⟨S1x256x768, .f32⟩
  | .local _ .vmem, ⟨3, _⟩ => ⟨S1x256x768, .f32⟩
  | _, _ => ⟨S2x4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference33Ideal.lean ====
abbrev S2x4x1024x768 : Shape := ⟨4, ![2, 4, 1024, 768]⟩
abbrev S_ : Shape := ⟨0, ![]⟩
abbrev S2x1024x768 : Shape := ⟨3, ![2, 1024, 768]⟩

abbrev nBuf : Space → Nat
  | .hbm => 4
  | .vmem => 0
  | .smem => 0
  | _ => 0

abbrev bufTy : (tb : Table) → Fin (tcTables nBuf tb) → BufTy
  | .hbm, ⟨0, _⟩ => ⟨S2x4x1024x768, .bf16⟩
  | .hbm, ⟨1, _⟩ => ⟨S2x4x1024x768, .f32⟩
  | .hbm, ⟨2, _⟩ => ⟨S_, .f32⟩
  | .hbm, ⟨3, _⟩ => ⟨S2x1024x768, .f32⟩
  | _, _ => ⟨S2x4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel34.lean ====
abbrev S2x4x256x1024 : Shape := ⟨4, ![2, 4, 256, 1024]⟩
abbrev S2x256x1024 : Shape := ⟨3, ![2, 256, 1024]⟩
abbrev S1x4x256x1024 : Shape := ⟨4, ![1, 4, 256, 1024]⟩
abbrev S1x256x1024 : Shape := ⟨3, ![1, 256, 1024]⟩
abbrev S1x1x256x1024 : Shape := ⟨4, ![1, 1, 256, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x4x256x1024, .bf16⟩
  | .hbm, ⟨1, _⟩ => ⟨S2x256x1024, .f32⟩
  | .local _ .vmem, ⟨0, _⟩ => ⟨S1x4x256x1024, .bf16⟩
  | .local _ .vmem, ⟨1, _⟩ => ⟨S1x4x256x1024, .bf16⟩
  | .local _ .vmem, ⟨2, _⟩ => ⟨S1x256x1024, .f32⟩
  | .local _ .vmem, ⟨3, _⟩ => ⟨S1x256x1024, .f32⟩
  | _, _ => ⟨S2x4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference34Ideal.lean ====
abbrev S2x4x256x1024 : Shape := ⟨4, ![2, 4, 256, 1024]⟩
abbrev S_ : Shape := ⟨0, ![]⟩
abbrev S2x256x1024 : Shape := ⟨3, ![2, 256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x4x256x1024, .bf16⟩
  | .hbm, ⟨1, _⟩ => ⟨S2x4x256x1024, .f32⟩
  | .hbm, ⟨2, _⟩ => ⟨S_, .f32⟩
  | .hbm, ⟨3, _⟩ => ⟨S2x256x1024, .f32⟩
  | _, _ => ⟨S2x4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel35.lean ====
abbrev S4x4x1024x1408 : Shape := ⟨4, ![4, 4, 1024, 1408]⟩
abbrev S4x1024x1408 : Shape := ⟨3, ![4, 1024, 1408]⟩
abbrev S1x4x128x1408 : Shape := ⟨4, ![1, 4, 128, 1408]⟩
abbrev S1x128x1408 : Shape := ⟨3, ![1, 128, 1408]⟩
abbrev S1x1x128x1408 : Shape := ⟨4, ![1, 1, 128, 1408]⟩
abbrev S128x1408 : Shape := ⟨2, ![128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x4x1024x1408, .bf16⟩
  | .hbm, ⟨1, _⟩ => ⟨S4x1024x1408, .f32⟩
  | .local _ .vmem, ⟨0, _⟩ => ⟨S1x4x128x1408, .bf16⟩
  | .local _ .vmem, ⟨1, _⟩ => ⟨S1x4x128x1408, .bf16⟩
  | .local _ .vmem, ⟨2, _⟩ => ⟨S1x128x1408, .f32⟩
  | .local _ .vmem, ⟨3, _⟩ => ⟨S1x128x1408, .f32⟩
  | _, _ => ⟨S4x4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference35Ideal.lean ====
abbrev S4x4x1024x1408 : Shape := ⟨4, ![4, 4, 1024, 1408]⟩
abbrev S_ : Shape := ⟨0, ![]⟩
abbrev S4x1024x1408 : Shape := ⟨3, ![4, 1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x4x1024x1408, .bf16⟩
  | .hbm, ⟨1, _⟩ => ⟨S4x4x1024x1408, .f32⟩
  | .hbm, ⟨2, _⟩ => ⟨S_, .f32⟩
  | .hbm, ⟨3, _⟩ => ⟨S4x1024x1408, .f32⟩
  | _, _ => ⟨S4x4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel36.lean ====
abbrev S4x4x704x1024 : Shape := ⟨4, ![4, 4, 704, 1024]⟩
abbrev S4x704x1024 : Shape := ⟨3, ![4, 704, 1024]⟩
abbrev S1x4x176x1024 : Shape := ⟨4, ![1, 4, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x4x704x1024, .bf16⟩
  | .hbm, ⟨1, _⟩ => ⟨S4x704x1024, .f32⟩
  | .local _ .vmem, ⟨0, _⟩ => ⟨S1x4x176x1024, .bf16⟩
  | .local _ .vmem, ⟨1, _⟩ => ⟨S1x4x176x1024, .bf16⟩
  | .local _ .vmem, ⟨2, _⟩ => ⟨S1x176x1024, .f32⟩
  | .local _ .vmem, ⟨3, _⟩ => ⟨S1x176x1024, .f32⟩
  | _, _ => ⟨S4x4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference36Ideal.lean ====
abbrev S4x4x704x1024 : Shape := ⟨4, ![4, 4, 704, 1024]⟩
abbrev S_ : Shape := ⟨0, ![]⟩
abbrev S4x704x1024 : Shape := ⟨3, ![4, 704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x4x704x1024, .bf16⟩
  | .hbm, ⟨1, _⟩ => ⟨S4x4x704x1024, .f32⟩
  | .hbm, ⟨2, _⟩ => ⟨S_, .f32⟩
  | .hbm, ⟨3, _⟩ => ⟨S4x704x1024, .f32⟩
  | _, _ => ⟨S4x4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel37.lean ====
abbrev S8x1024 : Shape := ⟨2, ![8, 1024]⟩
abbrev S4x1024x1536 : Shape := ⟨3, ![4, 1024, 1536]⟩
abbrev S4x1x1536 : Shape := ⟨3, ![4, 1, 1536]⟩
abbrev S4x8x1536 : Shape := ⟨3, ![4, 8, 1536]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S4x8x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference37Ideal.lean ====
abbrev S8x1024 : Shape := ⟨2, ![8, 1024]⟩
abbrev S4x1024x1536 : Shape := ⟨3, ![4, 1024, 1536]⟩
abbrev S4x1x1536 : Shape := ⟨3, ![4, 1, 1536]⟩
abbrev S_ : Shape := ⟨0, ![]⟩
abbrev S8x4x1536 : Shape := ⟨3, ![8, 4, 1536]⟩
abbrev S4x8x1536 : Shape := ⟨3, ![4, 8, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x4x1536, .f32⟩
  | .hbm, ⟨13, _⟩ => ⟨S4x8x1536, .f32⟩
  | .hbm, ⟨14, _⟩ => ⟨S4x8x1536, .f32⟩
  | .hbm, ⟨15, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.ConvMath.lean ====
/-
  The short causal convolution of one channel and its gradients, over the extended reals.

  A channel is a function of the 4096 time steps.  With gates `b`, `c` and input `v`, the forward step computes
  `b r * (w 2 * cv r + w 1 * cv (r - 1) + w 0 * cv (r - 2))` where `cv = c * v` and `cv` is zero before the start.
-/
module

public import Idealize.ShloMosaic.PureOps.Ideal
public import Idealize.ShloMosaic.Lib.ValueIdx

@[expose] public section

noncomputable section

namespace Cert.ConvMath

open Idealize.ShloMosaic Idealize.ShloMosaic.ValueIdx
open scoped BigOperators

/-- A channel read at a step that may lie beyond its end, where it is zero. -/
def ahead (f : Fin 4096 → EReal) (n : ℕ) : EReal := if h : n < 4096 then f ⟨n, h⟩ else 0

/-- A channel with two zeros in front of it, read at a step. -/
def past (f : Fin 4096 → EReal) (n : ℕ) : EReal := if h : 2 ≤ n ∧ n < 4098 then f ⟨n - 2, by omega⟩ else 0

/-- The gated input of the convolution. -/
def cv (c v : Fin 4096 → EReal) (r : Fin 4096) : EReal := c r * v r

/-- The causal convolution of width three. -/
def conv (c v : Fin 4096 → EReal) (w : Fin 3 → EReal) (r : Fin 4096) : EReal :=
  w 2 * cv c v r + w 1 * past (cv c v) (r.val + 1) + w 0 * past (cv c v) r.val

/-- The gradient of the outer gate. -/
def db (d c v : Fin 4096 → EReal) (w : Fin 3 → EReal) (r : Fin 4096) : EReal := d r * conv c v w r

/-- The gradient of the convolution's output. -/
def dconv (d b : Fin 4096 → EReal) (r : Fin 4096) : EReal := d r * b r

/-- The gradient of the convolution's input: the transposed convolution, which looks ahead. -/
def dcv (d b : Fin 4096 → EReal) (w : Fin 3 → EReal) (r : Fin 4096) : EReal :=
  w 2 * dconv d b r + w 1 * ahead (dconv d b) (r.val + 1) + w 0 * ahead (dconv d b) (r.val + 2)

/-- The gradient of tap `k` of the filter. -/
def dw (d b c v : Fin 4096 → EReal) (k : ℕ) : EReal := ∑ r : Fin 4096, dconv d b r * past (cv c v) (r.val + k)

/-- Two zeros in front, read two steps on, is the channel itself. -/
theorem past_add_two (f : Fin 4096 → EReal) (r : Fin 4096) : past f (r.val + 2) = f r := by
  unfold past
  have := r.isLt
  rw [dif_pos ⟨by omega, by omega⟩]
  rfl

/-- A channel read inside its range is the channel. -/
theorem ahead_val (f : Fin 4096 → EReal) (r : Fin 4096) : ahead f r.val = f r := by
  unfold ahead
  rw [dif_pos r.isLt]

/-! ## The whole arrays

`dm` is the gradient of the step's output, `p` holds the projections `b`, `c`, `v` side by side, `w` the filter. -/

section
variable (dm : (⟨2, ![4096, 1024]⟩ : Shape).Idx → EReal) (p : (⟨2, ![4096, 3072]⟩ : Shape).Idx → EReal)
  (w : (⟨2, ![3, 1024]⟩ : Shape).Idx → EReal)

/-- Channel `j` of the output's gradient. -/
def dCol (j : Fin 1024) : Fin 4096 → EReal := fun r => dm (ix2 r j)

/-- Channel `j` of projection number `n`. -/
def pCol (n : Fin 3) (j : Fin 1024) : Fin 4096 → EReal := fun r => p (ix2 r (⟨n.val * 1024 + j.val, by omega⟩ : Fin 3072))

/-- The taps of channel `j`. -/
def wCol (j : Fin 1024) : Fin 3 → EReal := fun k => w (ix2 k j)

/-- The gradient of the gate `b`. -/
def gradB (i : (⟨2, ![4096, 1024]⟩ : Shape).Idx) : EReal := db (dCol dm (i 1)) (pCol p 1 (i 1)) (pCol p 2 (i 1)) (wCol w (i 1)) (i 0)

/-- The gradient of the gate `c`. -/
def gradC (i : (⟨2, ![4096, 1024]⟩ : Shape).Idx) : EReal := dcv (dCol dm (i 1)) (pCol p 0 (i 1)) (wCol w (i 1)) (i 0) * pCol p 2 (i 1) (i 0)

/-- The gradient of the input `v`. -/
def gradV (i : (⟨2, ![4096, 1024]⟩ : Shape).Idx) : EReal := dcv (dCol dm (i 1)) (pCol p 0 (i 1)) (wCol w (i 1)) (i 0) * pCol p 1 (i 1) (i 0)

/-- The gradient of the filter, in the first three of eight rows. -/
def gradW (i : (⟨2, ![8, 1024]⟩ : Shape).Idx) : EReal :=
  if (i 0).val < 3 then dw (dCol dm (i 1)) (pCol p 0 (i 1)) (pCol p 1 (i 1)) (pCol p 2 (i 1)) (i 0).val else 0

end

end Cert.ConvMath

end
-- ==== Proof.ConvKernel.lean ====
/-
  What one grid point of the convolution's backward kernel computes: from blocks of 128 channels, each channel's
  gradients as the formulas of `ConvMath` state them.
-/
module

public import proofs.«01_k».proof.Proof.ConvMath
public import proofs.«01_k».proof.Proof.Gen.KernelIdeal.Skeleton
public import Idealize.ShloMosaic.Lib.Pipeline.Value
public import Idealize.ShloMosaic.Lib.ValueIdx
public import Idealize.ShloMosaic.Lib.KernelVsHost
public import Idealize.ShloMosaic.Lib.Affine

@[expose] public section

set_option maxRecDepth 16384

noncomputable section

namespace Cert.ConvKernel

open Cert.KernelIdeal Cert.KernelIdeal.Gen Idealize.ShloMosaic Idealize.ShloMosaic.ValueIdx Cert.ConvMath
open scoped BigOperators

/-- The channel `q` of a block. -/
abbrev col (x : S4096x128.Idx → EReal) (q : Fin 128) : Fin 4096 → EReal := fun r => x (ix2 r q)

/-- Small words compare as the numbers they hold. -/
theorem toInt_small (n : ℕ) (h : n < 5000) : (BitVec.ofNat 32 n).toInt = n := by
  rw [BitVec.toInt_eq_toNat_of_lt] <;> simp [BitVec.toNat_ofNat] <;> omega

theorem ofBool_one (b : Bool) : BitVec.ofBool b = 1#1 ↔ b = true := by cases b <;> decide

/-- A choice on "row at least `k`". -/
theorem sel_ge {α : Type} (r k : ℕ) (hr : r < 5000) (hk : k < 5000) (a b : α) :
    Scalar.select (IntOp.cmpi .sge (BitVec.ofNat 32 r) (BitVec.ofNat 32 k)) a b = if k ≤ r then a else b := by
  unfold Scalar.select
  refine if_congr ?_ rfl rfl
  show IntOp.cmpi .sge _ _ = 1#1 ↔ _
  simp only [IntOp.cmpi, ofBool_one, BitVec.sle_iff_toInt_le, toInt_small r hr, toInt_small k hk]
  omega

/-- A choice on "row below `k`". -/
theorem sel_lt {α : Type} (r k : ℕ) (hr : r < 5000) (hk : k < 5000) (a b : α) :
    Scalar.select (IntOp.cmpi .slt (BitVec.ofNat 32 r) (BitVec.ofNat 32 k)) a b = if r < k then a else b := by
  unfold Scalar.select
  refine if_congr ?_ rfl rfl
  show IntOp.cmpi .slt _ _ = 1#1 ↔ _
  simp only [IntOp.cmpi, ofBool_one, BitVec.slt_iff_toInt_lt, toInt_small r hr, toInt_small k hk]
  omega

/-- The zero word is the number zero. -/
theorem zero_word : Ideal.ofBits .f32 0x00000000#32 = 0 := by simp [Ideal.ofBits, Ideal.ieee]

/-- The rows of a block moved down by `k` around the end, and zero in the first `k` rows: the channel's past. -/
theorem shifted_down (k : ℕ) (hk : k ≤ 2) (x : FVec Ideal S4096x128 .f32) (r : Fin 4096) (q : Fin 128) :
    select (cmpi .sge (iota .tc S4096x128 32 [0] iota_S4096x128_d0_w32) (broadcast S4096x128 (BitVec.ofNat 32 k)))
      (dynamicRotate 0 (BitVec.ofNat 32 k) none x rotates_S4096x128_d0)
      (broadcast S4096x128 (Scalar.ofBits (F := Ideal) .f32 0x00000000#32)) (ix2 r q) = past (col x q) (r.val + 2 - k) := by
  have hr := r.isLt
  show Scalar.select (IntOp.cmpi .sge (BitVec.ofNat 32 (0 * 4096 + r.val)) (BitVec.ofNat 32 k)) _ _ = _
  rw [Nat.zero_mul, Nat.zero_add, sel_ge _ _ (by omega) (by omega)]
  unfold past
  by_cases h : k ≤ r.val
  · rw [if_pos h, dif_pos ⟨by omega, by omega⟩]
    refine dynamicRotate_apply 0 _ x rotates_S4096x128_d0 (ix2 r q) (ix2 (⟨r.val + 2 - k - 2, by omega⟩ : Fin 4096) q) fun b => ?_
    match b with
    | ⟨0, _⟩ =>
      have e : (BitVec.ofNat 32 k).toNat = k := by rw [BitVec.toNat_ofNat]; omega
      show r.val + 2 - k - 2 = (r.val + 4096 - (BitVec.ofNat 32 k).toNat % 4096) % 4096
      rw [e]; omega
    | ⟨1, _⟩ => rfl
  · rw [if_neg h, dif_neg (by omega)]
    exact zero_word

/-- The rows of a block moved up by `k` around the end, and zero in the last `k` rows: the channel read ahead. -/
theorem shifted_up (k n : ℕ) (hk : 1 ≤ k ∧ k ≤ 2) (hn : n = 4096 - k) (x : FVec Ideal S4096x128 .f32) (r : Fin 4096) (q : Fin 128) :
    select (cmpi .slt (iota .tc S4096x128 32 [0] iota_S4096x128_d0_w32) (broadcast S4096x128 (BitVec.ofNat 32 n)))
      (dynamicRotate 0 (BitVec.ofNat 32 n) none x rotates_S4096x128_d0)
      (broadcast S4096x128 (Scalar.ofBits (F := Ideal) .f32 0x00000000#32)) (ix2 r q) = ahead (col x q) (r.val + k) := by
  have hr := r.isLt
  show Scalar.select (IntOp.cmpi .slt (BitVec.ofNat 32 (0 * 4096 + r.val)) (BitVec.ofNat 32 n)) _ _ = _
  rw [Nat.zero_mul, Nat.zero_add, sel_lt _ _ (by omega) (by omega)]
  unfold ahead
  by_cases h : r.val < n
  · rw [if_pos h, dif_pos (by omega)]
    refine dynamicRotate_apply 0 _ x rotates_S4096x128_d0 (ix2 r q) (ix2 (⟨r.val + k, by omega⟩ : Fin 4096) q) fun b => ?_
    match b with
    | ⟨0, _⟩ =>
      have e : (BitVec.ofNat 32 n).toNat = n := by rw [BitVec.toNat_ofNat]; omega
      show r.val + k = (r.val + 4096 - (BitVec.ofNat 32 n).toNat % 4096) % 4096
      rw [e]; omega
    | ⟨1, _⟩ => rfl
  · rw [if_neg h, dif_neg (by omega)]
    exact zero_word

/-- A row laid along every row of a block. -/
theorem row_apply (y : FVec Ideal S1x128 .f32) (r : Fin 4096) (q : Fin 128) :
    broadcastTo S4096x128 y broadcasts_S1x128_S4096x128 (ix2 r q) = y (ix2 (0 : Fin 1) q) := by
  refine broadcastTo_apply y _ _ _ fun a => ?_
  match a with
  | ⟨0, _⟩ => rfl
  | ⟨1, _⟩ => rfl

section
variable (x1 x3 x27 x32 : Vec Ideal S4096x128 .bf16) (y2 y1 y0 : Vec Ideal S1x128 .f32) (r : Fin 4096) (q : Fin 128)

/-- The three taps of channel `q`. -/
abbrev taps (y2 y1 y0 : S1x128.Idx → EReal) (q : Fin 128) : Fin 3 → EReal :=
  ![y0 (ix2 (0 : Fin 1) q), y1 (ix2 (0 : Fin 1) q), y2 (ix2 (0 : Fin 1) q)]

theorem pay5_col : col (k0_pay5 (F := Ideal) x1 x3) q = cv (col x1 q) (col x3 q) := rfl

theorem pay6_apply : k0_pay6 (F := Ideal) x1 x3 (ix2 r q) = past (cv (col x1 q) (col x3 q)) (r.val + 1) :=
  shifted_down 1 (by omega) (k0_pay5 (F := Ideal) x1 x3) r q

theorem pay7_apply : k0_pay7 (F := Ideal) x1 x3 (ix2 r q) = past (cv (col x1 q) (col x3 q)) r.val :=
  shifted_down 2 (by omega) (k0_pay5 (F := Ideal) x1 x3) r q

/-- The block of the outer gate's gradient. -/
theorem pay9_apply : k0_pay9 (F := Ideal) x1 x3 y2 y1 y0 x27 (ix2 r q)
    = db (col x27 q) (col x1 q) (col x3 q) (taps y2 y1 y0 q) r := by
  show x27 (ix2 r q) * ((broadcastTo S4096x128 y2 broadcasts_S1x128_S4096x128 (ix2 r q) * k0_pay5 (F := Ideal) x1 x3 (ix2 r q)
    + broadcastTo S4096x128 y1 broadcasts_S1x128_S4096x128 (ix2 r q) * k0_pay6 (F := Ideal) x1 x3 (ix2 r q))
    + broadcastTo S4096x128 y0 broadcasts_S1x128_S4096x128 (ix2 r q) * k0_pay7 (F := Ideal) x1 x3 (ix2 r q)) = _
  rw [row_apply, row_apply, row_apply, pay6_apply, pay7_apply]
  rfl

theorem pay10_col : col (k0_pay10 (F := Ideal) x27 x32) q = dconv (col x27 q) (col x32 q) := rfl

/-- The block of the gradient of the convolution's input. -/
theorem pay11_apply : k0_pay11 (F := Ideal) (iota .tc S4096x128 32 [0] iota_S4096x128_d0_w32) (k0_pay10 (F := Ideal) x27 x32) y2 y1 y0 (ix2 r q)
    = dcv (col x27 q) (col x32 q) (taps y2 y1 y0 q) r := by
  have e1 := shifted_up 1 4095 (by omega) rfl (k0_pay10 (F := Ideal) x27 x32) r q
  have e2 := shifted_up 2 4094 (by omega) rfl (k0_pay10 (F := Ideal) x27 x32) r q
  show (broadcastTo S4096x128 y2 broadcasts_S1x128_S4096x128 (ix2 r q) * k0_pay10 (F := Ideal) x27 x32 (ix2 r q)
    + broadcastTo S4096x128 y1 broadcasts_S1x128_S4096x128 (ix2 r q) * _)
    + broadcastTo S4096x128 y0 broadcasts_S1x128_S4096x128 (ix2 r q) * _ = _
  rw [row_apply, row_apply, row_apply, e1, e2]
  rfl

/-- A sum down the rows, kept as one row. -/
theorem rowSum_apply (x : FVec Ideal S4096x128 .f32) (a : Fin 1) :
    shapeCast S1x128 (multiReduction .add [0] S128 x 0x00000000#32 reduces_S4096x128_S128 (.inl rfl) rfl) shapeCasts_S128_S1x128
      (ix2 a q) = ∑ r : Fin 4096, x (ix2 r q) := by
  rw [shapeCast_apply _ _ (ix2 a q) (ix1 q) (by
    have h0 := a.isLt
    refine (Shape.rowMajor_val_one (ix1 q)).trans (Eq.trans ?_ (Shape.rowMajor_val_two (ix2 a q)).symm)
    show q.val = a.val * 128 + q.val
    omega)]
  refine (Ideal.multiReduction_add_single x _ reduces_S4096x128_S128 _ _ _).trans (Finset.sum_congr rfl fun k _ => ?_)
  congr 1
  funext b
  match b with
  | ⟨0, _⟩ => exact Fin.ext rfl
  | ⟨1, _⟩ => exact Fin.ext rfl

end

end Cert.ConvKernel

end
-- ==== Proof.ConvValue.lean ====
/-
  The convolution's backward kernel: its four result arrays hold the gradients of `ConvMath`.
-/
module

public import proofs.«01_k».proof.Proof.ConvKernel
public import proofs.«01_k».proof.Proof.Gen.KernelIdeal.Value

@[expose] public section

set_option maxRecDepth 16384

noncomputable section

namespace Cert.ConvKernel

open Cert.KernelIdeal Cert.KernelIdeal.Gen Idealize.ShloMosaic Idealize.ShloMosaic.TcCoe Idealize.ShloMosaic.ValueIdx Cert.ConvMath
open Idealize.SL.Sem
open Idealize.ShloMosaic.Pipeline (Dat)
open scoped BigOperators

theorem hz : (![0, 0] : Fin 2 → Nat) = fun _ => 0 := funext fun a => by fin_cases a <;> rfl

/-! ## What one point leaves in each staging buffer -/

section
variable (c : Dev nD) (i : grid0.Coords)
  (a1 : Memref sig .tc .vmem S4096x128 .bf16) (h1 : a1.IsWhole) (a2 : Memref sig .tc .vmem S4096x128 .bf16) (h2 : a2.IsWhole)
  (a3 : Memref sig .tc .vmem S4096x128 .bf16) (h3 : a3.IsWhole) (a4 : Memref sig .tc .vmem S4096x128 .bf16) (h4 : a4.IsWhole)
  (a5 : Memref sig .tc .vmem S3x128 .f32) (h5 : a5.IsWhole) (a6 : Memref sig .tc .vmem S4096x128 .bf16) (h6 : a6.IsWhole)
  (a7 : Memref sig .tc .vmem S4096x128 .bf16) (h7 : a7.IsWhole) (a8 : Memref sig .tc .vmem S4096x128 .bf16) (h8 : a8.IsWhole)
  (a9 : Memref sig .tc .vmem S8x128 .f32) (h9 : a9.IsWhole)
  (x0 x1 x2 x3 : Vec Ideal S4096x128 .bf16) (x4 : Vec Ideal S3x128 .f32)

/-- Row 0 of the filter's block. -/
abbrev tap0 : Vec Ideal S1x128 .f32 := View.ld x4 (Rect.unit (s := S3x128) ![0, 0] S1x128.size inb_S3x128_S1x128_0_0)
/-- Row 1 of the filter's block. -/
abbrev tap1 : Vec Ideal S1x128 .f32 := View.ld x4 (Rect.unit (s := S3x128) ![1, 0] S1x128.size inb_S3x128_S1x128_1_0)
/-- Row 2 of the filter's block. -/
abbrev tap2 : Vec Ideal S1x128 .f32 := View.ld x4 (Rect.unit (s := S3x128) ![2, 0] S1x128.size inb_S3x128_S1x128_2_0)

/-- The taps of channel `q` of the block. -/
theorem taps_eq (q : Fin 128) : taps (tap2 x4) (tap1 x4) (tap0 x4) q = fun k : Fin 3 => x4 (ix2 k q) := by
  funext k
  have e : ∀ (n : ℕ) (h : ∀ a, (![n, 0] : Fin 2 → ℕ) a + S1x128.size a ≤ S3x128.size a) (hn : n < 3),
      View.ld x4 (Rect.unit (s := S3x128) ![n, 0] S1x128.size h) (ix2 (0 : Fin 1) q) = x4 (ix2 (⟨n, hn⟩ : Fin 3) q) := by
    intro n h hn
    show x4 _ = x4 _
    congr 1
    funext a
    apply Fin.ext
    match a with
    | ⟨0, _⟩ => show n + 1 * 0 = n; omega
    | ⟨1, _⟩ => show 0 + 1 * q.val = q.val; omega
  match k with
  | ⟨0, _⟩ => exact e 0 _ (by omega)
  | ⟨1, _⟩ => exact e 1 _ (by omega)
  | ⟨2, _⟩ => exact e 2 _ (by omega)

/-- The block of the gate's gradient, index by index. -/
theorem out5 (r : Fin 4096) (q : Fin 128) : out0_A_5 (F := Ideal) c i a1 h1 a2 h2 a3 h3 a4 h4 a5 h5 a6 h6 a7 h7 a8 h8 a9 h9 x0 x1 x2 x3 x4 (ix2 r q)
    = db (col x0 q) (col x2 q) (col x3 q) (fun k => x4 (ix2 k q)) r := by
  rw [← taps_eq, ← pay9_apply]
  unfold out0_A_5
  rw [View.read_writes_eq_canon _ _ _ (cover0_A_5 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h3.read_unread, h4.read_unread, h5.read_unread, View.ld_unit_zero (S := S4096x128) hz]

/-- The block of the gradient of `c`, index by index. -/
theorem out6 (r : Fin 4096) (q : Fin 128) : out0_A_6 (F := Ideal) c i a1 h1 a2 h2 a3 h3 a4 h4 a5 h5 a6 h6 a7 h7 a8 h8 a9 h9 x0 x1 x2 x3 x4 (ix2 r q)
    = dcv (col x0 q) (col x1 q) (fun k => x4 (ix2 k q)) r * col x3 q r := by
  rw [← taps_eq, ← pay11_apply]
  unfold out0_A_6
  rw [View.read_writes_eq_canon _ _ _ (cover0_A_6 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h4.read_unread, h5.read_unread, View.ld_unit_zero (S := S4096x128) hz]
  rfl

/-- The block of the gradient of `v`, index by index. -/
theorem out7 (r : Fin 4096) (q : Fin 128) : out0_A_7 (F := Ideal) c i a1 h1 a2 h2 a3 h3 a4 h4 a5 h5 a6 h6 a7 h7 a8 h8 a9 h9 x0 x1 x2 x3 x4 (ix2 r q)
    = dcv (col x0 q) (col x1 q) (fun k => x4 (ix2 k q)) r * col x2 q r := by
  rw [← taps_eq, ← pay11_apply]
  unfold out0_A_7
  rw [View.read_writes_eq_canon _ _ _ (cover0_A_7 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h5.read_unread, View.ld_unit_zero (S := S4096x128) hz]
  rfl

/-- One row written last: there it is read, elsewhere what was written before. -/
theorem canon_row (n : ℕ) (h : ∀ a, (![n, 0] : Fin 2 → ℕ) a + S1x128.size a ≤ S8x128.size a) (w : S1x128.Idx → EReal)
    (L : List (View.Piece (Elt Ideal) S8x128 .f32)) (k : Fin 8) (q : Fin 128) :
    View.canon ((⟨Rect.unit (s := S8x128) ![n, 0] S1x128.size h, w⟩ : View.Piece (Elt Ideal) S8x128 .f32) :: L) (ix2 k q)
      = if k.val = n then w (ix2 (0 : Fin 1) q) else View.canon L (ix2 k q) := by
  by_cases e : k.val = n
  · rw [if_pos e]
    have : (ix2 k q : S8x128.Idx) = (Rect.unit (s := S8x128) ![n, 0] S1x128.size h).emb (ix2 (0 : Fin 1) q) := by
      funext a
      apply Fin.ext
      match a with
      | ⟨0, _⟩ => show k.val = n + 1 * 0; omega
      | ⟨1, _⟩ => show q.val = 0 + 1 * q.val; omega
    rw [this]
    exact View.canon_cons_emb _ _ _ _
  · rw [if_neg e]
    refine View.canon_cons_of_not_mem _ _ fun hm => e ?_
    have := (Rect.mem_set_unit (s := S8x128) (off := ![n, 0]) (size := S1x128.size) (inb := h) |>.mp hm) 0
    have h1 : n ≤ k.val := this.1
    have h2 : k.val < n + 1 := this.2
    omega

/-- The block of the filter's gradient, index by index. -/
theorem out8 (k : Fin 8) (q : Fin 128) : out0_A_8 (F := Ideal) c i a1 h1 a2 h2 a3 h3 a4 h4 a5 h5 a6 h6 a7 h7 a8 h8 a9 h9 x0 x1 x2 x3 x4 (ix2 k q)
    = if k.val < 3 then dw (col x0 q) (col x1 q) (col x2 q) (col x3 q) k.val else 0 := by
  unfold out0_A_8
  rw [View.read_writes_eq_canon _ _ _ (cover0_A_8 c i a1 h1 a2 h2 a3 h3 a4 h4 a5 h5 a6 h6 a7 h7 a8 h8 a9 h9 x0 x1 x2 x3 x4)]
  unfold kernelRun0_A
  dsimp only
  sl_unfold_words
  rw [canon_row, canon_row, canon_row, View.canon_unit_zero hz]
  simp only [View.readAt_eq_ld, h1.read_unread, h2.read_unread, h3.read_unread, h4.read_unread, View.ld_unit_zero (S := S4096x128) hz]
  have hs : ∀ n : ℕ, ∀ y : FVec Ideal S4096x128 .f32, (∀ r : Fin 4096, y (ix2 r q) = past (cv (col x2 q) (col x3 q)) (r.val + n)) →
      shapeCast S1x128 (multiReduction .add [0] S128 (mulf (k0_pay10 (F := Ideal) x0 x1) y) 0x00000000#32 reduces_S4096x128_S128 (.inl rfl) rfl)
        shapeCasts_S128_S1x128 (ix2 (0 : Fin 1) q) = dw (col x0 q) (col x1 q) (col x2 q) (col x3 q) n := by
    intro n y hy
    rw [rowSum_apply]
    refine Finset.sum_congr rfl fun r _ => ?_
    rw [← hy r]
    rfl
  by_cases e2 : k.val = 2
  · rw [if_pos e2, if_pos (by omega), e2]
    exact hs 2 (k0_pay5 (F := Ideal) x2 x3) fun r => (past_add_two (cv (col x2 q) (col x3 q)) r).symm
  by_cases e1 : k.val = 1
  · rw [if_neg e2, if_pos e1, if_pos (by omega), e1]
    exact hs 1 _ fun r => pay6_apply x2 x3 r q
  by_cases e0 : k.val = 0
  · rw [if_neg e2, if_neg e1, if_pos e0, if_pos (by omega), e0]
    exact hs 0 _ fun r => pay7_apply x2 x3 r q
  · rw [if_neg e2, if_neg e1, if_neg e0, if_neg (by omega)]
    exact zero_word

end

/-! ## The blocks of the arrays -/

section
variable (m : (ℓ : Loc nD τ sig) → Buf (Elt Ideal) ℓ) (ρ : Dev nD → PrngReg) (c : Dev nD)

/-- The array column that holds column `q` of point `t`'s block. -/
def at_ (t : Fin cfg0.N) (q : Fin 128) : Fin 1024 := ⟨t.val * 128 + q.val, by have h : t.val < 8 := N_0 ▸ t.isLt; omega⟩

theorem idx_facts : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = t.val + 8) ∧ (win0_3.index t 0 = 0 ∧ win0_3.index t 1 = t.val + 16)
    ∧ (win0_4.index t 0 = 0 ∧ win0_4.index t 1 = t.val) :=
  (by decide +kernel : ∀ t : Fin grid0.N, _)

theorem out_facts : ∀ t : Fin cfg0.N, (win0_5.index t 0 = 0 ∧ win0_5.index t 1 = t.val) ∧ (win0_6.index t 0 = 0 ∧ win0_6.index t 1 = t.val)
    ∧ (win0_7.index t 0 = 0 ∧ win0_7.index t 1 = t.val) ∧ (win0_8.index t 0 = 0 ∧ win0_8.index t 1 = t.val) :=
  (by decide +kernel : ∀ t : Fin grid0.N, _)

/-- The three argument arrays. -/
abbrev argD : (⟨2, ![4096, 1024]⟩ : Shape).Idx → EReal := m ((c : Thread nD τ).loc main_arg0)
abbrev argP : (⟨2, ![4096, 3072]⟩ : Shape).Idx → EReal := m ((c : Thread nD τ).loc main_arg1)
abbrev argW : (⟨2, ![3, 1024]⟩ : Shape).Idx → EReal := m ((c : Thread nD τ).loc main_arg2)

theorem blk0 (t : Fin cfg0.N) (q : Fin 128) : col (iblk m c 0 t) q = dCol (argD m c) (at_ t q) := by
  funext r
  have e := (idx_facts t).1
  show (iblk m c 0 t : S4096x128.Idx → EReal) (ix2 r q) = m ((c : Thread nD τ).loc main_arg0) (ix2 r (at_ t q))
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * r.val = r.val; omega
  | ⟨1, _⟩ => show win0_0.index t 1 * 128 + 1 * q.val = t.val * 128 + q.val; omega

theorem blk1 (t : Fin cfg0.N) (q : Fin 128) : col (iblk m c 1 t) q = pCol (argP m c) 0 (at_ t q) := by
  funext r
  have e := (idx_facts t).2.1
  show (iblk m c 1 t : S4096x128.Idx → EReal) (ix2 r q) = m ((c : Thread nD τ).loc main_arg1) (ix2 r (⟨0 * 1024 + (at_ t q).val, _⟩))
  unfold iblk
  rw [View.read_apply]
  show m ((c : Thread nD τ).loc main_arg1) _ = m ((c : Thread nD τ).loc main_arg1) _
  congr 1
  funext a
  apply Fin.ext
  match a with
  | ⟨0, _⟩ => show win0_1.index t 0 * 4096 + 1 * r.val = r.val; omega
  | ⟨1, _⟩ => show win0_1.index t 1 * 128 + 1 * q.val = 0 * 1024 + (t.val * 128 + q.val); omega

theorem blk2 (t : Fin cfg0.N) (q : Fin 128) : col (iblk m c 2 t) q = pCol (argP m c) 1 (at_ t q) := by
  funext r
  have e := (idx_facts t).2.2.1
  show (iblk m c 2 t : S4096x128.Idx → EReal) (ix2 r q) = m ((c : Thread nD τ).loc main_arg1) (ix2 r (⟨1 * 1024 + (at_ t q).val, _⟩))
  unfold iblk
  rw [View.read_apply]
  show m ((c : Thread nD τ).loc main_arg1) _ = m ((c : Thread nD τ).loc main_arg1) _
  congr 1
  funext a
  apply Fin.ext
  match a with
  | ⟨0, _⟩ => show win0_2.index t 0 * 4096 + 1 * r.val = r.val; omega
  | ⟨1, _⟩ => show win0_2.index t 1 * 128 + 1 * q.val = 1 * 1024 + (t.val * 128 + q.val); omega

theorem blk3 (t : Fin cfg0.N) (q : Fin 128) : col (iblk m c 3 t) q = pCol (argP m c) 2 (at_ t q) := by
  funext r
  have e := (idx_facts t).2.2.2.1
  show (iblk m c 3 t : S4096x128.Idx → EReal) (ix2 r q) = m ((c : Thread nD τ).loc main_arg1) (ix2 r (⟨2 * 1024 + (at_ t q).val, _⟩))
  unfold iblk
  rw [View.read_apply]
  show m ((c : Thread nD τ).loc main_arg1) _ = m ((c : Thread nD τ).loc main_arg1) _
  congr 1
  funext a
  apply Fin.ext
  match a with
  | ⟨0, _⟩ => show win0_3.index t 0 * 4096 + 1 * r.val = r.val; omega
  | ⟨1, _⟩ => show win0_3.index t 1 * 128 + 1 * q.val = 2 * 1024 + (t.val * 128 + q.val); omega

theorem blk4 (t : Fin cfg0.N) (q : Fin 128) : (fun k : Fin 3 => iblk m c 4 t (ix2 k q)) = wCol (argW m c) (at_ t q) := by
  funext k
  have e := (idx_facts t).2.2.2.2
  show (iblk m c 4 t : S3x128.Idx → EReal) (ix2 k q) = m ((c : Thread nD τ).loc main_arg2) (ix2 k (at_ t q))
  unfold iblk
  rw [View.read_apply]
  show m ((c : Thread nD τ).loc main_arg2) _ = m ((c : Thread nD τ).loc main_arg2) _
  congr 1
  funext a
  apply Fin.ext
  match a with
  | ⟨0, _⟩ => show win0_4.index t 0 * 3 + 1 * k.val = k.val; omega
  | ⟨1, _⟩ => show win0_4.index t 1 * 128 + 1 * q.val = t.val * 128 + q.val; omega

/-! ## The four result arrays -/

/-- What point `t` writes back is its block of the gradient of the gate `b`. -/
theorem flushed5 (t : Fin cfg0.N) : (dats m 0 c).flushed 5 t
    = ((cfg0.win 5).blk t).view.read (Elt Ideal) (gradB (argD m c) (argP m c) (argW m c)) := by
  rw [Value.flushed5_A]
  refine funext fun (y : S4096x128.Idx) => ?_
  obtain ⟨r, q, rfl⟩ : ∃ (r : Fin 4096) (q : Fin 128), y = ix2 r q := ⟨y 0, y 1, eq_ix2 y⟩
  have e := (out_facts t).1
  have ey : ((cfg0.win 5).blk t).view.emb (ix2 r q) = (ix2 r (at_ t q) : S4096x1024.Idx) := by
    funext a
    apply Fin.ext
    match a with
    | ⟨0, _⟩ => show win0_5.index t 0 * 4096 + 1 * r.val = r.val; omega
    | ⟨1, _⟩ => show win0_5.index t 1 * 128 + 1 * q.val = t.val * 128 + q.val; omega
  refine (out5 c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t) r q).trans ?_
  rw [blk0, blk2, blk3, blk4]
  exact (congrArg (gradB (argD m c) (argP m c) (argW m c)) ey).symm

theorem mem_blk5 (t : Fin cfg0.N) (i : S4096x1024.Idx) : i ∈ ((cfg0.win 5).blk t).view.set
    ↔ ∀ a : Fin 2, win0_5.index t a * S4096x128.size a ≤ (i a).val ∧ (i a).val < win0_5.index t a * S4096x128.size a + S4096x128.size a := by
  show i ∈ ((View.whole main_v0_0).slice (win0_5.rect t)).set ↔ _
  rw [View.set_slice_whole, Rect.mem_set_unit]
  exact Iff.rfl

/-- So the array of the gradient of the gate `b` is that gradient. -/
theorem final5 : (dats m 0 c).arrAt 5 cfg0.N = gradB (argD m c) (argP m c) (argW m c) :=
  (dats m 0 c).arrAt_eq_of_cover 5 _ (fun t _ => flushed5 m c t) fun (i : S4096x1024.Idx) => by
    have h0 : (i 0).val < 4096 := (i 0).isLt
    have h1 : (i 1).val < 1024 := (i 1).isLt
    have hN : cfg0.N = 8 := N_0
    refine ⟨⟨(i 1).val / 128, by omega⟩, flush0_5 _, ?_⟩
    rw [mem_blk5]
    have e := (out_facts ⟨(i 1).val / 128, by omega⟩).1
    intro a
    match a with
    | ⟨0, _⟩ => show win0_5.index _ 0 * 4096 ≤ (i 0).val ∧ (i 0).val < win0_5.index _ 0 * 4096 + 4096; omega
    | ⟨1, _⟩ => show win0_5.index _ 1 * 128 ≤ (i 1).val ∧ (i 1).val < win0_5.index _ 1 * 128 + 128; rw [e.2]; show _ / 128 * 128 ≤ _ ∧ _ < _ / 128 * 128 + 128; omega

/-- What point `t` writes back is its block of the gradient of the gate `c`. -/
theorem flushed6 (t : Fin cfg0.N) : (dats m 0 c).flushed 6 t
    = ((cfg0.win 6).blk t).view.read (Elt Ideal) (gradC (argD m c) (argP m c) (argW m c)) := by
  rw [Value.flushed6_A]
  refine funext fun (y : S4096x128.Idx) => ?_
  obtain ⟨r, q, rfl⟩ : ∃ (r : Fin 4096) (q : Fin 128), y = ix2 r q := ⟨y 0, y 1, eq_ix2 y⟩
  have e := (out_facts t).2.1
  have ey : ((cfg0.win 6).blk t).view.emb (ix2 r q) = (ix2 r (at_ t q) : S4096x1024.Idx) := by
    funext a
    apply Fin.ext
    match a with
    | ⟨0, _⟩ => show win0_6.index t 0 * 4096 + 1 * r.val = r.val; omega
    | ⟨1, _⟩ => show win0_6.index t 1 * 128 + 1 * q.val = t.val * 128 + q.val; omega
  refine (out6 c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t) r q).trans ?_
  rw [blk0, blk1, blk3, blk4]
  exact (congrArg (gradC (argD m c) (argP m c) (argW m c)) ey).symm

theorem mem_blk6 (t : Fin cfg0.N) (i : S4096x1024.Idx) : i ∈ ((cfg0.win 6).blk t).view.set
    ↔ ∀ a : Fin 2, win0_6.index t a * S4096x128.size a ≤ (i a).val ∧ (i a).val < win0_6.index t a * S4096x128.size a + S4096x128.size a := by
  show i ∈ ((View.whole main_v0_1).slice (win0_6.rect t)).set ↔ _
  rw [View.set_slice_whole, Rect.mem_set_unit]
  exact Iff.rfl

/-- So the array of the gradient of the gate `c` is that gradient. -/
theorem final6 : (dats m 0 c).arrAt 6 cfg0.N = gradC (argD m c) (argP m c) (argW m c) :=
  (dats m 0 c).arrAt_eq_of_cover 6 _ (fun t _ => flushed6 m c t) fun (i : S4096x1024.Idx) => by
    have h0 : (i 0).val < 4096 := (i 0).isLt
    have h1 : (i 1).val < 1024 := (i 1).isLt
    have hN : cfg0.N = 8 := N_0
    refine ⟨⟨(i 1).val / 128, by omega⟩, flush0_6 _, ?_⟩
    rw [mem_blk6]
    have e := (out_facts ⟨(i 1).val / 128, by omega⟩).2.1
    intro a
    match a with
    | ⟨0, _⟩ => show win0_6.index _ 0 * 4096 ≤ (i 0).val ∧ (i 0).val < win0_6.index _ 0 * 4096 + 4096; omega
    | ⟨1, _⟩ => show win0_6.index _ 1 * 128 ≤ (i 1).val ∧ (i 1).val < win0_6.index _ 1 * 128 + 128; rw [e.2]; show _ / 128 * 128 ≤ _ ∧ _ < _ / 128 * 128 + 128; omega

/-- What point `t` writes back is its block of the gradient of the input `v`. -/
theorem flushed7 (t : Fin cfg0.N) : (dats m 0 c).flushed 7 t
    = ((cfg0.win 7).blk t).view.read (Elt Ideal) (gradV (argD m c) (argP m c) (argW m c)) := by
  rw [Value.flushed7_A]
  refine funext fun (y : S4096x128.Idx) => ?_
  obtain ⟨r, q, rfl⟩ : ∃ (r : Fin 4096) (q : Fin 128), y = ix2 r q := ⟨y 0, y 1, eq_ix2 y⟩
  have e := (out_facts t).2.2.1
  have ey : ((cfg0.win 7).blk t).view.emb (ix2 r q) = (ix2 r (at_ t q) : S4096x1024.Idx) := by
    funext a
    apply Fin.ext
    match a with
    | ⟨0, _⟩ => show win0_7.index t 0 * 4096 + 1 * r.val = r.val; omega
    | ⟨1, _⟩ => show win0_7.index t 1 * 128 + 1 * q.val = t.val * 128 + q.val; omega
  refine (out7 c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t) r q).trans ?_
  rw [blk0, blk1, blk2, blk4]
  exact (congrArg (gradV (argD m c) (argP m c) (argW m c)) ey).symm

theorem mem_blk7 (t : Fin cfg0.N) (i : S4096x1024.Idx) : i ∈ ((cfg0.win 7).blk t).view.set
    ↔ ∀ a : Fin 2, win0_7.index t a * S4096x128.size a ≤ (i a).val ∧ (i a).val < win0_7.index t a * S4096x128.size a + S4096x128.size a := by
  show i ∈ ((View.whole main_v0_2).slice (win0_7.rect t)).set ↔ _
  rw [View.set_slice_whole, Rect.mem_set_unit]
  exact Iff.rfl

/-- So the array of the gradient of the input `v` is that gradient. -/
theorem final7 : (dats m 0 c).arrAt 7 cfg0.N = gradV (argD m c) (argP m c) (argW m c) :=
  (dats m 0 c).arrAt_eq_of_cover 7 _ (fun t _ => flushed7 m c t) fun (i : S4096x1024.Idx) => by
    have h0 : (i 0).val < 4096 := (i 0).isLt
    have h1 : (i 1).val < 1024 := (i 1).isLt
    have hN : cfg0.N = 8 := N_0
    refine ⟨⟨(i 1).val / 128, by omega⟩, flush0_7 _, ?_⟩
    rw [mem_blk7]
    have e := (out_facts ⟨(i 1).val / 128, by omega⟩).2.2.1
    intro a
    match a with
    | ⟨0, _⟩ => show win0_7.index _ 0 * 4096 ≤ (i 0).val ∧ (i 0).val < win0_7.index _ 0 * 4096 + 4096; omega
    | ⟨1, _⟩ => show win0_7.index _ 1 * 128 ≤ (i 1).val ∧ (i 1).val < win0_7.index _ 1 * 128 + 128; rw [e.2]; show _ / 128 * 128 ≤ _ ∧ _ < _ / 128 * 128 + 128; omega

/-- What point `t` writes back is its block of the gradient of the filter. -/
theorem flushed8 (t : Fin cfg0.N) : (dats m 0 c).flushed 8 t
    = ((cfg0.win 8).blk t).view.read (Elt Ideal) (gradW (argD m c) (argP m c)) := by
  rw [Value.flushed8_A]
  refine funext fun (y : S8x128.Idx) => ?_
  obtain ⟨r, q, rfl⟩ : ∃ (r : Fin 8) (q : Fin 128), y = ix2 r q := ⟨y 0, y 1, eq_ix2 y⟩
  have e := (out_facts t).2.2.2
  have ey : ((cfg0.win 8).blk t).view.emb (ix2 r q) = (ix2 r (at_ t q) : S8x1024.Idx) := by
    funext a
    apply Fin.ext
    match a with
    | ⟨0, _⟩ => show win0_8.index t 0 * 8 + 1 * r.val = r.val; omega
    | ⟨1, _⟩ => show win0_8.index t 1 * 128 + 1 * q.val = t.val * 128 + q.val; omega
  refine (out8 c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t) r q).trans ?_
  rw [blk0, blk1, blk2, blk3]
  exact (congrArg (gradW (argD m c) (argP m c)) ey).symm

theorem mem_blk8 (t : Fin cfg0.N) (i : S8x1024.Idx) : i ∈ ((cfg0.win 8).blk t).view.set
    ↔ ∀ a : Fin 2, win0_8.index t a * S8x128.size a ≤ (i a).val ∧ (i a).val < win0_8.index t a * S8x128.size a + S8x128.size a := by
  show i ∈ ((View.whole main_v0_3).slice (win0_8.rect t)).set ↔ _
  rw [View.set_slice_whole, Rect.mem_set_unit]
  exact Iff.rfl

/-- So the array of the gradient of the filter is that gradient. -/
theorem final8 : (dats m 0 c).arrAt 8 cfg0.N = gradW (argD m c) (argP m c) :=
  (dats m 0 c).arrAt_eq_of_cover 8 _ (fun t _ => flushed8 m c t) fun (i : S8x1024.Idx) => by
    have h0 : (i 0).val < 8 := (i 0).isLt
    have h1 : (i 1).val < 1024 := (i 1).isLt
    have hN : cfg0.N = 8 := N_0
    refine ⟨⟨(i 1).val / 128, by omega⟩, flush0_8 _, ?_⟩
    rw [mem_blk8]
    have e := (out_facts ⟨(i 1).val / 128, by omega⟩).2.2.2
    intro a
    match a with
    | ⟨0, _⟩ => show win0_8.index _ 0 * 8 ≤ (i 0).val ∧ (i 0).val < win0_8.index _ 0 * 8 + 8; omega
    | ⟨1, _⟩ => show win0_8.index _ 1 * 128 ≤ (i 1).val ∧ (i 1).val < win0_8.index _ 1 * 128 + 128; rw [e.2]; show _ / 128 * 128 ≤ _ ∧ _ < _ / 128 * 128 + 128; omega

/-- The run: the four results are the gradients, the arguments unchanged. -/
theorem run : θ_run defs (onTc (τ := τ) (main (F := Ideal))) ⟨m, fun _ => 0, ρ⟩ fun r => ∀ c : Dev nD,
      r.2.mem ((c : Thread nD τ).loc main_v0_0) = gradB (argD m c) (argP m c) (argW m c)
      ∧ r.2.mem ((c : Thread nD τ).loc main_v0_1) = gradC (argD m c) (argP m c) (argW m c)
      ∧ r.2.mem ((c : Thread nD τ).loc main_v0_2) = gradV (argD m c) (argP m c) (argW m c)
      ∧ r.2.mem ((c : Thread nD τ).loc main_v0_3) = gradW (argD m c) (argP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end

end Cert.ConvKernel

end
-- ==== Proof.ConvReference.lean ====
/-
  The plain reference of the convolution's backward pass, read index by index: its four results are the gradients of
  `ConvMath`.
-/
module

public import proofs.«01_k».proof.Proof.ConvMath
public import proofs.«01_k».proof.Proof.Gen.ReferenceIdeal.Read
public import Idealize.ShloMosaic.Lib.Pipeline.Value
public import Idealize.ShloMosaic.Lib.KernelVsHost

@[expose] public section

set_option maxRecDepth 16384

noncomputable section

namespace Cert.ConvReference

open Cert.ReferenceIdeal Cert.ReferenceIdeal.Gen Cert.ReferenceIdeal.Read Idealize.ShloMosaic Idealize.ShloMosaic.ValueIdx Cert.ConvMath
open scoped BigOperators

/-! ## Rows put in front of and behind an array -/

/-- Rows put around an array: inside they are the array's, outside the value put there. -/
theorem pad_rows {α : Type} {n N d : ℕ} (lo hi : ℕ) (x : (⟨2, ![n, d]⟩ : Shape).Idx → α) {u : Shape} (v : u.Idx → α)
    (h : (⟨2, ![n, d]⟩ : Shape).Pads ![lo, 0] ![hi, 0] ![0, 0] ⟨2, ![N, d]⟩) (hu : 0 < u.numel) (i : Fin N) (j : Fin d) :
    pad ⟨2, ![N, d]⟩ ![lo, 0] ![hi, 0] ![0, 0] x v h hu (ix2 i j)
      = if e : lo ≤ i.val ∧ i.val < lo + n then x (ix2 (⟨i.val - lo, by omega⟩ : Fin n) j) else v (Shape.Idx.first hu) := by
  by_cases e : lo ≤ i.val ∧ i.val < lo + n
  · rw [dif_pos e]
    refine pad_apply_of_inside _ _ _ x v h hu _ _ fun a => ?_
    match a with
    | ⟨0, _⟩ => show i.val = lo + (i.val - lo) * (0 + 1); omega
    | ⟨1, _⟩ => show j.val = 0 + j.val * (0 + 1); omega
  · rw [dif_neg e]
    refine pad_apply_of_not_inside _ _ _ x v h hu _ 0 fun ha => e ?_
    have h1 : lo ≤ i.val := ha.1
    have h2 : (i.val - lo) / (0 + 1) < n := ha.2.2
    omega

theorem zero_word : FloatOps.ofBits (F := Ideal) .f32 0x00000000#32 = (0 : EReal) := by
  show Ideal.ofBits .f32 0x00000000#32 = 0
  simp [Ideal.ofBits, Ideal.ieee]

section
variable (x0 : (⟨S4096x1024, .bf16⟩ : BufTy).Contents (Elt Ideal)) (x1 : (⟨S4096x3072, .bf16⟩ : BufTy).Contents (Elt Ideal))
  (x2 : (⟨S3x1024, .f32⟩ : BufTy).Contents (Elt Ideal)) (r : Fin 4096) (j : Fin 1024)

/-! ## The pieces of the forward step -/

theorem b_at : val_main_v1 (F := Ideal) x1 (ix2 r j) = pCol x1 0 j r := by
  rw [val_main_v1_apply]
  refine congrArg x1 (funext fun a => Fin.ext ?_)
  match a with
  | ⟨0, _⟩ => rfl
  | ⟨1, _⟩ => show j.val = 0 * 1024 + j.val; omega

theorem c_at : val_main_v2 (F := Ideal) x1 (ix2 r j) = pCol x1 1 j r := by
  rw [val_main_v2_apply]
  refine congrArg x1 (funext fun a => Fin.ext ?_)
  match a with
  | ⟨0, _⟩ => rfl
  | ⟨1, _⟩ => show 1024 + j.val = 1 * 1024 + j.val; omega

theorem v_at : val_main_v3 (F := Ideal) x1 (ix2 r j) = pCol x1 2 j r := by
  rw [val_main_v3_apply]
  refine congrArg x1 (funext fun a => Fin.ext ?_)
  match a with
  | ⟨0, _⟩ => rfl
  | ⟨1, _⟩ => show 2048 + j.val = 2 * 1024 + j.val; omega

theorem cv_at : val_main_v4 (F := Ideal) x1 (ix2 r j) = cv (pCol x1 1 j) (pCol x1 2 j) r := by
  rw [val_main_v4_apply, c_at, v_at]
  rfl

/-- The gated input with two zero rows in front. -/
theorem past_at (n : Fin 4098) : val_main_v6 (F := Ideal) x1 (ix2 n j) = past (cv (pCol x1 1 j) (pCol x1 2 j)) n.val := by
  unfold val_main_v6 past
  by_cases h : n.val < 2
  · rw [dif_neg (by omega)]
    refine (concatenate_pair_apply_left (t := S4098x1024) (s₁ := S2x1024) (s₂ := S4096x1024) 0 _ _ _ (ix2 n j) rfl (ix2 (⟨n.val, h⟩ : Fin 2) j) fun b => ?_).trans ?_
    · match b with
      | ⟨0, _⟩ => rfl
      | ⟨1, _⟩ => rfl
    · rw [val_main_v5_apply]
      exact zero_word
  · have := n.isLt
    rw [dif_pos ⟨by omega, by omega⟩, ← cv_at]
    refine concatenate_pair_apply_right (t := S4098x1024) (s₁ := S2x1024) (s₂ := S4096x1024) 0 _ _ _ (ix2 n j) rfl rfl (ix2 (⟨n.val - 2, by omega⟩ : Fin 4096) j) (fun b hb => ?_) ?_
    · match b with
      | ⟨0, _⟩ => exact absurd rfl hb
      | ⟨1, _⟩ => rfl
    · show n.val - 2 + 2 = n.val
      omega

theorem past0_at : val_main_v10 (F := Ideal) x1 (ix2 r j) = past (cv (pCol x1 1 j) (pCol x1 2 j)) r.val := by
  rw [val_main_v10_apply, ← past_at x1 j ⟨r.val, by omega⟩]
  exact congrArg _ (funext fun a => Fin.ext (by match a with | ⟨0, _⟩ => rfl | ⟨1, _⟩ => rfl))

theorem past1_at : val_main_v18 (F := Ideal) x1 (ix2 r j) = past (cv (pCol x1 1 j) (pCol x1 2 j)) (r.val + 1) := by
  rw [val_main_v18_apply, ← past_at x1 j ⟨r.val + 1, by omega⟩]
  exact congrArg _ (funext fun a => Fin.ext (by match a with | ⟨0, _⟩ => exact Nat.add_comm _ _ | ⟨1, _⟩ => rfl))

theorem past2_at : val_main_v25 (F := Ideal) x1 (ix2 r j) = past (cv (pCol x1 1 j) (pCol x1 2 j)) (r.val + 2) := by
  rw [val_main_v25_apply, ← past_at x1 j ⟨r.val + 2, by omega⟩]
  exact congrArg _ (funext fun a => Fin.ext (by match a with | ⟨0, _⟩ => exact Nat.add_comm _ _ | ⟨1, _⟩ => rfl))

/-- Each row of the filter as a row of one. -/
theorem row0_at (k : Fin 1) : val_main_v11 (F := Ideal) x2 (ix2 k j) = wCol x2 j 0 := by
  rw [val_main_v11_apply, val_main_v9_apply, val_main_v8_apply]
  refine congrArg x2 (funext fun a => Fin.ext ?_)
  match a with
  | ⟨0, _⟩ => rfl
  | ⟨1, _⟩ => exact Nat.mod_eq_of_lt j.isLt

theorem row1_at (k : Fin 1) : val_main_v19 (F := Ideal) x2 (ix2 k j) = wCol x2 j 1 := by
  rw [val_main_v19_apply, val_main_v17_apply, val_main_v16_apply]
  refine congrArg x2 (funext fun a => Fin.ext ?_)
  match a with
  | ⟨0, _⟩ => rfl
  | ⟨1, _⟩ => exact Nat.mod_eq_of_lt j.isLt

theorem row2_at (k : Fin 1) : val_main_v26 (F := Ideal) x2 (ix2 k j) = wCol x2 j 2 := by
  rw [val_main_v26_apply, val_main_v24_apply, val_main_v23_apply]
  refine congrArg x2 (funext fun a => Fin.ext ?_)
  match a with
  | ⟨0, _⟩ => rfl
  | ⟨1, _⟩ => exact Nat.mod_eq_of_lt j.isLt

/-- The index a row of one is read at. -/
theorem row_idx (f : S4096x1024.Idx → S1x1024.Idx) (h : ∀ a, (f (ix2 r j) a).val = ((ix2 (0 : Fin 1) j : S1x1024.Idx) a).val) :
    f (ix2 r j) = ix2 (0 : Fin 1) j := funext fun a => Fin.ext (h a)

theorem conv_at : val_main_v29 (F := Ideal) x1 x2 (ix2 r j) = conv (pCol x1 1 j) (pCol x1 2 j) (wCol x2 j) r := by
  rw [val_main_v29_apply, val_main_v22_apply, val_main_v15_apply, val_main_v13_apply, val_main_v21_apply, val_main_v28_apply,
    past0_at, past1_at, past2_at, past_add_two, val_main_v12_apply, val_main_v20_apply, val_main_v27_apply,
    row_idx r j idx_main_v12 (fun a => by match a with | ⟨0, _⟩ => rfl | ⟨1, _⟩ => rfl),
    row_idx r j idx_main_v20 (fun a => by match a with | ⟨0, _⟩ => rfl | ⟨1, _⟩ => rfl),
    row_idx r j idx_main_v27 (fun a => by match a with | ⟨0, _⟩ => rfl | ⟨1, _⟩ => rfl), row0_at, row1_at, row2_at, val_main_v14_apply]
  show (FloatOps.ofBits (F := Ideal) .f32 0x00000000#32 + _ + _) + _ = _
  rw [zero_word]
  unfold conv
  rw [zero_add]
  show wCol x2 j 0 * _ + wCol x2 j 1 * _ + wCol x2 j 2 * _ = _
  rw [add_comm (wCol x2 j 0 * _) (wCol x2 j 1 * _), add_comm _ (wCol x2 j 2 * _), ← add_assoc]

theorem dconv_at : val_main_v32 (F := Ideal) x0 x1 (ix2 r j) = dconv (dCol x0 j) (pCol x1 0 j) r := by
  rw [val_main_v32_apply, b_at]
  exact mul_comm _ _

/-! ## The gradients -/

theorem tap2_at : val_main_v35 (F := Ideal) x0 x1 x2 (ix2 r j) = wCol x2 j 2 * dconv (dCol x0 j) (pCol x1 0 j) r := by
  rw [val_main_v35_apply, val_main_v34_apply, row_idx r j idx_main_v34 (fun a => by match a with | ⟨0, _⟩ => rfl | ⟨1, _⟩ => rfl), row2_at, dconv_at]
  rfl

theorem tap1_at : val_main_v44 (F := Ideal) x0 x1 x2 (ix2 r j) = wCol x2 j 1 * dconv (dCol x0 j) (pCol x1 0 j) r := by
  rw [val_main_v44_apply, val_main_v43_apply, row_idx r j idx_main_v43 (fun a => by match a with | ⟨0, _⟩ => rfl | ⟨1, _⟩ => rfl), row1_at, dconv_at]
  rfl

theorem tap0_at : val_main_v55 (F := Ideal) x0 x1 x2 (ix2 r j) = wCol x2 j 0 * dconv (dCol x0 j) (pCol x1 0 j) r := by
  rw [val_main_v55_apply, val_main_v54_apply, row_idx r j idx_main_v54 (fun a => by match a with | ⟨0, _⟩ => rfl | ⟨1, _⟩ => rfl), row0_at, dconv_at]
  rfl

/-- A tap's share of the gradient, moved up: zero where it would look beyond the end. -/
theorem moved_up (y : FVec Ideal S4096x1024 .f32) (w : EReal) (f : Fin 4096 → EReal) (hy : ∀ n : Fin 4096, y (ix2 n j) = w * f n)
    (lo k : ℕ) (hk : lo + k = 2) (z : EReal) (hz : z = 0) :
    (if e : lo ≤ r.val + 2 ∧ r.val + 2 < lo + 4096 then y (ix2 (⟨r.val + 2 - lo, by omega⟩ : Fin 4096) j) else z) = w * ahead f (r.val + k) := by
  unfold ahead
  by_cases h : r.val + k < 4096
  · rw [dif_pos ⟨by omega, by omega⟩, dif_pos h, hy]
    exact congrArg (fun n => w * f n) (Fin.ext (by show r.val + 2 - lo = r.val + k; omega))
  · rw [dif_neg (by omega), dif_neg h, hz, mul_zero]

theorem dcv_at : val_main_v66 (F := Ideal) x0 x1 x2 (ix2 r j) = dcv (dCol x0 j) (pCol x1 0 j) (wCol x2 j) r := by
  have hr := r.isLt
  have e : idx_main_v66 (ix2 r j) = (ix2 (⟨r.val + 2, by omega⟩ : Fin 4098) j : S4098x1024.Idx) :=
    funext fun a => Fin.ext (by match a with | ⟨0, _⟩ => exact Nat.add_comm _ _ | ⟨1, _⟩ => rfl)
  rw [val_main_v66_apply, e, val_main_v61_apply, val_main_v50_apply]
  unfold val_main_v40 val_main_v49 val_main_v60 dcv
  rw [pad_rows, pad_rows, pad_rows, ← ahead_val (dconv (dCol x0 j) (pCol x1 0 j)) r]
  refine congrArg₂ (fun a b : EReal => a + b) (congrArg₂ (fun a b : EReal => a + b) ?_ ?_) ?_
  · exact moved_up r j _ _ _ (fun n => tap2_at x0 x1 x2 n j) 2 0 rfl _ zero_word
  · exact moved_up r j _ _ _ (fun n => tap1_at x0 x1 x2 n j) 1 1 rfl _ zero_word
  · exact moved_up r j _ _ _ (fun n => tap0_at x0 x1 x2 n j) 0 2 rfl _ zero_word

/-- A sum whose start is the zero word. -/
theorem zero_start (a : EReal) : FloatOps.ofBits (F := Ideal) .f32 0x00000000#32 + a = a := by rw [zero_word, zero_add]

theorem sum2_at (k : Fin 1) : val_main_v41 (F := Ideal) x0 x1 (ix2 k j) = dw (dCol x0 j) (pCol x1 0 j) (pCol x1 1 j) (pCol x1 2 j) 2 := by
  rw [val_main_v41_apply, val_main_v39_apply, val_main_cst_3_apply, zero_start, Fin.sum_univ_one, val_main_v38_apply, val_main_v37_apply, val_main_cst_2_apply, zero_start]
  refine Finset.sum_congr rfl fun r _ => ?_
  rw [show idx_main_v37 _ r = (ix2 r j : S4096x1024.Idx) from funext fun a => Fin.ext (by match a with | ⟨0, _⟩ => rfl | ⟨1, _⟩ => show 0 * 1024 + j.val = j.val; omega),
    val_main_v36_apply, dconv_at, past2_at]
  rfl

theorem sum1_at (k : Fin 1) : val_main_v51 (F := Ideal) x0 x1 (ix2 k j) = dw (dCol x0 j) (pCol x1 0 j) (pCol x1 1 j) (pCol x1 2 j) 1 := by
  rw [val_main_v51_apply, val_main_v48_apply, val_main_cst_7_apply, zero_start, Fin.sum_univ_one, val_main_v47_apply, val_main_v46_apply, val_main_cst_6_apply, zero_start]
  refine Finset.sum_congr rfl fun r _ => ?_
  rw [show idx_main_v46 _ r = (ix2 r j : S4096x1024.Idx) from funext fun a => Fin.ext (by match a with | ⟨0, _⟩ => rfl | ⟨1, _⟩ => show 0 * 1024 + j.val = j.val; omega),
    val_main_v45_apply, dconv_at, past1_at]
  rfl

theorem sum0_at (k : Fin 1) : val_main_v62 (F := Ideal) x0 x1 (ix2 k j) = dw (dCol x0 j) (pCol x1 0 j) (pCol x1 1 j) (pCol x1 2 j) 0 := by
  rw [val_main_v62_apply, val_main_v59_apply, val_main_cst_11_apply, zero_start, Fin.sum_univ_one, val_main_v58_apply, val_main_v57_apply, val_main_cst_10_apply, zero_start]
  refine Finset.sum_congr rfl fun r _ => ?_
  rw [show idx_main_v57 _ r = (ix2 r j : S4096x1024.Idx) from funext fun a => Fin.ext (by match a with | ⟨0, _⟩ => rfl | ⟨1, _⟩ => show 0 * 1024 + j.val = j.val; omega),
    val_main_v56_apply, dconv_at, past0_at]
  rfl

/-- The three rows of the filter's gradient. -/
theorem dw_at (k : Fin 3) : val_main_v64 (F := Ideal) x0 x1 (ix2 k j) = dw (dCol x0 j) (pCol x1 0 j) (pCol x1 1 j) (pCol x1 2 j) k.val := by
  rw [val_main_v64_apply, val_main_v53_apply]
  unfold val_main_v42 val_main_v52 val_main_v63
  rw [pad_rows, pad_rows, pad_rows, val_main_cst_5_apply, val_main_cst_9_apply, val_main_cst_13_apply, zero_word]
  show ((_ : EReal) + _) + _ = _
  match k with
  | ⟨0, _⟩ => rw [dif_neg (by simp), dif_neg (by simp), dif_pos (by simp), sum0_at, zero_add, zero_add]
  | ⟨1, _⟩ => rw [dif_neg (by simp), dif_pos (by simp), dif_neg (by simp), sum1_at, zero_add, add_zero]
  | ⟨2, _⟩ => rw [dif_pos (by simp), dif_neg (by simp), dif_neg (by simp), sum2_at, add_zero, add_zero]

/-! ## The results -/

theorem gradB_eq : val_main_v69 (F := Ideal) x0 x1 x2 = gradB x0 x1 x2 := by
  refine funext fun (i : S4096x1024.Idx) => ?_
  obtain ⟨r, j, rfl⟩ : ∃ (r : Fin 4096) (j : Fin 1024), i = ix2 r j := ⟨i 0, i 1, eq_ix2 i⟩
  rw [val_main_v69_apply, val_main_v33_apply, conv_at]
  rfl

theorem gradC_eq : val_main_v70 (F := Ideal) x0 x1 x2 = gradC x0 x1 x2 := by
  refine funext fun (i : S4096x1024.Idx) => ?_
  obtain ⟨r, j, rfl⟩ : ∃ (r : Fin 4096) (j : Fin 1024), i = ix2 r j := ⟨i 0, i 1, eq_ix2 i⟩
  rw [val_main_v70_apply, val_main_v68_apply, dcv_at, v_at]
  rfl

theorem gradV_eq : val_main_v71 (F := Ideal) x0 x1 x2 = gradV x0 x1 x2 := by
  refine funext fun (i : S4096x1024.Idx) => ?_
  obtain ⟨r, j, rfl⟩ : ∃ (r : Fin 4096) (j : Fin 1024), i = ix2 r j := ⟨i 0, i 1, eq_ix2 i⟩
  rw [val_main_v71_apply, val_main_v67_apply, dcv_at, c_at]
  exact mul_comm _ _

theorem gradW_eq : val_main_v72 (F := Ideal) x0 x1 = gradW x0 x1 := by
  refine funext fun (i : S8x1024.Idx) => ?_
  obtain ⟨k, j, rfl⟩ : ∃ (k : Fin 8) (j : Fin 1024), i = ix2 k j := ⟨i 0, i 1, eq_ix2 i⟩
  unfold val_main_v72 gradW
  rw [pad_rows]
  by_cases h : k.val < 3
  · rw [dif_pos ⟨by omega, by omega⟩, dw_at]
    exact (if_pos h).symm
  · rw [dif_neg (by omega)]
    refine Eq.trans ?_ (if_neg h).symm
    rw [val_main_call0_v0_apply, val_main_c_apply]
    show (((0#32 : BitVec 32).toInt : ℝ) : EReal) = 0
    simp

end

end Cert.ConvReference

end
-- ==== Proof.ConvClaim.lean ====
/-
  The claims about the convolution's backward pass: its kernel and its plain reference agree on all four gradients.
-/
module

public import proofs.«01_k».proof.Defs
public import proofs.«01_k».proof.Proof.ConvValue
public import proofs.«01_k».proof.Proof.ConvReference
public import proofs.«01_k».proof.Proof.Gen.ReferenceIdeal.Run
public import Idealize.ShloMosaic.Adequacy
public import Idealize.ShloMosaic.Init
public import Idealize.ShloMosaic.Lib.Quiescent

@[expose] public section

set_option maxRecDepth 16384

noncomputable section

namespace Cert.ConvClaim

open Idealize.ShloMosaic Idealize.ShloMosaic.TcCoe Idealize.SL.Sem Cert.ConvMath

/-- The reference's run: its four results are the gradients, its arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
      r.2.mem (c.tc.loc Cert.ReferenceIdeal.main_v69)
          = gradB (m (c.tc.loc Cert.ReferenceIdeal.main_arg0)) (m (c.tc.loc Cert.ReferenceIdeal.main_arg1)) (m (c.tc.loc Cert.ReferenceIdeal.main_arg2))
      ∧ r.2.mem (c.tc.loc Cert.ReferenceIdeal.main_v70)
          = gradC (m (c.tc.loc Cert.ReferenceIdeal.main_arg0)) (m (c.tc.loc Cert.ReferenceIdeal.main_arg1)) (m (c.tc.loc Cert.ReferenceIdeal.main_arg2))
      ∧ r.2.mem (c.tc.loc Cert.ReferenceIdeal.main_v71)
          = gradV (m (c.tc.loc Cert.ReferenceIdeal.main_arg0)) (m (c.tc.loc Cert.ReferenceIdeal.main_arg1)) (m (c.tc.loc Cert.ReferenceIdeal.main_arg2))
      ∧ r.2.mem (c.tc.loc Cert.ReferenceIdeal.main_v72)
          = gradW (m (c.tc.loc Cert.ReferenceIdeal.main_arg0)) (m (c.tc.loc Cert.ReferenceIdeal.main_arg1))
      ∧ r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2) :=
  (θ_run Cert.ReferenceIdeal.defs _ _).mono (fun _ h c =>
    ⟨(h c).1.trans ((Cert.ReferenceIdeal.Read.val_main_v69_eq _ _ _).trans (Cert.ConvReference.gradB_eq _ _ _)),
     (h c).2.1.trans ((Cert.ReferenceIdeal.Read.val_main_v70_eq _ _ _).trans (Cert.ConvReference.gradC_eq _ _ _)),
     (h c).2.2.1.trans ((Cert.ReferenceIdeal.Read.val_main_v71_eq _ _ _).trans (Cert.ConvReference.gradV_eq _ _ _)),
     (h c).2.2.2.1.trans ((Cert.ReferenceIdeal.Read.val_main_v72_eq _ _).trans (Cert.ConvReference.gradW_eq _ _)),
     (h c).2.2.2.2⟩) (Cert.ReferenceIdeal.Value.run (F := Ideal) m ρ)

theorem reference_frame : quiescent_ReferenceIdeal := fun m ρ _ =>
  (θ_run Cert.ReferenceIdeal.defs _ _).mono (fun r h => ⟨fun c => (h c).2.2.2.2, sem_eq_zero_of_no_sems (by decide) r.2⟩)
    (reference_run m ρ)

theorem equal : algebraic_KernelIdeal_ReferenceIdeal := by
  intro m ρ m' ρ' _ hagree
  refine ⟨_, _, _, _, Cert.ConvKernel.run m ρ, ?_⟩
  refine (θ_run Cert.ReferenceIdeal.defs _ _).mono (fun _ h c => ?_) (reference_run m' ρ')
  have hc := h c
  rw [(hagree c).1, (hagree c).2.1, (hagree c).2.2] at hc
  rw [(hagree c).1, (hagree c).2.1, (hagree c).2.2]
  exact hc

end Cert.ConvClaim

end
-- ==== Proof.BlockSums.lean ====
/-
  Sums over a long axis taken block by block.
-/
module

public import Mathlib.Algebra.BigOperators.Fin
public import Mathlib.Algebra.BigOperators.Intervals
public import Mathlib.Logic.Equiv.Fin.Basic
public import Mathlib.Data.Fintype.BigOperators

@[expose] public section

namespace Cert.BlockSums

open scoped BigOperators

/-- A sum over `n = a * b` places is the sum over `a` blocks of the sums over the `b` places of each. -/
theorem sum_blocks {M : Type} [AddCommMonoid M] {n a b : ℕ} (h : n = a * b) (f : Fin n → M) :
    ∑ j, f j = ∑ s : Fin a, ∑ y : Fin b, f ⟨s.val * b + y.val, by
      have := s.isLt; have := y.isLt
      calc s.val * b + y.val < s.val * b + b := by omega
        _ = (s.val + 1) * b := (Nat.succ_mul _ _).symm
        _ ≤ a * b := Nat.mul_le_mul_right _ (by omega)
        _ = n := h.symm⟩ := by
  subst h
  rw [← Equiv.sum_comp finProdFinEquiv, Fintype.sum_prod_type]
  refine Finset.sum_congr rfl fun s _ => Finset.sum_congr rfl fun y _ => congrArg f (Fin.ext ?_)
  show y.val + b * s.val = s.val * b + y.val
  rw [Nat.mul_comm, Nat.add_comm]

end Cert.BlockSums
-- ==== Proof.NtFfnIn.lean ====
/-
  The gradient of the rows that went into the feed-forward layer's first product. The kernel adds the products of four
  column blocks, two from the gate's gradient and two from the other half's, one after the other into an accumulator; the
  reference puts the two halves side by side and contracts over all the columns at once.
-/
module

public import proofs.«01_k».proof.Defs
public import proofs.«01_k».proof.Proof.BlockSums
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Adequacy
public import Idealize.ShloMosaic.Lib.Quiescent

@[expose] public section

set_option maxRecDepth 16384

noncomputable section

namespace Cert.NtFfnIn

open Cert.Kernel3Ideal Cert.Kernel3Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (i : S2048x1024.Idx) : k0_pay1 (F := Ideal) i = 0 := by
  unfold k0_pay1
  pointwise

theorem pay2_apply (v3 : Vec Ideal S2048x1024 .f32) (v4 : Vec Ideal S1x2048x1408 .bf16) (v6 : Vec Ideal S1x1024x1408 .bf16) (r : Fin 2048) (k : Fin 1024) :
    k0_pay2 (F := Ideal) v3 v4 v6 (ix2 r k) = v3 (ix2 r k) + ∑ y : Fin 1408, v4 (ix3 0 r y) * v6 (ix3 0 k y) := by
  unfold k0_pay2
  pointwise

theorem ref_apply (x0 : S2x4096x2816.Idx → EReal) (x1 : S4x1024x1408.Idx → EReal) (r : Fin 4096) (k : Fin 1024) :
    Cert.Reference3Ideal.Read.val_main_v14 (F := Ideal) x0 x1 (ix2 r k)
      = (∑ j : Fin 2816, x0 (ix3 0 r j) * x1 (ix3 ⟨j.val / 1408, by omega⟩ k ⟨j.val % 1408, by omega⟩))
        + ∑ j : Fin 2816, x0 (ix3 1 r j) * x1 (ix3 ⟨(2816 + j.val) / 1408, by omega⟩ k ⟨(2816 + j.val) % 1408, by omega⟩) := by
  rw [← Cert.Reference3Ideal.Read.val_main_v14_eq]
  pointwise

section
variable (c : Dev nD) (i : grid0.Coords)
  (a2 : Memref sig .tc .vmem S1x2048x1408 .bf16) (h2 : a2.IsWhole) (a3 : Memref sig .tc .vmem S1x1024x1408 .bf16) (h3 : a3.IsWhole)
  (a4 : Memref sig .tc .vmem S2048x1024 .bf16) (h4 : a4.IsWhole) (a5 : Memref sig .tc .vmem S2048x1024 .f32) (h5 : a5.IsWhole)
  (x0 : Vec Ideal S1x2048x1408 .bf16) (x1 : Vec Ideal S1x1024x1408 .bf16) (acc : Vec Ideal S2048x1024 .f32)

theorem first_sum (hc0 : cond0_0 i) (hc1 : ¬ cond0_1 i) :
    sout0_A_0 (F := Ideal) c i a2 h2 a3 h3 a4 h4 a5 h5 hc0 hc1 x0 x1 = k0_pay2 (k0_pay1 (F := Ideal)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1024) hz2]
  simp only [View.readAt_eq_ld, h2.read_unread, h3.read_unread, View.ld_unit_zero (S := S1x2048x1408) hz3,
    View.ld_unit_zero (S := S1x1024x1408) hz3]
  rw [View.readCov_unit_zero (S := S2048x1024) _ hz2]

theorem next_sum (hc0 : ¬ cond0_0 i) (hc1 : ¬ cond0_1 i) :
    sout0_B_0 (F := Ideal) c i a2 h2 a3 h3 a4 h4 a5 h5 hc0 hc1 x0 x1 acc = k0_pay2 acc x0 x1 := by
  unfold sout0_B_0
  rw [View.read_writes_eq_canon _ _ _ (scover0_B_0 c i a2 h2 a3 h3 a4 h4 a5 h5 hc0 hc1 x0 x1 acc)]
  unfold kernelRun0_B
  dsimp only
  sl_unfold_words
  rw [View.canon_unit_zero hz2]
  simp only [View.readAt_eq_ld, h2.read_unread, h3.read_unread, h5.read_unread, View.ld_unit_zero (S := S2048x1024) hz2,
    View.ld_unit_zero (S := S1x2048x1408) hz3, View.ld_unit_zero (S := S1x1024x1408) hz3]

theorem last_out (hc0 : ¬ cond0_0 i) (hc1 : cond0_1 i) :
    out0_C_2 (F := Ideal) c i a2 h2 a3 h3 a4 h4 a5 h5 hc0 hc1 x0 x1 acc = k0_pay3 (k0_pay2 acc x0 x1) := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero hz2]
  simp only [View.readAt_eq_ld, h2.read_unread, h3.read_unread, h5.read_unread, View.ld_unit_zero (S := S2048x1024) hz2,
    View.ld_unit_zero (S := S1x2048x1408) hz3, View.ld_unit_zero (S := S1x1024x1408) hz3]
  rw [View.readCov_unit_zero (S := S2048x1024) _ hz2]
end
section
variable (m : (ℓ : Loc nD τ sig) → Buf (Elt Ideal) ℓ) (c : Dev nD)

/-- The two argument arrays. -/
abbrev argD : S2x4096x2816.Idx → EReal := m ((c : Thread nD τ).loc main_arg0)
abbrev argW : S4x1024x1408.Idx → EReal := m ((c : Thread nD τ).loc main_arg1)

theorem idx_facts : ∀ t : Fin cfg0.N, (win0_0.index t 0 = t.val % 4 / 2 ∧ win0_0.index t 1 = t.val / 4 ∧ win0_0.index t 2 = t.val % 4 % 2)
    ∧ (win0_1.index t 0 = t.val % 4 ∧ win0_1.index t 1 = 0 ∧ win0_1.index t 2 = 0) :=
  (by decide +kernel : ∀ t : Fin grid0.N, _)

/-- The row of the array that row `r` of point `t`'s block is. -/
def row (t : Fin cfg0.N) (r : Fin 2048) : Fin 4096 := ⟨t.val / 4 * 2048 + r.val, by have h : t.val < 8 := N_0 ▸ t.isLt; omega⟩

/-- The entry of the first array's part `s`, at row `r` and the part's column `y`. -/
def ent (r : Fin 4096) (s : Fin 4) (y : Fin 1408) : S2x4096x2816.Idx :=
  ix3 (⟨s.val / 2, by omega⟩ : Fin 2) r (⟨s.val % 2 * 1408 + y.val, by omega⟩ : Fin 2816)

/-- The first window's block at a point. -/
theorem blk0 (t : Fin cfg0.N) (r : Fin 2048) (y : Fin 1408) : (iblk m c 0 t : S1x2048x1408.Idx → EReal) (ix3 0 r y)
    = argD m c (ent (row t r) ⟨t.val % 4, by omega⟩ y) := by
  obtain ⟨e0, e1, e2⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 1 + 1 * 0 = t.val % 4 / 2; omega
  | ⟨1, _⟩ => show win0_0.index t 1 * 2048 + 1 * r.val = t.val / 4 * 2048 + r.val; omega
  | ⟨2, _⟩ => show win0_0.index t 2 * 1408 + 1 * y.val = t.val % 4 % 2 * 1408 + y.val; omega

/-- The second window's block at a point. -/
theorem blk1 (t : Fin cfg0.N) (k : Fin 1024) (y : Fin 1408) : (iblk m c 1 t : S1x1024x1408.Idx → EReal) (ix3 0 k y)
    = argW m c (ix3 ⟨t.val % 4, by omega⟩ k y) := by
  obtain ⟨e0, e1, e2⟩ := (idx_facts t).2
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = t.val % 4; omega
  | ⟨1, _⟩ => show win0_1.index t 1 * 1024 + 1 * k.val = k.val; omega
  | ⟨2, _⟩ => show win0_1.index t 2 * 1408 + 1 * y.val = y.val; omega

/-- What column block `s` adds to the entry at row `r` and column `k`. -/
def part (r : Fin 4096) (k : Fin 1024) (s : Fin 4) : EReal :=
  ∑ y : Fin 1408, argD m c (ent r s y) * argW m c (ix3 s k y)

/-- One point's product, added to what the accumulator held. -/
theorem step_apply (t : Fin cfg0.N) (acc : Vec Ideal S2048x1024 .f32) (r : Fin 2048) (k : Fin 1024) :
    k0_pay2 (F := Ideal) acc (iblk m c 0 t) (iblk m c 1 t) (ix2 r k) = acc (ix2 r k) + part m c (row t r) k ⟨t.val % 4, by omega⟩ := by
  rw [pay2_apply]
  congr 1
  exact Finset.sum_congr rfl fun y _ => congrArg₂ (fun a b : EReal => a * b) (blk0 m c t r y) (blk1 m c t k y)

/-- The accumulator after a point that is not the last of its four: the parts so far. -/
theorem acc_apply (b : ℕ) (hb : b < 2) : ∀ (j : ℕ) (hj : j < 3) (r : Fin 2048) (k : Fin 1024) (h : 4 * b + j < cfg0.N),
    (outsAt0 m c (4 * b + j) h).2 (ix2 r k)
      = ∑ s : Fin (j + 1), part m c ⟨b * 2048 + r.val, by omega⟩ k ⟨s.val, by omega⟩
  | 0, hj, r, k, h => by
    have hA := outsAt0_A m c ⟨4 * b + 0, h⟩ (by show (4 * b + 0) % 4 = 0; omega) (by show ¬ (4 * b + 0) % 4 = 3; omega)
    rw [show outsAt0 m c (4 * b + 0) h = _ from hA]
    dsimp only
    rw [first_sum, step_apply, pay1_apply, zero_add, Fin.sum_univ_one]
    congr 1
    · exact Fin.ext (show (4 * b + 0) / 4 * 2048 + r.val = b * 2048 + r.val by omega)
    · exact Fin.ext (show (4 * b + 0) % 4 = 0 by omega)
  | j + 1, hj, r, k, h => by
    have hB := outsAt0_B m c ⟨4 * b + (j + 1), h⟩ (by show ¬ (4 * b + (j + 1)) % 4 = 0; omega) (by show ¬ (4 * b + (j + 1)) % 4 = 3; omega)
    rw [show outsAt0 m c (4 * b + (j + 1)) h = _ from hB]
    dsimp only
    rw [next_sum, step_apply, Fin.sum_univ_castSucc]
    have ih := acc_apply b hb j (by omega) r k (by omega)
    refine congrArg₂ (fun a b : EReal => a + b) ih ?_
    · congr 1
      · exact Fin.ext (show (4 * b + (j + 1)) / 4 * 2048 + r.val = b * 2048 + r.val by omega)
      · exact Fin.ext (show (4 * b + (j + 1)) % 4 = j + 1 by omega)

/-- All four parts together. -/
def total (r : Fin 4096) (k : Fin 1024) : EReal := ∑ s : Fin 4, part m c r k s

/-- The block that the last of four points leaves. -/
theorem last_apply (b : ℕ) (hb : b < 2) (r : Fin 2048) (k : Fin 1024) (h : 4 * b + 3 < cfg0.N) :
    (outsAt0 m c (4 * b + 3) h).1 (ix2 r k) = total m c ⟨b * 2048 + r.val, by omega⟩ k := by
  have hC := outsAt0_C m c ⟨4 * b + 3, h⟩ (by show ¬ (4 * b + 3) % 4 = 0; omega) (by show (4 * b + 3) % 4 = 3; omega)
  rw [show outsAt0 m c (4 * b + 3) h = _ from hC]
  dsimp only
  rw [last_out]
  show k0_pay2 (F := Ideal) _ _ _ (ix2 r k) = _
  unfold total
  rw [step_apply, Fin.sum_univ_castSucc]
  congr 1
  · exact acc_apply m c b hb 2 (by omega) r k (by omega)
  · congr 1
    · exact Fin.ext (show (4 * b + 3) / 4 * 2048 + r.val = b * 2048 + r.val by omega)
    · exact Fin.ext (show (4 * b + 3) % 4 = 3 by omega)

/-- The result array, entry by entry. -/
theorem result_apply (r : Fin 4096) (k : Fin 1024) : Value.G2 m c (ix2 r k) = total m c r k := by
  have e : Value.pt2Of (ix2 r k) = 4 * (r.val / 2048) + 3 := by
    show 4 * (1 * (r.val / 2048 - 0) + 1 * (k.val / 1024 - 0)) + 3 = _
    omega
  have hN : 4 * (r.val / 2048) + 3 < cfg0.N := by have h : cfg0.N = 8 := N_0; omega
  unfold Value.G2
  rw [dif_pos (e ▸ hN)]
  rw [Value.fold0_congr m c _ _ (4 * (r.val / 2048) + 3) (by omega) e]
  rw [← Value.outsAt0_sweep m c _ hN]
  have hl : Value.loc2Of (ix2 r k) = (ix2 (⟨r.val % 2048, by omega⟩ : Fin 2048) k : S2048x1024.Idx) := by
    funext a
    apply Fin.ext
    match a with
    | ⟨0, _⟩ => rfl
    | ⟨1, _⟩ => show k.val % 1024 = k.val; omega
  rw [hl, last_apply m c _ (by omega)]
  congr 1
  exact Fin.ext (show r.val / 2048 * 2048 + r.val % 2048 = r.val by omega)

end

/-- The reference's result, in column blocks. -/
theorem reference_apply (x0 : S2x4096x2816.Idx → EReal) (x1 : S4x1024x1408.Idx → EReal) (r : Fin 4096) (k : Fin 1024) :
    Cert.Reference3Ideal.Read.val_main_v14 (F := Ideal) x0 x1 (ix2 r k)
      = ∑ s : Fin 4, ∑ y : Fin 1408, x0 (ent r s y) * x1 (ix3 s k y) := by
  have half : ∀ (p : Fin 2) (s : Fin 2), (∑ y : Fin 1408, x0 (ix3 p r (⟨s.val * 1408 + y.val, by omega⟩ : Fin 2816))
      * x1 (ix3 (⟨(p.val * 2816 + (s.val * 1408 + y.val)) / 1408, by omega⟩ : Fin 4) k (⟨(p.val * 2816 + (s.val * 1408 + y.val)) % 1408, by omega⟩ : Fin 1408)))
      = ∑ y : Fin 1408, x0 (ent r ⟨p.val * 2 + s.val, by omega⟩ y) * x1 (ix3 ⟨p.val * 2 + s.val, by omega⟩ k y) := by
    intro p s
    refine Finset.sum_congr rfl fun y _ => ?_
    have e0 : (ix3 p r (⟨s.val * 1408 + y.val, by omega⟩ : Fin 2816) : S2x4096x2816.Idx) = ent r ⟨p.val * 2 + s.val, by omega⟩ y := by
      unfold ent
      congr 1
      · exact Fin.ext (show p.val = (p.val * 2 + s.val) / 2 by omega)
      · exact Fin.ext (show s.val * 1408 + y.val = (p.val * 2 + s.val) % 2 * 1408 + y.val by omega)
    have e1 : (ix3 (⟨(p.val * 2816 + (s.val * 1408 + y.val)) / 1408, by omega⟩ : Fin 4) k (⟨(p.val * 2816 + (s.val * 1408 + y.val)) % 1408, by omega⟩ : Fin 1408) : S4x1024x1408.Idx)
        = ix3 ⟨p.val * 2 + s.val, by omega⟩ k y := by
      congr 1
      · exact Fin.ext (show (p.val * 2816 + (s.val * 1408 + y.val)) / 1408 = p.val * 2 + s.val by omega)
      · exact Fin.ext (show (p.val * 2816 + (s.val * 1408 + y.val)) % 1408 = y.val by omega)
    exact congrArg₂ (fun a b : EReal => a * b) (congrArg x0 e0) (congrArg x1 e1)
  rw [ref_apply, Cert.BlockSums.sum_blocks (a := 2) (b := 1408) rfl, Cert.BlockSums.sum_blocks (a := 2) (b := 1408) rfl,
    Fin.sum_univ_two, Fin.sum_univ_two, Fin.sum_univ_four, ← add_assoc]
  refine congrArg₂ (fun a b : EReal => a + b) (congrArg₂ (fun a b : EReal => a + b) (congrArg₂ (fun a b : EReal => a + b) ?_ ?_) ?_) ?_
  · refine Eq.trans (Finset.sum_congr rfl fun y _ => ?_) (half 0 0)
    simp only [Fin.val_zero, Nat.zero_mul, Nat.zero_add]
  · refine Eq.trans (Finset.sum_congr rfl fun y _ => ?_) (half 0 1)
    simp only [Fin.val_zero, Nat.zero_mul, Nat.zero_add]
  · refine Eq.trans (Finset.sum_congr rfl fun y _ => ?_) (half 1 0)
    simp only [Fin.val_one, Nat.one_mul]
  · refine Eq.trans (Finset.sum_congr rfl fun y _ => ?_) (half 1 1)
    simp only [Fin.val_one, Nat.one_mul]

/-- The reference leaves its arguments as they were and ends with no semaphore raised. -/
theorem reference_frame : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's, entry by entry. -/
theorem equal : algebraic_Kernel3Ideal_Reference3Ideal := by
  intro m ρ m' ρ' _ hagree
  refine ⟨_, Value.run (F := Ideal) m ρ, ?_⟩
  refine (θ_run Cert.Reference3Ideal.defs _ _).mono (fun _ h c => ⟨?_, (h c).2⟩)
    (Cert.Reference3Ideal.Value.run (F := Ideal) m' ρ')
  rw [(h c).1, (hagree c).1, (hagree c).2]
  refine (Cert.Reference3Ideal.Read.val_main_v14_eq _ _).trans (funext fun i => ?_)
  obtain ⟨r, k, rfl⟩ : ∃ (r : Fin 4096) (k : Fin 1024), i = ix2 r k := ⟨i 0, i 1, eq_ix2 i⟩
  exact (reference_apply _ _ r k).trans (result_apply m c r k).symm

end Cert.NtFfnIn

end
-- ==== Proof.TnFfnIn.lean ====
/-
  The gradient of the feed-forward layer's first weights: the rows that went in, transposed, times the gradient of both
  halves that came out. The kernel takes a block of weight rows and one of the four column parts at a time.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Adequacy
public import Idealize.ShloMosaic.Lib.Quiescent

@[expose] public section

set_option maxRecDepth 16384

noncomputable section

namespace Cert.TnFfnIn

open Cert.Kernel4Ideal Cert.Kernel4Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of the gradient's part `s`, at row `r` and the part's column `j`. -/
def ent (r : Fin 4096) (s : Fin 4) (j : Fin 1408) : S2x4096x2816.Idx :=
  ix3 (⟨s.val / 2, by omega⟩ : Fin 2) r (⟨s.val % 2 * 1408 + j.val, by omega⟩ : Fin 2816)

/-- The gradient of the weights. -/
def grad (h : S4096x1024.Idx → EReal) (g : S2x4096x2816.Idx → EReal) (i : S4x1024x1408.Idx) : EReal :=
  ∑ y : Fin 4096, h (ix2 y (i 1)) * g (ent y (i 0) (i 2))

theorem pay1_apply (v0 : Vec Ideal S4096x512 .bf16) (v1 : Vec Ideal S1x4096x1408 .bf16) (k : Fin 512) (j : Fin 1408) :
    k0_pay1 (F := Ideal) v0 v1 (ix3 0 k j) = ∑ y : Fin 4096, v0 (ix2 y k) * v1 (ix3 0 y j) := by
  unfold k0_pay1
  pointwise

/-- The block that a point leaves. -/
theorem out_apply (x0 : Vec Ideal S4096x512 .bf16) (x1 : Vec Ideal S1x4096x1408 .bf16) (k : Fin 512) (j : Fin 1408) :
    out0_2 (F := Ideal) x0 x1 (ix3 0 k j) = ∑ y : Fin 4096, x0 (ix2 y k) * x1 (ix3 0 y j) := by
  unfold out0_2
  rw [View.canon_unit_zero hz3, View.ld_unit_zero (S := S4096x512) hz2, View.ld_unit_zero (S := S1x4096x1408) hz3]
  exact pay1_apply x0 x1 k j

section
variable (m : (ℓ : Loc nD τ sig) → Buf (Elt Ideal) ℓ) (ρ : Dev nD → PrngReg) (c : Dev nD)

/-- The two argument arrays. -/
abbrev argH : S4096x1024.Idx → EReal := m ((c : Thread nD τ).loc main_arg0)
abbrev argG : S2x4096x2816.Idx → EReal := m ((c : Thread nD τ).loc main_arg1)

theorem idx_facts : ∀ t : Fin cfg0.N, (win0_0.index t 0 = 0 ∧ win0_0.index t 1 = t.val % 2)
    ∧ (win0_1.index t 0 = t.val / 4 ∧ win0_1.index t 1 = 0 ∧ win0_1.index t 2 = t.val / 2 % 2)
    ∧ (win0_2.index t 0 = t.val / 2 ∧ win0_2.index t 1 = t.val % 2 ∧ win0_2.index t 2 = 0) :=
  (by decide +kernel : ∀ t : Fin grid0.N, _)

/-- The column part that a point takes. -/
def part (t : Fin cfg0.N) : Fin 4 := ⟨t.val / 2, by have h : t.val < 8 := N_0 ▸ t.isLt; omega⟩

/-- The weight row that row `k` of a point's block is. -/
def row (t : Fin cfg0.N) (k : Fin 512) : Fin 1024 := ⟨t.val % 2 * 512 + k.val, by have h : t.val < 8 := N_0 ▸ t.isLt; omega⟩

/-- The first window's block at a point. -/
theorem blk0 (t : Fin cfg0.N) (r : Fin 4096) (k : Fin 512) : (iblk m c 0 t : S4096x512.Idx → EReal) (ix2 r k)
    = argH m c (ix2 r (row t k)) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * r.val = r.val; omega
  | ⟨1, _⟩ => show win0_0.index t 1 * 512 + 1 * k.val = t.val % 2 * 512 + k.val; omega

/-- The second window's block at a point. -/
theorem blk1 (t : Fin cfg0.N) (r : Fin 4096) (j : Fin 1408) : (iblk m c 1 t : S1x4096x1408.Idx → EReal) (ix3 0 r j)
    = argG m c (ent r (part t) j) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = t.val / 2 / 2; omega
  | ⟨1, _⟩ => show win0_1.index t 1 * 4096 + 1 * r.val = r.val; omega
  | ⟨2, _⟩ => show win0_1.index t 2 * 1408 + 1 * j.val = t.val / 2 % 2 * 1408 + j.val; omega

/-- What a point writes back is its block of the gradient. -/
theorem flushed (t : Fin cfg0.N) : (dats m 0 c).flushed 2 t
    = ((cfg0.win 2).blk t).view.read (Elt Ideal) (grad (argH m c) (argG m c)) := by
  rw [Value.flushed2]
  refine funext fun (y : S1x512x1408.Idx) => ?_
  obtain ⟨z, k, j, rfl⟩ : ∃ (z : Fin 1) (k : Fin 512) (j : Fin 1408), y = ix3 z k j := ⟨y 0, y 1, y 2, eq_ix3 y⟩
  obtain rfl : z = 0 := Subsingleton.elim _ _
  obtain ⟨e0, e1, e2⟩ := (idx_facts t).2.2
  have ey : ((cfg0.win 2).blk t).view.emb (ix3 0 k j : S1x512x1408.Idx) = (ix3 (part t) (row t k) j : S4x1024x1408.Idx) := by
    funext a
    apply Fin.ext
    match a with
    | ⟨0, _⟩ => show win0_2.index t 0 * 1 + 1 * 0 = t.val / 2; omega
    | ⟨1, _⟩ => show win0_2.index t 1 * 512 + 1 * k.val = t.val % 2 * 512 + k.val; omega
    | ⟨2, _⟩ => show win0_2.index t 2 * 1408 + 1 * j.val = j.val; omega
  refine (out_apply (iblk m c 0 t) (iblk m c 1 t) k j).trans ?_
  refine Eq.trans (Finset.sum_congr rfl fun r _ => congrArg₂ (fun a b : EReal => a * b) (blk0 m c t r k) (blk1 m c t r j)) ?_
  exact (congrArg (grad (argH m c) (argG m c)) ey).symm

theorem mem_blk (t : Fin cfg0.N) (i : S4x1024x1408.Idx) : i ∈ ((cfg0.win 2).blk t).view.set
    ↔ ∀ a : Fin 3, win0_2.index t a * S1x512x1408.size a ≤ (i a).val ∧ (i a).val < win0_2.index t a * S1x512x1408.size a + S1x512x1408.size a := by
  show i ∈ ((View.whole main_v0).slice (win0_2.rect t)).set ↔ _
  rw [View.set_slice_whole, Rect.mem_set_unit]
  exact Iff.rfl

/-- So the result array is the gradient. -/
theorem final : (dats m 0 c).arrAt 2 cfg0.N = grad (argH m c) (argG m c) :=
  (dats m 0 c).arrAt_eq_of_cover 2 _ (fun t _ => flushed m c t) fun (i : S4x1024x1408.Idx) => by
    have h0 : (i 0).val < 4 := (i 0).isLt
    have h1 : (i 1).val < 1024 := (i 1).isLt
    have h2 : (i 2).val < 1408 := (i 2).isLt
    have hN : cfg0.N = 8 := N_0
    have hp : (i 0).val * 2 + (i 1).val / 512 < cfg0.N := by omega
    refine ⟨⟨(i 0).val * 2 + (i 1).val / 512, hp⟩, flush0_2 _, ?_⟩
    rw [mem_blk]
    obtain ⟨e0, e1, e2⟩ := (idx_facts ⟨(i 0).val * 2 + (i 1).val / 512, hp⟩).2.2
    dsimp only at e0 e1 e2
    intro a
    match a with
    | ⟨0, _⟩ => show win0_2.index _ 0 * 1 ≤ (i 0).val ∧ (i 0).val < win0_2.index _ 0 * 1 + 1; omega
    | ⟨1, _⟩ => show win0_2.index _ 1 * 512 ≤ (i 1).val ∧ (i 1).val < win0_2.index _ 1 * 512 + 512; omega
    | ⟨2, _⟩ => show win0_2.index _ 2 * 1408 ≤ (i 2).val ∧ (i 2).val < win0_2.index _ 2 * 1408 + 1408; omega

/-- The run: the result is the gradient, the arguments unchanged. -/
theorem run : θ_run defs (onTc (τ := τ) (main (F := Ideal))) ⟨m, fun _ => 0, ρ⟩ fun r => ∀ c : Dev nD,
      r.2.mem ((c : Thread nD τ).loc main_v0) = grad (argH m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end

/-- The reference's result is the gradient. -/
theorem reference_apply (x0 : S4096x1024.Idx → EReal) (x1 : S2x4096x2816.Idx → EReal) (s : Fin 4) (k : Fin 1024) (j : Fin 1408) :
    Cert.Reference4Ideal.Read.val_main_v15 (F := Ideal) x0 x1 (ix3 s k j) = grad x0 x1 (ix3 s k j) := by
  rw [← Cert.Reference4Ideal.Read.val_main_v15_eq]
  pointwise
  refine Finset.sum_congr rfl fun y _ => (mul_comm _ _).trans (congrArg₂ (fun a b : EReal => a * b) rfl ?_)
  split
  · next h =>
      refine congrArg x1 (show (ix3 0 y _ : S2x4096x2816.Idx) = ent y s j from ?_)
      unfold ent
      congr 1
      · exact Fin.ext (show 0 = s.val / 2 by omega)
      · exact Fin.ext (show s.val * 1408 + j.val = s.val % 2 * 1408 + j.val by omega)
  · next h =>
      refine congrArg x1 (show (ix3 1 y _ : S2x4096x2816.Idx) = ent y s j from ?_)
      unfold ent
      congr 1
      · exact Fin.ext (show 1 = s.val / 2 by omega)
      · exact Fin.ext (show s.val * 1408 + j.val - 2816 = s.val % 2 * 1408 + j.val by omega)

/-- The reference leaves its arguments as they were and ends with no semaphore raised. -/
theorem reference_frame : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the reference's, entry by entry. -/
theorem equal : algebraic_Kernel4Ideal_Reference4Ideal := by
  intro m ρ m' ρ' _ hagree
  refine ⟨_, run m ρ, ?_⟩
  refine (θ_run Cert.Reference4Ideal.defs _ _).mono (fun _ h c => ⟨?_, (h c).2⟩)
    (Cert.Reference4Ideal.Value.run (F := Ideal) m' ρ')
  rw [(h c).1, (hagree c).1, (hagree c).2]
  refine (Cert.Reference4Ideal.Read.val_main_v15_eq _ _).trans (funext fun i => ?_)
  obtain ⟨s, k, j, rfl⟩ : ∃ (s : Fin 4) (k : Fin 1024) (j : Fin 1408), i = ix3 s k j := ⟨i 0, i 1, i 2, eq_ix3 i⟩
  exact reference_apply _ _ s k j

end Cert.TnFfnIn

end
-- ==== Proof.TnFfnOut.lean ====
/-
  The gradient of the feed-forward layer's second weights: the activations, transposed, times the gradient of the rows
  that came out. The kernel takes a block of weight rows at a time.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Adequacy
public import Idealize.ShloMosaic.Lib.Quiescent

@[expose] public section

set_option maxRecDepth 16384

noncomputable section

namespace Cert.TnFfnOut

open Cert.Kernel5Ideal Cert.Kernel5Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of the gradient's part `s`, at row `r` and the part's column `j`. -/
def ent (r : Fin 4096) (s : Fin 1) (j : Fin 1024) : S4096x1024.Idx :=
  ix2 r (⟨s.val * 1024 + j.val, by omega⟩ : Fin 1024)

/-- The gradient of the weights. -/
def grad (h : S4096x2816.Idx → EReal) (g : S4096x1024.Idx → EReal) (i : S1x2816x1024.Idx) : EReal :=
  ∑ y : Fin 4096, h (ix2 y (i 1)) * g (ent y (i 0) (i 2))

theorem pay1_apply (v0 : Vec Ideal S4096x256 .bf16) (v1 : Vec Ideal S1x4096x1024 .bf16) (k : Fin 256) (j : Fin 1024) :
    k0_pay1 (F := Ideal) v0 v1 (ix3 0 k j) = ∑ y : Fin 4096, v0 (ix2 y k) * v1 (ix3 0 y j) := by
  unfold k0_pay1
  pointwise

/-- The block that a point leaves. -/
theorem out_apply (x0 : Vec Ideal S4096x256 .bf16) (x1 : Vec Ideal S1x4096x1024 .bf16) (k : Fin 256) (j : Fin 1024) :
    out0_2 (F := Ideal) x0 x1 (ix3 0 k j) = ∑ y : Fin 4096, x0 (ix2 y k) * x1 (ix3 0 y j) := by
  unfold out0_2
  rw [View.canon_unit_zero hz3, View.ld_unit_zero (S := S4096x256) hz2, View.ld_unit_zero (S := S1x4096x1024) hz3]
  exact pay1_apply x0 x1 k j

section
variable (m : (ℓ : Loc nD τ sig) → Buf (Elt Ideal) ℓ) (ρ : Dev nD → PrngReg) (c : Dev nD)

/-- The two argument arrays. -/
abbrev argH : S4096x2816.Idx → EReal := m ((c : Thread nD τ).loc main_arg0)
abbrev argG : S4096x1024.Idx → EReal := m ((c : Thread nD τ).loc main_arg1)

theorem idx_facts : ∀ t : Fin cfg0.N, (win0_0.index t 0 = 0 ∧ win0_0.index t 1 = t.val)
    ∧ (win0_1.index t 0 = 0 ∧ win0_1.index t 1 = 0 ∧ win0_1.index t 2 = 0)
    ∧ (win0_2.index t 0 = 0 ∧ win0_2.index t 1 = t.val ∧ win0_2.index t 2 = 0) :=
  (by decide +kernel : ∀ t : Fin grid0.N, _)

/-- The column part that a point takes. -/
def part (t : Fin cfg0.N) : Fin 1 := ⟨0, by have h : t.val < 11 := N_0 ▸ t.isLt; omega⟩

/-- The weight row that row `k` of a point's block is. -/
def row (t : Fin cfg0.N) (k : Fin 256) : Fin 2816 := ⟨t.val * 256 + k.val, by have h : t.val < 11 := N_0 ▸ t.isLt; omega⟩

/-- The first window's block at a point. -/
theorem blk0 (t : Fin cfg0.N) (r : Fin 4096) (k : Fin 256) : (iblk m c 0 t : S4096x256.Idx → EReal) (ix2 r k)
    = argH m c (ix2 r (row t k)) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * r.val = r.val; omega
  | ⟨1, _⟩ => show win0_0.index t 1 * 256 + 1 * k.val = t.val * 256 + k.val; omega

/-- The array that the kernel's second window is cut from, after the host's lines. -/
theorem V1 (i : S1x4096x1024.Idx) : (V m c (Pipeline.arrRef spec0 1) : S1x4096x1024.Idx → EReal) i = argG m c (ix2 (i 1) (i 2)) := by
  show StableHlo.after hostOps0 (fun b => m (c, b)) main_v0 i = _
  simp only [hostOps0, StableHlo.after_cons, StableHlo.after_nil]
  rw [StableHlo.unary_result]
  refine broadcastInDim_apply _ _ _ i (ix2 (i 1) (i 2)) fun a => ?_
  match a with
  | ⟨0, _⟩ => rfl
  | ⟨1, _⟩ => rfl

/-- The second window's block at a point. -/
theorem blk1 (t : Fin cfg0.N) (r : Fin 4096) (j : Fin 1024) : (iblk m c 1 t : S1x4096x1024.Idx → EReal) (ix3 0 r j)
    = argG m c (ent r (part t) j) := by
  obtain ⟨e0, e1, e2⟩ := (idx_facts t).2.1
  have e : ((cfg0.win 1).blk t).view.emb (ix3 0 r j : S1x4096x1024.Idx)
      = (ix3 0 r (⟨(part t).val * 1024 + j.val, by have := (part t).isLt; omega⟩ : Fin 1024) : S1x4096x1024.Idx) := by
    funext a
    apply Fin.ext
    match a with
    | ⟨0, _⟩ => show win0_1.index t 0 * 1 + 1 * 0 = 0; omega
    | ⟨1, _⟩ => show win0_1.index t 1 * 4096 + 1 * r.val = r.val; omega
    | ⟨2, _⟩ => show win0_1.index t 2 * 1024 + 1 * j.val = 0 * 1024 + j.val; omega
  unfold iblk
  rw [View.read_apply, e]
  exact V1 m c _

/-- What a point writes back is its block of the gradient. -/
theorem flushed (t : Fin cfg0.N) : (dats m 0 c).flushed 2 t
    = ((cfg0.win 2).blk t).view.read (Elt Ideal) (grad (argH m c) (argG m c)) := by
  rw [Value.flushed2]
  refine funext fun (y : S1x256x1024.Idx) => ?_
  obtain ⟨z, k, j, rfl⟩ : ∃ (z : Fin 1) (k : Fin 256) (j : Fin 1024), y = ix3 z k j := ⟨y 0, y 1, y 2, eq_ix3 y⟩
  obtain rfl : z = 0 := Subsingleton.elim _ _
  obtain ⟨e0, e1, e2⟩ := (idx_facts t).2.2
  have ey : ((cfg0.win 2).blk t).view.emb (ix3 0 k j : S1x256x1024.Idx) = (ix3 (part t) (row t k) j : S1x2816x1024.Idx) := by
    funext a
    apply Fin.ext
    match a with
    | ⟨0, _⟩ => show win0_2.index t 0 * 1 + 1 * 0 = 0; omega
    | ⟨1, _⟩ => show win0_2.index t 1 * 256 + 1 * k.val = t.val * 256 + k.val; omega
    | ⟨2, _⟩ => show win0_2.index t 2 * 1024 + 1 * j.val = j.val; omega
  refine (out_apply (iblk m c 0 t) (iblk m c 1 t) k j).trans ?_
  refine Eq.trans (Finset.sum_congr rfl fun r _ => congrArg₂ (fun a b : EReal => a * b) (blk0 m c t r k) (blk1 m c t r j)) ?_
  exact (congrArg (grad (argH m c) (argG m c)) ey).symm

theorem mem_blk (t : Fin cfg0.N) (i : S1x2816x1024.Idx) : i ∈ ((cfg0.win 2).blk t).view.set
    ↔ ∀ a : Fin 3, win0_2.index t a * S1x256x1024.size a ≤ (i a).val ∧ (i a).val < win0_2.index t a * S1x256x1024.size a + S1x256x1024.size a := by
  show i ∈ ((View.whole main_v1).slice (win0_2.rect t)).set ↔ _
  rw [View.set_slice_whole, Rect.mem_set_unit]
  exact Iff.rfl

/-- So the result array is the gradient. -/
theorem final : (dats m 0 c).arrAt 2 cfg0.N = grad (argH m c) (argG m c) :=
  (dats m 0 c).arrAt_eq_of_cover 2 _ (fun t _ => flushed m c t) fun (i : S1x2816x1024.Idx) => by
    have h0 : (i 0).val < 1 := (i 0).isLt
    have h1 : (i 1).val < 2816 := (i 1).isLt
    have h2 : (i 2).val < 1024 := (i 2).isLt
    have hN : cfg0.N = 11 := N_0
    have hp : (i 1).val / 256 < cfg0.N := by omega
    refine ⟨⟨(i 1).val / 256, hp⟩, flush0_2 _, ?_⟩
    rw [mem_blk]
    obtain ⟨e0, e1, e2⟩ := (idx_facts ⟨(i 1).val / 256, hp⟩).2.2
    dsimp only at e0 e1 e2
    intro a
    match a with
    | ⟨0, _⟩ => show win0_2.index _ 0 * 1 ≤ (i 0).val ∧ (i 0).val < win0_2.index _ 0 * 1 + 1; omega
    | ⟨1, _⟩ => show win0_2.index _ 1 * 256 ≤ (i 1).val ∧ (i 1).val < win0_2.index _ 1 * 256 + 256; omega
    | ⟨2, _⟩ => show win0_2.index _ 2 * 1024 ≤ (i 2).val ∧ (i 2).val < win0_2.index _ 2 * 1024 + 1024; omega

/-- The run: the result is the gradient, the arguments unchanged. -/
theorem run : θ_run defs (onTc (τ := τ) (main (F := Ideal))) ⟨m, fun _ => 0, ρ⟩ fun r => ∀ c : Dev nD,
      r.2.mem ((c : Thread nD τ).loc main_v1) = grad (argH m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end

/-- The reference's result is the gradient. -/
theorem reference_apply (x0 : S4096x2816.Idx → EReal) (x1 : S4096x1024.Idx → EReal) (s : Fin 1) (k : Fin 2816) (j : Fin 1024) :
    Cert.Reference5Ideal.Read.val_main_v7 (F := Ideal) x0 x1 (ix3 s k j) = grad x0 x1 (ix3 s k j) := by
  have e : Cert.Reference5Ideal.Read.val_main_v7 (F := Ideal) x0 x1 (ix3 s k j) = ∑ y : Fin 4096, x1 (ix2 y j) * x0 (ix2 y k) := by
    rw [← Cert.Reference5Ideal.Read.val_main_v7_eq]
    pointwise
  obtain rfl : s = 0 := Subsingleton.elim _ _
  rw [e]
  refine Finset.sum_congr rfl fun y _ => (mul_comm _ _).trans (congrArg₂ (fun a b : EReal => a * b) rfl (congrArg x1 ?_))
  show (ix2 y j : S4096x1024.Idx) = ent y 0 j
  unfold ent
  congr 1
  exact Fin.ext (show j.val = 0 * 1024 + j.val by omega)

/-- The reference leaves its arguments as they were and ends with no semaphore raised. -/
theorem reference_frame : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result is the reference's, entry by entry. -/
theorem equal : algebraic_Kernel5Ideal_Reference5Ideal := by
  intro m ρ m' ρ' _ hagree
  refine ⟨_, run m ρ, ?_⟩
  refine (θ_run Cert.Reference5Ideal.defs _ _).mono (fun _ h c => ⟨?_, (h c).2⟩)
    (Cert.Reference5Ideal.Value.run (F := Ideal) m' ρ')
  rw [(h c).1, (hagree c).1, (hagree c).2]
  refine (Cert.Reference5Ideal.Read.val_main_v7_eq _ _).trans (funext fun i => ?_)
  obtain ⟨s, k, j, rfl⟩ : ∃ (s : Fin 1) (k : Fin 2816) (j : Fin 1024), i = ix3 s k j := ⟨i 0, i 1, i 2, eq_ix3 i⟩
  exact reference_apply _ _ s k j

end Cert.TnFfnOut

end
-- ==== Proof.Sigmoid.lean ====
/-
  The kernels compute the logistic function through the hyperbolic tangent of half the argument.
-/
module

public import Idealize.ShloMosaic.PureOps.Ideal
public import Mathlib.Analysis.SpecialFunctions.Trigonometric.DerivHyp

@[expose] public section

noncomputable section

namespace Cert.Sigmoid

open Idealize.ShloMosaic

/-- The word of one half. -/
theorem half_word : Ideal.ofBits .f32 0x3F000000#32 = ((1 / 2 : ℝ) : EReal) := by
  simp [Ideal.ofBits, Ideal.ieee]
  rw [← EReal.coe_mul]
  congr 1
  norm_num

theorem real_eq (r : ℝ) : (1 / 2 : ℝ) * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by
    rw [← Real.exp_add]; congr 1; ring
  have e1 : Real.exp (1 / 2 * r) * Real.exp (-(1 / 2 * r)) = 1 := by
    rw [← Real.exp_add, add_neg_cancel, Real.exp_zero]
  have p := Real.exp_pos (1 / 2 * r)
  have q := Real.exp_pos (-(1 / 2 * r))
  rw [e]
  generalize Real.exp (1 / 2 * r) = a at *
  generalize Real.exp (-(1 / 2 * r)) = b at *
  have h1 : a + b ≠ 0 := by positivity
  have h2 : 1 + b * b ≠ 0 := by positivity
  field_simp
  linear_combination (2 * b) * e1

theorem logistic_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [← EReal.coe_one, ← EReal.coe_neg, ← EReal.coe_mul, ← EReal.coe_add]
    norm_num
  | top =>
    rw [EReal.coe_mul_top_of_pos (by norm_num), Ideal.tanh_top, Ideal.logistic_top]
    rw [← EReal.coe_one, ← EReal.coe_mul, ← EReal.coe_add]
    norm_num
  | coe r =>
    rw [← EReal.coe_mul, Ideal.tanh_coe, ← EReal.coe_mul, ← EReal.coe_add, real_eq, Ideal.logistic_coe]

/-- The kernels' expression is the logistic function everywhere, the infinities included. -/
theorem tanh_form (x : EReal) :
    Ideal.ofBits .f32 0x3F000000#32 * Ideal.tanh (Ideal.ofBits .f32 0x3F000000#32 * x) + Ideal.ofBits .f32 0x3F000000#32 = Ideal.logistic x := by
  rw [half_word]
  exact logistic_eq x

end Cert.Sigmoid

end
-- ==== Proof.FfnAct.lean ====
/-
  The feed-forward layer's first product and its gated activation. The kernel takes one column part of each half and a
  quarter of the rows at a time; the reference multiplies by all the columns and splits the product.
-/
module

public import proofs.«01_k».proof.Defs
public import proofs.«01_k».proof.Proof.Sigmoid
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Adequacy
public import Idealize.ShloMosaic.Lib.Quiescent

@[expose] public section

set_option maxRecDepth 16384

noncomputable section

namespace Cert.FfnAct

open Cert.Kernel6Ideal Cert.Kernel6Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a row with a weight column: column `j` of the half `p`, which is a column of the weights' part. -/
def prod (h : S4096x1024.Idx → EReal) (w : S4x1024x1408.Idx → EReal) (p : Fin 2) (r : Fin 4096) (j : Fin 2816) : EReal :=
  ∑ y : Fin 1024, h (ix2 r y) * w (ix3 (⟨2 * p.val + j.val / 1408, by omega⟩ : Fin 4) y (⟨j.val % 1408, by omega⟩ : Fin 1408))

/-- Both halves of the product. -/
def both (h : S4096x1024.Idx → EReal) (w : S4x1024x1408.Idx → EReal) (i : S2x4096x2816.Idx) : EReal := prod h w (i 0) (i 1) (i 2)

/-- The gated activation. -/
def act (h : S4096x1024.Idx → EReal) (w : S4x1024x1408.Idx → EReal) (i : S4096x2816.Idx) : EReal :=
  prod h w 0 (i 0) (i 1) * Ideal.logistic (prod h w 0 (i 0) (i 1)) * prod h w 1 (i 0) (i 1)

/-- The same for a block of rows and a block of one part's columns. -/
def dots (x : S1024x1024.Idx → EReal) (w : S1x1024x1408.Idx → EReal) (r : Fin 1024) (j : Fin 1408) : EReal :=
  ∑ y : Fin 1024, x (ix2 r y) * w (ix3 0 y j)

theorem pay3_apply (v0 : Vec Ideal S1024x1024 .bf16) (v1 : Vec Ideal S1x1024x1408 .bf16) (r : Fin 1024) (j : Fin 1408) :
    k0_pay3 (F := Ideal) v0 v1 (ix3 0 r j) = ∑ y : Fin 1024, v0 (ix2 r y) * v1 (ix3 0 y j) := by
  unfold k0_pay3 k0_pay1
  pointwise

theorem pay4_apply (v0 : Vec Ideal S1024x1024 .bf16) (v1 : Vec Ideal S1x1024x1408 .bf16) (r : Fin 1024) (j : Fin 1408) :
    k0_pay4 (F := Ideal) v0 v1 (ix3 0 r j) = ∑ y : Fin 1024, v0 (ix2 r y) * v1 (ix3 0 y j) := by
  unfold k0_pay4 k0_pay2
  pointwise

theorem pay5_apply (v0 : Vec Ideal S1024x1024 .bf16) (v1 v4 : Vec Ideal S1x1024x1408 .bf16) (r : Fin 1024) (j : Fin 1408) :
    k0_pay5 (F := Ideal) v0 v1 v4 (ix2 r j) = (∑ y : Fin 1024, v0 (ix2 r y) * v1 (ix3 0 y j))
      * Ideal.logistic (∑ y : Fin 1024, v0 (ix2 r y) * v1 (ix3 0 y j)) * ∑ y : Fin 1024, v0 (ix2 r y) * v4 (ix3 0 y j) := by
  rw [← Cert.Sigmoid.tanh_form]
  unfold k0_pay5 k0_pay1 k0_pay2
  pointwise

/-! ## What one point leaves in the two staging buffers -/

section
variable (x0 : Vec Ideal S1024x1024 .bf16) (x1 x2 : Vec Ideal S1x1024x1408 .bf16)

theorem out4_apply (r : Fin 1024) (j : Fin 1408) : out0_4 (F := Ideal) x0 x1 x2 (ix2 r j)
    = (∑ y : Fin 1024, x0 (ix2 r y) * x1 (ix3 0 y j))
      * Ideal.logistic (∑ y : Fin 1024, x0 (ix2 r y) * x1 (ix3 0 y j)) * ∑ y : Fin 1024, x0 (ix2 r y) * x2 (ix3 0 y j) := by
  unfold out0_4
  rw [View.canon_unit_zero hz2, View.ld_unit_zero (S := S1024x1024) hz2, View.ld_unit_zero (S := S1x1024x1408) hz3,
    View.ld_unit_zero (S := S1x1024x1408) hz3]
  exact pay5_apply x0 x1 x2 r j

/-- The first half of the block. -/
theorem out3_zero (r : Fin 1024) (j : Fin 1408) : out0_3 (F := Ideal) x0 x1 x2 (ix3 0 r j) = ∑ y : Fin 1024, x0 (ix2 r y) * x1 (ix3 0 y j) := by
  unfold out0_3
  rw [View.canon_cons_of_not_mem _ _ fun hm => by
    have h : 1 ≤ 0 := (Rect.mem_set_unit (s := S2x1024x1408) (off := ![1, 0, 0]) (size := S1x1024x1408.size)
      (inb := inb_S2x1024x1408_S1x1024x1408_1_0_0) |>.mp hm 0).1
    omega]
  have e : (ix3 0 r j : S2x1024x1408.Idx) = r0_2.emb (ix3 0 r j : S1x1024x1408.Idx) := by
    funext a
    apply Fin.ext
    match a with
    | ⟨0, _⟩ => rfl
    | ⟨1, _⟩ => show r.val = 0 + 1 * r.val; omega
    | ⟨2, _⟩ => show j.val = 0 + 1 * j.val; omega
  rw [e, View.canon_cons_emb, View.ld_unit_zero (S := S1024x1024) hz2, View.ld_unit_zero (S := S1x1024x1408) hz3]
  exact pay3_apply x0 x1 r j

/-- The second half of the block. -/
theorem out3_one (r : Fin 1024) (j : Fin 1408) : out0_3 (F := Ideal) x0 x1 x2 (ix3 1 r j) = ∑ y : Fin 1024, x0 (ix2 r y) * x2 (ix3 0 y j) := by
  unfold out0_3
  have e : (ix3 1 r j : S2x1024x1408.Idx) = r0_3.emb (ix3 0 r j : S1x1024x1408.Idx) := by
    funext a
    apply Fin.ext
    match a with
    | ⟨0, _⟩ => rfl
    | ⟨1, _⟩ => show r.val = 0 + 1 * r.val; omega
    | ⟨2, _⟩ => show j.val = 0 + 1 * j.val; omega
  rw [e, View.canon_cons_emb, View.ld_unit_zero (S := S1024x1024) hz2, View.ld_unit_zero (S := S1x1024x1408) hz3]
  exact pay4_apply x0 x2 r j

end

/-! ## The arrays -/

section
variable (m : (ℓ : Loc nD τ sig) → Buf (Elt Ideal) ℓ) (ρ : Dev nD → PrngReg) (c : Dev nD)

/-- The two argument arrays. -/
abbrev argH : S4096x1024.Idx → EReal := m ((c : Thread nD τ).loc main_arg0)
abbrev argW : S4x1024x1408.Idx → EReal := m ((c : Thread nD τ).loc main_arg1)

theorem idx_facts : ∀ t : Fin cfg0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 + 2 ∧ win0_2.index t 1 = 0 ∧ win0_2.index t 2 = 0)
    ∧ (win0_3.index t 0 = 0 ∧ win0_3.index t 1 = t.val % 4 ∧ win0_3.index t 2 = t.val / 4)
    ∧ (win0_4.index t 0 = t.val % 4 ∧ win0_4.index t 1 = t.val / 4) :=
  (by decide +kernel : ∀ t : Fin grid0.N, _)

/-- The array row that row `r` of a point's block is. -/
def row (t : Fin cfg0.N) (r : Fin 1024) : Fin 4096 := ⟨t.val % 4 * 1024 + r.val, by omega⟩

/-- The array column that column `j` of a point's block is. -/
def column (t : Fin cfg0.N) (j : Fin 1408) : Fin 2816 := ⟨t.val / 4 * 1408 + j.val, by have h : t.val < 8 := N_0 ▸ t.isLt; omega⟩

theorem blk0 (t : Fin cfg0.N) (r y : Fin 1024) : (iblk m c 0 t : S1024x1024.Idx → EReal) (ix2 r y) = argH m c (ix2 (row t r) y) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = t.val % 4 * 1024 + r.val; omega
  | ⟨1, _⟩ => show win0_0.index t 1 * 1024 + 1 * y.val = y.val; omega

theorem blk1 (t : Fin cfg0.N) (y : Fin 1024) (j : Fin 1408) : (iblk m c 1 t : S1x1024x1408.Idx → EReal) (ix3 0 y j)
    = argW m c (ix3 (⟨2 * (0 : Fin 2).val + (column t j).val / 1408, by have := (column t j).isLt; omega⟩ : Fin 4) y (⟨(column t j).val % 1408, by omega⟩ : Fin 1408)) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 2 * 0 + (t.val / 4 * 1408 + j.val) / 1408; omega
  | ⟨1, _⟩ => show win0_1.index t 1 * 1024 + 1 * y.val = y.val; omega
  | ⟨2, _⟩ => show win0_1.index t 2 * 1408 + 1 * j.val = (t.val / 4 * 1408 + j.val) % 1408; omega

theorem blk2 (t : Fin cfg0.N) (y : Fin 1024) (j : Fin 1408) : (iblk m c 2 t : S1x1024x1408.Idx → EReal) (ix3 0 y j)
    = argW m c (ix3 (⟨2 * (1 : Fin 2).val + (column t j).val / 1408, by have := (column t j).isLt; show 2 * 1 + _ / 1408 < 4; omega⟩ : Fin 4) y (⟨(column t j).val % 1408, by omega⟩ : Fin 1408)) := by
  obtain ⟨e0, e1, e2⟩ := (idx_facts t).2.2.1
  unfold iblk
  rw [View.read_apply]
  show m ((c : Thread nD τ).loc main_arg1) _ = m ((c : Thread nD τ).loc main_arg1) _
  congr 1
  funext a
  apply Fin.ext
  match a with
  | ⟨0, _⟩ => show win0_2.index t 0 * 1 + 1 * 0 = 2 * 1 + (t.val / 4 * 1408 + j.val) / 1408; omega
  | ⟨1, _⟩ => show win0_2.index t 1 * 1024 + 1 * y.val = y.val; omega
  | ⟨2, _⟩ => show win0_2.index t 2 * 1408 + 1 * j.val = (t.val / 4 * 1408 + j.val) % 1408; omega

/-- One point's product with its part of the first half of the weights, and with that of the second half. -/
theorem prod0 (t : Fin cfg0.N) (r : Fin 1024) (j : Fin 1408) :
    dots (iblk m c 0 t) (iblk m c 1 t) r j
      = prod (argH m c) (argW m c) 0 (row t r) (column t j) :=
  Finset.sum_congr rfl fun y _ => congrArg₂ (fun a b : EReal => a * b) (blk0 m c t r y) (blk1 m c t y j)

theorem prod1 (t : Fin cfg0.N) (r : Fin 1024) (j : Fin 1408) :
    dots (iblk m c 0 t) (iblk m c 2 t) r j
      = prod (argH m c) (argW m c) 1 (row t r) (column t j) :=
  Finset.sum_congr rfl fun y _ => congrArg₂ (fun a b : EReal => a * b) (blk0 m c t r y) (blk2 m c t y j)

/-- What a point writes back to the first result is its block of both halves of the product. -/
theorem flushed3 (t : Fin cfg0.N) : (dats m 0 c).flushed 3 t
    = ((cfg0.win 3).blk t).view.read (Elt Ideal) (both (argH m c) (argW m c)) := by
  rw [Value.flushed3]
  refine funext fun (y : S2x1024x1408.Idx) => ?_
  obtain ⟨p, r, j, rfl⟩ : ∃ (p : Fin 2) (r : Fin 1024) (j : Fin 1408), y = ix3 p r j := ⟨y 0, y 1, y 2, eq_ix3 y⟩
  obtain ⟨e0, e1, e2⟩ := (idx_facts t).2.2.2.1
  have ey : ((cfg0.win 3).blk t).view.emb (ix3 p r j : S2x1024x1408.Idx) = (ix3 p (row t r) (column t j) : S2x4096x2816.Idx) := by
    funext a
    apply Fin.ext
    match a with
    | ⟨0, _⟩ => show win0_3.index t 0 * 2 + 1 * p.val = p.val; omega
    | ⟨1, _⟩ => show win0_3.index t 1 * 1024 + 1 * r.val = t.val % 4 * 1024 + r.val; omega
    | ⟨2, _⟩ => show win0_3.index t 2 * 1408 + 1 * j.val = t.val / 4 * 1408 + j.val; omega
  refine Eq.trans ?_ (congrArg (both (argH m c) (argW m c)) ey).symm
  match p with
  | ⟨0, _⟩ => exact (out3_zero (iblk m c 0 t) (iblk m c 1 t) (iblk m c 2 t) r j).trans (prod0 m c t r j)
  | ⟨1, _⟩ => exact (out3_one (iblk m c 0 t) (iblk m c 1 t) (iblk m c 2 t) r j).trans (prod1 m c t r j)

theorem mem_blk3 (t : Fin cfg0.N) (i : S2x4096x2816.Idx) : i ∈ ((cfg0.win 3).blk t).view.set
    ↔ ∀ a : Fin 3, win0_3.index t a * S2x1024x1408.size a ≤ (i a).val ∧ (i a).val < win0_3.index t a * S2x1024x1408.size a + S2x1024x1408.size a := by
  show i ∈ ((View.whole main_v0_0).slice (win0_3.rect t)).set ↔ _
  rw [View.set_slice_whole, Rect.mem_set_unit]
  exact Iff.rfl

theorem final3 : (dats m 0 c).arrAt 3 cfg0.N = both (argH m c) (argW m c) :=
  (dats m 0 c).arrAt_eq_of_cover 3 _ (fun t _ => flushed3 m c t) fun (i : S2x4096x2816.Idx) => by
    have h0 : (i 0).val < 2 := (i 0).isLt
    have h1 : (i 1).val < 4096 := (i 1).isLt
    have h2 : (i 2).val < 2816 := (i 2).isLt
    have hN : cfg0.N = 8 := N_0
    have hp : (i 2).val / 1408 * 4 + (i 1).val / 1024 < cfg0.N := by omega
    refine ⟨⟨(i 2).val / 1408 * 4 + (i 1).val / 1024, hp⟩, flush0_3 _, ?_⟩
    rw [mem_blk3]
    obtain ⟨e0, e1, e2⟩ := (idx_facts ⟨(i 2).val / 1408 * 4 + (i 1).val / 1024, hp⟩).2.2.2.1
    dsimp only at e0 e1 e2
    intro a
    match a with
    | ⟨0, _⟩ => show win0_3.index _ 0 * 2 ≤ (i 0).val ∧ (i 0).val < win0_3.index _ 0 * 2 + 2; omega
    | ⟨1, _⟩ => show win0_3.index _ 1 * 1024 ≤ (i 1).val ∧ (i 1).val < win0_3.index _ 1 * 1024 + 1024; omega
    | ⟨2, _⟩ => show win0_3.index _ 2 * 1408 ≤ (i 2).val ∧ (i 2).val < win0_3.index _ 2 * 1408 + 1408; omega

/-- What a point writes back to the second result is its block of the activation. -/
theorem flushed4 (t : Fin cfg0.N) : (dats m 0 c).flushed 4 t
    = ((cfg0.win 4).blk t).view.read (Elt Ideal) (act (argH m c) (argW m c)) := by
  rw [Value.flushed4]
  refine funext fun (y : S1024x1408.Idx) => ?_
  obtain ⟨r, j, rfl⟩ : ∃ (r : Fin 1024) (j : Fin 1408), y = ix2 r j := ⟨y 0, y 1, eq_ix2 y⟩
  obtain ⟨e0, e1⟩ := (idx_facts t).2.2.2.2
  have ey : ((cfg0.win 4).blk t).view.emb (ix2 r j : S1024x1408.Idx) = (ix2 (row t r) (column t j) : S4096x2816.Idx) := by
    funext a
    apply Fin.ext
    match a with
    | ⟨0, _⟩ => show win0_4.index t 0 * 1024 + 1 * r.val = t.val % 4 * 1024 + r.val; omega
    | ⟨1, _⟩ => show win0_4.index t 1 * 1408 + 1 * j.val = t.val / 4 * 1408 + j.val; omega
  refine Eq.trans ?_ (congrArg (act (argH m c) (argW m c)) ey).symm
  exact (out4_apply (iblk m c 0 t) (iblk m c 1 t) (iblk m c 2 t) r j).trans
    (congrArg₂ (fun a b : EReal => a * Ideal.logistic a * b) (prod0 m c t r j) (prod1 m c t r j))

theorem mem_blk4 (t : Fin cfg0.N) (i : S4096x2816.Idx) : i ∈ ((cfg0.win 4).blk t).view.set
    ↔ ∀ a : Fin 2, win0_4.index t a * S1024x1408.size a ≤ (i a).val ∧ (i a).val < win0_4.index t a * S1024x1408.size a + S1024x1408.size a := by
  show i ∈ ((View.whole main_v0_1).slice (win0_4.rect t)).set ↔ _
  rw [View.set_slice_whole, Rect.mem_set_unit]
  exact Iff.rfl

theorem final4 : (dats m 0 c).arrAt 4 cfg0.N = act (argH m c) (argW m c) :=
  (dats m 0 c).arrAt_eq_of_cover 4 _ (fun t _ => flushed4 m c t) fun (i : S4096x2816.Idx) => by
    have h0 : (i 0).val < 4096 := (i 0).isLt
    have h1 : (i 1).val < 2816 := (i 1).isLt
    have hN : cfg0.N = 8 := N_0
    have hp : (i 1).val / 1408 * 4 + (i 0).val / 1024 < cfg0.N := by omega
    refine ⟨⟨(i 1).val / 1408 * 4 + (i 0).val / 1024, hp⟩, flush0_4 _, ?_⟩
    rw [mem_blk4]
    obtain ⟨e0, e1⟩ := (idx_facts ⟨(i 1).val / 1408 * 4 + (i 0).val / 1024, hp⟩).2.2.2.2
    dsimp only at e0 e1
    intro a
    match a with
    | ⟨0, _⟩ => show win0_4.index _ 0 * 1024 ≤ (i 0).val ∧ (i 0).val < win0_4.index _ 0 * 1024 + 1024; omega
    | ⟨1, _⟩ => show win0_4.index _ 1 * 1408 ≤ (i 1).val ∧ (i 1).val < win0_4.index _ 1 * 1408 + 1408; omega

/-- The run: the two results, the arguments unchanged. -/
theorem run : θ_run defs (onTc (τ := τ) (main (F := Ideal))) ⟨m, fun _ => 0, ρ⟩ fun r => ∀ c : Dev nD,
      r.2.mem ((c : Thread nD τ).loc main_v0_0) = both (argH m c) (argW m c)
      ∧ r.2.mem ((c : Thread nD τ).loc main_v0_1) = act (argH m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final3 m c), (h c).2.1.trans (final4 m c), (h c).2.2⟩) (Value.run_blocks m ρ)

end

/-! ## The reference -/

theorem half0 (x0 : S4096x1024.Idx → EReal) (x1 : S4x1024x1408.Idx → EReal) (r : Fin 4096) (j : Fin 2816) :
    (∑ y : Fin 1024, x0 (ix2 r y) * x1 (ix3 (⟨j.val / 1408, by omega⟩ : Fin 4) y (⟨j.val % 1408, by omega⟩ : Fin 1408))) = prod x0 x1 0 r j := by
  unfold prod
  refine Finset.sum_congr rfl fun y _ => congrArg (fun a => x0 (ix2 r y) * x1 (ix3 a y _)) ?_
  exact Fin.ext (show j.val / 1408 = 2 * 0 + j.val / 1408 by omega)

theorem half1 (x0 : S4096x1024.Idx → EReal) (x1 : S4x1024x1408.Idx → EReal) (r : Fin 4096) (j : Fin 2816) :
    (∑ y : Fin 1024, x0 (ix2 r y) * x1 (ix3 (⟨(2816 + j.val) / 1408, by omega⟩ : Fin 4) y (⟨(2816 + j.val) % 1408, by omega⟩ : Fin 1408))) = prod x0 x1 1 r j := by
  unfold prod
  refine Finset.sum_congr rfl fun y _ => congrArg₂ (fun a b => x0 (ix2 r y) * x1 (ix3 a y b)) ?_ ?_
  · exact Fin.ext (show (2816 + j.val) / 1408 = 2 * 1 + j.val / 1408 by omega)
  · exact Fin.ext (show (2816 + j.val) % 1408 = j.val % 1408 by omega)

theorem reference_both (x0 : S4096x1024.Idx → EReal) (x1 : S4x1024x1408.Idx → EReal) (p : Fin 2) (r : Fin 4096) (j : Fin 2816) :
    Cert.Reference6Ideal.Read.val_main_v10 (F := Ideal) x0 x1 (ix3 p r j) = both x0 x1 (ix3 p r j) := by
  rw [← Cert.Reference6Ideal.Read.val_main_v10_eq]
  pointwise
  split
  · next h =>
      obtain rfl : p = 0 := Fin.ext (show p.val = 0 by omega)
      exact half0 x0 x1 r j
  · next h =>
      obtain rfl : p = 1 := Fin.ext (show p.val = 1 by omega)
      exact half1 x0 x1 r j

theorem reference_act (x0 : S4096x1024.Idx → EReal) (x1 : S4x1024x1408.Idx → EReal) (r : Fin 4096) (j : Fin 2816) :
    Cert.Reference6Ideal.Read.val_main_v13 (F := Ideal) x0 x1 (ix2 r j) = act x0 x1 (ix2 r j) := by
  rw [← Cert.Reference6Ideal.Read.val_main_v13_eq]
  pointwise
  exact congrArg₂ (fun a b : EReal => a * Ideal.logistic a * b) (half0 x0 x1 r j) (half1 x0 x1 r j)

/-- The reference leaves its arguments as they were and ends with no semaphore raised. -/
theorem reference_frame : quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The kernel's two results are the reference's, entry by entry. -/
theorem equal : algebraic_Kernel6Ideal_Reference6Ideal := by
  intro m ρ m' ρ' _ hagree
  refine ⟨_, _, run m ρ, ?_⟩
  refine (θ_run Cert.Reference6Ideal.defs _ _).mono (fun _ h c => ⟨?_, ?_, (h c).2.2⟩)
    (Cert.Reference6Ideal.Value.run (F := Ideal) m' ρ')
  · rw [(h c).1, (hagree c).1, (hagree c).2]
    refine (Cert.Reference6Ideal.Read.val_main_v10_eq _ _).trans (funext fun i => ?_)
    obtain ⟨p, r, j, rfl⟩ : ∃ (p : Fin 2) (r : Fin 4096) (j : Fin 2816), i = ix3 p r j := ⟨i 0, i 1, i 2, eq_ix3 i⟩
    exact reference_both _ _ p r j
  · rw [(h c).2.1, (hagree c).1, (hagree c).2]
    refine (Cert.Reference6Ideal.Read.val_main_v13_eq _ _).trans (funext fun i => ?_)
    obtain ⟨r, j, rfl⟩ : ∃ (r : Fin 4096) (j : Fin 2816), i = ix2 r j := ⟨i 0, i 1, eq_ix2 i⟩
    exact reference_act _ _ r j

end Cert.FfnAct

end
-- ==== Proof.FfnOut.lean ====
/-
  The feed-forward layer's second product, and the rows it is added to. The kernel takes 512 rows at a time.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Adequacy
public import Idealize.ShloMosaic.Lib.Quiescent

@[expose] public section

set_option maxRecDepth 16384

noncomputable section

namespace Cert.FfnOut

open Cert.Kernel7Ideal Cert.Kernel7Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The product. -/
def prod (x : S4096x2816.Idx → EReal) (w : S1x2816x1024.Idx → EReal) (i : S4096x1024.Idx) : EReal :=
  ∑ y : Fin 2816, x (ix2 (i 0) y) * w (ix3 0 y (i 1))

/-- The rows plus the gated product. -/
def gated (x : S4096x2816.Idx → EReal) (w : S1x2816x1024.Idx → EReal) (r : S4096x1024.Idx → EReal) (g : S1x1024.Idx → EReal)
    (i : S4096x1024.Idx) : EReal :=
  r i + g (ix2 0 (i 1)) * prod x w i

/-- The product of a block of rows. -/
def dots (x : S512x2816.Idx → EReal) (w : S1x2816x1024.Idx → EReal) (r : Fin 512) (j : Fin 1024) : EReal :=
  ∑ y : Fin 2816, x (ix2 r y) * w (ix3 0 y j)

theorem pay2_apply (v0 : Vec Ideal S512x2816 .bf16) (v1 : Vec Ideal S1x2816x1024 .bf16) (r : Fin 512) (j : Fin 1024) :
    k0_pay2 (F := Ideal) v0 v1 (ix2 r j) = ∑ y : Fin 2816, v0 (ix2 r y) * v1 (ix3 0 y j) := by
  unfold k0_pay2 k0_pay1
  pointwise

theorem pay3_apply (v0 : Vec Ideal S512x2816 .bf16) (v1 : Vec Ideal S1x2816x1024 .bf16) (v6 : Vec Ideal S512x1024 .f32) (v7 : Vec Ideal S1x1024 .f32)
    (r : Fin 512) (j : Fin 1024) :
    k0_pay3 (F := Ideal) v0 v1 v6 v7 (ix2 r j) = v6 (ix2 r j) + v7 (ix2 0 j) * ∑ y : Fin 2816, v0 (ix2 r y) * v1 (ix3 0 y j) := by
  unfold k0_pay3 k0_pay1
  pointwise

section
variable (x0 : Vec Ideal S512x2816 .bf16) (x1 : Vec Ideal S1x2816x1024 .bf16) (x2 : Vec Ideal S512x1024 .f32) (x3 : Vec Ideal S1x1024 .f32)

theorem out4_apply (r : Fin 512) (j : Fin 1024) : out0_4 (F := Ideal) x0 x1 x2 x3 (ix2 r j) = ∑ y : Fin 2816, x0 (ix2 r y) * x1 (ix3 0 y j) := by
  unfold out0_4
  rw [View.canon_unit_zero hz2, View.ld_unit_zero (S := S512x2816) hz2, View.ld_unit_zero (S := S1x2816x1024) hz3]
  exact pay2_apply x0 x1 r j

theorem out5_apply (r : Fin 512) (j : Fin 1024) : out0_5 (F := Ideal) x0 x1 x2 x3 (ix2 r j)
    = x2 (ix2 r j) + x3 (ix2 0 j) * ∑ y : Fin 2816, x0 (ix2 r y) * x1 (ix3 0 y j) := by
  unfold out0_5
  rw [View.canon_unit_zero hz2, View.ld_unit_zero (S := S512x2816) hz2, View.ld_unit_zero (S := S1x2816x1024) hz3,
    View.ld_unit_zero (S := S512x1024) hz2, View.ld_unit_zero (S := S1x1024) hz2]
  exact pay3_apply x0 x1 x2 x3 r j

end

section
variable (m : (ℓ : Loc nD τ sig) → Buf (Elt Ideal) ℓ) (ρ : Dev nD → PrngReg) (c : Dev nD)

/-- The four argument arrays. -/
abbrev argX : S4096x2816.Idx → EReal := m ((c : Thread nD τ).loc main_arg0)
abbrev argW : S1x2816x1024.Idx → EReal := m ((c : Thread nD τ).loc main_arg1)
abbrev argR : S4096x1024.Idx → EReal := m ((c : Thread nD τ).loc main_arg2)
abbrev argG : S1x1024.Idx → EReal := m ((c : Thread nD τ).loc main_arg3)

theorem idx_facts : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) :=
  (by decide +kernel : ∀ t : Fin grid0.N, _)

/-- The array row that row `r` of a point's block is. -/
def row (t : Fin cfg0.N) (r : Fin 512) : Fin 4096 := ⟨t.val * 512 + r.val, by have h : t.val < 8 := N_0 ▸ t.isLt; omega⟩

theorem blk0 (t : Fin cfg0.N) (r : Fin 512) (j : Fin 2816) : (iblk m c 0 t : S512x2816.Idx → EReal) (ix2 r j) = argX m c (ix2 (row t r) j) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; omega
  | ⟨1, _⟩ => show win0_0.index t 1 * 2816 + 1 * j.val = j.val; omega

theorem blk1 (t : Fin cfg0.N) (y : Fin 2816) (j : Fin 1024) : (iblk m c 1 t : S1x2816x1024.Idx → EReal) (ix3 0 y j) = argW m c (ix3 0 y j) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 0; omega
  | ⟨1, _⟩ => show win0_1.index t 1 * 2816 + 1 * y.val = y.val; omega
  | ⟨2, _⟩ => show win0_1.index t 2 * 1024 + 1 * j.val = j.val; omega

theorem blk2 (t : Fin cfg0.N) (r : Fin 512) (j : Fin 1024) : (iblk m c 2 t : S512x1024.Idx → EReal) (ix2 r j) = argR m c (ix2 (row t r) j) := by
  obtain ⟨e0, e1⟩ := (idx_facts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t 0 * 512 + 1 * r.val = t.val * 512 + r.val; omega
  | ⟨1, _⟩ => show win0_2.index t 1 * 1024 + 1 * j.val = j.val; omega

theorem blk3 (t : Fin cfg0.N) (j : Fin 1024) : (iblk m c 3 t : S1x1024.Idx → EReal) (ix2 0 j) = argG m c (ix2 0 j) := by
  obtain ⟨e0, e1⟩ := (idx_facts t).2.2.2.1
  unfold iblk
  rw [View.read_apply]
  show m ((c : Thread nD τ).loc main_arg3) _ = m ((c : Thread nD τ).loc main_arg3) _
  congr 1
  funext a
  apply Fin.ext
  match a with
  | ⟨0, _⟩ => show win0_3.index t 0 * 1 + 1 * 0 = 0; omega
  | ⟨1, _⟩ => show win0_3.index t 1 * 1024 + 1 * j.val = j.val; omega

/-- One point's product. -/
theorem prod_blk (t : Fin cfg0.N) (r : Fin 512) (j : Fin 1024) :
    dots (iblk m c 0 t) (iblk m c 1 t) r j
      = prod (argX m c) (argW m c) (ix2 (row t r) j) :=
  Finset.sum_congr rfl fun y _ => congrArg₂ (fun a b : EReal => a * b) (blk0 m c t r y) (blk1 m c t y j)

theorem flushed4 (t : Fin cfg0.N) : (dats m 0 c).flushed 4 t = ((cfg0.win 4).blk t).view.read (Elt Ideal) (prod (argX m c) (argW m c)) := by
  rw [Value.flushed4]
  refine funext fun (y : S512x1024.Idx) => ?_
  obtain ⟨r, j, rfl⟩ : ∃ (r : Fin 512) (j : Fin 1024), y = ix2 r j := ⟨y 0, y 1, eq_ix2 y⟩
  obtain ⟨e0, e1⟩ := (idx_facts t).2.2.2.2.1
  have ey : ((cfg0.win 4).blk t).view.emb (ix2 r j : S512x1024.Idx) = (ix2 (row t r) j : S4096x1024.Idx) := by
    funext a
    apply Fin.ext
    match a with
    | ⟨0, _⟩ => show win0_4.index t 0 * 512 + 1 * r.val = t.val * 512 + r.val; omega
    | ⟨1, _⟩ => show win0_4.index t 1 * 1024 + 1 * j.val = j.val; omega
  refine Eq.trans ?_ (congrArg (prod (argX m c) (argW m c)) ey).symm
  exact (out4_apply (iblk m c 0 t) (iblk m c 1 t) (iblk m c 2 t) (iblk m c 3 t) r j).trans
    (prod_blk m c t r j)

theorem mem_blk4 (t : Fin cfg0.N) (i : S4096x1024.Idx) : i ∈ ((cfg0.win 4).blk t).view.set
    ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

theorem final4 : (dats m 0 c).arrAt 4 cfg0.N = prod (argX m c) (argW m c) :=
  (dats m 0 c).arrAt_eq_of_cover 4 _ (fun t _ => flushed4 m c t) fun (i : S4096x1024.Idx) => by
    have h0 : (i 0).val < 4096 := (i 0).isLt
    have h1 : (i 1).val < 1024 := (i 1).isLt
    have hN : cfg0.N = 8 := N_0
    have hp : (i 0).val / 512 < cfg0.N := by omega
    refine ⟨⟨(i 0).val / 512, hp⟩, flush0_4 _, ?_⟩
    rw [mem_blk4]
    obtain ⟨e0, e1⟩ := (idx_facts ⟨(i 0).val / 512, hp⟩).2.2.2.2.1
    dsimp only at e0 e1
    intro a
    match a with
    | ⟨0, _⟩ => show win0_4.index _ 0 * 512 ≤ (i 0).val ∧ (i 0).val < win0_4.index _ 0 * 512 + 512; omega
    | ⟨1, _⟩ => show win0_4.index _ 1 * 1024 ≤ (i 1).val ∧ (i 1).val < win0_4.index _ 1 * 1024 + 1024; omega

theorem flushed5 (t : Fin cfg0.N) : (dats m 0 c).flushed 5 t = ((cfg0.win 5).blk t).view.read (Elt Ideal) (gated (argX m c) (argW m c) (argR m c) (argG m c)) := by
  rw [Value.flushed5]
  refine funext fun (y : S512x1024.Idx) => ?_
  obtain ⟨r, j, rfl⟩ : ∃ (r : Fin 512) (j : Fin 1024), y = ix2 r j := ⟨y 0, y 1, eq_ix2 y⟩
  obtain ⟨e0, e1⟩ := (idx_facts t).2.2.2.2.2
  have ey : ((cfg0.win 5).blk t).view.emb (ix2 r j : S512x1024.Idx) = (ix2 (row t r) j : S4096x1024.Idx) := by
    funext a
    apply Fin.ext
    match a with
    | ⟨0, _⟩ => show win0_5.index t 0 * 512 + 1 * r.val = t.val * 512 + r.val; omega
    | ⟨1, _⟩ => show win0_5.index t 1 * 1024 + 1 * j.val = j.val; omega
  refine Eq.trans ?_ (congrArg (gated (argX m c) (argW m c) (argR m c) (argG m c)) ey).symm
  exact (out5_apply (iblk m c 0 t) (iblk m c 1 t) (iblk m c 2 t) (iblk m c 3 t) r j).trans
    (congrArg₂ (fun a b : EReal => a + b) (blk2 m c t r j) (congrArg₂ (fun a b : EReal => a * b) (blk3 m c t j) (prod_blk m c t r j)))

theorem mem_blk5 (t : Fin cfg0.N) (i : S4096x1024.Idx) : i ∈ ((cfg0.win 5).blk t).view.set
    ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

theorem final5 : (dats m 0 c).arrAt 5 cfg0.N = gated (argX m c) (argW m c) (argR m c) (argG m c) :=
  (dats m 0 c).arrAt_eq_of_cover 5 _ (fun t _ => flushed5 m c t) fun (i : S4096x1024.Idx) => by
    have h0 : (i 0).val < 4096 := (i 0).isLt
    have h1 : (i 1).val < 1024 := (i 1).isLt
    have hN : cfg0.N = 8 := N_0
    have hp : (i 0).val / 512 < cfg0.N := by omega
    refine ⟨⟨(i 0).val / 512, hp⟩, flush0_5 _, ?_⟩
    rw [mem_blk5]
    obtain ⟨e0, e1⟩ := (idx_facts ⟨(i 0).val / 512, hp⟩).2.2.2.2.2
    dsimp only at e0 e1
    intro a
    match a with
    | ⟨0, _⟩ => show win0_5.index _ 0 * 512 ≤ (i 0).val ∧ (i 0).val < win0_5.index _ 0 * 512 + 512; omega
    | ⟨1, _⟩ => show win0_5.index _ 1 * 1024 ≤ (i 1).val ∧ (i 1).val < win0_5.index _ 1 * 1024 + 1024; omega

/-- The run: the two results, the arguments unchanged. -/
theorem run : θ_run defs (onTc (τ := τ) (main (F := Ideal))) ⟨m, fun _ => 0, ρ⟩ fun r => ∀ c : Dev nD,
      r.2.mem ((c : Thread nD τ).loc main_v0_0) = prod (argX m c) (argW m c)
      ∧ r.2.mem ((c : Thread nD τ).loc main_v0_1) = gated (argX m c) (argW m c) (argR m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end

/-! ## The reference -/

theorem ref4 (x0 : S4096x2816.Idx → EReal) (x1 : S1x2816x1024.Idx → EReal)  (r : Fin 4096) (j : Fin 1024) :
    Cert.Reference7Ideal.Read.val_main_v4 (F := Ideal) x0 x1 (ix2 r j) = ∑ y : Fin 2816, x0 (ix2 r y) * x1 (ix3 0 y j) := by
  rw [← Cert.Reference7Ideal.Read.val_main_v4_eq]
  pointwise

theorem ref7 (x0 : S4096x2816.Idx → EReal) (x1 : S1x2816x1024.Idx → EReal) (x2 : S4096x1024.Idx → EReal) (x3 : S1x1024.Idx → EReal) (r : Fin 4096) (j : Fin 1024) :
    Cert.Reference7Ideal.Read.val_main_v7 (F := Ideal) x0 x1 x2 x3 (ix2 r j) = x2 (ix2 r j) + x3 (ix2 0 j) * ∑ y : Fin 2816, x0 (ix2 r y) * x1 (ix3 0 y j) := by
  rw [← Cert.Reference7Ideal.Read.val_main_v7_eq]
  pointwise

/-- The reference leaves its arguments as they were and ends with no semaphore raised. -/
theorem reference_frame : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The kernel's two results are the reference's, entry by entry. -/
theorem equal : algebraic_Kernel7Ideal_Reference7Ideal := by
  intro m ρ m' ρ' _ hagree
  refine ⟨_, _, run m ρ, ?_⟩
  refine (θ_run Cert.Reference7Ideal.defs _ _).mono (fun _ h c => ⟨?_, ?_, (h c).2.2⟩)
    (Cert.Reference7Ideal.Value.run (F := Ideal) m' ρ')
  · rw [(h c).1, (hagree c).1, (hagree c).2.1]
    refine (Cert.Reference7Ideal.Read.val_main_v4_eq _ _).trans (funext fun i => ?_)
    obtain ⟨r, j, rfl⟩ : ∃ (r : Fin 4096) (j : Fin 1024), i = ix2 r j := ⟨i 0, i 1, eq_ix2 i⟩
    exact ref4 _ _ r j
  · rw [(h c).2.1, (hagree c).1, (hagree c).2.1, (hagree c).2.2.1, (hagree c).2.2.2]
    refine (Cert.Reference7Ideal.Read.val_main_v7_eq _ _ _ _).trans (funext fun i => ?_)
    obtain ⟨r, j, rfl⟩ : ∃ (r : Fin 4096) (j : Fin 1024), i = ix2 r j := ⟨i 0, i 1, eq_ix2 i⟩
    exact ref7 _ _ _ _ r j

end Cert.FfnOut

end
-- ==== Proof.NtConvIn.lean ====
/-
  The gradient of the rows that went into the convolution's input product. The kernel adds the products of four column
  blocks one after the other into an accumulator; the reference contracts over all the columns at once.
-/
module

public import proofs.«01_k».proof.Defs
public import proofs.«01_k».proof.Proof.BlockSums
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Adequacy
public import Idealize.ShloMosaic.Lib.Quiescent

@[expose] public section

set_option maxRecDepth 16384

noncomputable section

namespace Cert.NtConvIn

open Cert.Kernel8Ideal Cert.Kernel8Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (i : S2048x1024.Idx) : k0_pay1 (F := Ideal) i = 0 := by
  unfold k0_pay1
  pointwise

theorem pay2_apply (v3 : Vec Ideal S2048x1024 .f32) (v4 : Vec Ideal S1x2048x768 .bf16) (v6 : Vec Ideal S1x1024x768 .bf16) (r : Fin 2048) (k : Fin 1024) :
    k0_pay2 (F := Ideal) v3 v4 v6 (ix2 r k) = v3 (ix2 r k) + ∑ y : Fin 768, v4 (ix3 0 r y) * v6 (ix3 0 k y) := by
  unfold k0_pay2
  pointwise

theorem ref_apply (x0 : S4096x3072.Idx → EReal) (x1 : S4x1024x768.Idx → EReal) (r : Fin 4096) (k : Fin 1024) :
    Cert.Reference8Ideal.Read.val_main_v7 (F := Ideal) x0 x1 (ix2 r k)
      = ∑ j : Fin 3072, x0 (ix2 r j) * x1 (ix3 ⟨j.val / 768, by omega⟩ k ⟨j.val % 768, by omega⟩) := by
  rw [← Cert.Reference8Ideal.Read.val_main_v7_eq]
  pointwise

section
variable (c : Dev nD) (i : grid0.Coords)
  (a2 : Memref sig .tc .vmem S1x2048x768 .bf16) (h2 : a2.IsWhole) (a3 : Memref sig .tc .vmem S1x1024x768 .bf16) (h3 : a3.IsWhole)
  (a4 : Memref sig .tc .vmem S2048x1024 .bf16) (h4 : a4.IsWhole) (a5 : Memref sig .tc .vmem S2048x1024 .f32) (h5 : a5.IsWhole)
  (x0 : Vec Ideal S1x2048x768 .bf16) (x1 : Vec Ideal S1x1024x768 .bf16) (acc : Vec Ideal S2048x1024 .f32)

theorem first_sum (hc0 : cond0_0 i) (hc1 : ¬ cond0_1 i) :
    sout0_A_0 (F := Ideal) c i a2 h2 a3 h3 a4 h4 a5 h5 hc0 hc1 x0 x1 = k0_pay2 (k0_pay1 (F := Ideal)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1024) hz2]
  simp only [View.readAt_eq_ld, h2.read_unread, h3.read_unread, View.ld_unit_zero (S := S1x2048x768) hz3,
    View.ld_unit_zero (S := S1x1024x768) hz3]
  rw [View.readCov_unit_zero (S := S2048x1024) _ hz2]

theorem next_sum (hc0 : ¬ cond0_0 i) (hc1 : ¬ cond0_1 i) :
    sout0_B_0 (F := Ideal) c i a2 h2 a3 h3 a4 h4 a5 h5 hc0 hc1 x0 x1 acc = k0_pay2 acc x0 x1 := by
  unfold sout0_B_0
  rw [View.read_writes_eq_canon _ _ _ (scover0_B_0 c i a2 h2 a3 h3 a4 h4 a5 h5 hc0 hc1 x0 x1 acc)]
  unfold kernelRun0_B
  dsimp only
  sl_unfold_words
  rw [View.canon_unit_zero hz2]
  simp only [View.readAt_eq_ld, h2.read_unread, h3.read_unread, h5.read_unread, View.ld_unit_zero (S := S2048x1024) hz2,
    View.ld_unit_zero (S := S1x2048x768) hz3, View.ld_unit_zero (S := S1x1024x768) hz3]

theorem last_out (hc0 : ¬ cond0_0 i) (hc1 : cond0_1 i) :
    out0_C_2 (F := Ideal) c i a2 h2 a3 h3 a4 h4 a5 h5 hc0 hc1 x0 x1 acc = k0_pay3 (k0_pay2 acc x0 x1) := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero hz2]
  simp only [View.readAt_eq_ld, h2.read_unread, h3.read_unread, h5.read_unread, View.ld_unit_zero (S := S2048x1024) hz2,
    View.ld_unit_zero (S := S1x2048x768) hz3, View.ld_unit_zero (S := S1x1024x768) hz3]
  rw [View.readCov_unit_zero (S := S2048x1024) _ hz2]
end
section
variable (m : (ℓ : Loc nD τ sig) → Buf (Elt Ideal) ℓ) (c : Dev nD)

/-- The two argument arrays. -/
abbrev argD : S4096x3072.Idx → EReal := m ((c : Thread nD τ).loc main_arg0)
abbrev argW : S4x1024x768.Idx → EReal := m ((c : Thread nD τ).loc main_arg1)

/-- The array that the kernel's first window is cut from, after the host's lines. -/
theorem V0 (i : S1x4096x3072.Idx) : (V m c (Pipeline.arrRef spec0 0) : S1x4096x3072.Idx → EReal) i = argD m c (ix2 (i 1) (i 2)) := by
  show StableHlo.after hostOps0 (fun b => m (c, b)) main_v0 i = _
  simp only [hostOps0, StableHlo.after_cons, StableHlo.after_nil]
  rw [StableHlo.unary_result]
  refine broadcastInDim_apply _ _ _ i (ix2 (i 1) (i 2)) fun a => ?_
  match a with
  | ⟨0, _⟩ => rfl
  | ⟨1, _⟩ => rfl

theorem idx_facts : ∀ t : Fin cfg0.N, (win0_0.index t 0 = 0 ∧ win0_0.index t 1 = t.val / 4 ∧ win0_0.index t 2 = t.val % 4)
    ∧ (win0_1.index t 0 = t.val % 4 ∧ win0_1.index t 1 = 0 ∧ win0_1.index t 2 = 0) :=
  (by decide +kernel : ∀ t : Fin grid0.N, _)

/-- The row of the array that row `r` of point `t`'s block is. -/
def row (t : Fin cfg0.N) (r : Fin 2048) : Fin 4096 := ⟨t.val / 4 * 2048 + r.val, by have h : t.val < 8 := N_0 ▸ t.isLt; omega⟩

/-- The first window's block at a point. -/
theorem blk0 (t : Fin cfg0.N) (r : Fin 2048) (y : Fin 768) : (iblk m c 0 t : S1x2048x768.Idx → EReal) (ix3 0 r y)
    = argD m c (ix2 (row t r) (⟨t.val % 4 * 768 + y.val, by omega⟩ : Fin 3072)) := by
  obtain ⟨e0, e1, e2⟩ := (idx_facts t).1
  have e : ((cfg0.win 0).blk t).view.emb (ix3 0 r y : S1x2048x768.Idx)
      = (ix3 0 (row t r) (⟨t.val % 4 * 768 + y.val, by omega⟩ : Fin 3072) : S1x4096x3072.Idx) := by
    funext a
    apply Fin.ext
    match a with
    | ⟨0, _⟩ => show win0_0.index t 0 * 1 + 1 * 0 = 0; omega
    | ⟨1, _⟩ => show win0_0.index t 1 * 2048 + 1 * r.val = t.val / 4 * 2048 + r.val; omega
    | ⟨2, _⟩ => show win0_0.index t 2 * 768 + 1 * y.val = t.val % 4 * 768 + y.val; omega
  unfold iblk
  rw [View.read_apply, e]
  exact V0 m c _

/-- The second window's block at a point. -/
theorem blk1 (t : Fin cfg0.N) (k : Fin 1024) (y : Fin 768) : (iblk m c 1 t : S1x1024x768.Idx → EReal) (ix3 0 k y)
    = argW m c (ix3 ⟨t.val % 4, by omega⟩ k y) := by
  obtain ⟨e0, e1, e2⟩ := (idx_facts t).2
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = t.val % 4; omega
  | ⟨1, _⟩ => show win0_1.index t 1 * 1024 + 1 * k.val = k.val; omega
  | ⟨2, _⟩ => show win0_1.index t 2 * 768 + 1 * y.val = y.val; omega

/-- What column block `s` adds to the entry at row `r` and column `k`. -/
def part (r : Fin 4096) (k : Fin 1024) (s : Fin 4) : EReal :=
  ∑ y : Fin 768, argD m c (ix2 r (⟨s.val * 768 + y.val, by omega⟩ : Fin 3072)) * argW m c (ix3 s k y)

/-- One point's product, added to what the accumulator held. -/
theorem step_apply (t : Fin cfg0.N) (acc : Vec Ideal S2048x1024 .f32) (r : Fin 2048) (k : Fin 1024) :
    k0_pay2 (F := Ideal) acc (iblk m c 0 t) (iblk m c 1 t) (ix2 r k) = acc (ix2 r k) + part m c (row t r) k ⟨t.val % 4, by omega⟩ := by
  rw [pay2_apply]
  congr 1
  exact Finset.sum_congr rfl fun y _ => congrArg₂ (fun a b : EReal => a * b) (blk0 m c t r y) (blk1 m c t k y)

/-- The accumulator after a point that is not the last of its four: the parts so far. -/
theorem acc_apply (b : ℕ) (hb : b < 2) : ∀ (j : ℕ) (hj : j < 3) (r : Fin 2048) (k : Fin 1024) (h : 4 * b + j < cfg0.N),
    (outsAt0 m c (4 * b + j) h).2 (ix2 r k)
      = ∑ s : Fin (j + 1), part m c ⟨b * 2048 + r.val, by omega⟩ k ⟨s.val, by omega⟩
  | 0, hj, r, k, h => by
    have hA := outsAt0_A m c ⟨4 * b + 0, h⟩ (by show (4 * b + 0) % 4 = 0; omega) (by show ¬ (4 * b + 0) % 4 = 3; omega)
    rw [show outsAt0 m c (4 * b + 0) h = _ from hA]
    dsimp only
    rw [first_sum, step_apply, pay1_apply, zero_add, Fin.sum_univ_one]
    congr 1
    · exact Fin.ext (show (4 * b + 0) / 4 * 2048 + r.val = b * 2048 + r.val by omega)
    · exact Fin.ext (show (4 * b + 0) % 4 = 0 by omega)
  | j + 1, hj, r, k, h => by
    have hB := outsAt0_B m c ⟨4 * b + (j + 1), h⟩ (by show ¬ (4 * b + (j + 1)) % 4 = 0; omega) (by show ¬ (4 * b + (j + 1)) % 4 = 3; omega)
    rw [show outsAt0 m c (4 * b + (j + 1)) h = _ from hB]
    dsimp only
    rw [next_sum, step_apply, Fin.sum_univ_castSucc]
    have ih := acc_apply b hb j (by omega) r k (by omega)
    refine congrArg₂ (fun a b : EReal => a + b) ih ?_
    · congr 1
      · exact Fin.ext (show (4 * b + (j + 1)) / 4 * 2048 + r.val = b * 2048 + r.val by omega)
      · exact Fin.ext (show (4 * b + (j + 1)) % 4 = j + 1 by omega)

/-- All four parts together. -/
def total (r : Fin 4096) (k : Fin 1024) : EReal := ∑ s : Fin 4, part m c r k s

/-- The block that the last of four points leaves. -/
theorem last_apply (b : ℕ) (hb : b < 2) (r : Fin 2048) (k : Fin 1024) (h : 4 * b + 3 < cfg0.N) :
    (outsAt0 m c (4 * b + 3) h).1 (ix2 r k) = total m c ⟨b * 2048 + r.val, by omega⟩ k := by
  have hC := outsAt0_C m c ⟨4 * b + 3, h⟩ (by show ¬ (4 * b + 3) % 4 = 0; omega) (by show (4 * b + 3) % 4 = 3; omega)
  rw [show outsAt0 m c (4 * b + 3) h = _ from hC]
  dsimp only
  rw [last_out]
  show k0_pay2 (F := Ideal) _ _ _ (ix2 r k) = _
  unfold total
  rw [step_apply, Fin.sum_univ_castSucc]
  congr 1
  · exact acc_apply m c b hb 2 (by omega) r k (by omega)
  · congr 1
    · exact Fin.ext (show (4 * b + 3) / 4 * 2048 + r.val = b * 2048 + r.val by omega)
    · exact Fin.ext (show (4 * b + 3) % 4 = 3 by omega)

/-- The result array, entry by entry. -/
theorem result_apply (r : Fin 4096) (k : Fin 1024) : Value.G2 m c (ix2 r k) = total m c r k := by
  have e : Value.pt2Of (ix2 r k) = 4 * (r.val / 2048) + 3 := by
    show 4 * (1 * (r.val / 2048 - 0) + 1 * (k.val / 1024 - 0)) + 3 = _
    omega
  have hN : 4 * (r.val / 2048) + 3 < cfg0.N := by have h : cfg0.N = 8 := N_0; omega
  unfold Value.G2
  rw [dif_pos (e ▸ hN)]
  rw [Value.fold0_congr m c _ _ (4 * (r.val / 2048) + 3) (by omega) e]
  rw [← Value.outsAt0_sweep m c _ hN]
  have hl : Value.loc2Of (ix2 r k) = (ix2 (⟨r.val % 2048, by omega⟩ : Fin 2048) k : S2048x1024.Idx) := by
    funext a
    apply Fin.ext
    match a with
    | ⟨0, _⟩ => rfl
    | ⟨1, _⟩ => show k.val % 1024 = k.val; omega
  rw [hl, last_apply m c _ (by omega)]
  congr 1
  exact Fin.ext (show r.val / 2048 * 2048 + r.val % 2048 = r.val by omega)

end

/-- The reference's result, in column blocks. -/
theorem reference_apply (x0 : S4096x3072.Idx → EReal) (x1 : S4x1024x768.Idx → EReal) (r : Fin 4096) (k : Fin 1024) :
    Cert.Reference8Ideal.Read.val_main_v7 (F := Ideal) x0 x1 (ix2 r k)
      = ∑ s : Fin 4, ∑ y : Fin 768, x0 (ix2 r (⟨s.val * 768 + y.val, by omega⟩ : Fin 3072)) * x1 (ix3 s k y) := by
  rw [ref_apply, Cert.BlockSums.sum_blocks (a := 4) (b := 768) rfl]
  refine Finset.sum_congr rfl fun s _ => Finset.sum_congr rfl fun y _ => ?_
  congr 2
  congr 1
  · exact Fin.ext (show (s.val * 768 + y.val) / 768 = s.val by omega)
  · exact Fin.ext (show (s.val * 768 + y.val) % 768 = y.val by omega)

/-- The reference leaves its arguments as they were and ends with no semaphore raised. -/
theorem reference_frame : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's result is the reference's, entry by entry. -/
theorem equal : algebraic_Kernel8Ideal_Reference8Ideal := by
  intro m ρ m' ρ' _ hagree
  refine ⟨_, Value.run (F := Ideal) m ρ, ?_⟩
  refine (θ_run Cert.Reference8Ideal.defs _ _).mono (fun _ h c => ⟨?_, (h c).2⟩)
    (Cert.Reference8Ideal.Value.run (F := Ideal) m' ρ')
  rw [(h c).1, (hagree c).1, (hagree c).2]
  refine (Cert.Reference8Ideal.Read.val_main_v7_eq _ _).trans (funext fun i => ?_)
  obtain ⟨r, k, rfl⟩ : ∃ (r : Fin 4096) (k : Fin 1024), i = ix2 r k := ⟨i 0, i 1, eq_ix2 i⟩
  exact (reference_apply _ _ r k).trans (result_apply m c r k).symm

end Cert.NtConvIn

end
-- ==== Proof.TnConvIn.lean ====
/-
  The gradient of the convolution's input weights: the rows that went in, transposed, times the gradient of the rows
  that came out. The kernel takes one of the four column parts at a time.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Adequacy
public import Idealize.ShloMosaic.Lib.Quiescent

@[expose] public section

set_option maxRecDepth 16384

noncomputable section

namespace Cert.TnConvIn

open Cert.Kernel9Ideal Cert.Kernel9Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of the gradient's part `s`, at row `r` and the part's column `j`. -/
def ent (r : Fin 4096) (s : Fin 4) (j : Fin 768) : S4096x3072.Idx :=
  ix2 r (⟨s.val * 768 + j.val, by omega⟩ : Fin 3072)

/-- The gradient of the weights. -/
def grad (h : S4096x1024.Idx → EReal) (g : S4096x3072.Idx → EReal) (i : S4x1024x768.Idx) : EReal :=
  ∑ y : Fin 4096, h (ix2 y (i 1)) * g (ent y (i 0) (i 2))

theorem pay1_apply (v0 : Vec Ideal S4096x1024 .bf16) (v1 : Vec Ideal S1x4096x768 .bf16) (k : Fin 1024) (j : Fin 768) :
    k0_pay1 (F := Ideal) v0 v1 (ix3 0 k j) = ∑ y : Fin 4096, v0 (ix2 y k) * v1 (ix3 0 y j) := by
  unfold k0_pay1
  pointwise

/-- The block that a point leaves. -/
theorem out_apply (x0 : Vec Ideal S4096x1024 .bf16) (x1 : Vec Ideal S1x4096x768 .bf16) (k : Fin 1024) (j : Fin 768) :
    out0_2 (F := Ideal) x0 x1 (ix3 0 k j) = ∑ y : Fin 4096, x0 (ix2 y k) * x1 (ix3 0 y j) := by
  unfold out0_2
  rw [View.canon_unit_zero hz3, View.ld_unit_zero (S := S4096x1024) hz2, View.ld_unit_zero (S := S1x4096x768) hz3]
  exact pay1_apply x0 x1 k j

section
variable (m : (ℓ : Loc nD τ sig) → Buf (Elt Ideal) ℓ) (ρ : Dev nD → PrngReg) (c : Dev nD)

/-- The two argument arrays. -/
abbrev argH : S4096x1024.Idx → EReal := m ((c : Thread nD τ).loc main_arg0)
abbrev argG : S4096x3072.Idx → EReal := m ((c : Thread nD τ).loc main_arg1)

theorem idx_facts : ∀ t : Fin cfg0.N, (win0_0.index t 0 = 0 ∧ win0_0.index t 1 = 0)
    ∧ (win0_1.index t 0 = 0 ∧ win0_1.index t 1 = 0 ∧ win0_1.index t 2 = t.val)
    ∧ (win0_2.index t 0 = t.val ∧ win0_2.index t 1 = 0 ∧ win0_2.index t 2 = 0) :=
  (by decide +kernel : ∀ t : Fin grid0.N, _)

/-- The column part that a point takes. -/
def part (t : Fin cfg0.N) : Fin 4 := ⟨t.val, by have h : t.val < 4 := N_0 ▸ t.isLt; omega⟩

/-- The weight row that row `k` of a point's block is. -/
def row (t : Fin cfg0.N) (k : Fin 1024) : Fin 1024 := ⟨0 * 1024 + k.val, by have h : t.val < 4 := N_0 ▸ t.isLt; omega⟩

/-- The first window's block at a point. -/
theorem blk0 (t : Fin cfg0.N) (r : Fin 4096) (k : Fin 1024) : (iblk m c 0 t : S4096x1024.Idx → EReal) (ix2 r k)
    = argH m c (ix2 r (row t k)) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * r.val = r.val; omega
  | ⟨1, _⟩ => show win0_0.index t 1 * 1024 + 1 * k.val = 0 * 1024 + k.val; omega

/-- The array that the kernel's second window is cut from, after the host's lines. -/
theorem V1 (i : S1x4096x3072.Idx) : (V m c (Pipeline.arrRef spec0 1) : S1x4096x3072.Idx → EReal) i = argG m c (ix2 (i 1) (i 2)) := by
  show StableHlo.after hostOps0 (fun b => m (c, b)) main_v0 i = _
  simp only [hostOps0, StableHlo.after_cons, StableHlo.after_nil]
  rw [StableHlo.unary_result]
  refine broadcastInDim_apply _ _ _ i (ix2 (i 1) (i 2)) fun a => ?_
  match a with
  | ⟨0, _⟩ => rfl
  | ⟨1, _⟩ => rfl

/-- The second window's block at a point. -/
theorem blk1 (t : Fin cfg0.N) (r : Fin 4096) (j : Fin 768) : (iblk m c 1 t : S1x4096x768.Idx → EReal) (ix3 0 r j)
    = argG m c (ent r (part t) j) := by
  obtain ⟨e0, e1, e2⟩ := (idx_facts t).2.1
  have e : ((cfg0.win 1).blk t).view.emb (ix3 0 r j : S1x4096x768.Idx)
      = (ix3 0 r (⟨(part t).val * 768 + j.val, by have := (part t).isLt; omega⟩ : Fin 3072) : S1x4096x3072.Idx) := by
    funext a
    apply Fin.ext
    match a with
    | ⟨0, _⟩ => show win0_1.index t 0 * 1 + 1 * 0 = 0; omega
    | ⟨1, _⟩ => show win0_1.index t 1 * 4096 + 1 * r.val = r.val; omega
    | ⟨2, _⟩ => show win0_1.index t 2 * 768 + 1 * j.val = t.val * 768 + j.val; omega
  unfold iblk
  rw [View.read_apply, e]
  exact V1 m c _

/-- What a point writes back is its block of the gradient. -/
theorem flushed (t : Fin cfg0.N) : (dats m 0 c).flushed 2 t
    = ((cfg0.win 2).blk t).view.read (Elt Ideal) (grad (argH m c) (argG m c)) := by
  rw [Value.flushed2]
  refine funext fun (y : S1x1024x768.Idx) => ?_
  obtain ⟨z, k, j, rfl⟩ : ∃ (z : Fin 1) (k : Fin 1024) (j : Fin 768), y = ix3 z k j := ⟨y 0, y 1, y 2, eq_ix3 y⟩
  obtain rfl : z = 0 := Subsingleton.elim _ _
  obtain ⟨e0, e1, e2⟩ := (idx_facts t).2.2
  have ey : ((cfg0.win 2).blk t).view.emb (ix3 0 k j : S1x1024x768.Idx) = (ix3 (part t) (row t k) j : S4x1024x768.Idx) := by
    funext a
    apply Fin.ext
    match a with
    | ⟨0, _⟩ => show win0_2.index t 0 * 1 + 1 * 0 = t.val; omega
    | ⟨1, _⟩ => show win0_2.index t 1 * 1024 + 1 * k.val = 0 * 1024 + k.val; omega
    | ⟨2, _⟩ => show win0_2.index t 2 * 768 + 1 * j.val = j.val; omega
  refine (out_apply (iblk m c 0 t) (iblk m c 1 t) k j).trans ?_
  refine Eq.trans (Finset.sum_congr rfl fun r _ => congrArg₂ (fun a b : EReal => a * b) (blk0 m c t r k) (blk1 m c t r j)) ?_
  exact (congrArg (grad (argH m c) (argG m c)) ey).symm

theorem mem_blk (t : Fin cfg0.N) (i : S4x1024x768.Idx) : i ∈ ((cfg0.win 2).blk t).view.set
    ↔ ∀ a : Fin 3, win0_2.index t a * S1x1024x768.size a ≤ (i a).val ∧ (i a).val < win0_2.index t a * S1x1024x768.size a + S1x1024x768.size a := by
  show i ∈ ((View.whole main_v1).slice (win0_2.rect t)).set ↔ _
  rw [View.set_slice_whole, Rect.mem_set_unit]
  exact Iff.rfl

/-- So the result array is the gradient. -/
theorem final : (dats m 0 c).arrAt 2 cfg0.N = grad (argH m c) (argG m c) :=
  (dats m 0 c).arrAt_eq_of_cover 2 _ (fun t _ => flushed m c t) fun (i : S4x1024x768.Idx) => by
    have h0 : (i 0).val < 4 := (i 0).isLt
    have h1 : (i 1).val < 1024 := (i 1).isLt
    have h2 : (i 2).val < 768 := (i 2).isLt
    have hN : cfg0.N = 4 := N_0
    have hp : (i 0).val < cfg0.N := by omega
    refine ⟨⟨(i 0).val, hp⟩, flush0_2 _, ?_⟩
    rw [mem_blk]
    obtain ⟨e0, e1, e2⟩ := (idx_facts ⟨(i 0).val, hp⟩).2.2
    dsimp only at e0 e1 e2
    intro a
    match a with
    | ⟨0, _⟩ => show win0_2.index _ 0 * 1 ≤ (i 0).val ∧ (i 0).val < win0_2.index _ 0 * 1 + 1; omega
    | ⟨1, _⟩ => show win0_2.index _ 1 * 1024 ≤ (i 1).val ∧ (i 1).val < win0_2.index _ 1 * 1024 + 1024; omega
    | ⟨2, _⟩ => show win0_2.index _ 2 * 768 ≤ (i 2).val ∧ (i 2).val < win0_2.index _ 2 * 768 + 768; omega

/-- The run: the result is the gradient, the arguments unchanged. -/
theorem run : θ_run defs (onTc (τ := τ) (main (F := Ideal))) ⟨m, fun _ => 0, ρ⟩ fun r => ∀ c : Dev nD,
      r.2.mem ((c : Thread nD τ).loc main_v1) = grad (argH m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end

/-- The reference's result is the gradient. -/
theorem reference_apply (x0 : S4096x1024.Idx → EReal) (x1 : S4096x3072.Idx → EReal) (s : Fin 4) (k : Fin 1024) (j : Fin 768) :
    Cert.Reference9Ideal.Read.val_main_v8 (F := Ideal) x0 x1 (ix3 s k j) = grad x0 x1 (ix3 s k j) := by
  have e : Cert.Reference9Ideal.Read.val_main_v8 (F := Ideal) x0 x1 (ix3 s k j)
      = ∑ y : Fin 4096, x1 (ix2 y (⟨s.val * 768 + j.val, by omega⟩ : Fin 3072)) * x0 (ix2 y k) := by
    rw [← Cert.Reference9Ideal.Read.val_main_v8_eq]
    pointwise
  rw [e]
  exact Finset.sum_congr rfl fun y _ => mul_comm _ _

/-- The reference leaves its arguments as they were and ends with no semaphore raised. -/
theorem reference_frame : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel's result is the reference's, entry by entry. -/
theorem equal : algebraic_Kernel9Ideal_Reference9Ideal := by
  intro m ρ m' ρ' _ hagree
  refine ⟨_, run m ρ, ?_⟩
  refine (θ_run Cert.Reference9Ideal.defs _ _).mono (fun _ h c => ⟨?_, (h c).2⟩)
    (Cert.Reference9Ideal.Value.run (F := Ideal) m' ρ')
  rw [(h c).1, (hagree c).1, (hagree c).2]
  refine (Cert.Reference9Ideal.Read.val_main_v8_eq _ _).trans (funext fun i => ?_)
  obtain ⟨s, k, j, rfl⟩ : ∃ (s : Fin 4) (k : Fin 1024) (j : Fin 768), i = ix3 s k j := ⟨i 0, i 1, i 2, eq_ix3 i⟩
  exact reference_apply _ _ s k j

end Cert.TnConvIn

end
-- ==== Proof.ConvIn.lean ====
/-
  The convolution layer's first product. The kernel takes 2048 rows and one part of the weights' columns at a time; the
  reference multiplies by all the columns at once.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Adequacy
public import Idealize.ShloMosaic.Lib.Quiescent

@[expose] public section

set_option maxRecDepth 16384

noncomputable section

namespace Cert.ConvIn

open Cert.Kernel11Ideal Cert.Kernel11Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The product: column `j` is a column of the part `j / 768` of the weights. -/
def prod (h : S4096x1024.Idx → EReal) (w : S4x1024x768.Idx → EReal) (i : S4096x3072.Idx) : EReal :=
  ∑ y : Fin 1024, h (ix2 (i 0) y) * w (ix3 (⟨(i 1).val / 768, by have h : (i 1).val < 3072 := (i 1).isLt; omega⟩ : Fin 4) y (⟨(i 1).val % 768, by omega⟩ : Fin 768))

/-- The product of a block of rows with one part's columns. -/
def dots (x : S2048x1024.Idx → EReal) (w : S1x1024x768.Idx → EReal) (r : Fin 2048) (j : Fin 768) : EReal :=
  ∑ y : Fin 1024, x (ix2 r y) * w (ix3 0 y j)

theorem pay1_apply (v0 : Vec Ideal S2048x1024 .bf16) (v1 : Vec Ideal S1x1024x768 .bf16) (r : Fin 2048) (j : Fin 768) :
    k0_pay1 (F := Ideal) v0 v1 (ix2 r j) = ∑ y : Fin 1024, v0 (ix2 r y) * v1 (ix3 0 y j) := by
  unfold k0_pay1
  pointwise

theorem out2_apply (x0 : Vec Ideal S2048x1024 .bf16) (x1 : Vec Ideal S1x1024x768 .bf16) (r : Fin 2048) (j : Fin 768) :
    out0_2 (F := Ideal) x0 x1 (ix2 r j) = ∑ y : Fin 1024, x0 (ix2 r y) * x1 (ix3 0 y j) := by
  unfold out0_2
  rw [View.canon_unit_zero hz2, View.ld_unit_zero (S := S2048x1024) hz2, View.ld_unit_zero (S := S1x1024x768) hz3]
  exact pay1_apply x0 x1 r j

section
variable (m : (ℓ : Loc nD τ sig) → Buf (Elt Ideal) ℓ) (ρ : Dev nD → PrngReg) (c : Dev nD)

/-- The two argument arrays. -/
abbrev argH : S4096x1024.Idx → EReal := m ((c : Thread nD τ).loc main_arg0)
abbrev argW : S4x1024x768.Idx → EReal := m ((c : Thread nD τ).loc main_arg1)

theorem idx_facts : ∀ t : Fin cfg0.N, (win0_0.index t 0 = t.val % 2 ∧ win0_0.index t 1 = 0)
    ∧ (win0_1.index t 0 = t.val / 2 ∧ win0_1.index t 1 = 0 ∧ win0_1.index t 2 = 0)
    ∧ (win0_2.index t 0 = t.val % 2 ∧ win0_2.index t 1 = t.val / 2) :=
  (by decide +kernel : ∀ t : Fin grid0.N, _)

/-- The array row that row `r` of a point's block is. -/
def row (t : Fin cfg0.N) (r : Fin 2048) : Fin 4096 := ⟨t.val % 2 * 2048 + r.val, by omega⟩

/-- The array column that column `j` of a point's block is. -/
def column (t : Fin cfg0.N) (j : Fin 768) : Fin 3072 := ⟨t.val / 2 * 768 + j.val, by have h : t.val < 8 := N_0 ▸ t.isLt; omega⟩

theorem blk0 (t : Fin cfg0.N) (r : Fin 2048) (y : Fin 1024) : (iblk m c 0 t : S2048x1024.Idx → EReal) (ix2 r y) = argH m c (ix2 (row t r) y) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 2048 + 1 * r.val = t.val % 2 * 2048 + r.val; omega
  | ⟨1, _⟩ => show win0_0.index t 1 * 1024 + 1 * y.val = y.val; omega

theorem blk1 (t : Fin cfg0.N) (y : Fin 1024) (j : Fin 768) : (iblk m c 1 t : S1x1024x768.Idx → EReal) (ix3 0 y j)
    = argW m c (ix3 (⟨(column t j).val / 768, by have := (column t j).isLt; omega⟩ : Fin 4) y (⟨(column t j).val % 768, by omega⟩ : Fin 768)) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = (t.val / 2 * 768 + j.val) / 768; omega
  | ⟨1, _⟩ => show win0_1.index t 1 * 1024 + 1 * y.val = y.val; omega
  | ⟨2, _⟩ => show win0_1.index t 2 * 768 + 1 * j.val = (t.val / 2 * 768 + j.val) % 768; omega

/-- One point's product is its block of the whole one. -/
theorem prod_blk (t : Fin cfg0.N) (r : Fin 2048) (j : Fin 768) :
    dots (iblk m c 0 t) (iblk m c 1 t) r j = prod (argH m c) (argW m c) (ix2 (row t r) (column t j)) :=
  Finset.sum_congr rfl fun y _ => congrArg₂ (fun a b : EReal => a * b) (blk0 m c t r y) (blk1 m c t y j)

theorem flushed2 (t : Fin cfg0.N) : (dats m 0 c).flushed 2 t = ((cfg0.win 2).blk t).view.read (Elt Ideal) (prod (argH m c) (argW m c)) := by
  rw [Value.flushed2]
  refine funext fun (y : S2048x768.Idx) => ?_
  obtain ⟨r, j, rfl⟩ : ∃ (r : Fin 2048) (j : Fin 768), y = ix2 r j := ⟨y 0, y 1, eq_ix2 y⟩
  obtain ⟨e0, e1⟩ := (idx_facts t).2.2
  have ey : ((cfg0.win 2).blk t).view.emb (ix2 r j : S2048x768.Idx) = (ix2 (row t r) (column t j) : S4096x3072.Idx) := by
    funext a
    apply Fin.ext
    match a with
    | ⟨0, _⟩ => show win0_2.index t 0 * 2048 + 1 * r.val = t.val % 2 * 2048 + r.val; omega
    | ⟨1, _⟩ => show win0_2.index t 1 * 768 + 1 * j.val = t.val / 2 * 768 + j.val; omega
  refine Eq.trans ?_ (congrArg (prod (argH m c) (argW m c)) ey).symm
  exact (out2_apply (iblk m c 0 t) (iblk m c 1 t) r j).trans (prod_blk m c t r j)

theorem mem_blk2 (t : Fin cfg0.N) (i : S4096x3072.Idx) : i ∈ ((cfg0.win 2).blk t).view.set
    ↔ ∀ a : Fin 2, win0_2.index t a * S2048x768.size a ≤ (i a).val ∧ (i a).val < win0_2.index t a * S2048x768.size a + S2048x768.size a := by
  show i ∈ ((View.whole main_v0).slice (win0_2.rect t)).set ↔ _
  rw [View.set_slice_whole, Rect.mem_set_unit]
  exact Iff.rfl

theorem final2 : (dats m 0 c).arrAt 2 cfg0.N = prod (argH m c) (argW m c) :=
  (dats m 0 c).arrAt_eq_of_cover 2 _ (fun t _ => flushed2 m c t) fun (i : S4096x3072.Idx) => by
    have h0 : (i 0).val < 4096 := (i 0).isLt
    have h1 : (i 1).val < 3072 := (i 1).isLt
    have hN : cfg0.N = 8 := N_0
    have hp : (i 1).val / 768 * 2 + (i 0).val / 2048 < cfg0.N := by omega
    refine ⟨⟨(i 1).val / 768 * 2 + (i 0).val / 2048, hp⟩, flush0_2 _, ?_⟩
    rw [mem_blk2]
    obtain ⟨e0, e1⟩ := (idx_facts ⟨(i 1).val / 768 * 2 + (i 0).val / 2048, hp⟩).2.2
    dsimp only at e0 e1
    intro a
    match a with
    | ⟨0, _⟩ => show win0_2.index _ 0 * 2048 ≤ (i 0).val ∧ (i 0).val < win0_2.index _ 0 * 2048 + 2048; omega
    | ⟨1, _⟩ => show win0_2.index _ 1 * 768 ≤ (i 1).val ∧ (i 1).val < win0_2.index _ 1 * 768 + 768; omega

/-- The run: the product, the arguments unchanged. -/
theorem run : θ_run defs (onTc (τ := τ) (main (F := Ideal))) ⟨m, fun _ => 0, ρ⟩ fun r => ∀ c : Dev nD,
      r.2.mem ((c : Thread nD τ).loc main_v0) = prod (argH m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end

/-! ## The reference -/

theorem reference_apply (x0 : S4096x1024.Idx → EReal) (x1 : S4x1024x768.Idx → EReal) (r : Fin 4096) (j : Fin 3072) :
    Cert.Reference11Ideal.Read.val_main_v5 (F := Ideal) x0 x1 (ix2 r j) = prod x0 x1 (ix2 r j) := by
  rw [← Cert.Reference11Ideal.Read.val_main_v5_eq]
  pointwise
  rfl

/-- The reference leaves its arguments as they were and ends with no semaphore raised. -/
theorem reference_frame : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel's result is the reference's, entry by entry. -/
theorem equal : algebraic_Kernel11Ideal_Reference11Ideal := by
  intro m ρ m' ρ' _ hagree
  refine ⟨_, run m ρ, ?_⟩
  refine (θ_run Cert.Reference11Ideal.defs _ _).mono (fun _ h c => ⟨?_, (h c).2⟩)
    (Cert.Reference11Ideal.Value.run (F := Ideal) m' ρ')
  rw [(h c).1, (hagree c).1, (hagree c).2]
  refine (Cert.Reference11Ideal.Read.val_main_v5_eq _ _).trans (funext fun i => ?_)
  obtain ⟨r, j, rfl⟩ : ∃ (r : Fin 4096) (j : Fin 3072), i = ix2 r j := ⟨i 0, i 1, eq_ix2 i⟩
  exact reference_apply _ _ r j

end Cert.ConvIn

end
-- ==== Proof.GluBwd.lean ====
/-
  The gated output's backward pass: the gradients of the value and of the gate. The kernel takes 512 rows of both halves
  at a time; the reference's derivative puts the two gradients into an array of zeros each and adds these.
-/
module

public import proofs.«01_k».proof.Defs
public import proofs.«01_k».proof.Proof.Sigmoid
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Adequacy
public import Idealize.ShloMosaic.Lib.Quiescent

@[expose] public section

set_option maxRecDepth 16384

noncomputable section

namespace Cert.GluBwd

open Cert.Kernel10Ideal Cert.Kernel10Ideal.Gen Idealize.ShloMosaic Idealize.ShloMosaic.TcCoe
open Idealize.SL.Sem
open scoped BigOperators

theorem hz2 : (![0, 0] : Fin 2 → Nat) = fun _ => 0 := funext fun a => by fin_cases a <;> rfl

/-- The gradient of the value from the gradient `d` of the gated output and the gate `g`. -/
def valueGrad (d g : EReal) : EReal := d * Ideal.logistic g

/-- The gradient of the gate, with the value `v`. -/
def gateGrad (d v g : EReal) : EReal := d * v * Ideal.logistic g * (1 - Ideal.logistic g)

/-- Both gradients: the value's, then the gate's. -/
def grads (d : S4096x1024.Idx → EReal) (o : S2x4096x1024.Idx → EReal) (i : S2x4096x1024.Idx) : EReal :=
  if (i 0).val < 1 then valueGrad (d (ix2 (i 1) (i 2))) (o (ix3 1 (i 1) (i 2)))
  else gateGrad (d (ix2 (i 1) (i 2))) (o (ix3 0 (i 1) (i 2))) (o (ix3 1 (i 1) (i 2)))

theorem pay3_apply (v0 : Vec Ideal S512x1024 .bf16) (v5 : Vec Ideal S1x512x1024 .bf16) (r : Fin 512) (j : Fin 1024) :
    k0_pay3 (F := Ideal) v0 v5 (ix3 0 r j) = valueGrad (v0 (ix2 r j)) (v5 (ix3 0 r j)) := by
  unfold valueGrad
  rw [← Cert.Sigmoid.tanh_form]
  unfold k0_pay3 k0_pay1 k0_pay2
  pointwise

theorem pay4_apply (v0 : Vec Ideal S512x1024 .bf16) (v2 v5 : Vec Ideal S1x512x1024 .bf16) (r : Fin 512) (j : Fin 1024) :
    k0_pay4 (F := Ideal) v0 v2 v5 (ix3 0 r j) = gateGrad (v0 (ix2 r j)) (v2 (ix3 0 r j)) (v5 (ix3 0 r j)) := by
  unfold gateGrad
  rw [← Cert.Sigmoid.tanh_form]
  unfold k0_pay4 k0_pay1 k0_pay2
  pointwise

/-! ## What one point leaves in the staging buffer -/

section
variable (x0 : Vec Ideal S512x1024 .bf16) (x1 : Vec Ideal S2x512x1024 .bf16)

theorem emb_zero (r : Fin 512) (j : Fin 1024) : (r0_1.emb (ix3 0 r j : S1x512x1024.Idx) : S2x512x1024.Idx) = ix3 0 r j := by
  funext a
  apply Fin.ext
  match a with
  | ⟨0, _⟩ => rfl
  | ⟨1, _⟩ => show 0 + 1 * r.val = r.val; omega
  | ⟨2, _⟩ => show 0 + 1 * j.val = j.val; omega

theorem emb_one (r : Fin 512) (j : Fin 1024) : (r0_2.emb (ix3 0 r j : S1x512x1024.Idx) : S2x512x1024.Idx) = ix3 1 r j := by
  funext a
  apply Fin.ext
  match a with
  | ⟨0, _⟩ => rfl
  | ⟨1, _⟩ => show 0 + 1 * r.val = r.val; omega
  | ⟨2, _⟩ => show 0 + 1 * j.val = j.val; omega

/-- The first half of the block. -/
theorem out2_zero (r : Fin 512) (j : Fin 1024) : out0_2 (F := Ideal) x0 x1 (ix3 0 r j)
    = valueGrad (x0 (ix2 r j)) (x1 (ix3 1 r j)) := by
  unfold out0_2
  rw [View.canon_cons_of_not_mem _ _ fun hm => by
    have h : 1 ≤ 0 := (Rect.mem_set_unit (s := S2x512x1024) (off := ![1, 0, 0]) (size := S1x512x1024.size)
      (inb := inb_S2x512x1024_S1x512x1024_1_0_0) |>.mp hm 0).1
    omega]
  rw [← emb_zero r j, View.canon_cons_emb, View.ld_unit_zero (S := S512x1024) hz2]
  refine (pay3_apply x0 _ r j).trans ?_
  exact congrArg (fun i => valueGrad (x0 (ix2 r j)) (x1 i)) (emb_one r j)

/-- The second half of the block. -/
theorem out2_one (r : Fin 512) (j : Fin 1024) : out0_2 (F := Ideal) x0 x1 (ix3 1 r j)
    = gateGrad (x0 (ix2 r j)) (x1 (ix3 0 r j)) (x1 (ix3 1 r j)) := by
  unfold out0_2
  rw [← emb_one r j, View.canon_cons_emb, View.ld_unit_zero (S := S512x1024) hz2]
  refine (pay4_apply x0 _ _ r j).trans ?_
  exact congrArg₂ (fun i k => gateGrad (x0 (ix2 r j)) (x1 i) (x1 k)) (emb_zero r j) rfl

end

/-! ## The arrays -/

section
variable (m : (ℓ : Loc nD τ sig) → Buf (Elt Ideal) ℓ) (ρ : Dev nD → PrngReg) (c : Dev nD)

/-- The two argument arrays. -/
abbrev argD : S4096x1024.Idx → EReal := m ((c : Thread nD τ).loc main_arg0)
abbrev argO : S2x4096x1024.Idx → EReal := m ((c : Thread nD τ).loc main_arg1)

theorem idx_facts : ∀ t : Fin cfg0.N, (win0_0.index t 0 = t.val ∧ win0_0.index t 1 = 0)
    ∧ (win0_1.index t 0 = 0 ∧ win0_1.index t 1 = t.val ∧ win0_1.index t 2 = 0)
    ∧ (win0_2.index t 0 = 0 ∧ win0_2.index t 1 = t.val ∧ win0_2.index t 2 = 0) :=
  (by decide +kernel : ∀ t : Fin grid0.N, _)

/-- The array row that row `r` of a point's block is. -/
def row (t : Fin cfg0.N) (r : Fin 512) : Fin 4096 := ⟨t.val * 512 + r.val, by have h : t.val < 8 := N_0 ▸ t.isLt; omega⟩

theorem blk0 (t : Fin cfg0.N) (r : Fin 512) (j : Fin 1024) : (iblk m c 0 t : S512x1024.Idx → EReal) (ix2 r j) = argD m c (ix2 (row t r) j) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; omega
  | ⟨1, _⟩ => show win0_0.index t 1 * 1024 + 1 * j.val = j.val; omega

theorem blk1 (t : Fin cfg0.N) (p : Fin 2) (r : Fin 512) (j : Fin 1024) : (iblk m c 1 t : S2x512x1024.Idx → EReal) (ix3 p r j)
    = argO m c (ix3 p (row t r) j) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 2 + 1 * p.val = p.val; omega
  | ⟨1, _⟩ => show win0_1.index t 1 * 512 + 1 * r.val = t.val * 512 + r.val; omega
  | ⟨2, _⟩ => show win0_1.index t 2 * 1024 + 1 * j.val = j.val; omega

theorem flushed2 (t : Fin cfg0.N) : (dats m 0 c).flushed 2 t = ((cfg0.win 2).blk t).view.read (Elt Ideal) (grads (argD m c) (argO m c)) := by
  rw [Value.flushed2]
  refine funext fun (y : S2x512x1024.Idx) => ?_
  obtain ⟨p, r, j, rfl⟩ : ∃ (p : Fin 2) (r : Fin 512) (j : Fin 1024), y = ix3 p r j := ⟨y 0, y 1, y 2, eq_ix3 y⟩
  obtain ⟨e0, e1, e2⟩ := (idx_facts t).2.2
  have ey : ((cfg0.win 2).blk t).view.emb (ix3 p r j : S2x512x1024.Idx) = (ix3 p (row t r) j : S2x4096x1024.Idx) := by
    funext a
    apply Fin.ext
    match a with
    | ⟨0, _⟩ => show win0_2.index t 0 * 2 + 1 * p.val = p.val; omega
    | ⟨1, _⟩ => show win0_2.index t 1 * 512 + 1 * r.val = t.val * 512 + r.val; omega
    | ⟨2, _⟩ => show win0_2.index t 2 * 1024 + 1 * j.val = j.val; omega
  refine Eq.trans ?_ (congrArg (grads (argD m c) (argO m c)) ey).symm
  match p with
  | ⟨0, _⟩ => exact (out2_zero (iblk m c 0 t) (iblk m c 1 t) r j).trans (congrArg₂ valueGrad (blk0 m c t r j) (blk1 m c t 1 r j))
  | ⟨1, _⟩ =>
    refine (out2_one (iblk m c 0 t) (iblk m c 1 t) r j).trans ?_
    exact (congrArg₂ (fun a b : EReal => gateGrad a b _) (blk0 m c t r j) (blk1 m c t 0 r j)).trans
      (congrArg (fun a : EReal => gateGrad _ _ a) (blk1 m c t 1 r j))

theorem mem_blk2 (t : Fin cfg0.N) (i : S2x4096x1024.Idx) : i ∈ ((cfg0.win 2).blk t).view.set
    ↔ ∀ a : Fin 3, win0_2.index t a * S2x512x1024.size a ≤ (i a).val ∧ (i a).val < win0_2.index t a * S2x512x1024.size a + S2x512x1024.size a := by
  show i ∈ ((View.whole main_v0).slice (win0_2.rect t)).set ↔ _
  rw [View.set_slice_whole, Rect.mem_set_unit]
  exact Iff.rfl

theorem final2 : (dats m 0 c).arrAt 2 cfg0.N = grads (argD m c) (argO m c) :=
  (dats m 0 c).arrAt_eq_of_cover 2 _ (fun t _ => flushed2 m c t) fun (i : S2x4096x1024.Idx) => by
    have h0 : (i 0).val < 2 := (i 0).isLt
    have h1 : (i 1).val < 4096 := (i 1).isLt
    have h2 : (i 2).val < 1024 := (i 2).isLt
    have hN : cfg0.N = 8 := N_0
    have hp : (i 1).val / 512 < cfg0.N := by omega
    refine ⟨⟨(i 1).val / 512, hp⟩, flush0_2 _, ?_⟩
    rw [mem_blk2]
    obtain ⟨e0, e1, e2⟩ := (idx_facts ⟨(i 1).val / 512, hp⟩).2.2
    dsimp only at e0 e1 e2
    intro a
    match a with
    | ⟨0, _⟩ => show win0_2.index _ 0 * 2 ≤ (i 0).val ∧ (i 0).val < win0_2.index _ 0 * 2 + 2; omega
    | ⟨1, _⟩ => show win0_2.index _ 1 * 512 ≤ (i 1).val ∧ (i 1).val < win0_2.index _ 1 * 512 + 512; omega
    | ⟨2, _⟩ => show win0_2.index _ 2 * 1024 ≤ (i 2).val ∧ (i 2).val < win0_2.index _ 2 * 1024 + 1024; omega

/-- The run: the two gradients, the arguments unchanged. -/
theorem run : θ_run defs (onTc (τ := τ) (main (F := Ideal))) ⟨m, fun _ => 0, ρ⟩ fun r => ∀ c : Dev nD,
      r.2.mem ((c : Thread nD τ).loc main_v0) = grads (argD m c) (argO m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end

/-! ## The reference -/

theorem reference_apply (x0 : S4096x1024.Idx → EReal) (x1 : S2x4096x1024.Idx → EReal) (p : Fin 2) (r : Fin 4096) (j : Fin 1024) :
    Cert.Reference10Ideal.Read.val_main_v24 (F := Ideal) x0 x1 (ix3 p r j) = grads x0 x1 (ix3 p r j) := by
  rw [← Cert.Reference10Ideal.Read.val_main_v24_eq]
  pointwise
  match p with
  | ⟨0, _⟩ =>
    rw [dif_neg (by show ¬(1 ≤ 0 ∧ 0 - 1 < 1); omega), dif_pos (by show 0 < 1; omega), zero_add]
    rfl
  | ⟨1, _⟩ =>
    rw [dif_pos (by show 1 ≤ 1 ∧ 1 - 1 < 1; omega), dif_neg (by show ¬(1 < 1); omega), add_zero]
    show x1 (ix3 0 r j) * x0 (ix2 r j) * (Ideal.logistic (x1 (ix3 1 r j)) * (1 - Ideal.logistic (x1 (ix3 1 r j))))
      = gateGrad (x0 (ix2 r j)) (x1 (ix3 0 r j)) (x1 (ix3 1 r j))
    unfold gateGrad
    rw [mul_comm (x1 (ix3 0 r j)), ← mul_assoc]

/-- The reference leaves its arguments as they were and ends with no semaphore raised. -/
theorem reference_frame : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel's result is the reference's, entry by entry. -/
theorem equal : algebraic_Kernel10Ideal_Reference10Ideal := by
  intro m ρ m' ρ' _ hagree
  refine ⟨_, run m ρ, ?_⟩
  refine (θ_run Cert.Reference10Ideal.defs _ _).mono (fun _ h c => ⟨?_, (h c).2⟩)
    (Cert.Reference10Ideal.Value.run (F := Ideal) m' ρ')
  rw [(h c).1, (hagree c).1, (hagree c).2]
  refine (Cert.Reference10Ideal.Read.val_main_v24_eq _ _).trans (funext fun i => ?_)
  obtain ⟨p, r, j, rfl⟩ : ∃ (p : Fin 2) (r : Fin 4096) (j : Fin 1024), i = ix3 p r j := ⟨i 0, i 1, i 2, eq_ix3 i⟩
  exact reference_apply _ _ p r j

end Cert.GluBwd

end
-- ==== Proof.Adam.lean ====
/-
  One weight's optimiser step, number by number, from its gradient `g`, running mean `m`, running square `v` and the
  weight `w`.
-/
module

public import Idealize.ShloMosaic.PureOps.Ideal

@[expose] public section

noncomputable section

namespace Cert.Adam

open Idealize.ShloMosaic

/-- The number that a float's word stands for. -/
abbrev lit (b : BitVec 32) : Ideal .f32 := Scalar.ofBits .f32 b

/-- The gradient of the two devices that share the weight. -/
def grad (a b : Ideal .f32) : Ideal .f32 := FloatOps.addf a b

/-- The new running mean of the gradient. -/
def mean (g m : Ideal .f32) : Ideal .f32 :=
  FloatOps.addf (FloatOps.mulf (lit 0x3F666666#32) m) (FloatOps.mulf (lit 0x3DCCCCCD#32) g)

/-- The new running mean of the gradient's square. -/
def square (g v : Ideal .f32) : Ideal .f32 :=
  FloatOps.addf (FloatOps.mulf (lit 0x3F7FBE77#32) v) (FloatOps.mulf (lit 0x3A83126F#32) (FloatOps.mulf g g))

/-- What is added to the weight. -/
def delta (g m v w : Ideal .f32) : Ideal .f32 :=
  FloatOps.mulf (lit 0xBA83126F#32) (FloatOps.addf
    (FloatOps.divf (FloatOps.divf (mean g m) (lit 0x3F26BD02#32))
      (FloatOps.addf (FloatOps.sqrt (FloatOps.divf (square g v) (lit 0x3C231ACC#32))) (lit 0x322BCC77#32)))
    (FloatOps.mulf (lit 0x3C23D70A#32) w))

end Cert.Adam

end
-- ==== Proof.AdamFfnIn.lean ====
/-
  The optimiser's step of the feed-forward layer's first weights. The kernel takes 128 rows of one part at a time; the reference takes the whole arrays.
-/
module

public import proofs.«01_k».proof.Defs
public import proofs.«01_k».proof.Proof.Adam
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Adequacy
public import Idealize.ShloMosaic.Lib.Quiescent

@[expose] public section

set_option maxRecDepth 16384

noncomputable section

namespace Cert.AdamFfnIn

open Cert.Kernel12Ideal Cert.Kernel12Ideal.Gen Idealize.ShloMosaic Idealize.ShloMosaic.TcCoe
open Idealize.SL.Sem

theorem hz3 : (![0, 0, 0] : Fin 3 → Nat) = fun _ => 0 := funext fun a => by fin_cases a <;> rfl

/-! ## One block -/

section
variable (w m v a b : Vec Ideal S1x128x1408 .f32) (r : Fin 128) (j : Fin 1408)

theorem out5_apply : out0_5 (F := Ideal) w m v a b (ix3 0 r j) = Adam.grad (a (ix3 0 r j)) (b (ix3 0 r j)) := by
  unfold out0_5
  rw [View.canon_unit_zero hz3, View.ld_unit_zero (S := S1x128x1408) hz3, View.ld_unit_zero (S := S1x128x1408) hz3]
  unfold k0_pay5 k0_pay4
  pointwise
  rfl

theorem out6_apply : out0_6 (F := Ideal) w m v a b (ix3 0 r j)
    = Adam.delta (Adam.grad (a (ix3 0 r j)) (b (ix3 0 r j))) (m (ix3 0 r j)) (v (ix3 0 r j)) (w (ix3 0 r j)) := by
  unfold out0_6
  rw [View.canon_unit_zero hz3]
  simp only [View.ld_unit_zero (S := S1x128x1408) hz3]
  unfold k0_pay1 k0_pay6 k0_pay9 k0_pay10 k0_pay7 k0_pay8 k0_pay4
  pointwise
  rfl

theorem out7_apply : out0_7 (F := Ideal) w m v a b (ix3 0 r j)
    = Adam.mean (Adam.grad (a (ix3 0 r j)) (b (ix3 0 r j))) (m (ix3 0 r j)) := by
  unfold out0_7
  rw [View.canon_unit_zero hz3]
  simp only [View.ld_unit_zero (S := S1x128x1408) hz3]
  unfold k0_pay2 k0_pay7 k0_pay4
  pointwise
  rfl

theorem out8_apply : out0_8 (F := Ideal) w m v a b (ix3 0 r j)
    = Adam.square (Adam.grad (a (ix3 0 r j)) (b (ix3 0 r j))) (v (ix3 0 r j)) := by
  unfold out0_8
  rw [View.canon_unit_zero hz3]
  simp only [View.ld_unit_zero (S := S1x128x1408) hz3]
  unfold k0_pay3 k0_pay8 k0_pay4
  pointwise
  rfl

end

/-! ## The whole arrays -/

section
variable (m : (ℓ : Loc nD τ sig) → Buf (Elt Ideal) ℓ) (ρ : Dev nD → PrngReg) (c : Dev nD)

abbrev argW : S4x1024x1408.Idx → Ideal .f32 := m ((c : Thread nD τ).loc main_arg0)
abbrev argM : S4x1024x1408.Idx → Ideal .f32 := m ((c : Thread nD τ).loc main_arg1)
abbrev argV : S4x1024x1408.Idx → Ideal .f32 := m ((c : Thread nD τ).loc main_arg2)
abbrev argA : S4x1024x1408.Idx → Ideal .f32 := m ((c : Thread nD τ).loc main_arg3)
abbrev argB : S4x1024x1408.Idx → Ideal .f32 := m ((c : Thread nD τ).loc main_arg4)

/-- The four results, entry by entry. -/
def gradOf (i : S4x1024x1408.Idx) : Ideal .f32 := Adam.grad (argA m c i) (argB m c i)
def deltaOf (i : S4x1024x1408.Idx) : Ideal .f32 := Adam.delta (gradOf m c i) (argM m c i) (argV m c i) (argW m c i)
def meanOf (i : S4x1024x1408.Idx) : Ideal .f32 := Adam.mean (gradOf m c i) (argM m c i)
def squareOf (i : S4x1024x1408.Idx) : Ideal .f32 := Adam.square (gradOf m c i) (argV m c i)

/-- Where a point's block lies, which is the same for all nine arrays. -/
theorem idx_facts : ∀ t : Fin cfg0.N, win0_5.index t 0 = t.val / 8 ∧ win0_5.index t 1 = t.val % 8 ∧ win0_5.index t 2 = 0 :=
  (by decide +kernel : ∀ t : Fin grid0.N, _)

theorem same_index (t : Fin cfg0.N) : win0_0.index t = win0_5.index t ∧ win0_1.index t = win0_5.index t ∧ win0_2.index t = win0_5.index t
    ∧ win0_3.index t = win0_5.index t ∧ win0_4.index t = win0_5.index t ∧ win0_6.index t = win0_5.index t
    ∧ win0_7.index t = win0_5.index t ∧ win0_8.index t = win0_5.index t := ⟨rfl, rfl, rfl, rfl, rfl, rfl, rfl, rfl⟩

/-- The array's entry that an entry of a point's block is. -/
abbrev place (t : Fin cfg0.N) (y : S1x128x1408.Idx) : S4x1024x1408.Idx := ((cfg0.win 5).blk t).view.emb y

/-- The blocks that a point reads. -/
theorem blocks (t : Fin cfg0.N) (y : S1x128x1408.Idx) :
    (iblk m c 0 t : S1x128x1408.Idx → Ideal .f32) y = argW m c (place t y) ∧ (iblk m c 1 t : S1x128x1408.Idx → Ideal .f32) y = argM m c (place t y)
    ∧ (iblk m c 2 t : S1x128x1408.Idx → Ideal .f32) y = argV m c (place t y) ∧ (iblk m c 3 t : S1x128x1408.Idx → Ideal .f32) y = argA m c (place t y)
    ∧ (iblk m c 4 t : S1x128x1408.Idx → Ideal .f32) y = argB m c (place t y) := ⟨rfl, rfl, rfl, rfl, rfl⟩

theorem eq_row (y : S1x128x1408.Idx) : ∃ (r : Fin 128) (j : Fin 1408), y = ix3 0 r j :=
  ⟨y 1, y 2, funext fun a => by
    have h : (y 0).val < 1 := (y 0).isLt
    match a with
    | ⟨0, _⟩ => exact Fin.ext (by show (y 0).val = 0; omega)
    | ⟨1, _⟩ => rfl
    | ⟨2, _⟩ => rfl⟩

theorem mem_block (t : Fin cfg0.N) (i : S4x1024x1408.Idx) : i ∈ ((cfg0.win 5).blk t).view.set
    ↔ ∀ a : Fin 3, win0_5.index t a * S1x128x1408.size a ≤ (i a).val ∧ (i a).val < win0_5.index t a * S1x128x1408.size a + S1x128x1408.size a := by
  show i ∈ ((View.whole main_v0_0).slice (win0_5.rect t)).set ↔ _
  rw [View.set_slice_whole, Rect.mem_set_unit]
  exact Iff.rfl

/-- Every entry lies in the block of a point. -/
theorem covered (i : S4x1024x1408.Idx) : ∃ t : Fin cfg0.N, i ∈ ((cfg0.win 5).blk t).view.set := by
  have h0 : (i 0).val < 4 := (i 0).isLt
  have h1 : (i 1).val < 1024 := (i 1).isLt
  have h2 : (i 2).val < 1408 := (i 2).isLt
  have hN : cfg0.N = 32 := N_0
  have hp : (i 0).val * 8 + (i 1).val / 128 < cfg0.N := by omega
  refine ⟨⟨(i 0).val * 8 + (i 1).val / 128, hp⟩, ?_⟩
  rw [mem_block]
  obtain ⟨e0, e1, e2⟩ := idx_facts ⟨(i 0).val * 8 + (i 1).val / 128, hp⟩
  dsimp only at e0 e1 e2
  intro a
  match a with
  | ⟨0, _⟩ => show win0_5.index _ 0 * 1 ≤ (i 0).val ∧ (i 0).val < win0_5.index _ 0 * 1 + 1; omega
  | ⟨1, _⟩ => show win0_5.index _ 1 * 128 ≤ (i 1).val ∧ (i 1).val < win0_5.index _ 1 * 128 + 128; omega
  | ⟨2, _⟩ => show win0_5.index _ 2 * 1408 ≤ (i 2).val ∧ (i 2).val < win0_5.index _ 2 * 1408 + 1408; omega

theorem final5 : (dats m 0 c).arrAt 5 cfg0.N = gradOf m c :=
  (dats m 0 c).arrAt_eq_of_cover 5 _ (fun t _ => by
    rw [Value.flushed5]
    refine funext fun (y : S1x128x1408.Idx) => ?_
    obtain ⟨r, j, rfl⟩ := eq_row y
    exact out5_apply (iblk m c 0 t) (iblk m c 1 t) (iblk m c 2 t) (iblk m c 3 t) (iblk m c 4 t) r j)
    fun (i : S4x1024x1408.Idx) => (covered i).imp fun t h => ⟨flush0_5 t, h⟩

theorem final6 : (dats m 0 c).arrAt 6 cfg0.N = deltaOf m c :=
  (dats m 0 c).arrAt_eq_of_cover 6 _ (fun t _ => by
    rw [Value.flushed6]
    refine funext fun (y : S1x128x1408.Idx) => ?_
    obtain ⟨r, j, rfl⟩ := eq_row y
    exact out6_apply (iblk m c 0 t) (iblk m c 1 t) (iblk m c 2 t) (iblk m c 3 t) (iblk m c 4 t) r j)
    fun (i : S4x1024x1408.Idx) => (covered i).imp fun t h => ⟨flush0_6 t, h⟩

theorem final7 : (dats m 0 c).arrAt 7 cfg0.N = meanOf m c :=
  (dats m 0 c).arrAt_eq_of_cover 7 _ (fun t _ => by
    rw [Value.flushed7]
    refine funext fun (y : S1x128x1408.Idx) => ?_
    obtain ⟨r, j, rfl⟩ := eq_row y
    exact out7_apply (iblk m c 0 t) (iblk m c 1 t) (iblk m c 2 t) (iblk m c 3 t) (iblk m c 4 t) r j)
    fun (i : S4x1024x1408.Idx) => (covered i).imp fun t h => ⟨flush0_7 t, h⟩

theorem final8 : (dats m 0 c).arrAt 8 cfg0.N = squareOf m c :=
  (dats m 0 c).arrAt_eq_of_cover 8 _ (fun t _ => by
    rw [Value.flushed8]
    refine funext fun (y : S1x128x1408.Idx) => ?_
    obtain ⟨r, j, rfl⟩ := eq_row y
    exact out8_apply (iblk m c 0 t) (iblk m c 1 t) (iblk m c 2 t) (iblk m c 3 t) (iblk m c 4 t) r j)
    fun (i : S4x1024x1408.Idx) => (covered i).imp fun t h => ⟨flush0_8 t, h⟩

/-- The run: the four results, the arguments unchanged. -/
theorem run : θ_run defs (onTc (τ := τ) (main (F := Ideal))) ⟨m, fun _ => 0, ρ⟩ fun r => ∀ c : Dev nD,
      r.2.mem ((c : Thread nD τ).loc main_v0_0) = gradOf m c
      ∧ r.2.mem ((c : Thread nD τ).loc main_v0_1) = deltaOf m c
      ∧ r.2.mem ((c : Thread nD τ).loc main_v0_2) = meanOf m c
      ∧ r.2.mem ((c : Thread nD τ).loc main_v0_3) = squareOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end

/-! ## The reference -/

section
open Cert.Reference12Ideal.Read
variable (w m v a b : S4x1024x1408.Idx → Ideal .f32) (i : S4x1024x1408.Idx)

theorem reference_grad : val_main_v0 (F := Ideal) a b i = Adam.grad (a i) (b i) := rfl
theorem reference_mean : val_main_v5 (F := Ideal) m a b i = Adam.mean (Adam.grad (a i) (b i)) (m i) := rfl
theorem reference_square : val_main_v11 (F := Ideal) v a b i = Adam.square (Adam.grad (a i) (b i)) (v i) := rfl
theorem reference_delta : val_main_v24 (F := Ideal) w m v a b i = Adam.delta (Adam.grad (a i) (b i)) (m i) (v i) (w i) := rfl

end

/-- The reference leaves its arguments as they were and ends with no semaphore raised. -/
theorem reference_frame : quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The kernel's results are the reference's, entry by entry. -/
theorem equal : algebraic_Kernel12Ideal_Reference12Ideal := by
  intro m ρ m' ρ' _ hagree
  refine ⟨_, _, _, _, run m ρ, ?_⟩
  refine (θ_run Cert.Reference12Ideal.defs _ _).mono (fun _ h c => ⟨?_, ?_, ?_, ?_, (h c).2.2.2.2⟩)
    (Cert.Reference12Ideal.Value.run (F := Ideal) m' ρ')
  · rw [(h c).1]
    simp only [hagree c]
    exact funext fun i => reference_grad _ _ i
  · rw [(h c).2.1]
    simp only [hagree c]
    exact funext fun i => reference_delta _ _ _ _ _ i
  · rw [(h c).2.2.1]
    simp only [hagree c]
    exact funext fun i => reference_mean _ _ _ i
  · rw [(h c).2.2.2.1]
    simp only [hagree c]
    exact funext fun i => reference_square _ _ _ i

end Cert.AdamFfnIn

end
-- ==== Proof.AdamFfnOut.lean ====
/-
  The optimiser's step of the feed-forward layer's second weights. The kernel takes 176 rows of one part at a time; the reference takes the whole arrays.
-/
module

public import proofs.«01_k».proof.Defs
public import proofs.«01_k».proof.Proof.Adam
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Adequacy
public import Idealize.ShloMosaic.Lib.Quiescent

@[expose] public section

set_option maxRecDepth 16384

noncomputable section

namespace Cert.AdamFfnOut

open Cert.Kernel13Ideal Cert.Kernel13Ideal.Gen Idealize.ShloMosaic Idealize.ShloMosaic.TcCoe
open Idealize.SL.Sem

theorem hz3 : (![0, 0, 0] : Fin 3 → Nat) = fun _ => 0 := funext fun a => by fin_cases a <;> rfl

/-! ## One block -/

section
variable (w m v a b : Vec Ideal S1x176x1024 .f32) (r : Fin 176) (j : Fin 1024)

theorem out5_apply : out0_5 (F := Ideal) w m v a b (ix3 0 r j) = Adam.grad (a (ix3 0 r j)) (b (ix3 0 r j)) := by
  unfold out0_5
  rw [View.canon_unit_zero hz3, View.ld_unit_zero (S := S1x176x1024) hz3, View.ld_unit_zero (S := S1x176x1024) hz3]
  unfold k0_pay5 k0_pay4
  pointwise
  rfl

theorem out6_apply : out0_6 (F := Ideal) w m v a b (ix3 0 r j)
    = Adam.delta (Adam.grad (a (ix3 0 r j)) (b (ix3 0 r j))) (m (ix3 0 r j)) (v (ix3 0 r j)) (w (ix3 0 r j)) := by
  unfold out0_6
  rw [View.canon_unit_zero hz3]
  simp only [View.ld_unit_zero (S := S1x176x1024) hz3]
  unfold k0_pay1 k0_pay6 k0_pay9 k0_pay10 k0_pay7 k0_pay8 k0_pay4
  pointwise
  rfl

theorem out7_apply : out0_7 (F := Ideal) w m v a b (ix3 0 r j)
    = Adam.mean (Adam.grad (a (ix3 0 r j)) (b (ix3 0 r j))) (m (ix3 0 r j)) := by
  unfold out0_7
  rw [View.canon_unit_zero hz3]
  simp only [View.ld_unit_zero (S := S1x176x1024) hz3]
  unfold k0_pay2 k0_pay7 k0_pay4
  pointwise
  rfl

theorem out8_apply : out0_8 (F := Ideal) w m v a b (ix3 0 r j)
    = Adam.square (Adam.grad (a (ix3 0 r j)) (b (ix3 0 r j))) (v (ix3 0 r j)) := by
  unfold out0_8
  rw [View.canon_unit_zero hz3]
  simp only [View.ld_unit_zero (S := S1x176x1024) hz3]
  unfold k0_pay3 k0_pay8 k0_pay4
  pointwise
  rfl

end

/-! ## The whole arrays -/

section
variable (m : (ℓ : Loc nD τ sig) → Buf (Elt Ideal) ℓ) (ρ : Dev nD → PrngReg) (c : Dev nD)

abbrev argW : S4x704x1024.Idx → Ideal .f32 := m ((c : Thread nD τ).loc main_arg0)
abbrev argM : S4x704x1024.Idx → Ideal .f32 := m ((c : Thread nD τ).loc main_arg1)
abbrev argV : S4x704x1024.Idx → Ideal .f32 := m ((c : Thread nD τ).loc main_arg2)
abbrev argA : S4x704x1024.Idx → Ideal .f32 := m ((c : Thread nD τ).loc main_arg3)
abbrev argB : S4x704x1024.Idx → Ideal .f32 := m ((c : Thread nD τ).loc main_arg4)

/-- The four results, entry by entry. -/
def gradOf (i : S4x704x1024.Idx) : Ideal .f32 := Adam.grad (argA m c i) (argB m c i)
def deltaOf (i : S4x704x1024.Idx) : Ideal .f32 := Adam.delta (gradOf m c i) (argM m c i) (argV m c i) (argW m c i)
def meanOf (i : S4x704x1024.Idx) : Ideal .f32 := Adam.mean (gradOf m c i) (argM m c i)
def squareOf (i : S4x704x1024.Idx) : Ideal .f32 := Adam.square (gradOf m c i) (argV m c i)

/-- Where a point's block lies, which is the same for all nine arrays. -/
theorem idx_facts : ∀ t : Fin cfg0.N, win0_5.index t 0 = t.val / 4 ∧ win0_5.index t 1 = t.val % 4 ∧ win0_5.index t 2 = 0 :=
  (by decide +kernel : ∀ t : Fin grid0.N, _)

theorem same_index (t : Fin cfg0.N) : win0_0.index t = win0_5.index t ∧ win0_1.index t = win0_5.index t ∧ win0_2.index t = win0_5.index t
    ∧ win0_3.index t = win0_5.index t ∧ win0_4.index t = win0_5.index t ∧ win0_6.index t = win0_5.index t
    ∧ win0_7.index t = win0_5.index t ∧ win0_8.index t = win0_5.index t := ⟨rfl, rfl, rfl, rfl, rfl, rfl, rfl, rfl⟩

/-- The array's entry that an entry of a point's block is. -/
abbrev place (t : Fin cfg0.N) (y : S1x176x1024.Idx) : S4x704x1024.Idx := ((cfg0.win 5).blk t).view.emb y

/-- The blocks that a point reads. -/
theorem blocks (t : Fin cfg0.N) (y : S1x176x1024.Idx) :
    (iblk m c 0 t : S1x176x1024.Idx → Ideal .f32) y = argW m c (place t y) ∧ (iblk m c 1 t : S1x176x1024.Idx → Ideal .f32) y = argM m c (place t y)
    ∧ (iblk m c 2 t : S1x176x1024.Idx → Ideal .f32) y = argV m c (place t y) ∧ (iblk m c 3 t : S1x176x1024.Idx → Ideal .f32) y = argA m c (place t y)
    ∧ (iblk m c 4 t : S1x176x1024.Idx → Ideal .f32) y = argB m c (place t y) := ⟨rfl, rfl, rfl, rfl, rfl⟩

theorem eq_row (y : S1x176x1024.Idx) : ∃ (r : Fin 176) (j : Fin 1024), y = ix3 0 r j :=
  ⟨y 1, y 2, funext fun a => by
    have h : (y 0).val < 1 := (y 0).isLt
    match a with
    | ⟨0, _⟩ => exact Fin.ext (by show (y 0).val = 0; omega)
    | ⟨1, _⟩ => rfl
    | ⟨2, _⟩ => rfl⟩

theorem mem_block (t : Fin cfg0.N) (i : S4x704x1024.Idx) : i ∈ ((cfg0.win 5).blk t).view.set
    ↔ ∀ a : Fin 3, win0_5.index t a * S1x176x1024.size a ≤ (i a).val ∧ (i a).val < win0_5.index t a * S1x176x1024.size a + S1x176x1024.size a := by
  show i ∈ ((View.whole main_v0_0).slice (win0_5.rect t)).set ↔ _
  rw [View.set_slice_whole, Rect.mem_set_unit]
  exact Iff.rfl

/-- Every entry lies in the block of a point. -/
theorem covered (i : S4x704x1024.Idx) : ∃ t : Fin cfg0.N, i ∈ ((cfg0.win 5).blk t).view.set := by
  have h0 : (i 0).val < 4 := (i 0).isLt
  have h1 : (i 1).val < 704 := (i 1).isLt
  have h2 : (i 2).val < 1024 := (i 2).isLt
  have hN : cfg0.N = 16 := N_0
  have hp : (i 0).val * 4 + (i 1).val / 176 < cfg0.N := by omega
  refine ⟨⟨(i 0).val * 4 + (i 1).val / 176, hp⟩, ?_⟩
  rw [mem_block]
  obtain ⟨e0, e1, e2⟩ := idx_facts ⟨(i 0).val * 4 + (i 1).val / 176, hp⟩
  dsimp only at e0 e1 e2
  intro a
  match a with
  | ⟨0, _⟩ => show win0_5.index _ 0 * 1 ≤ (i 0).val ∧ (i 0).val < win0_5.index _ 0 * 1 + 1; omega
  | ⟨1, _⟩ => show win0_5.index _ 1 * 176 ≤ (i 1).val ∧ (i 1).val < win0_5.index _ 1 * 176 + 176; omega
  | ⟨2, _⟩ => show win0_5.index _ 2 * 1024 ≤ (i 2).val ∧ (i 2).val < win0_5.index _ 2 * 1024 + 1024; omega

theorem final5 : (dats m 0 c).arrAt 5 cfg0.N = gradOf m c :=
  (dats m 0 c).arrAt_eq_of_cover 5 _ (fun t _ => by
    rw [Value.flushed5]
    refine funext fun (y : S1x176x1024.Idx) => ?_
    obtain ⟨r, j, rfl⟩ := eq_row y
    exact out5_apply (iblk m c 0 t) (iblk m c 1 t) (iblk m c 2 t) (iblk m c 3 t) (iblk m c 4 t) r j)
    fun (i : S4x704x1024.Idx) => (covered i).imp fun t h => ⟨flush0_5 t, h⟩

theorem final6 : (dats m 0 c).arrAt 6 cfg0.N = deltaOf m c :=
  (dats m 0 c).arrAt_eq_of_cover 6 _ (fun t _ => by
    rw [Value.flushed6]
    refine funext fun (y : S1x176x1024.Idx) => ?_
    obtain ⟨r, j, rfl⟩ := eq_row y
    exact out6_apply (iblk m c 0 t) (iblk m c 1 t) (iblk m c 2 t) (iblk m c 3 t) (iblk m c 4 t) r j)
    fun (i : S4x704x1024.Idx) => (covered i).imp fun t h => ⟨flush0_6 t, h⟩

theorem final7 : (dats m 0 c).arrAt 7 cfg0.N = meanOf m c :=
  (dats m 0 c).arrAt_eq_of_cover 7 _ (fun t _ => by
    rw [Value.flushed7]
    refine funext fun (y : S1x176x1024.Idx) => ?_
    obtain ⟨r, j, rfl⟩ := eq_row y
    exact out7_apply (iblk m c 0 t) (iblk m c 1 t) (iblk m c 2 t) (iblk m c 3 t) (iblk m c 4 t) r j)
    fun (i : S4x704x1024.Idx) => (covered i).imp fun t h => ⟨flush0_7 t, h⟩

theorem final8 : (dats m 0 c).arrAt 8 cfg0.N = squareOf m c :=
  (dats m 0 c).arrAt_eq_of_cover 8 _ (fun t _ => by
    rw [Value.flushed8]
    refine funext fun (y : S1x176x1024.Idx) => ?_
    obtain ⟨r, j, rfl⟩ := eq_row y
    exact out8_apply (iblk m c 0 t) (iblk m c 1 t) (iblk m c 2 t) (iblk m c 3 t) (iblk m c 4 t) r j)
    fun (i : S4x704x1024.Idx) => (covered i).imp fun t h => ⟨flush0_8 t, h⟩

/-- The run: the four results, the arguments unchanged. -/
theorem run : θ_run defs (onTc (τ := τ) (main (F := Ideal))) ⟨m, fun _ => 0, ρ⟩ fun r => ∀ c : Dev nD,
      r.2.mem ((c : Thread nD τ).loc main_v0_0) = gradOf m c
      ∧ r.2.mem ((c : Thread nD τ).loc main_v0_1) = deltaOf m c
      ∧ r.2.mem ((c : Thread nD τ).loc main_v0_2) = meanOf m c
      ∧ r.2.mem ((c : Thread nD τ).loc main_v0_3) = squareOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end

/-! ## The reference -/

section
open Cert.Reference13Ideal.Read
variable (w m v a b : S4x704x1024.Idx → Ideal .f32) (i : S4x704x1024.Idx)

theorem reference_grad : val_main_v0 (F := Ideal) a b i = Adam.grad (a i) (b i) := rfl
theorem reference_mean : val_main_v5 (F := Ideal) m a b i = Adam.mean (Adam.grad (a i) (b i)) (m i) := rfl
theorem reference_square : val_main_v11 (F := Ideal) v a b i = Adam.square (Adam.grad (a i) (b i)) (v i) := rfl
theorem reference_delta : val_main_v24 (F := Ideal) w m v a b i = Adam.delta (Adam.grad (a i) (b i)) (m i) (v i) (w i) := rfl

end

/-- The reference leaves its arguments as they were and ends with no semaphore raised. -/
theorem reference_frame : quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The kernel's results are the reference's, entry by entry. -/
theorem equal : algebraic_Kernel13Ideal_Reference13Ideal := by
  intro m ρ m' ρ' _ hagree
  refine ⟨_, _, _, _, run m ρ, ?_⟩
  refine (θ_run Cert.Reference13Ideal.defs _ _).mono (fun _ h c => ⟨?_, ?_, ?_, ?_, (h c).2.2.2.2⟩)
    (Cert.Reference13Ideal.Value.run (F := Ideal) m' ρ')
  · rw [(h c).1]
    simp only [hagree c]
    exact funext fun i => reference_grad _ _ i
  · rw [(h c).2.1]
    simp only [hagree c]
    exact funext fun i => reference_delta _ _ _ _ _ i
  · rw [(h c).2.2.1]
    simp only [hagree c]
    exact funext fun i => reference_mean _ _ _ i
  · rw [(h c).2.2.2.1]
    simp only [hagree c]
    exact funext fun i => reference_square _ _ _ i

end Cert.AdamFfnOut

end
-- ==== Proof.AdamConvIn.lean ====
/-
  The optimiser's step of the convolution layer's first weights. The kernel takes 256 rows of one part at a time; the reference takes the whole arrays.
-/
module

public import proofs.«01_k».proof.Defs
public import proofs.«01_k».proof.Proof.Adam
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Adequacy
public import Idealize.ShloMosaic.Lib.Quiescent

@[expose] public section

set_option maxRecDepth 16384

noncomputable section

namespace Cert.AdamConvIn

open Cert.Kernel14Ideal Cert.Kernel14Ideal.Gen Idealize.ShloMosaic Idealize.ShloMosaic.TcCoe
open Idealize.SL.Sem

theorem hz3 : (![0, 0, 0] : Fin 3 → Nat) = fun _ => 0 := funext fun a => by fin_cases a <;> rfl

/-! ## One block -/

section
variable (w m v a b : Vec Ideal S1x256x768 .f32) (r : Fin 256) (j : Fin 768)

theorem out5_apply : out0_5 (F := Ideal) w m v a b (ix3 0 r j) = Adam.grad (a (ix3 0 r j)) (b (ix3 0 r j)) := by
  unfold out0_5
  rw [View.canon_unit_zero hz3, View.ld_unit_zero (S := S1x256x768) hz3, View.ld_unit_zero (S := S1x256x768) hz3]
  unfold k0_pay5 k0_pay4
  pointwise
  rfl

theorem out6_apply : out0_6 (F := Ideal) w m v a b (ix3 0 r j)
    = Adam.delta (Adam.grad (a (ix3 0 r j)) (b (ix3 0 r j))) (m (ix3 0 r j)) (v (ix3 0 r j)) (w (ix3 0 r j)) := by
  unfold out0_6
  rw [View.canon_unit_zero hz3]
  simp only [View.ld_unit_zero (S := S1x256x768) hz3]
  unfold k0_pay1 k0_pay6 k0_pay9 k0_pay10 k0_pay7 k0_pay8 k0_pay4
  pointwise
  rfl

theorem out7_apply : out0_7 (F := Ideal) w m v a b (ix3 0 r j)
    = Adam.mean (Adam.grad (a (ix3 0 r j)) (b (ix3 0 r j))) (m (ix3 0 r j)) := by
  unfold out0_7
  rw [View.canon_unit_zero hz3]
  simp only [View.ld_unit_zero (S := S1x256x768) hz3]
  unfold k0_pay2 k0_pay7 k0_pay4
  pointwise
  rfl

theorem out8_apply : out0_8 (F := Ideal) w m v a b (ix3 0 r j)
    = Adam.square (Adam.grad (a (ix3 0 r j)) (b (ix3 0 r j))) (v (ix3 0 r j)) := by
  unfold out0_8
  rw [View.canon_unit_zero hz3]
  simp only [View.ld_unit_zero (S := S1x256x768) hz3]
  unfold k0_pay3 k0_pay8 k0_pay4
  pointwise
  rfl

end

/-! ## The whole arrays -/

section
variable (m : (ℓ : Loc nD τ sig) → Buf (Elt Ideal) ℓ) (ρ : Dev nD → PrngReg) (c : Dev nD)

abbrev argW : S2x1024x768.Idx → Ideal .f32 := m ((c : Thread nD τ).loc main_arg0)
abbrev argM : S2x1024x768.Idx → Ideal .f32 := m ((c : Thread nD τ).loc main_arg1)
abbrev argV : S2x1024x768.Idx → Ideal .f32 := m ((c : Thread nD τ).loc main_arg2)
abbrev argA : S2x1024x768.Idx → Ideal .f32 := m ((c : Thread nD τ).loc main_arg3)
abbrev argB : S2x1024x768.Idx → Ideal .f32 := m ((c : Thread nD τ).loc main_arg4)

/-- The four results, entry by entry. -/
def gradOf (i : S2x1024x768.Idx) : Ideal .f32 := Adam.grad (argA m c i) (argB m c i)
def deltaOf (i : S2x1024x768.Idx) : Ideal .f32 := Adam.delta (gradOf m c i) (argM m c i) (argV m c i) (argW m c i)
def meanOf (i : S2x1024x768.Idx) : Ideal .f32 := Adam.mean (gradOf m c i) (argM m c i)
def squareOf (i : S2x1024x768.Idx) : Ideal .f32 := Adam.square (gradOf m c i) (argV m c i)

/-- Where a point's block lies, which is the same for all nine arrays. -/
theorem idx_facts : ∀ t : Fin cfg0.N, win0_5.index t 0 = t.val / 4 ∧ win0_5.index t 1 = t.val % 4 ∧ win0_5.index t 2 = 0 :=
  (by decide +kernel : ∀ t : Fin grid0.N, _)

theorem same_index (t : Fin cfg0.N) : win0_0.index t = win0_5.index t ∧ win0_1.index t = win0_5.index t ∧ win0_2.index t = win0_5.index t
    ∧ win0_3.index t = win0_5.index t ∧ win0_4.index t = win0_5.index t ∧ win0_6.index t = win0_5.index t
    ∧ win0_7.index t = win0_5.index t ∧ win0_8.index t = win0_5.index t := ⟨rfl, rfl, rfl, rfl, rfl, rfl, rfl, rfl⟩

/-- The array's entry that an entry of a point's block is. -/
abbrev place (t : Fin cfg0.N) (y : S1x256x768.Idx) : S2x1024x768.Idx := ((cfg0.win 5).blk t).view.emb y

/-- The blocks that a point reads. -/
theorem blocks (t : Fin cfg0.N) (y : S1x256x768.Idx) :
    (iblk m c 0 t : S1x256x768.Idx → Ideal .f32) y = argW m c (place t y) ∧ (iblk m c 1 t : S1x256x768.Idx → Ideal .f32) y = argM m c (place t y)
    ∧ (iblk m c 2 t : S1x256x768.Idx → Ideal .f32) y = argV m c (place t y) ∧ (iblk m c 3 t : S1x256x768.Idx → Ideal .f32) y = argA m c (place t y)
    ∧ (iblk m c 4 t : S1x256x768.Idx → Ideal .f32) y = argB m c (place t y) := ⟨rfl, rfl, rfl, rfl, rfl⟩

theorem eq_row (y : S1x256x768.Idx) : ∃ (r : Fin 256) (j : Fin 768), y = ix3 0 r j :=
  ⟨y 1, y 2, funext fun a => by
    have h : (y 0).val < 1 := (y 0).isLt
    match a with
    | ⟨0, _⟩ => exact Fin.ext (by show (y 0).val = 0; omega)
    | ⟨1, _⟩ => rfl
    | ⟨2, _⟩ => rfl⟩

theorem mem_block (t : Fin cfg0.N) (i : S2x1024x768.Idx) : i ∈ ((cfg0.win 5).blk t).view.set
    ↔ ∀ a : Fin 3, win0_5.index t a * S1x256x768.size a ≤ (i a).val ∧ (i a).val < win0_5.index t a * S1x256x768.size a + S1x256x768.size a := by
  show i ∈ ((View.whole main_v0_0).slice (win0_5.rect t)).set ↔ _
  rw [View.set_slice_whole, Rect.mem_set_unit]
  exact Iff.rfl

/-- Every entry lies in the block of a point. -/
theorem covered (i : S2x1024x768.Idx) : ∃ t : Fin cfg0.N, i ∈ ((cfg0.win 5).blk t).view.set := by
  have h0 : (i 0).val < 2 := (i 0).isLt
  have h1 : (i 1).val < 1024 := (i 1).isLt
  have h2 : (i 2).val < 768 := (i 2).isLt
  have hN : cfg0.N = 8 := N_0
  have hp : (i 0).val * 4 + (i 1).val / 256 < cfg0.N := by omega
  refine ⟨⟨(i 0).val * 4 + (i 1).val / 256, hp⟩, ?_⟩
  rw [mem_block]
  obtain ⟨e0, e1, e2⟩ := idx_facts ⟨(i 0).val * 4 + (i 1).val / 256, hp⟩
  dsimp only at e0 e1 e2
  intro a
  match a with
  | ⟨0, _⟩ => show win0_5.index _ 0 * 1 ≤ (i 0).val ∧ (i 0).val < win0_5.index _ 0 * 1 + 1; omega
  | ⟨1, _⟩ => show win0_5.index _ 1 * 256 ≤ (i 1).val ∧ (i 1).val < win0_5.index _ 1 * 256 + 256; omega
  | ⟨2, _⟩ => show win0_5.index _ 2 * 768 ≤ (i 2).val ∧ (i 2).val < win0_5.index _ 2 * 768 + 768; omega

theorem final5 : (dats m 0 c).arrAt 5 cfg0.N = gradOf m c :=
  (dats m 0 c).arrAt_eq_of_cover 5 _ (fun t _ => by
    rw [Value.flushed5]
    refine funext fun (y : S1x256x768.Idx) => ?_
    obtain ⟨r, j, rfl⟩ := eq_row y
    exact out5_apply (iblk m c 0 t) (iblk m c 1 t) (iblk m c 2 t) (iblk m c 3 t) (iblk m c 4 t) r j)
    fun (i : S2x1024x768.Idx) => (covered i).imp fun t h => ⟨flush0_5 t, h⟩

theorem final6 : (dats m 0 c).arrAt 6 cfg0.N = deltaOf m c :=
  (dats m 0 c).arrAt_eq_of_cover 6 _ (fun t _ => by
    rw [Value.flushed6]
    refine funext fun (y : S1x256x768.Idx) => ?_
    obtain ⟨r, j, rfl⟩ := eq_row y
    exact out6_apply (iblk m c 0 t) (iblk m c 1 t) (iblk m c 2 t) (iblk m c 3 t) (iblk m c 4 t) r j)
    fun (i : S2x1024x768.Idx) => (covered i).imp fun t h => ⟨flush0_6 t, h⟩

theorem final7 : (dats m 0 c).arrAt 7 cfg0.N = meanOf m c :=
  (dats m 0 c).arrAt_eq_of_cover 7 _ (fun t _ => by
    rw [Value.flushed7]
    refine funext fun (y : S1x256x768.Idx) => ?_
    obtain ⟨r, j, rfl⟩ := eq_row y
    exact out7_apply (iblk m c 0 t) (iblk m c 1 t) (iblk m c 2 t) (iblk m c 3 t) (iblk m c 4 t) r j)
    fun (i : S2x1024x768.Idx) => (covered i).imp fun t h => ⟨flush0_7 t, h⟩

theorem final8 : (dats m 0 c).arrAt 8 cfg0.N = squareOf m c :=
  (dats m 0 c).arrAt_eq_of_cover 8 _ (fun t _ => by
    rw [Value.flushed8]
    refine funext fun (y : S1x256x768.Idx) => ?_
    obtain ⟨r, j, rfl⟩ := eq_row y
    exact out8_apply (iblk m c 0 t) (iblk m c 1 t) (iblk m c 2 t) (iblk m c 3 t) (iblk m c 4 t) r j)
    fun (i : S2x1024x768.Idx) => (covered i).imp fun t h => ⟨flush0_8 t, h⟩

/-- The run: the four results, the arguments unchanged. -/
theorem run : θ_run defs (onTc (τ := τ) (main (F := Ideal))) ⟨m, fun _ => 0, ρ⟩ fun r => ∀ c : Dev nD,
      r.2.mem ((c : Thread nD τ).loc main_v0_0) = gradOf m c
      ∧ r.2.mem ((c : Thread nD τ).loc main_v0_1) = deltaOf m c
      ∧ r.2.mem ((c : Thread nD τ).loc main_v0_2) = meanOf m c
      ∧ r.2.mem ((c : Thread nD τ).loc main_v0_3) = squareOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end

/-! ## The reference -/

section
open Cert.Reference14Ideal.Read
variable (w m v a b : S2x1024x768.Idx → Ideal .f32) (i : S2x1024x768.Idx)

theorem reference_grad : val_main_v0 (F := Ideal) a b i = Adam.grad (a i) (b i) := rfl
theorem reference_mean : val_main_v5 (F := Ideal) m a b i = Adam.mean (Adam.grad (a i) (b i)) (m i) := rfl
theorem reference_square : val_main_v11 (F := Ideal) v a b i = Adam.square (Adam.grad (a i) (b i)) (v i) := rfl
theorem reference_delta : val_main_v24 (F := Ideal) w m v a b i = Adam.delta (Adam.grad (a i) (b i)) (m i) (v i) (w i) := rfl

end

/-- The reference leaves its arguments as they were and ends with no semaphore raised. -/
theorem reference_frame : quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The kernel's results are the reference's, entry by entry. -/
theorem equal : algebraic_Kernel14Ideal_Reference14Ideal := by
  intro m ρ m' ρ' _ hagree
  refine ⟨_, _, _, _, run m ρ, ?_⟩
  refine (θ_run Cert.Reference14Ideal.defs _ _).mono (fun _ h c => ⟨?_, ?_, ?_, ?_, (h c).2.2.2.2⟩)
    (Cert.Reference14Ideal.Value.run (F := Ideal) m' ρ')
  · rw [(h c).1]
    simp only [hagree c]
    exact funext fun i => reference_grad _ _ i
  · rw [(h c).2.1]
    simp only [hagree c]
    exact funext fun i => reference_delta _ _ _ _ _ i
  · rw [(h c).2.2.1]
    simp only [hagree c]
    exact funext fun i => reference_mean _ _ _ i
  · rw [(h c).2.2.2.1]
    simp only [hagree c]
    exact funext fun i => reference_square _ _ _ i

end Cert.AdamConvIn

end
-- ==== Proof.AdamConvOut.lean ====
/-
  The optimiser's step of the convolution layer's second weights. The kernel takes 256 rows of one part at a time; the reference takes the whole arrays.
-/
module

public import proofs.«01_k».proof.Defs
public import proofs.«01_k».proof.Proof.Adam
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Adequacy
public import Idealize.ShloMosaic.Lib.Quiescent

@[expose] public section

set_option maxRecDepth 16384

noncomputable section

namespace Cert.AdamConvOut

open Cert.Kernel15Ideal Cert.Kernel15Ideal.Gen Idealize.ShloMosaic Idealize.ShloMosaic.TcCoe
open Idealize.SL.Sem

theorem hz3 : (![0, 0, 0] : Fin 3 → Nat) = fun _ => 0 := funext fun a => by fin_cases a <;> rfl

/-! ## One block -/

section
variable (w m v a b : Vec Ideal S1x256x1024 .f32) (r : Fin 256) (j : Fin 1024)

theorem out5_apply : out0_5 (F := Ideal) w m v a b (ix3 0 r j) = Adam.grad (a (ix3 0 r j)) (b (ix3 0 r j)) := by
  unfold out0_5
  rw [View.canon_unit_zero hz3, View.ld_unit_zero (S := S1x256x1024) hz3, View.ld_unit_zero (S := S1x256x1024) hz3]
  unfold k0_pay5 k0_pay4
  pointwise
  rfl

theorem out6_apply : out0_6 (F := Ideal) w m v a b (ix3 0 r j)
    = Adam.delta (Adam.grad (a (ix3 0 r j)) (b (ix3 0 r j))) (m (ix3 0 r j)) (v (ix3 0 r j)) (w (ix3 0 r j)) := by
  unfold out0_6
  rw [View.canon_unit_zero hz3]
  simp only [View.ld_unit_zero (S := S1x256x1024) hz3]
  unfold k0_pay1 k0_pay6 k0_pay9 k0_pay10 k0_pay7 k0_pay8 k0_pay4
  pointwise
  rfl

theorem out7_apply : out0_7 (F := Ideal) w m v a b (ix3 0 r j)
    = Adam.mean (Adam.grad (a (ix3 0 r j)) (b (ix3 0 r j))) (m (ix3 0 r j)) := by
  unfold out0_7
  rw [View.canon_unit_zero hz3]
  simp only [View.ld_unit_zero (S := S1x256x1024) hz3]
  unfold k0_pay2 k0_pay7 k0_pay4
  pointwise
  rfl

theorem out8_apply : out0_8 (F := Ideal) w m v a b (ix3 0 r j)
    = Adam.square (Adam.grad (a (ix3 0 r j)) (b (ix3 0 r j))) (v (ix3 0 r j)) := by
  unfold out0_8
  rw [View.canon_unit_zero hz3]
  simp only [View.ld_unit_zero (S := S1x256x1024) hz3]
  unfold k0_pay3 k0_pay8 k0_pay4
  pointwise
  rfl

end

/-! ## The whole arrays -/

section
variable (m : (ℓ : Loc nD τ sig) → Buf (Elt Ideal) ℓ) (ρ : Dev nD → PrngReg) (c : Dev nD)

abbrev argW : S2x256x1024.Idx → Ideal .f32 := m ((c : Thread nD τ).loc main_arg0)
abbrev argM : S2x256x1024.Idx → Ideal .f32 := m ((c : Thread nD τ).loc main_arg1)
abbrev argV : S2x256x1024.Idx → Ideal .f32 := m ((c : Thread nD τ).loc main_arg2)
abbrev argA : S2x256x1024.Idx → Ideal .f32 := m ((c : Thread nD τ).loc main_arg3)
abbrev argB : S2x256x1024.Idx → Ideal .f32 := m ((c : Thread nD τ).loc main_arg4)

/-- The four results, entry by entry. -/
def gradOf (i : S2x256x1024.Idx) : Ideal .f32 := Adam.grad (argA m c i) (argB m c i)
def deltaOf (i : S2x256x1024.Idx) : Ideal .f32 := Adam.delta (gradOf m c i) (argM m c i) (argV m c i) (argW m c i)
def meanOf (i : S2x256x1024.Idx) : Ideal .f32 := Adam.mean (gradOf m c i) (argM m c i)
def squareOf (i : S2x256x1024.Idx) : Ideal .f32 := Adam.square (gradOf m c i) (argV m c i)

/-- Where a point's block lies, which is the same for all nine arrays. -/
theorem idx_facts : ∀ t : Fin cfg0.N, win0_5.index t 0 = t.val / 1 ∧ win0_5.index t 1 = t.val % 1 ∧ win0_5.index t 2 = 0 :=
  (by decide +kernel : ∀ t : Fin grid0.N, _)

theorem same_index (t : Fin cfg0.N) : win0_0.index t = win0_5.index t ∧ win0_1.index t = win0_5.index t ∧ win0_2.index t = win0_5.index t
    ∧ win0_3.index t = win0_5.index t ∧ win0_4.index t = win0_5.index t ∧ win0_6.index t = win0_5.index t
    ∧ win0_7.index t = win0_5.index t ∧ win0_8.index t = win0_5.index t := ⟨rfl, rfl, rfl, rfl, rfl, rfl, rfl, rfl⟩

/-- The array's entry that an entry of a point's block is. -/
abbrev place (t : Fin cfg0.N) (y : S1x256x1024.Idx) : S2x256x1024.Idx := ((cfg0.win 5).blk t).view.emb y

/-- The blocks that a point reads. -/
theorem blocks (t : Fin cfg0.N) (y : S1x256x1024.Idx) :
    (iblk m c 0 t : S1x256x1024.Idx → Ideal .f32) y = argW m c (place t y) ∧ (iblk m c 1 t : S1x256x1024.Idx → Ideal .f32) y = argM m c (place t y)
    ∧ (iblk m c 2 t : S1x256x1024.Idx → Ideal .f32) y = argV m c (place t y) ∧ (iblk m c 3 t : S1x256x1024.Idx → Ideal .f32) y = argA m c (place t y)
    ∧ (iblk m c 4 t : S1x256x1024.Idx → Ideal .f32) y = argB m c (place t y) := ⟨rfl, rfl, rfl, rfl, rfl⟩

theorem eq_row (y : S1x256x1024.Idx) : ∃ (r : Fin 256) (j : Fin 1024), y = ix3 0 r j :=
  ⟨y 1, y 2, funext fun a => by
    have h : (y 0).val < 1 := (y 0).isLt
    match a with
    | ⟨0, _⟩ => exact Fin.ext (by show (y 0).val = 0; omega)
    | ⟨1, _⟩ => rfl
    | ⟨2, _⟩ => rfl⟩

theorem mem_block (t : Fin cfg0.N) (i : S2x256x1024.Idx) : i ∈ ((cfg0.win 5).blk t).view.set
    ↔ ∀ a : Fin 3, win0_5.index t a * S1x256x1024.size a ≤ (i a).val ∧ (i a).val < win0_5.index t a * S1x256x1024.size a + S1x256x1024.size a := by
  show i ∈ ((View.whole main_v0_0).slice (win0_5.rect t)).set ↔ _
  rw [View.set_slice_whole, Rect.mem_set_unit]
  exact Iff.rfl

/-- Every entry lies in the block of a point. -/
theorem covered (i : S2x256x1024.Idx) : ∃ t : Fin cfg0.N, i ∈ ((cfg0.win 5).blk t).view.set := by
  have h0 : (i 0).val < 2 := (i 0).isLt
  have h1 : (i 1).val < 256 := (i 1).isLt
  have h2 : (i 2).val < 1024 := (i 2).isLt
  have hN : cfg0.N = 2 := N_0
  have hp : (i 0).val * 1 + (i 1).val / 256 < cfg0.N := by omega
  refine ⟨⟨(i 0).val * 1 + (i 1).val / 256, hp⟩, ?_⟩
  rw [mem_block]
  obtain ⟨e0, e1, e2⟩ := idx_facts ⟨(i 0).val * 1 + (i 1).val / 256, hp⟩
  dsimp only at e0 e1 e2
  intro a
  match a with
  | ⟨0, _⟩ => show win0_5.index _ 0 * 1 ≤ (i 0).val ∧ (i 0).val < win0_5.index _ 0 * 1 + 1; omega
  | ⟨1, _⟩ => show win0_5.index _ 1 * 256 ≤ (i 1).val ∧ (i 1).val < win0_5.index _ 1 * 256 + 256; omega
  | ⟨2, _⟩ => show win0_5.index _ 2 * 1024 ≤ (i 2).val ∧ (i 2).val < win0_5.index _ 2 * 1024 + 1024; omega

theorem final5 : (dats m 0 c).arrAt 5 cfg0.N = gradOf m c :=
  (dats m 0 c).arrAt_eq_of_cover 5 _ (fun t _ => by
    rw [Value.flushed5]
    refine funext fun (y : S1x256x1024.Idx) => ?_
    obtain ⟨r, j, rfl⟩ := eq_row y
    exact out5_apply (iblk m c 0 t) (iblk m c 1 t) (iblk m c 2 t) (iblk m c 3 t) (iblk m c 4 t) r j)
    fun (i : S2x256x1024.Idx) => (covered i).imp fun t h => ⟨flush0_5 t, h⟩

theorem final6 : (dats m 0 c).arrAt 6 cfg0.N = deltaOf m c :=
  (dats m 0 c).arrAt_eq_of_cover 6 _ (fun t _ => by
    rw [Value.flushed6]
    refine funext fun (y : S1x256x1024.Idx) => ?_
    obtain ⟨r, j, rfl⟩ := eq_row y
    exact out6_apply (iblk m c 0 t) (iblk m c 1 t) (iblk m c 2 t) (iblk m c 3 t) (iblk m c 4 t) r j)
    fun (i : S2x256x1024.Idx) => (covered i).imp fun t h => ⟨flush0_6 t, h⟩

theorem final7 : (dats m 0 c).arrAt 7 cfg0.N = meanOf m c :=
  (dats m 0 c).arrAt_eq_of_cover 7 _ (fun t _ => by
    rw [Value.flushed7]
    refine funext fun (y : S1x256x1024.Idx) => ?_
    obtain ⟨r, j, rfl⟩ := eq_row y
    exact out7_apply (iblk m c 0 t) (iblk m c 1 t) (iblk m c 2 t) (iblk m c 3 t) (iblk m c 4 t) r j)
    fun (i : S2x256x1024.Idx) => (covered i).imp fun t h => ⟨flush0_7 t, h⟩

theorem final8 : (dats m 0 c).arrAt 8 cfg0.N = squareOf m c :=
  (dats m 0 c).arrAt_eq_of_cover 8 _ (fun t _ => by
    rw [Value.flushed8]
    refine funext fun (y : S1x256x1024.Idx) => ?_
    obtain ⟨r, j, rfl⟩ := eq_row y
    exact out8_apply (iblk m c 0 t) (iblk m c 1 t) (iblk m c 2 t) (iblk m c 3 t) (iblk m c 4 t) r j)
    fun (i : S2x256x1024.Idx) => (covered i).imp fun t h => ⟨flush0_8 t, h⟩

/-- The run: the four results, the arguments unchanged. -/
theorem run : θ_run defs (onTc (τ := τ) (main (F := Ideal))) ⟨m, fun _ => 0, ρ⟩ fun r => ∀ c : Dev nD,
      r.2.mem ((c : Thread nD τ).loc main_v0_0) = gradOf m c
      ∧ r.2.mem ((c : Thread nD τ).loc main_v0_1) = deltaOf m c
      ∧ r.2.mem ((c : Thread nD τ).loc main_v0_2) = meanOf m c
      ∧ r.2.mem ((c : Thread nD τ).loc main_v0_3) = squareOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end

/-! ## The reference -/

section
open Cert.Reference15Ideal.Read
variable (w m v a b : S2x256x1024.Idx → Ideal .f32) (i : S2x256x1024.Idx)

theorem reference_grad : val_main_v0 (F := Ideal) a b i = Adam.grad (a i) (b i) := rfl
theorem reference_mean : val_main_v5 (F := Ideal) m a b i = Adam.mean (Adam.grad (a i) (b i)) (m i) := rfl
theorem reference_square : val_main_v11 (F := Ideal) v a b i = Adam.square (Adam.grad (a i) (b i)) (v i) := rfl
theorem reference_delta : val_main_v24 (F := Ideal) w m v a b i = Adam.delta (Adam.grad (a i) (b i)) (m i) (v i) (w i) := rfl

end

/-- The reference leaves its arguments as they were and ends with no semaphore raised. -/
theorem reference_frame : quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- The kernel's results are the reference's, entry by entry. -/
theorem equal : algebraic_Kernel15Ideal_Reference15Ideal := by
  intro m ρ m' ρ' _ hagree
  refine ⟨_, _, _, _, run m ρ, ?_⟩
  refine (θ_run Cert.Reference15Ideal.defs _ _).mono (fun _ h c => ⟨?_, ?_, ?_, ?_, (h c).2.2.2.2⟩)
    (Cert.Reference15Ideal.Value.run (F := Ideal) m' ρ')
  · rw [(h c).1]
    simp only [hagree c]
    exact funext fun i => reference_grad _ _ i
  · rw [(h c).2.1]
    simp only [hagree c]
    exact funext fun i => reference_delta _ _ _ _ _ i
  · rw [(h c).2.2.1]
    simp only [hagree c]
    exact funext fun i => reference_mean _ _ _ i
  · rw [(h c).2.2.2.1]
    simp only [hagree c]
    exact funext fun i => reference_square _ _ _ i

end Cert.AdamConvOut

end
-- ==== Proof.AdamSsmOut.lean ====
/-
  The optimiser's step of the recurrence's output weights. The kernel takes 512 rows of one part at a time; the reference takes the whole arrays.
-/
module

public import proofs.«01_k».proof.Defs
public import proofs.«01_k».proof.Proof.Adam
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Adequacy
public import Idealize.ShloMosaic.Lib.Quiescent

@[expose] public section

set_option maxRecDepth 16384

noncomputable section

namespace Cert.AdamSsmOut

open Cert.Kernel16Ideal Cert.Kernel16Ideal.Gen Idealize.ShloMosaic Idealize.ShloMosaic.TcCoe
open Idealize.SL.Sem

theorem hz3 : (![0, 0, 0] : Fin 3 → Nat) = fun _ => 0 := funext fun a => by fin_cases a <;> rfl

/-! ## One block -/

section
variable (w m v a b : Vec Ideal S1x512x512 .f32) (r : Fin 512) (j : Fin 512)

theorem out5_apply : out0_5 (F := Ideal) w m v a b (ix3 0 r j) = Adam.grad (a (ix3 0 r j)) (b (ix3 0 r j)) := by
  unfold out0_5
  rw [View.canon_unit_zero hz3, View.ld_unit_zero (S := S1x512x512) hz3, View.ld_unit_zero (S := S1x512x512) hz3]
  unfold k0_pay5 k0_pay4
  pointwise
  rfl

theorem out6_apply : out0_6 (F := Ideal) w m v a b (ix3 0 r j)
    = Adam.delta (Adam.grad (a (ix3 0 r j)) (b (ix3 0 r j))) (m (ix3 0 r j)) (v (ix3 0 r j)) (w (ix3 0 r j)) := by
  unfold out0_6
  rw [View.canon_unit_zero hz3]
  simp only [View.ld_unit_zero (S := S1x512x512) hz3]
  unfold k0_pay1 k0_pay6 k0_pay9 k0_pay10 k0_pay7 k0_pay8 k0_pay4
  pointwise
  rfl

theorem out7_apply : out0_7 (F := Ideal) w m v a b (ix3 0 r j)
    = Adam.mean (Adam.grad (a (ix3 0 r j)) (b (ix3 0 r j))) (m (ix3 0 r j)) := by
  unfold out0_7
  rw [View.canon_unit_zero hz3]
  simp only [View.ld_unit_zero (S := S1x512x512) hz3]
  unfold k0_pay2 k0_pay7 k0_pay4
  pointwise
  rfl

theorem out8_apply : out0_8 (F := Ideal) w m v a b (ix3 0 r j)
    = Adam.square (Adam.grad (a (ix3 0 r j)) (b (ix3 0 r j))) (v (ix3 0 r j)) := by
  unfold out0_8
  rw [View.canon_unit_zero hz3]
  simp only [View.ld_unit_zero (S := S1x512x512) hz3]
  unfold k0_pay3 k0_pay8 k0_pay4
  pointwise
  rfl

end

/-! ## The whole arrays -/

section
variable (m : (ℓ : Loc nD τ sig) → Buf (Elt Ideal) ℓ) (ρ : Dev nD → PrngReg) (c : Dev nD)

abbrev argW : S2x1024x512.Idx → Ideal .f32 := m ((c : Thread nD τ).loc main_arg0)
abbrev argM : S2x1024x512.Idx → Ideal .f32 := m ((c : Thread nD τ).loc main_arg1)
abbrev argV : S2x1024x512.Idx → Ideal .f32 := m ((c : Thread nD τ).loc main_arg2)
abbrev argA : S2x1024x512.Idx → Ideal .f32 := m ((c : Thread nD τ).loc main_arg3)
abbrev argB : S2x1024x512.Idx → Ideal .f32 := m ((c : Thread nD τ).loc main_arg4)

/-- The four results, entry by entry. -/
def gradOf (i : S2x1024x512.Idx) : Ideal .f32 := Adam.grad (argA m c i) (argB m c i)
def deltaOf (i : S2x1024x512.Idx) : Ideal .f32 := Adam.delta (gradOf m c i) (argM m c i) (argV m c i) (argW m c i)
def meanOf (i : S2x1024x512.Idx) : Ideal .f32 := Adam.mean (gradOf m c i) (argM m c i)
def squareOf (i : S2x1024x512.Idx) : Ideal .f32 := Adam.square (gradOf m c i) (argV m c i)

/-- Where a point's block lies, which is the same for all nine arrays. -/
theorem idx_facts : ∀ t : Fin cfg0.N, win0_5.index t 0 = t.val / 2 ∧ win0_5.index t 1 = t.val % 2 ∧ win0_5.index t 2 = 0 :=
  (by decide +kernel : ∀ t : Fin grid0.N, _)

theorem same_index (t : Fin cfg0.N) : win0_0.index t = win0_5.index t ∧ win0_1.index t = win0_5.index t ∧ win0_2.index t = win0_5.index t
    ∧ win0_3.index t = win0_5.index t ∧ win0_4.index t = win0_5.index t ∧ win0_6.index t = win0_5.index t
    ∧ win0_7.index t = win0_5.index t ∧ win0_8.index t = win0_5.index t := ⟨rfl, rfl, rfl, rfl, rfl, rfl, rfl, rfl⟩

/-- The array's entry that an entry of a point's block is. -/
abbrev place (t : Fin cfg0.N) (y : S1x512x512.Idx) : S2x1024x512.Idx := ((cfg0.win 5).blk t).view.emb y

/-- The blocks that a point reads. -/
theorem blocks (t : Fin cfg0.N) (y : S1x512x512.Idx) :
    (iblk m c 0 t : S1x512x512.Idx → Ideal .f32) y = argW m c (place t y) ∧ (iblk m c 1 t : S1x512x512.Idx → Ideal .f32) y = argM m c (place t y)
    ∧ (iblk m c 2 t : S1x512x512.Idx → Ideal .f32) y = argV m c (place t y) ∧ (iblk m c 3 t : S1x512x512.Idx → Ideal .f32) y = argA m c (place t y)
    ∧ (iblk m c 4 t : S1x512x512.Idx → Ideal .f32) y = argB m c (place t y) := ⟨rfl, rfl, rfl, rfl, rfl⟩

theorem eq_row (y : S1x512x512.Idx) : ∃ (r : Fin 512) (j : Fin 512), y = ix3 0 r j :=
  ⟨y 1, y 2, funext fun a => by
    have h : (y 0).val < 1 := (y 0).isLt
    match a with
    | ⟨0, _⟩ => exact Fin.ext (by show (y 0).val = 0; omega)
    | ⟨1, _⟩ => rfl
    | ⟨2, _⟩ => rfl⟩

theorem mem_block (t : Fin cfg0.N) (i : S2x1024x512.Idx) : i ∈ ((cfg0.win 5).blk t).view.set
    ↔ ∀ a : Fin 3, win0_5.index t a * S1x512x512.size a ≤ (i a).val ∧ (i a).val < win0_5.index t a * S1x512x512.size a + S1x512x512.size a := by
  show i ∈ ((View.whole main_v0_0).slice (win0_5.rect t)).set ↔ _
  rw [View.set_slice_whole, Rect.mem_set_unit]
  exact Iff.rfl

/-- Every entry lies in the block of a point. -/
theorem covered (i : S2x1024x512.Idx) : ∃ t : Fin cfg0.N, i ∈ ((cfg0.win 5).blk t).view.set := by
  have h0 : (i 0).val < 2 := (i 0).isLt
  have h1 : (i 1).val < 1024 := (i 1).isLt
  have h2 : (i 2).val < 512 := (i 2).isLt
  have hN : cfg0.N = 4 := N_0
  have hp : (i 0).val * 2 + (i 1).val / 512 < cfg0.N := by omega
  refine ⟨⟨(i 0).val * 2 + (i 1).val / 512, hp⟩, ?_⟩
  rw [mem_block]
  obtain ⟨e0, e1, e2⟩ := idx_facts ⟨(i 0).val * 2 + (i 1).val / 512, hp⟩
  dsimp only at e0 e1 e2
  intro a
  match a with
  | ⟨0, _⟩ => show win0_5.index _ 0 * 1 ≤ (i 0).val ∧ (i 0).val < win0_5.index _ 0 * 1 + 1; omega
  | ⟨1, _⟩ => show win0_5.index _ 1 * 512 ≤ (i 1).val ∧ (i 1).val < win0_5.index _ 1 * 512 + 512; omega
  | ⟨2, _⟩ => show win0_5.index _ 2 * 512 ≤ (i 2).val ∧ (i 2).val < win0_5.index _ 2 * 512 + 512; omega

theorem final5 : (dats m 0 c).arrAt 5 cfg0.N = gradOf m c :=
  (dats m 0 c).arrAt_eq_of_cover 5 _ (fun t _ => by
    rw [Value.flushed5]
    refine funext fun (y : S1x512x512.Idx) => ?_
    obtain ⟨r, j, rfl⟩ := eq_row y
    exact out5_apply (iblk m c 0 t) (iblk m c 1 t) (iblk m c 2 t) (iblk m c 3 t) (iblk m c 4 t) r j)
    fun (i : S2x1024x512.Idx) => (covered i).imp fun t h => ⟨flush0_5 t, h⟩

theorem final6 : (dats m 0 c).arrAt 6 cfg0.N = deltaOf m c :=
  (dats m 0 c).arrAt_eq_of_cover 6 _ (fun t _ => by
    rw [Value.flushed6]
    refine funext fun (y : S1x512x512.Idx) => ?_
    obtain ⟨r, j, rfl⟩ := eq_row y
    exact out6_apply (iblk m c 0 t) (iblk m c 1 t) (iblk m c 2 t) (iblk m c 3 t) (iblk m c 4 t) r j)
    fun (i : S2x1024x512.Idx) => (covered i).imp fun t h => ⟨flush0_6 t, h⟩

theorem final7 : (dats m 0 c).arrAt 7 cfg0.N = meanOf m c :=
  (dats m 0 c).arrAt_eq_of_cover 7 _ (fun t _ => by
    rw [Value.flushed7]
    refine funext fun (y : S1x512x512.Idx) => ?_
    obtain ⟨r, j, rfl⟩ := eq_row y
    exact out7_apply (iblk m c 0 t) (iblk m c 1 t) (iblk m c 2 t) (iblk m c 3 t) (iblk m c 4 t) r j)
    fun (i : S2x1024x512.Idx) => (covered i).imp fun t h => ⟨flush0_7 t, h⟩

theorem final8 : (dats m 0 c).arrAt 8 cfg0.N = squareOf m c :=
  (dats m 0 c).arrAt_eq_of_cover 8 _ (fun t _ => by
    rw [Value.flushed8]
    refine funext fun (y : S1x512x512.Idx) => ?_
    obtain ⟨r, j, rfl⟩ := eq_row y
    exact out8_apply (iblk m c 0 t) (iblk m c 1 t) (iblk m c 2 t) (iblk m c 3 t) (iblk m c 4 t) r j)
    fun (i : S2x1024x512.Idx) => (covered i).imp fun t h => ⟨flush0_8 t, h⟩

/-- The run: the four results, the arguments unchanged. -/
theorem run : θ_run defs (onTc (τ := τ) (main (F := Ideal))) ⟨m, fun _ => 0, ρ⟩ fun r => ∀ c : Dev nD,
      r.2.mem ((c : Thread nD τ).loc main_v0_0) = gradOf m c
      ∧ r.2.mem ((c : Thread nD τ).loc main_v0_1) = deltaOf m c
      ∧ r.2.mem ((c : Thread nD τ).loc main_v0_2) = meanOf m c
      ∧ r.2.mem ((c : Thread nD τ).loc main_v0_3) = squareOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end

/-! ## The reference -/

section
open Cert.Reference16Ideal.Read
variable (w m v a b : S2x1024x512.Idx → Ideal .f32) (i : S2x1024x512.Idx)

theorem reference_grad : val_main_v0 (F := Ideal) a b i = Adam.grad (a i) (b i) := rfl
theorem reference_mean : val_main_v5 (F := Ideal) m a b i = Adam.mean (Adam.grad (a i) (b i)) (m i) := rfl
theorem reference_square : val_main_v11 (F := Ideal) v a b i = Adam.square (Adam.grad (a i) (b i)) (v i) := rfl
theorem reference_delta : val_main_v24 (F := Ideal) w m v a b i = Adam.delta (Adam.grad (a i) (b i)) (m i) (v i) (w i) := rfl

end

/-- The reference leaves its arguments as they were and ends with no semaphore raised. -/
theorem reference_frame : quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The kernel's results are the reference's, entry by entry. -/
theorem equal : algebraic_Kernel16Ideal_Reference16Ideal := by
  intro m ρ m' ρ' _ hagree
  refine ⟨_, _, _, _, run m ρ, ?_⟩
  refine (θ_run Cert.Reference16Ideal.defs _ _).mono (fun _ h c => ⟨?_, ?_, ?_, ?_, (h c).2.2.2.2⟩)
    (Cert.Reference16Ideal.Value.run (F := Ideal) m' ρ')
  · rw [(h c).1]
    simp only [hagree c]
    exact funext fun i => reference_grad _ _ i
  · rw [(h c).2.1]
    simp only [hagree c]
    exact funext fun i => reference_delta _ _ _ _ _ i
  · rw [(h c).2.2.1]
    simp only [hagree c]
    exact funext fun i => reference_mean _ _ _ i
  · rw [(h c).2.2.2.1]
    simp only [hagree c]
    exact funext fun i => reference_square _ _ _ i

end Cert.AdamSsmOut

end
-- ==== Proof.AdamConv.lean ====
/-
  The optimiser's step of the convolution's taps.
-/
module

public import proofs.«01_k».proof.Defs
public import proofs.«01_k».proof.Proof.Gen.Kernel17Ideal.Value
public import proofs.«01_k».proof.Proof.Gen.Reference17Ideal.Run
public import Idealize.ShloMosaic.Adequacy
public import Idealize.ShloMosaic.Lib.Quiescent
public import Idealize.ShloMosaic.Lib.Tactic.ValueTie

@[expose] public section

noncomputable section

namespace Cert.AdamConv

open Idealize.ShloMosaic Idealize.SL.Sem

/-- The reference leaves its arguments as they were and ends with no semaphore raised. -/
theorem reference_frame : quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

/-- The kernel's results are the reference's. -/
theorem equal : algebraic_Kernel17Ideal_Reference17Ideal := by
  intro m ρ m' ρ' _ hagree
  refine ⟨_, _, _, Cert.Kernel17Ideal.Value.run (F := Ideal) m ρ, ?_⟩
  refine (θ_run Cert.Reference17Ideal.defs _ _).mono (fun _ h c => ⟨?_, ?_, ?_, (h c).2.2.2⟩) (Cert.Reference17Ideal.Value.run (F := Ideal) m' ρ')
  · rw [(h c).1]
    simp only [hagree c]
    value_tie Cert.Kernel17Ideal
  · rw [(h c).2.1]
    simp only [hagree c]
    value_tie Cert.Kernel17Ideal
  · rw [(h c).2.2.1]
    simp only [hagree c]
    value_tie Cert.Kernel17Ideal

end Cert.AdamConv

end
-- ==== Proof.AdamAda.lean ====
/-
  The optimiser's step of the conditioning weights, whose gradient is the product of the conditions' activation and the
  gradients of the eight rows. The kernel takes 256 rows of one layer's weights at a time; the reference takes the
  whole arrays.
-/
module

public import proofs.«01_k».proof.Defs
public import proofs.«01_k».proof.Proof.Adam
public import proofs.«01_k».proof.Proof.Sigmoid
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Adequacy
public import Idealize.ShloMosaic.Lib.Quiescent

@[expose] public section

set_option maxRecDepth 16384

noncomputable section

namespace Cert.AdamAda

open Cert.Kernel18Ideal Cert.Kernel18Ideal.Gen Idealize.ShloMosaic Idealize.ShloMosaic.TcCoe
open Idealize.SL.Sem

theorem hz3 : (![0, 0, 0] : Fin 3 → Nat) = fun _ => 0 := funext fun a => by fin_cases a <;> rfl

theorem hz2 : (![0, 0] : Fin 2 → Nat) = fun _ => 0 := funext fun a => by fin_cases a <;> rfl

/-! ## One block -/

/-- One weight's gradient: the sum over the eight rows of the activated condition times the row's gradient. -/
def total (x d : Fin 8 → EReal) : EReal := ∑ y : Fin 8, x y * Ideal.logistic (x y) * d y

theorem pay4_apply (x : Vec Ideal S256x8 .f32) (d : Vec Ideal S1x8x1536 .f32) (r : Fin 256) (j : Fin 1536) :
    k0_pay4 (F := Ideal) x d (ix2 r j) = total (fun y => x (ix2 r y)) (fun y => d (ix3 0 y j)) := by
  unfold total
  simp only [← Cert.Sigmoid.tanh_form]
  unfold k0_pay4
  pointwise

section
variable (x : Vec Ideal S256x8 .f32) (d : Vec Ideal S1x8x1536 .f32) (w m v : Vec Ideal S1x256x1536 .f32) (r : Fin 256) (j : Fin 1536)

theorem out5_apply : out0_5 (F := Ideal) x d w m v (ix3 0 r j) = total (fun y => x (ix2 r y)) (fun y => d (ix3 0 y j)) := by
  unfold out0_5
  rw [View.canon_unit_zero hz3, View.ld_unit_zero (S := S256x8) hz2, View.ld_unit_zero (S := S1x8x1536) hz3, ← pay4_apply]
  unfold k0_pay5
  pointwise

theorem mean_apply : k0_pay9 (F := Ideal) x d w m v (ix2 r j)
    = Adam.mean (total (fun y => x (ix2 r y)) (fun y => d (ix3 0 y j))) (m (ix3 0 r j)) := by
  rw [← pay4_apply]
  unfold k0_pay9
  simp only [View.ld_unit_zero (S := S256x8) hz2, View.ld_unit_zero (S := S1x8x1536) hz3, View.ld_unit_zero (S := S1x256x1536) hz3]
  unfold k0_pay7
  generalize k0_pay4 (F := Ideal) x d = g
  pointwise
  rfl

theorem square_apply : k0_pay10 (F := Ideal) x d w m v (ix2 r j)
    = Adam.square (total (fun y => x (ix2 r y)) (fun y => d (ix3 0 y j))) (v (ix3 0 r j)) := by
  rw [← pay4_apply]
  unfold k0_pay10
  simp only [View.ld_unit_zero (S := S256x8) hz2, View.ld_unit_zero (S := S1x8x1536) hz3, View.ld_unit_zero (S := S1x256x1536) hz3]
  unfold k0_pay8
  generalize k0_pay4 (F := Ideal) x d = g
  pointwise
  rfl

theorem out6_apply : out0_6 (F := Ideal) x d w m v (ix3 0 r j)
    = Adam.delta (total (fun y => x (ix2 r y)) (fun y => d (ix3 0 y j))) (m (ix3 0 r j)) (v (ix3 0 r j)) (w (ix3 0 r j)) := by
  unfold out0_6
  rw [View.canon_unit_zero hz3, View.ld_unit_zero (S := S1x256x1536) hz3]
  unfold Adam.delta
  rw [← mean_apply (w := w) (v := v), ← square_apply (w := w) (m := m)]
  generalize k0_pay9 (F := Ideal) x d w m v = p
  generalize k0_pay10 (F := Ideal) x d w m v = q
  unfold k0_pay1 k0_pay6
  pointwise

theorem out7_apply : out0_7 (F := Ideal) x d w m v (ix3 0 r j)
    = Adam.mean (total (fun y => x (ix2 r y)) (fun y => d (ix3 0 y j))) (m (ix3 0 r j)) := by
  unfold out0_7
  rw [View.canon_unit_zero hz3, ← mean_apply (w := w) (v := v)]
  generalize k0_pay9 (F := Ideal) x d w m v = p
  unfold k0_pay2
  pointwise

theorem out8_apply : out0_8 (F := Ideal) x d w m v (ix3 0 r j)
    = Adam.square (total (fun y => x (ix2 r y)) (fun y => d (ix3 0 y j))) (v (ix3 0 r j)) := by
  unfold out0_8
  rw [View.canon_unit_zero hz3, ← square_apply (w := w) (m := m)]
  generalize k0_pay10 (F := Ideal) x d w m v = q
  unfold k0_pay3
  pointwise

end

/-! ## The whole arrays -/

section
variable (m : (ℓ : Loc nD τ sig) → Buf (Elt Ideal) ℓ) (ρ : Dev nD → PrngReg) (c : Dev nD)

abbrev argX : S1024x8.Idx → EReal := m ((c : Thread nD τ).loc main_arg0)
abbrev argD : S4x8x1536.Idx → EReal := m ((c : Thread nD τ).loc main_arg1)
abbrev argW : S4x1024x1536.Idx → Ideal .f32 := m ((c : Thread nD τ).loc main_arg2)
abbrev argM : S4x1024x1536.Idx → Ideal .f32 := m ((c : Thread nD τ).loc main_arg3)
abbrev argV : S4x1024x1536.Idx → Ideal .f32 := m ((c : Thread nD τ).loc main_arg4)

/-- The four results, entry by entry. -/
def gradOf (i : S4x1024x1536.Idx) : EReal := total (fun y => argX m c (ix2 (i 1) y)) (fun y => argD m c (ix3 (i 0) y (i 2)))
def deltaOf (i : S4x1024x1536.Idx) : Ideal .f32 := Adam.delta (gradOf m c i) (argM m c i) (argV m c i) (argW m c i)
def meanOf (i : S4x1024x1536.Idx) : Ideal .f32 := Adam.mean (gradOf m c i) (argM m c i)
def squareOf (i : S4x1024x1536.Idx) : Ideal .f32 := Adam.square (gradOf m c i) (argV m c i)

/-- Where a point's block lies, which is the same for all nine arrays. -/
theorem idx_facts : ∀ t : Fin cfg0.N, win0_5.index t 0 = t.val / 4 ∧ win0_5.index t 1 = t.val % 4 ∧ win0_5.index t 2 = 0 :=
  (by decide +kernel : ∀ t : Fin grid0.N, _)

theorem idx_factors : ∀ t : Fin cfg0.N, (win0_0.index t 0 = t.val % 4 ∧ win0_0.index t 1 = 0)
    ∧ (win0_1.index t 0 = t.val / 4 ∧ win0_1.index t 1 = 0 ∧ win0_1.index t 2 = 0) :=
  (by decide +kernel : ∀ t : Fin grid0.N, _)

/-- The array's entry that an entry of a point's block is. -/
abbrev place (t : Fin cfg0.N) (y : S1x256x1536.Idx) : S4x1024x1536.Idx := ((cfg0.win 5).blk t).view.emb y

/-- The blocks of the weights and their running means that a point reads. -/
theorem blocks (t : Fin cfg0.N) (y : S1x256x1536.Idx) :
    (iblk m c 2 t : S1x256x1536.Idx → Ideal .f32) y = argW m c (place t y) ∧ (iblk m c 3 t : S1x256x1536.Idx → Ideal .f32) y = argM m c (place t y)
    ∧ (iblk m c 4 t : S1x256x1536.Idx → Ideal .f32) y = argV m c (place t y) := ⟨rfl, rfl, rfl⟩

/-- The layer, the row and the column of an entry of a point's block. -/
theorem place_eq (t : Fin cfg0.N) (r : Fin 256) (j : Fin 1536) : (place t (ix3 0 r j) 0).val = t.val / 4
    ∧ (place t (ix3 0 r j) 1).val = t.val % 4 * 256 + r.val ∧ (place t (ix3 0 r j) 2).val = j.val := by
  obtain ⟨e0, e1, e2⟩ := idx_facts t
  refine ⟨?_, ?_, ?_⟩
  · show win0_5.index t 0 * 1 + 1 * 0 = _; omega
  · show win0_5.index t 1 * 256 + 1 * r.val = _; omega
  · show win0_5.index t 2 * 1536 + 1 * j.val = _; omega

theorem blkX (t : Fin cfg0.N) (r : Fin 256) (j : Fin 1536) (y : Fin 8) :
    (iblk m c 0 t : S256x8.Idx → EReal) (ix2 r y) = argX m c (ix2 (place t (ix3 0 r j) 1) y) := by
  obtain ⟨e0, e1⟩ := (idx_factors t).1
  obtain ⟨p0, p1, p2⟩ := place_eq t r j
  unfold iblk
  rw [View.read_apply]
  show m ((c : Thread nD τ).loc main_arg0) _ = m ((c : Thread nD τ).loc main_arg0) _
  congr 1
  funext a
  apply Fin.ext
  match a with
  | ⟨0, _⟩ => show win0_0.index t 0 * 256 + 1 * r.val = (place t (ix3 0 r j) 1).val; omega
  | ⟨1, _⟩ => show win0_0.index t 1 * 8 + 1 * y.val = y.val; omega

theorem blkD (t : Fin cfg0.N) (r : Fin 256) (j : Fin 1536) (y : Fin 8) :
    (iblk m c 1 t : S1x8x1536.Idx → EReal) (ix3 0 y j) = argD m c (ix3 (place t (ix3 0 r j) 0) y (place t (ix3 0 r j) 2)) := by
  obtain ⟨e0, e1, e2⟩ := (idx_factors t).2
  obtain ⟨p0, p1, p2⟩ := place_eq t r j
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = (place t (ix3 0 r j) 0).val; omega
  | ⟨1, _⟩ => show win0_1.index t 1 * 8 + 1 * y.val = y.val; omega
  | ⟨2, _⟩ => show win0_1.index t 2 * 1536 + 1 * j.val = (place t (ix3 0 r j) 2).val; omega

/-- A point's gradient is its block of the whole one. -/
theorem grad_blk (t : Fin cfg0.N) (r : Fin 256) (j : Fin 1536) :
    total (fun y => (iblk m c 0 t : S256x8.Idx → EReal) (ix2 r y)) (fun y => (iblk m c 1 t : S1x8x1536.Idx → EReal) (ix3 0 y j))
      = gradOf m c (place t (ix3 0 r j)) :=
  congrArg₂ total (funext fun y => blkX m c t r j y) (funext fun y => blkD m c t r j y)

theorem eq_row (y : S1x256x1536.Idx) : ∃ (r : Fin 256) (j : Fin 1536), y = ix3 0 r j :=
  ⟨y 1, y 2, funext fun a => by
    have h : (y 0).val < 1 := (y 0).isLt
    match a with
    | ⟨0, _⟩ => exact Fin.ext (by show (y 0).val = 0; omega)
    | ⟨1, _⟩ => rfl
    | ⟨2, _⟩ => rfl⟩

theorem mem_block (t : Fin cfg0.N) (i : S4x1024x1536.Idx) : i ∈ ((cfg0.win 5).blk t).view.set
    ↔ ∀ a : Fin 3, win0_5.index t a * S1x256x1536.size a ≤ (i a).val ∧ (i a).val < win0_5.index t a * S1x256x1536.size a + S1x256x1536.size a := by
  show i ∈ ((View.whole main_v0_0).slice (win0_5.rect t)).set ↔ _
  rw [View.set_slice_whole, Rect.mem_set_unit]
  exact Iff.rfl

/-- Every entry lies in the block of a point. -/
theorem covered (i : S4x1024x1536.Idx) : ∃ t : Fin cfg0.N, i ∈ ((cfg0.win 5).blk t).view.set := by
  have h0 : (i 0).val < 4 := (i 0).isLt
  have h1 : (i 1).val < 1024 := (i 1).isLt
  have h2 : (i 2).val < 1536 := (i 2).isLt
  have hN : cfg0.N = 16 := N_0
  have hp : (i 0).val * 4 + (i 1).val / 256 < cfg0.N := by omega
  refine ⟨⟨(i 0).val * 4 + (i 1).val / 256, hp⟩, ?_⟩
  rw [mem_block]
  obtain ⟨e0, e1, e2⟩ := idx_facts ⟨(i 0).val * 4 + (i 1).val / 256, hp⟩
  dsimp only at e0 e1 e2
  intro a
  match a with
  | ⟨0, _⟩ => show win0_5.index _ 0 * 1 ≤ (i 0).val ∧ (i 0).val < win0_5.index _ 0 * 1 + 1; omega
  | ⟨1, _⟩ => show win0_5.index _ 1 * 256 ≤ (i 1).val ∧ (i 1).val < win0_5.index _ 1 * 256 + 256; omega
  | ⟨2, _⟩ => show win0_5.index _ 2 * 1536 ≤ (i 2).val ∧ (i 2).val < win0_5.index _ 2 * 1536 + 1536; omega

theorem final5 : (dats m 0 c).arrAt 5 cfg0.N = gradOf m c :=
  (dats m 0 c).arrAt_eq_of_cover 5 _ (fun t _ => by
    rw [Value.flushed5]
    refine funext fun (y : S1x256x1536.Idx) => ?_
    obtain ⟨r, j, rfl⟩ := eq_row y
    exact (out5_apply (iblk m c 0 t) (iblk m c 1 t) (iblk m c 2 t) (iblk m c 3 t) (iblk m c 4 t) r j).trans (grad_blk m c t r j))
    fun (i : S4x1024x1536.Idx) => (covered i).imp fun t h => ⟨flush0_5 t, h⟩

theorem final6 : (dats m 0 c).arrAt 6 cfg0.N = deltaOf m c :=
  (dats m 0 c).arrAt_eq_of_cover 6 _ (fun t _ => by
    rw [Value.flushed6]
    refine funext fun (y : S1x256x1536.Idx) => ?_
    obtain ⟨r, j, rfl⟩ := eq_row y
    exact (out6_apply (iblk m c 0 t) (iblk m c 1 t) (iblk m c 2 t) (iblk m c 3 t) (iblk m c 4 t) r j).trans (congrArg (fun g => Adam.delta g _ _ _) (grad_blk m c t r j)))
    fun (i : S4x1024x1536.Idx) => (covered i).imp fun t h => ⟨flush0_6 t, h⟩

theorem final7 : (dats m 0 c).arrAt 7 cfg0.N = meanOf m c :=
  (dats m 0 c).arrAt_eq_of_cover 7 _ (fun t _ => by
    rw [Value.flushed7]
    refine funext fun (y : S1x256x1536.Idx) => ?_
    obtain ⟨r, j, rfl⟩ := eq_row y
    exact (out7_apply (iblk m c 0 t) (iblk m c 1 t) (iblk m c 2 t) (iblk m c 3 t) (iblk m c 4 t) r j).trans (congrArg (fun g => Adam.mean g _) (grad_blk m c t r j)))
    fun (i : S4x1024x1536.Idx) => (covered i).imp fun t h => ⟨flush0_7 t, h⟩

theorem final8 : (dats m 0 c).arrAt 8 cfg0.N = squareOf m c :=
  (dats m 0 c).arrAt_eq_of_cover 8 _ (fun t _ => by
    rw [Value.flushed8]
    refine funext fun (y : S1x256x1536.Idx) => ?_
    obtain ⟨r, j, rfl⟩ := eq_row y
    exact (out8_apply (iblk m c 0 t) (iblk m c 1 t) (iblk m c 2 t) (iblk m c 3 t) (iblk m c 4 t) r j).trans (congrArg (fun g => Adam.square g _) (grad_blk m c t r j)))
    fun (i : S4x1024x1536.Idx) => (covered i).imp fun t h => ⟨flush0_8 t, h⟩

/-- The run: the four results, the arguments unchanged. -/
theorem run : θ_run defs (onTc (τ := τ) (main (F := Ideal))) ⟨m, fun _ => 0, ρ⟩ fun r => ∀ c : Dev nD,
      r.2.mem ((c : Thread nD τ).loc main_v0_0) = gradOf m c
      ∧ r.2.mem ((c : Thread nD τ).loc main_v0_1) = deltaOf m c
      ∧ r.2.mem ((c : Thread nD τ).loc main_v0_2) = meanOf m c
      ∧ r.2.mem ((c : Thread nD τ).loc main_v0_3) = squareOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end

/-! ## The reference -/

section
open Cert.Reference18Ideal.Read
variable (x : S1024x8.Idx → EReal) (d : S4x8x1536.Idx → EReal) (w m v : S4x1024x1536.Idx → Ideal .f32) (i : S4x1024x1536.Idx)

theorem reference_grad : val_main_v2 (F := Ideal) x d i = total (fun y => x (ix2 (i 1) y)) (fun y => d (ix3 (i 0) y (i 2))) := by
  obtain ⟨p, r, j, rfl⟩ : ∃ (p : Fin 4) (r : Fin 1024) (j : Fin 1536), i = ix3 p r j := ⟨i 0, i 1, i 2, eq_ix3 i⟩
  rw [← val_main_v2_eq]
  pointwise
  exact Finset.sum_congr rfl fun y _ => mul_comm _ _

theorem reference_mean : val_main_v7 (F := Ideal) x d m i = Adam.mean (total (fun y => x (ix2 (i 1) y)) (fun y => d (ix3 (i 0) y (i 2)))) (m i) := by
  rw [← reference_grad]
  rfl
theorem reference_square : val_main_v13 (F := Ideal) x d v i = Adam.square (total (fun y => x (ix2 (i 1) y)) (fun y => d (ix3 (i 0) y (i 2)))) (v i) := by
  rw [← reference_grad]
  rfl
theorem reference_delta : val_main_v26 (F := Ideal) x d w m v i
    = Adam.delta (total (fun y => x (ix2 (i 1) y)) (fun y => d (ix3 (i 0) y (i 2)))) (m i) (v i) (w i) := by
  rw [← reference_grad]
  rfl

end

/-- The reference leaves its arguments as they were and ends with no semaphore raised. -/
theorem reference_frame : quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The kernel's results are the reference's, entry by entry. -/
theorem equal : algebraic_Kernel18Ideal_Reference18Ideal := by
  intro m ρ m' ρ' _ hagree
  refine ⟨_, _, _, _, run m ρ, ?_⟩
  refine (θ_run Cert.Reference18Ideal.defs _ _).mono (fun _ h c => ⟨?_, ?_, ?_, ?_, (h c).2.2.2.2⟩)
    (Cert.Reference18Ideal.Value.run (F := Ideal) m' ρ')
  · rw [(h c).1]
    simp only [hagree c]
    exact funext fun i => reference_grad _ _ i
  · rw [(h c).2.1]
    simp only [hagree c]
    exact funext fun i => reference_delta _ _ _ _ _ i
  · rw [(h c).2.2.1]
    simp only [hagree c]
    exact funext fun i => reference_mean _ _ _ i
  · rw [(h c).2.2.2.1]
    simp only [hagree c]
    exact funext fun i => reference_square _ _ _ i

end Cert.AdamAda

end
-- ==== Proof.AdamSlab.lean ====
/-
  The optimiser's step of the small weights, packed into one array.
-/
module

public import proofs.«01_k».proof.Defs
public import proofs.«01_k».proof.Proof.Gen.Kernel19Ideal.Value
public import proofs.«01_k».proof.Proof.Gen.Reference19Ideal.Run
public import Idealize.ShloMosaic.Adequacy
public import Idealize.ShloMosaic.Lib.Quiescent
public import Idealize.ShloMosaic.Lib.Tactic.ValueTie

@[expose] public section

noncomputable section

namespace Cert.AdamSlab

open Idealize.ShloMosaic Idealize.SL.Sem

/-- The reference leaves its arguments as they were and ends with no semaphore raised. -/
theorem reference_frame : quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The kernel's results are the reference's. -/
theorem equal : algebraic_Kernel19Ideal_Reference19Ideal := by
  intro m ρ m' ρ' _ hagree
  refine ⟨_, _, _, Cert.Kernel19Ideal.Value.run (F := Ideal) m ρ, ?_⟩
  refine (θ_run Cert.Reference19Ideal.defs _ _).mono (fun _ h c => ⟨?_, ?_, ?_, (h c).2.2.2⟩) (Cert.Reference19Ideal.Value.run (F := Ideal) m' ρ')
  · rw [(h c).1]
    simp only [hagree c]
    value_tie Cert.Kernel19Ideal
  · rw [(h c).2.1]
    simp only [hagree c]
    value_tie Cert.Kernel19Ideal
  · rw [(h c).2.2.1]
    simp only [hagree c]
    value_tie Cert.Kernel19Ideal

end Cert.AdamSlab

end
-- ==== Proof.NormMath.lean ====
/-
  The numbers of one row of the norm's gradient. With `r` the reciprocal root of the row's mean square (plus a small
  constant), `x` the row and `d` the cotangent of the normed row, the kernels compute `r * (d - x r * mean (d * x r))`;
  the derivative of the plain formula is `d r` and twice `x w`, where `w` is the derivative through the mean square.
  The two agree at every extended real: an infinite entry makes `r` zero, and a finite row makes `r` a positive real.
-/
module

public import Idealize.ShloMosaic.PureOps.Ideal
public import proofs.«01_k».proof.Proof.BlockSums
public import Idealize.ShloMosaic.Lib.Pointwise
public import Idealize.ShloMosaic.Lib.Pipeline.ReadBack

@[expose] public section

noncomputable section

namespace Cert.NormMath

open Idealize.ShloMosaic
open scoped BigOperators

/-- The number of columns. -/
abbrev width : EReal := Ideal.ofBits .f32 1149239296#32
/-- The small constant under the root. -/
abbrev small : EReal := Ideal.ofBits .f32 897988541#32
/-- Minus one half. -/
abbrev minusHalf : EReal := Ideal.ofBits .f32 3204448256#32

theorem width_eq : width = ((1024 : ℝ) : EReal) := by
  simp [width, Ideal.ofBits, Ideal.ieee]
  rw [← EReal.coe_mul]
  congr 1
  norm_num

theorem minusHalf_eq : minusHalf = ((-(1 / 2) : ℝ) : EReal) := by
  simp [minusHalf, Ideal.ofBits, Ideal.ieee]
  rw [← EReal.coe_mul]
  congr 1
  norm_num

theorem small_eq : ∃ e : ℝ, 0 < e ∧ small = (e : EReal) := by
  refine ⟨8796093 * (2 : ℝ) ^ (-43 : ℤ), by positivity, ?_⟩
  simp [small, Ideal.ofBits, Ideal.ieee]

/-- What stands under the root. -/
def under (X : Fin 1024 → EReal) : EReal := Ideal.div (∑ j, X j * X j) width + small

/-- The reciprocal root. -/
def scale (X : Fin 1024 → EReal) : EReal := Ideal.rsqrt (under X)

theorem mul_sum_real {ι : Type} (s : Finset ι) {c : ℝ} (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem square_nonneg (x : EReal) : 0 ≤ x * x := by
  induction x with
  | bot => simp
  | top => simp
  | coe r => exact_mod_cast mul_self_nonneg r

/-- A finite row has a positive real scale; any other row has the scale zero. -/
theorem scale_cases (X : Fin 1024 → EReal) :
    (∃ v : ℝ, 0 < v ∧ under X = (v : EReal) ∧ scale X = (((Real.sqrt v)⁻¹ : ℝ) : EReal)) ∨ (under X = ⊤ ∧ scale X = 0) := by
  obtain ⟨e, he, hs⟩ := small_eq
  by_cases h : ∀ j, X j ≠ ⊤ ∧ X j ≠ ⊥
  · left
    have hv : under X = (((∑ j, (X j).toReal * (X j).toReal) * (1 / 1024) + e : ℝ) : EReal) := by
      unfold under
      have hsum : ∑ j, X j * X j = ((∑ j, (X j).toReal * (X j).toReal : ℝ) : EReal) := by
        rw [coe_sum]
        refine Finset.sum_congr rfl fun j _ => ?_
        rw [EReal.coe_mul, EReal.coe_toReal (h j).1 (h j).2]
      rw [width_eq, Ideal.div_coe (by norm_num), hs, hsum, EReal.coe_add, EReal.coe_mul]
    have hp : 0 < (∑ j, (X j).toReal * (X j).toReal) * (1 / 1024) + e :=
      add_pos_of_nonneg_of_pos (mul_nonneg (Finset.sum_nonneg fun j _ => mul_self_nonneg _) (by norm_num)) he
    refine ⟨_, hp, hv, ?_⟩
    unfold scale
    rw [hv, Ideal.rsqrt_coe, if_neg (not_lt.mpr hp.le), if_neg hp.ne']
  · right
    have hj : ∃ j, X j * X j = ⊤ := by
      by_contra hn
      apply h
      intro j
      constructor
      · intro e; exact hn ⟨j, by rw [e]; simp⟩
      · intro e; exact hn ⟨j, by rw [e]; simp⟩
    obtain ⟨j, hj⟩ := hj
    have ht : ∑ j, X j * X j = ⊤ := top_le_iff.mp
      (hj ▸ Finset.single_le_sum (f := fun j => X j * X j) (fun j _ => square_nonneg (X j)) (Finset.mem_univ j))
    have hu : under X = ⊤ := by
      unfold under
      rw [ht, width_eq, Ideal.div_coe (by norm_num), EReal.top_mul_coe_of_pos (by norm_num), hs, EReal.top_add_coe]
    exact ⟨hu, by unfold scale; rw [hu, Ideal.rsqrt_top]⟩

/-- The kernels' form of the gradient in one column. -/
def grad (X D : Fin 1024 → EReal) (k : Fin 1024) : EReal :=
  scale X * (D k - X k * scale X * Ideal.div (∑ j, D j * (X j * scale X)) width)

/-- The derivative through the mean square. -/
def through (X D : Fin 1024 → EReal) : EReal :=
  ∑ _x : Fin 1, Ideal.div ((∑ j, X j * D j) * (minusHalf * Ideal.div (scale X) (under X))) width

theorem twice (P : EReal) {a b : ℝ} (ha : 0 < a) (hb : b + b = -a) : P * (b : EReal) + P * (b : EReal) = -(P * (a : EReal)) := by
  have hb0 : b < 0 := by linarith
  induction P with
  | bot => rw [EReal.bot_mul_coe_of_neg hb0, EReal.bot_mul_coe_of_pos ha]; rfl
  | top => rw [EReal.top_mul_coe_of_neg hb0, EReal.top_mul_coe_of_pos ha]; rfl
  | coe p =>
    rw [← EReal.coe_mul, ← EReal.coe_mul, ← EReal.coe_add, ← EReal.coe_neg]
    congr 1
    linear_combination p * hb

/-- The two forms agree. -/
theorem grad_eq (X D : Fin 1024 → EReal) (k : Fin 1024) (z : EReal) :
    z + D k * scale X + X k * through X D + through X D * X k = z + grad X D k := by
  unfold grad through
  rw [Fin.sum_univ_one, width_eq, Ideal.div_coe (by norm_num), Ideal.div_coe (by norm_num)]
  rcases scale_cases X with ⟨v, hv, hu, hs⟩ | ⟨hu, hs⟩
  · rw [hs, hu, minusHalf_eq, Ideal.div_coe hv.ne', add_assoc, add_assoc]
    have hr : 0 < (Real.sqrt v)⁻¹ := inv_pos.mpr (Real.sqrt_pos.mpr hv)
    have hrr : (Real.sqrt v)⁻¹ * (Real.sqrt v)⁻¹ = 1 / v := by
      rw [← mul_inv, Real.mul_self_sqrt hv.le, one_div]
    generalize (Real.sqrt v)⁻¹ = r at hr hrr
    congr 1
    have hT : ∑ j, D j * (X j * (r : EReal)) = (r : EReal) * ∑ j, X j * D j := by
      rw [mul_sum_real _ hr.le]
      exact Finset.sum_congr rfl fun j _ => by rw [← mul_assoc, mul_comm (D j), mul_comm (r : EReal)]
    rw [hT, sub_eq_add_neg, EReal.left_distrib_of_nonneg_of_ne_top (by exact_mod_cast hr.le) (EReal.coe_ne_top r), mul_comm (r : EReal) (D k)]
    congr 1
    generalize (∑ j, X j * D j) = T
    generalize X k = x
    have e1 : x * (T * (((-(1 / 2) : ℝ) : EReal) * ((r : EReal) * ((1 / v : ℝ) : EReal))) * ((1 / 1024 : ℝ) : EReal))
        = (x * T) * ((-(1 / 2) * (r * (1 / v)) * (1 / 1024) : ℝ) : EReal) := by
      rw [EReal.coe_mul, EReal.coe_mul, EReal.coe_mul]
      simp only [mul_assoc]
    have e2 : (r : EReal) * (x * (r : EReal) * ((r : EReal) * T * ((1 / 1024 : ℝ) : EReal)))
        = (x * T) * ((r * (r * r) * (1 / 1024) : ℝ) : EReal) := by
      rw [EReal.coe_mul, EReal.coe_mul, EReal.coe_mul]
      ac_rfl
    rw [mul_comm _ x, e1, mul_neg, e2]
    refine twice _ (by positivity) ?_
    rw [hrr]
    ring
  · rw [hs, hu]
    have h0 : Ideal.div 0 ⊤ = 0 := by simp [Ideal.div]
    rw [h0]
    simp

/-- A row of a two-axis array. -/
abbrev row {R : ℕ} (x : (⟨2, ![R, 1024]⟩ : Shape).Idx → EReal) (r : Fin R) : Fin 1024 → EReal := fun j => x (ix2 r j)

/-- The cotangent of the normed row: from the row `dh`, the gains `g` and the modulation's scale `s`. -/
def cot (dh g s : Fin 1024 → EReal) (j : Fin 1024) : EReal := dh j * (1 + s j) * g j

/-- What one row adds to the sum number `q`: the shift's, the scale's and the gains' gradients, and, from `e`, the gate's. -/
def term (q : ℕ) (dh x g s : Fin 1024 → EReal) (e : EReal) (k : Fin 1024) : EReal :=
  if q = 0 then dh k else if q = 1 then dh k * (x k * scale x * g k) else if q = 2 then dh k * (1 + s k) * (x k * scale x) else e

/-- The rows of eight tiles of 512, each summed in 64 groups of eight, then over the tiles, then over the eight: all rows. -/
theorem sum_rows (f : Fin 4096 → EReal) :
    ∑ j : Fin 8, ∑ t : Fin 8, ∑ g : Fin 64, f ⟨t.val * 512 + (g.val * 8 + j.val), by omega⟩ = ∑ r, f r := by
  rw [Cert.BlockSums.sum_blocks (a := 8) (b := 512) rfl, Finset.sum_comm]
  refine Finset.sum_congr rfl fun t _ => ?_
  rw [Cert.BlockSums.sum_blocks (a := 64) (b := 8) rfl, Finset.sum_comm]

/-- One slab of a three-axis buffer written last: there it is read, elsewhere what was written before. -/
theorem canon_slab {A : ℕ} (n : ℕ) (h : ∀ a, (![n, 0, 0] : Fin 3 → ℕ) a + (![1, 8, 1024] : Fin 3 → ℕ) a ≤ (![A, 8, 1024] : Fin 3 → ℕ) a)
    (w : (⟨3, ![1, 8, 1024]⟩ : Shape).Idx → EReal)
    (L : List (View.Piece (Elt Ideal) (⟨3, ![A, 8, 1024]⟩ : Shape) .f32)) (q : Fin A) (j : Fin 8) (k : Fin 1024) :
    View.canon ((⟨Rect.unit (s := (⟨3, ![A, 8, 1024]⟩ : Shape)) ![n, 0, 0] ![1, 8, 1024] h, w⟩ : View.Piece (Elt Ideal) (⟨3, ![A, 8, 1024]⟩ : Shape) .f32) :: L) (ix3 q j k)
      = if q.val = n then w (ix3 (0 : Fin 1) j k) else View.canon L (ix3 q j k) := by
  by_cases e : q.val = n
  · rw [if_pos e]
    have : (ix3 q j k : (⟨3, ![A, 8, 1024]⟩ : Shape).Idx) = (Rect.unit (s := (⟨3, ![A, 8, 1024]⟩ : Shape)) ![n, 0, 0] ![1, 8, 1024] h).emb (ix3 (0 : Fin 1) j k) := by
      funext a
      apply Fin.ext
      match a with
      | ⟨0, _⟩ => show q.val = n + 1 * 0; omega
      | ⟨1, _⟩ => show j.val = 0 + 1 * j.val; omega
      | ⟨2, _⟩ => show k.val = 0 + 1 * k.val; omega
    rw [this]
    exact View.canon_cons_emb _ _ _ _
  · rw [if_neg e]
    refine View.canon_cons_of_not_mem _ _ fun hm => e ?_
    have := (Rect.mem_set_unit (s := (⟨3, ![A, 8, 1024]⟩ : Shape)) (off := ![n, 0, 0]) (size := ![1, 8, 1024]) (inb := h) |>.mp hm) 0
    have h1 : n ≤ q.val := this.1
    have h2 : q.val < n + 1 := this.2
    omega

/-- One row of a two-axis buffer written last: there it is read, elsewhere what was written before. -/
theorem canon_row (n : ℕ) (h : ∀ a, (![n, 0] : Fin 2 → ℕ) a + (![1, 1024] : Fin 2 → ℕ) a ≤ (![8, 1024] : Fin 2 → ℕ) a)
    (w : (⟨2, ![1, 1024]⟩ : Shape).Idx → EReal)
    (L : List (View.Piece (Elt Ideal) (⟨2, ![8, 1024]⟩ : Shape) .f32)) (q : Fin 8) (k : Fin 1024) :
    View.canon ((⟨Rect.unit (s := (⟨2, ![8, 1024]⟩ : Shape)) ![n, 0] ![1, 1024] h, w⟩ : View.Piece (Elt Ideal) (⟨2, ![8, 1024]⟩ : Shape) .f32) :: L) (ix2 q k)
      = if q.val = n then w (ix2 (0 : Fin 1) k) else View.canon L (ix2 q k) := by
  by_cases e : q.val = n
  · rw [if_pos e]
    have : (ix2 q k : (⟨2, ![8, 1024]⟩ : Shape).Idx) = (Rect.unit (s := (⟨2, ![8, 1024]⟩ : Shape)) ![n, 0] ![1, 1024] h).emb (ix2 (0 : Fin 1) k) := by
      funext a
      apply Fin.ext
      match a with
      | ⟨0, _⟩ => show q.val = n + 1 * 0; omega
      | ⟨1, _⟩ => show k.val = 0 + 1 * k.val; omega
    rw [this]
    exact View.canon_cons_emb _ _ _ _
  · rw [if_neg e]
    refine View.canon_cons_of_not_mem _ _ fun hm => e ?_
    have := (Rect.mem_set_unit (s := (⟨2, ![8, 1024]⟩ : Shape)) (off := ![n, 0]) (size := ![1, 1024]) (inb := h) |>.mp hm) 0
    have h1 : n ≤ q.val := this.1
    have h2 : q.val < n + 1 := this.2
    omega

/-- One slab of a three-axis array, read by itself. -/
theorem ld_slab {A : ℕ} (n : ℕ) (h : ∀ a, (![n, 0, 0] : Fin 3 → ℕ) a + (![1, 8, 1024] : Fin 3 → ℕ) a ≤ (![A, 8, 1024] : Fin 3 → ℕ) a)
    (x : (⟨3, ![A, 8, 1024]⟩ : Shape).Idx → EReal) (hn : n < A) (j : Fin 8) (k : Fin 1024) :
    View.ld (Val := Elt Ideal) (e' := .f32) x (Rect.unit (s := (⟨3, ![A, 8, 1024]⟩ : Shape)) ![n, 0, 0] ![1, 8, 1024] h) (ix3 (0 : Fin 1) j k) = x (ix3 ⟨n, hn⟩ j k) := by
  show x _ = x _
  congr 1
  funext a
  apply Fin.ext
  match a with
  | ⟨0, _⟩ => show n + 1 * 0 = n; omega
  | ⟨1, _⟩ => show 0 + 1 * j.val = j.val; omega
  | ⟨2, _⟩ => show 0 + 1 * k.val = k.val; omega

/-- One row of the modulations, read by itself. -/
theorem ld_row (n : ℕ) (h : ∀ a, (![n, 0] : Fin 2 → ℕ) a + (![1, 1024] : Fin 2 → ℕ) a ≤ (![6, 1024] : Fin 2 → ℕ) a)
    (x : (⟨2, ![6, 1024]⟩ : Shape).Idx → EReal) (hn : n < 6) (k : Fin 1024) :
    View.ld (Val := Elt Ideal) (e' := .f32) x (Rect.unit (s := (⟨2, ![6, 1024]⟩ : Shape)) ![n, 0] ![1, 1024] h) (ix2 (0 : Fin 1) k) = x (ix2 ⟨n, hn⟩ k) := by
  show x _ = x _
  congr 1
  funext a
  apply Fin.ext
  match a with
  | ⟨0, _⟩ => show n + 1 * 0 = n; omega
  | ⟨1, _⟩ => show 0 + 1 * k.val = k.val; omega

end Cert.NormMath

end
-- ==== Proof.NormBwd.lean ====
/-
  The gradient of the first norm and its modulation. The kernel takes 512 rows at a time, writes their gradient, and adds
  up three sums over the rows in eight sublanes, which the last point adds together; the reference is the derivative of
  the plain formula.
-/
module

public import proofs.«01_k».proof.Defs
public import proofs.«01_k».proof.Proof.NormMath
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Pipeline.ReadBack
public import Idealize.ShloMosaic.Adequacy
public import Idealize.ShloMosaic.Lib.Quiescent

@[expose] public section

set_option maxRecDepth 16384

noncomputable section

namespace Cert.NormBwd

open Cert.Kernel21Ideal Cert.Kernel21Ideal.Gen Idealize.ShloMosaic Idealize.ShloMosaic.TcCoe
open Idealize.SL.Sem
open Cert.NormMath
open scoped BigOperators

theorem hz2 : (![0, 0] : Fin 2 → Nat) = fun _ => 0 := funext fun a => by fin_cases a <;> rfl

/-! ## What one point computes -/

theorem zeros_apply (q : Fin 3) (j : Fin 8) (k : Fin 1024) : k0_pay8 (F := Ideal) (ix3 q j k) = 0 := by
  unfold k0_pay8
  pointwise

theorem empty_apply (q : Fin 8) (k : Fin 1024) : k0_pay4 (F := Ideal) (ix2 q k) = 0 := by
  unfold k0_pay4
  pointwise

theorem normed_apply (x : Vec Ideal S512x1024 .f32) (r : Fin 512) (k : Fin 1024) :
    k0_pay10 (F := Ideal) x (ix2 r k) = x (ix2 r k) * scale (row x r) := by
  unfold k0_pay10 k0_pay9
  pointwise
  rfl

theorem modulated_apply (dh : Vec Ideal S512x1024 .f32) (s : Vec Ideal S1x1024 .f32) (r : Fin 512) (k : Fin 1024) :
    k0_pay11 (F := Ideal) dh s (ix2 r k) = dh (ix2 r k) * (1 + s (ix2 0 k)) := by
  unfold k0_pay11
  pointwise

theorem add0 (dh : Vec Ideal S512x1024 .f32) (a : Vec Ideal S1x8x1024 .f32) (j : Fin 8) (k : Fin 1024) :
    k0_pay1 (F := Ideal) dh a (ix3 0 j k) = a (ix3 0 j k) + ∑ g : Fin 64, dh (ix2 ⟨g.val * 8 + j.val, by omega⟩ k) := by
  unfold k0_pay1
  pointwise

theorem add1 (n dh : Vec Ideal S512x1024 .f32) (g : Vec Ideal S1x1024 .f32) (a : Vec Ideal S1x8x1024 .f32) (j : Fin 8) (k : Fin 1024) :
    k0_pay2 (F := Ideal) n dh g a (ix3 0 j k) = a (ix3 0 j k)
      + ∑ y : Fin 64, dh (ix2 ⟨y.val * 8 + j.val, by omega⟩ k) * (n (ix2 ⟨y.val * 8 + j.val, by omega⟩ k) * g (ix2 0 k)) := by
  unfold k0_pay2
  pointwise

theorem add2 (n d : Vec Ideal S512x1024 .f32) (a : Vec Ideal S1x8x1024 .f32) (j : Fin 8) (k : Fin 1024) :
    k0_pay3 (F := Ideal) n d a (ix3 0 j k) = a (ix3 0 j k)
      + ∑ y : Fin 64, d (ix2 ⟨y.val * 8 + j.val, by omega⟩ k) * n (ix2 ⟨y.val * 8 + j.val, by omega⟩ k) := by
  unfold k0_pay3
  pointwise

theorem eight0 (a : Vec Ideal S1x8x1024 .f32) (k : Fin 1024) : k0_pay5 (F := Ideal) a (ix2 0 k) = ∑ j : Fin 8, a (ix3 0 j k) := by
  unfold k0_pay5
  pointwise

theorem eight1 (a : Vec Ideal S1x8x1024 .f32) (k : Fin 1024) : k0_pay6 (F := Ideal) a (ix2 0 k) = ∑ j : Fin 8, a (ix3 0 j k) := by
  unfold k0_pay6
  pointwise

theorem eight2 (a : Vec Ideal S1x8x1024 .f32) (k : Fin 1024) : k0_pay7 (F := Ideal) a (ix2 0 k) = ∑ j : Fin 8, a (ix3 0 j k) := by
  unfold k0_pay7
  pointwise

theorem grad_apply (x dh : Vec Ideal S512x1024 .f32) (g s : Vec Ideal S1x1024 .f32) (z : Vec Ideal S512x1024 .f32) (r : Fin 512) (k : Fin 1024) :
    k0_pay12 (F := Ideal) x dh g s z (ix2 r k) = z (ix2 r k) + grad (row x r) (cot (row dh r) (row g 0) (row s 0)) k := by
  unfold k0_pay12 k0_pay10 k0_pay9 k0_pay11
  pointwise
  rfl

/-- What a block adds to sum `q` in sublane `j`. -/
def blockSum (dh x : Vec Ideal S512x1024 .f32) (g : Vec Ideal S1x1024 .f32) (s : Vec Ideal S6x1024 .f32) (q : ℕ) (j : Fin 8) (k : Fin 1024) : EReal :=
  ∑ y : Fin 64, term q (row dh ⟨y.val * 8 + j.val, by omega⟩) (row x ⟨y.val * 8 + j.val, by omega⟩) (row g 0) (row s 1) 0 k

section
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S6x1024 .f32) (h5 : a5.IsWhole) (a6 : Memref sig .tc .vmem S512x1024 .f32) (h6 : a6.IsWhole)
  (a7 : Memref sig .tc .vmem S8x1024 .f32) (h7 : a7.IsWhole) (a8 : Memref sig .tc .vmem S3x8x1024 .f32) (h8 : a8.IsWhole)
  (x0 x1 x2 : Vec Ideal S512x1024 .f32) (x3 : Vec Ideal S1x1024 .f32) (x4 : Vec Ideal S6x1024 .f32) (acc : Vec Ideal S3x8x1024 .f32)

/-- The three slabs written over an accumulator, read back. -/
theorem slabs_apply (s : Vec Ideal S1x1024 .f32) (hs : ∀ k, s (ix2 0 k) = x4 (ix2 1 k)) (b0 b1 b2 : Vec Ideal S1x8x1024 .f32) (q : ℕ) (hq : q < 3) (j : Fin 8) (k : Fin 1024) (old : EReal)
    (e0 : q = 0 → b0 (ix3 0 j k) = old) (e1 : q = 1 → b1 (ix3 0 j k) = old) (e2 : q = 2 → b2 (ix3 0 j k) = old) (rest : EReal) :
    (if q = 2 then k0_pay3 (F := Ideal) (k0_pay10 x1) (k0_pay11 x0 s) b2 (ix3 0 j k)
      else if q = 1 then k0_pay2 (F := Ideal) (k0_pay10 x1) x0 x3 b1 (ix3 0 j k)
      else if q = 0 then k0_pay1 (F := Ideal) x0 b0 (ix3 0 j k) else rest)
    = old + blockSum x0 x1 x3 x4 q j k := by
  unfold blockSum
  split_ifs with c2 c1 c0
  · rw [add2, e2 c2, c2]
    congr 1
    refine Finset.sum_congr rfl fun y _ => ?_
    rw [modulated_apply, normed_apply, hs]
    rfl
  · rw [add1, e1 c1, c1]
    congr 1
    refine Finset.sum_congr rfl fun y _ => ?_
    rw [normed_apply]
    rfl
  · rw [add0, e0 c0, c0]
    rfl
  · omega

theorem first_sums (hc0 : cond0_0 i) (hc1 : ¬cond0_1 i) (q : Fin 3) (j : Fin 8) (k : Fin 1024) :
    sout0_A_0 (F := Ideal) c i a1 h1 a2 h2 a3 h3 a4 h4 a5 h5 a6 h6 a7 h7 a8 h8 hc0 hc1 x0 x1 x2 x3 x4 (ix3 q j k) = blockSum x0 x1 x3 x4 q.val j k := by
  unfold sout0_A_0
  rw [View.read_writes_eq_canon _ _ _ (scover0_A_0 c i a1 h1 a2 h2 a3 h3 a4 h4 a5 h5 a6 h6 a7 h7 a8 h8 hc0 hc1 x0 x1 x2 x3 x4)]
  unfold kernelRun0_A
  dsimp only
  sl_unfold_words
  simp only [View.readAt_eq_ld, h1.read_unread, h2.read_unread, h4.read_unread, h5.read_unread, View.ld_unit_zero (S := S512x1024) hz2,
    View.ld_unit_zero (S := S1x1024) hz2]
  simp (disch := decide) only [↓ View.readCov_skip, ↓ View.readCov_cons_toLoadRect, ↓ View.readCov_fill]
  rw [canon_slab, canon_slab, canon_slab]
  refine (slabs_apply x0 x1 x3 x4 _ (fun k => ld_row 1 _ x4 (by omega) k) _ _ _ q.val q.isLt j k 0 (fun _ => ?_) (fun _ => ?_) (fun _ => ?_) _).trans (zero_add _)
  · exact (ld_slab 0 _ _ (by omega) j k).trans (zeros_apply _ j k)
  · exact (ld_slab 1 _ _ (by omega) j k).trans (zeros_apply _ j k)
  · exact (ld_slab 2 _ _ (by omega) j k).trans (zeros_apply _ j k)

theorem next_sums (hc0 : ¬cond0_0 i) (hc1 : ¬cond0_1 i) (q : Fin 3) (j : Fin 8) (k : Fin 1024) :
    sout0_B_0 (F := Ideal) c i a1 h1 a2 h2 a3 h3 a4 h4 a5 h5 a6 h6 a7 h7 a8 h8 hc0 hc1 x0 x1 x2 x3 x4 acc (ix3 q j k)
      = acc (ix3 q j k) + blockSum x0 x1 x3 x4 q.val j k := by
  unfold sout0_B_0
  rw [View.read_writes_eq_canon _ _ _ (scover0_B_0 c i a1 h1 a2 h2 a3 h3 a4 h4 a5 h5 a6 h6 a7 h7 a8 h8 hc0 hc1 x0 x1 x2 x3 x4 acc)]
  unfold kernelRun0_B
  dsimp only
  sl_unfold_words
  simp only [View.readAt_eq_ld, h1.read_unread, h2.read_unread, h4.read_unread, h5.read_unread, h8.read_unread, View.ld_unit_zero (S := S512x1024) hz2,
    View.ld_unit_zero (S := S1x1024) hz2]
  rw [canon_slab, canon_slab, canon_slab]
  have hk : ∀ (n : ℕ) (hn : n < 3), q.val = n → acc (ix3 ⟨n, hn⟩ j k) = acc (ix3 q j k) := fun n hn e =>
    congrArg (fun p => acc (ix3 p j k)) (Fin.ext e.symm)
  refine slabs_apply x0 x1 x3 x4 _ (fun k => ld_row 1 _ x4 (by omega) k) _ _ _ q.val q.isLt j k _ (fun e => ?_) (fun e => ?_) (fun e => ?_) _
  · exact (ld_slab 0 _ _ (by omega) j k).trans (hk 0 _ e)
  · exact (ld_slab 1 _ _ (by omega) j k).trans (hk 1 _ e)
  · exact (ld_slab 2 _ _ (by omega) j k).trans (hk 2 _ e)

theorem last_sums (hc0 : ¬cond0_0 i) (hc1 : cond0_1 i) (q : Fin 8) (k : Fin 1024) :
    out0_C_6 (F := Ideal) c i a1 h1 a2 h2 a3 h3 a4 h4 a5 h5 a6 h6 a7 h7 a8 h8 hc0 hc1 x0 x1 x2 x3 x4 acc (ix2 q k)
      = if h : q.val < 3 then ∑ j : Fin 8, (acc (ix3 ⟨q.val, h⟩ j k) + blockSum x0 x1 x3 x4 q.val j k) else 0 := by
  unfold out0_C_6
  rw [View.read_writes_eq_canon _ _ _ (cover0_C_6 c i a1 h1 a2 h2 a3 h3 a4 h4 a5 h5 a6 h6 a7 h7 a8 h8 hc0 hc1 x0 x1 x2 x3 x4 acc)]
  unfold kernelRun0_C
  dsimp only
  sl_unfold_words
  simp only [View.readAt_eq_ld, h1.read_unread, h2.read_unread, h4.read_unread, h5.read_unread, h8.read_unread, View.ld_unit_zero (S := S512x1024) hz2,
    View.ld_unit_zero (S := S1x1024) hz2]
  simp (disch := decide) only [↓ View.readCov_skip, ↓ View.readCov_cons_toLoadRect, ↓ View.readCov_fill]
  rw [canon_row, canon_row, canon_row, View.canon_unit_zero hz2, eight2, eight1, eight0, empty_apply]
  have hs := fun (b0 b1 b2 : Vec Ideal S1x8x1024 .f32) (p : ℕ) hp (j : Fin 8) (old : EReal) e0 e1 e2 =>
    slabs_apply x0 x1 x3 x4 _ (fun k => ld_row 1 inb_S6x1024_S1x1024_1_0 x4 (by omega) k) b0 b1 b2 p hp j k old e0 e1 e2 0
  by_cases h : q.val < 3
  · rw [dif_pos h]
    split_ifs with c2 c1 c0
    · refine Finset.sum_congr rfl fun j _ => ?_
      have := hs 0 0 _ 2 (by omega) j (acc (ix3 ⟨q.val, h⟩ j k)) (fun e => absurd e (by decide)) (fun e => absurd e (by decide))
        (fun _ => (ld_slab 2 inb_S3x8x1024_S1x8x1024_2_0_0 acc (by omega) j k).trans (congrArg (fun p => acc (ix3 p j k)) (Fin.ext c2.symm)))
      rw [if_pos rfl] at this
      exact this.trans (congrArg (fun n => acc (ix3 ⟨q.val, h⟩ j k) + blockSum x0 x1 x3 x4 n j k) c2.symm)
    · refine Finset.sum_congr rfl fun j _ => ?_
      have := hs 0 _ 0 1 (by omega) j (acc (ix3 ⟨q.val, h⟩ j k)) (fun e => absurd e (by decide))
        (fun _ => (ld_slab 1 inb_S3x8x1024_S1x8x1024_1_0_0 acc (by omega) j k).trans (congrArg (fun p => acc (ix3 p j k)) (Fin.ext c1.symm)))
        (fun e => absurd e (by decide))
      rw [if_neg (by decide), if_pos rfl] at this
      exact this.trans (congrArg (fun n => acc (ix3 ⟨q.val, h⟩ j k) + blockSum x0 x1 x3 x4 n j k) c1.symm)
    · refine Finset.sum_congr rfl fun j _ => ?_
      have := hs _ 0 0 0 (by omega) j (acc (ix3 ⟨q.val, h⟩ j k))
        (fun _ => (ld_slab 0 inb_S3x8x1024_S1x8x1024_0_0_0 acc (by omega) j k).trans (congrArg (fun p => acc (ix3 p j k)) (Fin.ext c0.symm)))
        (fun e => absurd e (by decide)) (fun e => absurd e (by decide))
      rw [if_neg (by decide), if_neg (by decide), if_pos rfl] at this
      exact this.trans (congrArg (fun n => acc (ix3 ⟨q.val, h⟩ j k) + blockSum x0 x1 x3 x4 n j k) c0.symm)
    · omega
  · rw [dif_neg h, if_neg (by omega), if_neg (by omega), if_neg (by omega)]

/-- The block of the rows' gradient. -/
def gradBlock (r : Fin 512) (k : Fin 1024) : EReal := x2 (ix2 r k) + grad (row x1 r) (cot (row x0 r) (row x3 0) (row x4 1)) k

theorem gradBlock_eq (s : Vec Ideal S1x1024 .f32) (hs : ∀ k, s (ix2 0 k) = x4 (ix2 1 k)) (r : Fin 512) (k : Fin 1024) :
    k0_pay12 (F := Ideal) x1 x0 x3 s x2 (ix2 r k) = gradBlock x0 x1 x2 x3 x4 r k := by
  rw [grad_apply, show row s 0 = row x4 1 from funext hs]
  rfl

theorem first_grad (hc0 : cond0_0 i) (hc1 : ¬cond0_1 i) (r : Fin 512) (k : Fin 1024) :
    out0_A_5 (F := Ideal) c i a1 h1 a2 h2 a3 h3 a4 h4 a5 h5 a6 h6 a7 h7 a8 h8 hc0 hc1 x0 x1 x2 x3 x4 (ix2 r k) = gradBlock x0 x1 x2 x3 x4 r k := by
  unfold out0_A_5
  rw [View.read_writes_eq_canon _ _ _ (cover0_A_5 c i a1 h1 a2 h2 a3 h3 a4 h4 a5 h5 a6 h6 a7 h7 a8 h8 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 1 _ x4 (by omega) k) r k

theorem next_grad (hc0 : ¬cond0_0 i) (hc1 : ¬cond0_1 i) (r : Fin 512) (k : Fin 1024) :
    out0_B_5 (F := Ideal) c i a1 h1 a2 h2 a3 h3 a4 h4 a5 h5 a6 h6 a7 h7 a8 h8 hc0 hc1 x0 x1 x2 x3 x4 acc (ix2 r k) = gradBlock x0 x1 x2 x3 x4 r k := by
  unfold out0_B_5
  rw [View.read_writes_eq_canon _ _ _ (cover0_B_5 c i a1 h1 a2 h2 a3 h3 a4 h4 a5 h5 a6 h6 a7 h7 a8 h8 hc0 hc1 x0 x1 x2 x3 x4 acc)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 1 _ x4 (by omega) k) r k

theorem last_grad (hc0 : ¬cond0_0 i) (hc1 : cond0_1 i) (r : Fin 512) (k : Fin 1024) :
    out0_C_5 (F := Ideal) c i a1 h1 a2 h2 a3 h3 a4 h4 a5 h5 a6 h6 a7 h7 a8 h8 hc0 hc1 x0 x1 x2 x3 x4 acc (ix2 r k) = gradBlock x0 x1 x2 x3 x4 r k := by
  unfold out0_C_5
  rw [View.read_writes_eq_canon _ _ _ (cover0_C_5 c i a1 h1 a2 h2 a3 h3 a4 h4 a5 h5 a6 h6 a7 h7 a8 h8 hc0 hc1 x0 x1 x2 x3 x4 acc)]
  unfold kernelRun0_C
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 1 _ x4 (by omega) k) r k
end

/-! ## The arrays -/

section
variable (m : (ℓ : Loc nD τ sig) → Buf (Elt Ideal) ℓ) (c : Dev nD)

/-- The argument arrays: the cotangent, the rows, the gradient from the later uses, the gains, the modulations. -/
abbrev argD : S4096x1024.Idx → EReal := m ((c : Thread nD τ).loc main_arg0)
abbrev argX : S4096x1024.Idx → EReal := m ((c : Thread nD τ).loc main_arg1)
abbrev argZ : S4096x1024.Idx → EReal := m ((c : Thread nD τ).loc main_arg2)
abbrev argG : S1x1024.Idx → EReal := m ((c : Thread nD τ).loc main_arg3)
abbrev argS : S6x1024.Idx → EReal := m ((c : Thread nD τ).loc main_arg4)

theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0) :=
  (by decide +kernel : ∀ t : Fin grid0.N, _)

theorem lt_eight (t : Fin cfg0.N) : t.val < 8 := N_0 ▸ t.isLt

/-- The row of the arrays that row `r` of tile `t` is. -/
abbrev rowOf (t : ℕ) (ht : t < 8) (r : Fin 512) : Fin 4096 := ⟨t * 512 + r.val, by omega⟩

theorem blk0 (t : Fin cfg0.N) (r : Fin 512) (k : Fin 1024) : (iblk m c 0 t : S512x1024.Idx → EReal) (ix2 r k) = argD m c (ix2 (rowOf t.val (lt_eight t) r) k) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; omega
  | ⟨1, _⟩ => show win0_0.index t 1 * 1024 + 1 * k.val = k.val; omega

theorem blk1 (t : Fin cfg0.N) (r : Fin 512) (k : Fin 1024) : (iblk m c 1 t : S512x1024.Idx → EReal) (ix2 r k) = argX m c (ix2 (rowOf t.val (lt_eight t) r) k) := by
  obtain ⟨e0, e1⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 512 + 1 * r.val = t.val * 512 + r.val; omega
  | ⟨1, _⟩ => show win0_1.index t 1 * 1024 + 1 * k.val = k.val; omega

theorem blk2 (t : Fin cfg0.N) (r : Fin 512) (k : Fin 1024) : (iblk m c 2 t : S512x1024.Idx → EReal) (ix2 r k) = argZ m c (ix2 (rowOf t.val (lt_eight t) r) k) := by
  obtain ⟨e0, e1⟩ := (idx_facts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t 0 * 512 + 1 * r.val = t.val * 512 + r.val; omega
  | ⟨1, _⟩ => show win0_2.index t 1 * 1024 + 1 * k.val = k.val; omega

theorem blk3 (t : Fin cfg0.N) (k : Fin 1024) : (iblk m c 3 t : S1x1024.Idx → EReal) (ix2 0 k) = argG m c (ix2 0 k) := by
  obtain ⟨e0, e1⟩ := (idx_facts t).2.2.2.1
  unfold iblk
  rw [View.read_apply]
  show m ((c : Thread nD τ).loc main_arg3) _ = m ((c : Thread nD τ).loc main_arg3) _
  congr 1
  funext a
  apply Fin.ext
  match a with
  | ⟨0, _⟩ => show win0_3.index t 0 * 1 + 1 * 0 = 0; omega
  | ⟨1, _⟩ => show win0_3.index t 1 * 1024 + 1 * k.val = k.val; omega

theorem blk4 (t : Fin cfg0.N) (p : Fin 6) (k : Fin 1024) : (iblk m c 4 t : S6x1024.Idx → EReal) (ix2 p k) = argS m c (ix2 p k) := by
  obtain ⟨e0, e1⟩ := (idx_facts t).2.2.2.2
  unfold iblk
  rw [View.read_apply]
  show m ((c : Thread nD τ).loc main_arg4) _ = m ((c : Thread nD τ).loc main_arg4) _
  congr 1
  funext a
  apply Fin.ext
  match a with
  | ⟨0, _⟩ => show win0_4.index t 0 * 6 + 1 * p.val = p.val; omega
  | ⟨1, _⟩ => show win0_4.index t 1 * 1024 + 1 * k.val = k.val; omega

/-- What row `r` adds to sum `q`. -/
def rowTerm (q : ℕ) (k : Fin 1024) (r : Fin 4096) : EReal :=
  term q (row (argD m c) r) (row (argX m c) r) (row (argG m c) 0) (row (argS m c) 1) 0 k

/-- What tile `t` adds to sum `q` in sublane `j`. -/
def tileTerm (q : ℕ) (k : Fin 1024) (j : Fin 8) (t : Fin 8) : EReal :=
  ∑ y : Fin 64, rowTerm m c q k ⟨t.val * 512 + (y.val * 8 + j.val), by omega⟩

theorem tile_apply (t : Fin cfg0.N) (q : ℕ) (j : Fin 8) (k : Fin 1024) :
    blockSum (iblk m c 0 t) (iblk m c 1 t) (iblk m c 3 t) (iblk m c 4 t) q j k = tileTerm m c q k j ⟨t.val, lt_eight t⟩ := by
  unfold blockSum tileTerm rowTerm
  refine Finset.sum_congr rfl fun y _ => ?_
  rw [show row (iblk m c 0 t : S512x1024.Idx → EReal) _ = _ from funext fun k => blk0 m c t _ k,
    show row (iblk m c 1 t : S512x1024.Idx → EReal) _ = _ from funext fun k => blk1 m c t _ k,
    show row (iblk m c 3 t : S1x1024.Idx → EReal) 0 = _ from funext fun k => blk3 m c t k,
    show row (iblk m c 4 t : S6x1024.Idx → EReal) 1 = _ from funext fun k => blk4 m c t 1 k]

/-- The sums after a point that is not the last: the tiles so far. -/
theorem acc_apply : ∀ (n : ℕ) (hn : n < 7) (q : Fin 3) (j : Fin 8) (k : Fin 1024) (h : n < cfg0.N),
    (outsAt0 m c n h).2.2 (ix3 q j k) = ∑ t : Fin (n + 1), tileTerm m c q.val k j ⟨t.val, by omega⟩
  | 0, hn, q, j, k, h => by
    have hA := outsAt0_A m c ⟨0, h⟩ (by show 0 % 8 = 0; omega) (by show ¬ 0 % 8 = 7; omega)
    rw [show outsAt0 m c 0 h = _ from hA]
    dsimp only
    rw [first_sums, tile_apply, Fin.sum_univ_one]
    rfl
  | n + 1, hn, q, j, k, h => by
    have hB := outsAt0_B m c ⟨n + 1, h⟩ (by show ¬ (n + 1) % 8 = 0; omega) (by show ¬ (n + 1) % 8 = 7; omega)
    rw [show outsAt0 m c (n + 1) h = _ from hB]
    dsimp only
    rw [next_sums, tile_apply, Fin.sum_univ_castSucc]
    exact congrArg₂ (fun a b : EReal => a + b) (acc_apply n (by omega) q j k (by omega)) rfl

/-- The sums that the last point writes. -/
theorem sums_apply (q : Fin 8) (k : Fin 1024) (h : 7 < cfg0.N) :
    (outsAt0 m c 7 h).2.1 (ix2 q k) = if q.val < 3 then ∑ r : Fin 4096, rowTerm m c q.val k r else 0 := by
  have hC := outsAt0_C m c ⟨7, h⟩ (by show ¬ 7 % 8 = 0; omega) (by show 7 % 8 = 7; omega)
  rw [show outsAt0 m c 7 h = _ from hC]
  dsimp only
  rw [last_sums]
  by_cases hq : q.val < 3
  · rw [dif_pos hq, if_pos hq, ← sum_rows]
    refine Finset.sum_congr rfl fun j _ => ?_
    rw [tile_apply, Fin.sum_univ_castSucc]
    exact congrArg₂ (fun a b : EReal => a + b) (acc_apply m c 6 (by omega) ⟨q.val, hq⟩ j k (by omega)) rfl
  · rw [dif_neg hq, if_neg hq]

/-- The gradient of one row. -/
def rowGrad (r : Fin 4096) (k : Fin 1024) : EReal :=
  argZ m c (ix2 r k) + grad (row (argX m c) r) (cot (row (argD m c) r) (row (argG m c) 0) (row (argS m c) 1)) k

theorem gradBlock_apply (t : Fin cfg0.N) (r : Fin 512) (k : Fin 1024) :
    gradBlock (iblk m c 0 t) (iblk m c 1 t) (iblk m c 2 t) (iblk m c 3 t) (iblk m c 4 t) r k = rowGrad m c (rowOf t.val (lt_eight t) r) k := by
  unfold gradBlock rowGrad
  rw [show row (iblk m c 0 t : S512x1024.Idx → EReal) r = _ from funext fun k => blk0 m c t r k,
    show row (iblk m c 1 t : S512x1024.Idx → EReal) r = _ from funext fun k => blk1 m c t r k,
    show row (iblk m c 3 t : S1x1024.Idx → EReal) 0 = _ from funext fun k => blk3 m c t k,
    show row (iblk m c 4 t : S6x1024.Idx → EReal) 1 = _ from funext fun k => blk4 m c t 1 k]
  congr 1
  exact blk2 m c t r k

/-- The gradient that a point writes. -/
theorem grads_apply (t : Fin cfg0.N) (r : Fin 512) (k : Fin 1024) :
    (outsAt0 m c t.val t.isLt).1 (ix2 r k) = rowGrad m c (rowOf t.val (lt_eight t) r) k := by
  by_cases h0 : t.val % 8 = 0
  · rw [outsAt0_A m c t h0 (by omega)]
    dsimp only
    rw [first_grad, gradBlock_apply]
  · by_cases h1 : t.val % 8 = 7
    · rw [outsAt0_C m c t h0 h1]
      dsimp only
      rw [last_grad, gradBlock_apply]
    · rw [outsAt0_B m c t h0 h1]
      dsimp only
      rw [next_grad, gradBlock_apply]

theorem result0 (r : Fin 4096) (k : Fin 1024) : Value.G5 m c (ix2 r k) = rowGrad m c r k := by
  have e : Value.pt5Of (ix2 r k) = r.val / 512 := by
    show 1 * (r.val / 512 - 0) + 1 * (k.val / 1024 - 0) = _
    omega
  have hN : r.val / 512 < cfg0.N := by have h : cfg0.N = 8 := N_0; omega
  unfold Value.G5
  rw [dif_pos (e ▸ hN), Value.fold0_congr m c _ _ (r.val / 512) (by omega) e]
  have hl : Value.loc5Of (ix2 r k) = (ix2 (⟨r.val % 512, by omega⟩ : Fin 512) k : S512x1024.Idx) := by
    funext a
    apply Fin.ext
    match a with
    | ⟨0, _⟩ => rfl
    | ⟨1, _⟩ => show k.val % 1024 = k.val; omega
  rw [hl, ← Value.outsAt0_sweep m c _ hN]
  refine (grads_apply m c ⟨r.val / 512, hN⟩ _ k).trans ?_
  congr 1
  exact Fin.ext (show r.val / 512 * 512 + r.val % 512 = r.val by omega)

theorem result1 (q : Fin 8) (k : Fin 1024) :
    Value.G6 m c (ix2 q k) = if q.val < 3 then ∑ r : Fin 4096, rowTerm m c q.val k r else 0 := by
  have hN : 7 < cfg0.N := by have h : cfg0.N = 8 := N_0; omega
  rw [Value.G6_last, ← sums_apply m c q k hN, Value.outsAt0_sweep m c 7 hN]

end

/-! ## The reference -/

open Cert.Reference21Ideal.Read in
theorem reference0 (x0 x1 x2 : S4096x1024.Idx → EReal) (x3 : S1x1024.Idx → EReal) (x4 : S6x1024.Idx → EReal) (r : Fin 4096) (k : Fin 1024) :
    val_main_v59 (F := Ideal) x0 x1 x2 x3 x4 (ix2 r k) = x2 (ix2 r k) + grad (row x1 r) (cot (row x0 r) (row x3 0) (row x4 1)) k := by
  rw [← grad_eq]
  unfold val_main_v59 val_main_v58 val_main_v57 val_main_v56 val_main_v55 val_main_v54 val_main_v53 val_main_cst_12 val_main_v52 val_main_cst_11
    val_main_v51 val_main_v50 val_main_v49 val_main_v48 val_main_v47 val_main_v46 val_main_cst_10 val_main_v45 val_main_v43 val_main_v42 val_main_v37
    val_main_v36 val_main_v29 val_main_v23 val_main_v22 val_main_v21 val_main_v18 val_main_v15 val_main_v14 val_main_v13 val_main_v12 val_main_v11
    val_main_v10 val_main_v9 val_main_v8 val_main_v7 val_main_v6 val_main_v5 val_main_v4 val_main_v3 val_main_v0 val_main_cst_1 val_main_cst_0
    val_main_cst_2 val_main_cst_3 val_main_cst
  pointwise
  rfl

theorem reference1 (x0 x1 : S4096x1024.Idx → EReal) (x3 : S1x1024.Idx → EReal) (x4 : S6x1024.Idx → EReal) (q : Fin 8) (k : Fin 1024) :
    Cert.Reference21Ideal.Read.val_main_v64 (F := Ideal) x0 x1 x3 x4 (ix2 q k)
      = if q.val < 3 then ∑ r : Fin 4096, term q.val (row x0 r) (row x1 r) (row x3 0) (row x4 1) 0 k else 0 := by
  rw [← Cert.Reference21Ideal.Read.val_main_v64_eq]
  pointwise
  simp only [Fin.sum_univ_one]
  by_cases h0 : q.val < 1
  · rw [dif_pos h0, if_pos (by omega), show q.val = 0 by omega]
    rfl
  · rw [dif_neg h0]
    by_cases h1 : q.val - 1 < 1
    · rw [dif_pos h1, if_pos (by omega), show q.val = 1 by omega]
      exact Finset.sum_congr rfl fun r _ => mul_comm _ _
    · rw [dif_neg h1]
      by_cases h2 : q.val - 1 - 1 < 1
      · rw [dif_pos h2, if_pos (by omega), show q.val = 2 by omega]
        exact Finset.sum_congr rfl fun r _ => mul_comm _ _
      · rw [dif_neg h2, if_neg (by omega)]

/-- The reference leaves its arguments as they were and ends with no semaphore raised. -/
theorem reference_frame : quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

/-- The kernel's results are the reference's, entry by entry. -/
theorem equal : algebraic_Kernel21Ideal_Reference21Ideal := by
  intro m ρ m' ρ' _ hagree
  refine ⟨_, _, Value.run (F := Ideal) m ρ, ?_⟩
  refine (θ_run Cert.Reference21Ideal.defs _ _).mono (fun _ h c => ⟨?_, ?_, (h c).2.2⟩)
    (Cert.Reference21Ideal.Value.run (F := Ideal) m' ρ')
  · rw [(h c).1, Cert.Reference21Ideal.Read.val_main_v59_eq, (hagree c).1, (hagree c).2.1, (hagree c).2.2.1, (hagree c).2.2.2.1, (hagree c).2.2.2.2]
    refine funext fun i => ?_
    obtain ⟨r, k, rfl⟩ : ∃ (r : Fin 4096) (k : Fin 1024), i = ix2 r k := ⟨i 0, i 1, eq_ix2 i⟩
    exact (reference0 _ _ _ _ _ r k).trans (result0 m c r k).symm
  · rw [(h c).2.1, (hagree c).1, (hagree c).2.1, (hagree c).2.2.2.1, (hagree c).2.2.2.2]
    refine (Cert.Reference21Ideal.Read.val_main_v64_eq _ _ _ _).trans (funext fun i => ?_)
    obtain ⟨q, k, rfl⟩ : ∃ (q : Fin 8) (k : Fin 1024), i = ix2 q k := ⟨i 0, i 1, eq_ix2 i⟩
    exact (reference1 _ _ _ _ q k).trans (result1 m c q k).symm

end Cert.NormBwd

end
-- ==== Proof.NormBwdMix.lean ====
/-
  The gradient of the second norm and its modulation, with the gate of the branch before it. The kernel takes 512 rows at a
  time, writes their gradient and the gated gradient, and adds up four sums over the rows in eight sublanes, which the last
  point adds together; the reference is the derivative of the plain formulas.
-/
module

public import proofs.«01_k».proof.Defs
public import proofs.«01_k».proof.Proof.NormMath
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise
public import Idealize.ShloMosaic.Lib.Pipeline.ReadBack
public import Idealize.ShloMosaic.Adequacy
public import Idealize.ShloMosaic.Lib.Quiescent

@[expose] public section

set_option maxRecDepth 16384

noncomputable section

namespace Cert.NormBwdMix

open Cert.Kernel22Ideal Cert.Kernel22Ideal.Gen Idealize.ShloMosaic Idealize.ShloMosaic.TcCoe
open Idealize.SL.Sem
open Cert.NormMath
open scoped BigOperators

theorem hz2 : (![0, 0] : Fin 2 → Nat) = fun _ => 0 := funext fun a => by fin_cases a <;> rfl

/-! ## What one point computes -/

theorem zeros_apply (q : Fin 4) (j : Fin 8) (k : Fin 1024) : k0_pay7 (F := Ideal) (ix3 q j k) = 0 := by
  unfold k0_pay7
  pointwise

theorem empty_apply (q : Fin 8) (k : Fin 1024) : k0_pay2 (F := Ideal) (ix2 q k) = 0 := by
  unfold k0_pay2
  pointwise

theorem normed_apply (x : Vec Ideal S512x1024 .f32) (r : Fin 512) (k : Fin 1024) :
    k0_pay9 (F := Ideal) x (ix2 r k) = x (ix2 r k) * scale (row x r) := by
  unfold k0_pay9 k0_pay8
  pointwise
  rfl

theorem wide_apply (dh : Vec Ideal S512x1024 .bf16) (r : Fin 512) (k : Fin 1024) : k0_pay10 (F := Ideal) dh (ix2 r k) = dh (ix2 r k) := by
  unfold k0_pay10
  pointwise

theorem modulated_apply (dh : Vec Ideal S512x1024 .bf16) (s : Vec Ideal S1x1024 .f32) (r : Fin 512) (k : Fin 1024) :
    k0_pay11 (F := Ideal) dh s (ix2 r k) = dh (ix2 r k) * (1 + s (ix2 0 k)) := by
  unfold k0_pay11 k0_pay10
  pointwise

theorem add0 (dh : Vec Ideal S512x1024 .f32) (a : Vec Ideal S1x8x1024 .f32) (j : Fin 8) (k : Fin 1024) :
    k0_pay13 (F := Ideal) dh a (ix3 0 j k) = a (ix3 0 j k) + ∑ g : Fin 64, dh (ix2 ⟨g.val * 8 + j.val, by omega⟩ k) := by
  unfold k0_pay13
  pointwise

theorem add1 (n dh : Vec Ideal S512x1024 .f32) (g : Vec Ideal S1x1024 .f32) (a : Vec Ideal S1x8x1024 .f32) (j : Fin 8) (k : Fin 1024) :
    k0_pay14 (F := Ideal) n dh g a (ix3 0 j k) = a (ix3 0 j k)
      + ∑ y : Fin 64, dh (ix2 ⟨y.val * 8 + j.val, by omega⟩ k) * (n (ix2 ⟨y.val * 8 + j.val, by omega⟩ k) * g (ix2 0 k)) := by
  unfold k0_pay14
  pointwise

theorem add2 (n d : Vec Ideal S512x1024 .f32) (a : Vec Ideal S1x8x1024 .f32) (j : Fin 8) (k : Fin 1024) :
    k0_pay15 (F := Ideal) n d a (ix3 0 j k) = a (ix3 0 j k)
      + ∑ y : Fin 64, d (ix2 ⟨y.val * 8 + j.val, by omega⟩ k) * n (ix2 ⟨y.val * 8 + j.val, by omega⟩ k) := by
  unfold k0_pay15
  pointwise

theorem add3 (d : Vec Ideal S512x1024 .f32) (f : Vec Ideal S512x1024 .bf16) (a : Vec Ideal S1x8x1024 .f32) (j : Fin 8) (k : Fin 1024) :
    k0_pay1 (F := Ideal) d a f (ix3 0 j k) = a (ix3 0 j k)
      + ∑ y : Fin 64, d (ix2 ⟨y.val * 8 + j.val, by omega⟩ k) * f (ix2 ⟨y.val * 8 + j.val, by omega⟩ k) := by
  unfold k0_pay1
  pointwise

theorem eight0 (a : Vec Ideal S1x8x1024 .f32) (k : Fin 1024) : k0_pay3 (F := Ideal) a (ix2 0 k) = ∑ j : Fin 8, a (ix3 0 j k) := by
  unfold k0_pay3
  pointwise

theorem eight1 (a : Vec Ideal S1x8x1024 .f32) (k : Fin 1024) : k0_pay4 (F := Ideal) a (ix2 0 k) = ∑ j : Fin 8, a (ix3 0 j k) := by
  unfold k0_pay4
  pointwise

theorem eight2 (a : Vec Ideal S1x8x1024 .f32) (k : Fin 1024) : k0_pay5 (F := Ideal) a (ix2 0 k) = ∑ j : Fin 8, a (ix3 0 j k) := by
  unfold k0_pay5
  pointwise

theorem eight3 (a : Vec Ideal S1x8x1024 .f32) (k : Fin 1024) : k0_pay6 (F := Ideal) a (ix2 0 k) = ∑ j : Fin 8, a (ix3 0 j k) := by
  unfold k0_pay6
  pointwise

theorem gated_apply (d : Vec Ideal S512x1024 .f32) (b : Vec Ideal S1x1024 .f32) (r : Fin 512) (k : Fin 1024) :
    k0_pay16 (F := Ideal) d b (ix2 r k) = d (ix2 r k) * b (ix2 0 k) := by
  unfold k0_pay16
  pointwise

theorem grad_apply (x : Vec Ideal S512x1024 .f32) (dh : Vec Ideal S512x1024 .bf16) (g s : Vec Ideal S1x1024 .f32) (z : Vec Ideal S512x1024 .f32) (r : Fin 512) (k : Fin 1024) :
    k0_pay12 (F := Ideal) x dh g s z (ix2 r k) = z (ix2 r k) + grad (row x r) (cot (row dh r) (row g 0) (row s 0)) k := by
  unfold k0_pay12 k0_pay9 k0_pay8 k0_pay11 k0_pay10
  pointwise
  rfl

section
variable (c : Dev nD) (i : grid0.Coords)
  (a1 : Memref sig .tc .vmem S512x1024 .bf16) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S6x1024 .f32) (h5 : a5.IsWhole) (a6 : Memref sig .tc .vmem S512x1024 .bf16) (h6 : a6.IsWhole)
  (a7 : Memref sig .tc .vmem S6x1024 .f32) (h7 : a7.IsWhole) (a8 : Memref sig .tc .vmem S512x1024 .f32) (h8 : a8.IsWhole)
  (a9 : Memref sig .tc .vmem S8x1024 .f32) (h9 : a9.IsWhole) (a10 : Memref sig .tc .vmem S512x1024 .bf16) (h10 : a10.IsWhole)
  (a11 : Memref sig .tc .vmem S4x8x1024 .f32) (h11 : a11.IsWhole)
  (x0 : Vec Ideal S512x1024 .bf16) (x1 x2 : Vec Ideal S512x1024 .f32) (x3 : Vec Ideal S1x1024 .f32) (x4 : Vec Ideal S6x1024 .f32)
  (x5 : Vec Ideal S512x1024 .bf16) (x6 : Vec Ideal S6x1024 .f32) (acc : Vec Ideal S4x8x1024 .f32)

/-- The block of the rows' gradient. -/
def gradBlock (r : Fin 512) (k : Fin 1024) : EReal := x2 (ix2 r k) + grad (row x1 r) (cot (row x0 r) (row x3 0) (row x4 4)) k

theorem gradBlock_eq (s : Vec Ideal S1x1024 .f32) (hs : ∀ k, s (ix2 0 k) = x4 (ix2 4 k)) (r : Fin 512) (k : Fin 1024) :
    k0_pay12 (F := Ideal) x1 x0 x3 s x2 (ix2 r k) = gradBlock x0 x1 x2 x3 x4 r k := by
  rw [grad_apply, show row s 0 = row x4 4 from funext hs]
  rfl

/-- What a block adds to sum `q` in sublane `j`. -/
def blockSum (q : ℕ) (j : Fin 8) (k : Fin 1024) : EReal :=
  ∑ y : Fin 64, term q (row x0 ⟨y.val * 8 + j.val, by omega⟩) (row x1 ⟨y.val * 8 + j.val, by omega⟩) (row x3 0) (row x4 4)
    (gradBlock x0 x1 x2 x3 x4 ⟨y.val * 8 + j.val, by omega⟩ k * x5 (ix2 ⟨y.val * 8 + j.val, by omega⟩ k)) k

/-- The four slabs written over an accumulator, read back. -/
theorem slabs_apply (s : Vec Ideal S1x1024 .f32) (hs : ∀ k, s (ix2 0 k) = x4 (ix2 4 k)) (b0 b1 b2 b3 : Vec Ideal S1x8x1024 .f32) (q : ℕ) (hq : q < 4) (j : Fin 8) (k : Fin 1024) (old : EReal)
    (e0 : q = 0 → b0 (ix3 0 j k) = old) (e1 : q = 1 → b1 (ix3 0 j k) = old) (e2 : q = 2 → b2 (ix3 0 j k) = old) (e3 : q = 3 → b3 (ix3 0 j k) = old) (rest : EReal) :
    (if q = 3 then k0_pay1 (F := Ideal) (k0_pay12 x1 x0 x3 s x2) b3 x5 (ix3 0 j k)
      else if q = 2 then k0_pay15 (F := Ideal) (k0_pay9 x1) (k0_pay11 x0 s) b2 (ix3 0 j k)
      else if q = 1 then k0_pay14 (F := Ideal) (k0_pay9 x1) (k0_pay10 x0) x3 b1 (ix3 0 j k)
      else if q = 0 then k0_pay13 (F := Ideal) (k0_pay10 x0) b0 (ix3 0 j k) else rest)
    = old + blockSum x0 x1 x2 x3 x4 x5 q j k := by
  unfold blockSum
  split_ifs with c3 c2 c1 c0
  · rw [add3, e3 c3, c3]
    congr 1
    refine Finset.sum_congr rfl fun y _ => ?_
    rw [gradBlock_eq _ _ _ _ _ s hs]
    rfl
  · rw [add2, e2 c2, c2]
    congr 1
    refine Finset.sum_congr rfl fun y _ => ?_
    rw [modulated_apply, normed_apply, hs]
    rfl
  · rw [add1, e1 c1, c1]
    congr 1
    refine Finset.sum_congr rfl fun y _ => ?_
    rw [normed_apply, wide_apply]
    rfl
  · rw [add0, e0 c0, c0]
    rfl
  · omega

theorem first_sums (hc0 : cond0_0 i) (hc1 : ¬cond0_1 i) (q : Fin 4) (j : Fin 8) (k : Fin 1024) :
    sout0_A_0 (F := Ideal) c i a1 h1 a2 h2 a3 h3 a4 h4 a5 h5 a6 h6 a7 h7 a8 h8 a9 h9 a10 h10 a11 h11 hc0 hc1 x0 x1 x2 x3 x4 x5 x6 (ix3 q j k) = blockSum x0 x1 x2 x3 x4 x5 q.val j k := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, View.ld_unit_zero (S := S512x1024) hz2,
    View.ld_unit_zero (S := S1x1024) hz2]
  simp (disch := decide) only [↓ View.readCov_skip, ↓ View.readCov_cons_toLoadRect, ↓ View.readCov_fill]
  rw [canon_slab, canon_slab, canon_slab, canon_slab]
  refine (slabs_apply x0 x1 x2 x3 x4 x5 _ (fun k => ld_row 4 _ x4 (by omega) k) _ _ _ _ q.val q.isLt j k 0 (fun _ => ?_) (fun _ => ?_) (fun _ => ?_) (fun _ => ?_) _).trans (zero_add _)
  · exact (ld_slab 0 _ _ (by omega) j k).trans (zeros_apply _ j k)
  · exact (ld_slab 1 _ _ (by omega) j k).trans (zeros_apply _ j k)
  · exact (ld_slab 2 _ _ (by omega) j k).trans (zeros_apply _ j k)
  · exact (ld_slab 3 _ _ (by omega) j k).trans (zeros_apply _ j k)

theorem next_sums (hc0 : ¬cond0_0 i) (hc1 : ¬cond0_1 i) (q : Fin 4) (j : Fin 8) (k : Fin 1024) :
    sout0_B_0 (F := Ideal) c i a1 h1 a2 h2 a3 h3 a4 h4 a5 h5 a6 h6 a7 h7 a8 h8 a9 h9 a10 h10 a11 h11 hc0 hc1 x0 x1 x2 x3 x4 x5 x6 acc (ix3 q j k)
      = acc (ix3 q j k) + blockSum x0 x1 x2 x3 x4 x5 q.val j k := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 x4 x5 x6 acc)]
  unfold kernelRun0_B
  dsimp only
  sl_unfold_words
  simp only [View.readAt_eq_ld, h1.read_unread, h2.read_unread, h3.read_unread, h4.read_unread, h5.read_unread, h6.read_unread, h11.read_unread, View.ld_unit_zero (S := S512x1024) hz2,
    View.ld_unit_zero (S := S1x1024) hz2]
  rw [canon_slab, canon_slab, canon_slab, canon_slab]
  have hk : ∀ (n : ℕ) (hn : n < 4), q.val = n → acc (ix3 ⟨n, hn⟩ j k) = acc (ix3 q j k) := fun n hn e =>
    congrArg (fun p => acc (ix3 p j k)) (Fin.ext e.symm)
  refine slabs_apply x0 x1 x2 x3 x4 x5 _ (fun k => ld_row 4 _ x4 (by omega) k) _ _ _ _ q.val q.isLt j k _ (fun e => ?_) (fun e => ?_) (fun e => ?_) (fun e => ?_) _
  · exact (ld_slab 0 _ _ (by omega) j k).trans (hk 0 _ e)
  · exact (ld_slab 1 _ _ (by omega) j k).trans (hk 1 _ e)
  · exact (ld_slab 2 _ _ (by omega) j k).trans (hk 2 _ e)
  · exact (ld_slab 3 _ _ (by omega) j k).trans (hk 3 _ e)

theorem last_sums (hc0 : ¬cond0_0 i) (hc1 : cond0_1 i) (q : Fin 8) (k : Fin 1024) :
    out0_C_8 (F := Ideal) c i a1 h1 a2 h2 a3 h3 a4 h4 a5 h5 a6 h6 a7 h7 a8 h8 a9 h9 a10 h10 a11 h11 hc0 hc1 x0 x1 x2 x3 x4 x5 x6 acc (ix2 q k)
      = if h : q.val < 4 then ∑ j : Fin 8, (acc (ix3 ⟨q.val, h⟩ j k) + blockSum x0 x1 x2 x3 x4 x5 q.val j k) else 0 := by
  unfold out0_C_8
  rw [View.read_writes_eq_canon _ _ _ (cover0_C_8 c i a1 h1 a2 h2 a3 h3 a4 h4 a5 h5 a6 h6 a7 h7 a8 h8 a9 h9 a10 h10 a11 h11 hc0 hc1 x0 x1 x2 x3 x4 x5 x6 acc)]
  unfold kernelRun0_C
  dsimp only
  sl_unfold_words
  simp only [View.readAt_eq_ld, h1.read_unread, h2.read_unread, h3.read_unread, h4.read_unread, h5.read_unread, h6.read_unread, h11.read_unread, View.ld_unit_zero (S := S512x1024) hz2,
    View.ld_unit_zero (S := S1x1024) hz2]
  simp (disch := decide) only [↓ View.readCov_skip, ↓ View.readCov_cons_toLoadRect, ↓ View.readCov_fill]
  rw [canon_row, canon_row, canon_row, canon_row, View.canon_unit_zero hz2, eight3, eight2, eight1, eight0, empty_apply]
  have hs := fun (b0 b1 b2 b3 : Vec Ideal S1x8x1024 .f32) (p : ℕ) hp (j : Fin 8) (old : EReal) e0 e1 e2 e3 =>
    slabs_apply x0 x1 x2 x3 x4 x5 _ (fun k => ld_row 4 inb_S6x1024_S1x1024_4_0 x4 (by omega) k) b0 b1 b2 b3 p hp j k old e0 e1 e2 e3 0
  by_cases h : q.val < 4
  · rw [dif_pos h]
    split_ifs with c3 c2 c1 c0
    · refine Finset.sum_congr rfl fun j _ => ?_
      have := hs 0 0 0 _ 3 (by omega) j (acc (ix3 ⟨q.val, h⟩ j k)) (fun e => absurd e (by decide)) (fun e => absurd e (by decide))
        (fun e => absurd e (by decide)) (fun _ => (ld_slab 3 inb_S4x8x1024_S1x8x1024_3_0_0 acc (by omega) j k).trans (congrArg (fun p => acc (ix3 p j k)) (Fin.ext c3.symm)))
      rw [if_pos rfl] at this
      exact this.trans (congrArg (fun n => acc (ix3 ⟨q.val, h⟩ j k) + blockSum x0 x1 x2 x3 x4 x5 n j k) c3.symm)
    · refine Finset.sum_congr rfl fun j _ => ?_
      have := hs 0 0 _ 0 2 (by omega) j (acc (ix3 ⟨q.val, h⟩ j k)) (fun e => absurd e (by decide)) (fun e => absurd e (by decide))
        (fun _ => (ld_slab 2 inb_S4x8x1024_S1x8x1024_2_0_0 acc (by omega) j k).trans (congrArg (fun p => acc (ix3 p j k)) (Fin.ext c2.symm))) (fun e => absurd e (by decide))
      rw [if_neg (by decide), if_pos rfl] at this
      exact this.trans (congrArg (fun n => acc (ix3 ⟨q.val, h⟩ j k) + blockSum x0 x1 x2 x3 x4 x5 n j k) c2.symm)
    · refine Finset.sum_congr rfl fun j _ => ?_
      have := hs 0 _ 0 0 1 (by omega) j (acc (ix3 ⟨q.val, h⟩ j k)) (fun e => absurd e (by decide)) (fun _ => (ld_slab 1 inb_S4x8x1024_S1x8x1024_1_0_0 acc (by omega) j k).trans (congrArg (fun p => acc (ix3 p j k)) (Fin.ext c1.symm)))
        (fun e => absurd e (by decide)) (fun e => absurd e (by decide))
      rw [if_neg (by decide), if_neg (by decide), if_pos rfl] at this
      exact this.trans (congrArg (fun n => acc (ix3 ⟨q.val, h⟩ j k) + blockSum x0 x1 x2 x3 x4 x5 n j k) c1.symm)
    · refine Finset.sum_congr rfl fun j _ => ?_
      have := hs _ 0 0 0 0 (by omega) j (acc (ix3 ⟨q.val, h⟩ j k)) (fun _ => (ld_slab 0 inb_S4x8x1024_S1x8x1024_0_0_0 acc (by omega) j k).trans (congrArg (fun p => acc (ix3 p j k)) (Fin.ext c0.symm))) (fun e => absurd e (by decide))
        (fun e => absurd e (by decide)) (fun e => absurd e (by decide))
      rw [if_neg (by decide), if_neg (by decide), if_neg (by decide), if_pos rfl] at this
      exact this.trans (congrArg (fun n => acc (ix3 ⟨q.val, h⟩ j k) + blockSum x0 x1 x2 x3 x4 x5 n j k) c0.symm)
    · omega
  · rw [dif_neg h, if_neg (by omega), if_neg (by omega), if_neg (by omega), if_neg (by omega)]

theorem first_grad (hc0 : cond0_0 i) (hc1 : ¬cond0_1 i) (r : Fin 512) (k : Fin 1024) :
    out0_A_7 (F := Ideal) c i a1 h1 a2 h2 a3 h3 a4 h4 a5 h5 a6 h6 a7 h7 a8 h8 a9 h9 a10 h10 a11 h11 hc0 hc1 x0 x1 x2 x3 x4 x5 x6 (ix2 r k) = gradBlock x0 x1 x2 x3 x4 r k := by
  unfold out0_A_7
  rw [View.read_writes_eq_canon _ _ _ (cover0_A_7 c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 4 _ x4 (by omega) k) r k

theorem next_grad (hc0 : ¬cond0_0 i) (hc1 : ¬cond0_1 i) (r : Fin 512) (k : Fin 1024) :
    out0_B_7 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k := by
  unfold out0_B_7
  rw [View.read_writes_eq_canon _ _ _ (cover0_B_7 c i a1 h1 a2 h2 a3 h3 a4 h4 a5 h5 a6 h6 a7 h7 a8 h8 a9 h9 a10 h10 a11 h11 hc0 hc1 x0 x1 x2 x3 x4 x5 x6 acc)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 4 _ x4 (by omega) k) r k

theorem last_grad (hc0 : ¬cond0_0 i) (hc1 : cond0_1 i) (r : Fin 512) (k : Fin 1024) :
    out0_C_7 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k := by
  unfold out0_C_7
  rw [View.read_writes_eq_canon _ _ _ (cover0_C_7 c i a1 h1 a2 h2 a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 4 _ x4 (by omega) k) r k
theorem first_gated (hc0 : cond0_0 i) (hc1 : ¬cond0_1 i) (r : Fin 512) (k : Fin 1024) :
    out0_A_9 (F := Ideal) c i a1 h1 a2 h2 a3 h3 a4 h4 a5 h5 a6 h6 a7 h7 a8 h8 a9 h9 a10 h10 a11 h11 hc0 hc1 x0 x1 x2 x3 x4 x5 x6 (ix2 r k) = gradBlock x0 x1 x2 x3 x4 r k * x6 (ix2 2 k) := by
  unfold out0_A_9
  rw [View.read_writes_eq_canon _ _ _ (cover0_A_9 c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, h7.read_unread, View.ld_unit_zero (S := S512x1024) hz2,
    View.ld_unit_zero (S := S1x1024) hz2]
  rw [gated_apply, gradBlock_eq x0 x1 x2 x3 x4 _ (fun k => ld_row 4 _ x4 (by omega) k) r k]
  exact congrArg (fun y : EReal => gradBlock x0 x1 x2 x3 x4 r k * y) (ld_row 2 _ x6 (by omega) k)

theorem next_gated (hc0 : ¬cond0_0 i) (hc1 : ¬cond0_1 i) (r : Fin 512) (k : Fin 1024) :
    out0_B_9 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k * x6 (ix2 2 k) := by
  unfold out0_B_9
  rw [View.read_writes_eq_canon _ _ _ (cover0_B_9 c i a1 h1 a2 h2 a3 h3 a4 h4 a5 h5 a6 h6 a7 h7 a8 h8 a9 h9 a10 h10 a11 h11 hc0 hc1 x0 x1 x2 x3 x4 x5 x6 acc)]
  unfold kernelRun0_B
  dsimp only
  sl_unfold_words
  rw [View.canon_unit_zero hz2]
  simp only [View.readAt_eq_ld, h1.read_unread, h2.read_unread, h3.read_unread, h4.read_unread, h5.read_unread, h7.read_unread, View.ld_unit_zero (S := S512x1024) hz2,
    View.ld_unit_zero (S := S1x1024) hz2]
  rw [gated_apply, gradBlock_eq x0 x1 x2 x3 x4 _ (fun k => ld_row 4 _ x4 (by omega) k) r k]
  exact congrArg (fun y : EReal => gradBlock x0 x1 x2 x3 x4 r k * y) (ld_row 2 _ x6 (by omega) k)

theorem last_gated (hc0 : ¬cond0_0 i) (hc1 : cond0_1 i) (r : Fin 512) (k : Fin 1024) :
    out0_C_9 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k * x6 (ix2 2 k) := by
  unfold out0_C_9
  rw [View.read_writes_eq_canon _ _ _ (cover0_C_9 c i a1 h1 a2 h2 a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz2]
  simp only [View.readAt_eq_ld, h1.read_unread, h2.read_unread, h3.read_unread, h4.read_unread, h5.read_unread, h7.read_unread, View.ld_unit_zero (S := S512x1024) hz2,
    View.ld_unit_zero (S := S1x1024) hz2]
  rw [gated_apply, gradBlock_eq x0 x1 x2 x3 x4 _ (fun k => ld_row 4 _ x4 (by omega) k) r k]
  exact congrArg (fun y : EReal => gradBlock x0 x1 x2 x3 x4 r k * y) (ld_row 2 _ x6 (by omega) k)
end

/-! ## The arrays -/

section
variable (m : (ℓ : Loc nD τ sig) → Buf (Elt Ideal) ℓ) (c : Dev nD)

/-- The argument arrays: the cotangent, the rows, the gradient from the later uses, the gains, the modulations. -/
abbrev argD : S4096x1024.Idx → EReal := m ((c : Thread nD τ).loc main_arg0)
abbrev argX : S4096x1024.Idx → EReal := m ((c : Thread nD τ).loc main_arg1)
abbrev argZ : S4096x1024.Idx → EReal := m ((c : Thread nD τ).loc main_arg2)
abbrev argG : S1x1024.Idx → EReal := m ((c : Thread nD τ).loc main_arg3)
abbrev argS : S6x1024.Idx → EReal := m ((c : Thread nD τ).loc main_arg4)
/-- The branch's output and the modulations with its gate. -/
abbrev argF : S4096x1024.Idx → EReal := m ((c : Thread nD τ).loc main_arg5)
abbrev argB : S6x1024.Idx → EReal := m ((c : Thread nD τ).loc main_arg6)

theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = 0 ∧ win0_6.index t 1 = 0) :=
  (by decide +kernel : ∀ t : Fin grid0.N, _)

theorem lt_eight (t : Fin cfg0.N) : t.val < 8 := N_0 ▸ t.isLt

/-- The row of the arrays that row `r` of tile `t` is. -/
abbrev rowOf (t : ℕ) (ht : t < 8) (r : Fin 512) : Fin 4096 := ⟨t * 512 + r.val, by omega⟩

theorem blk0 (t : Fin cfg0.N) (r : Fin 512) (k : Fin 1024) : (iblk m c 0 t : S512x1024.Idx → EReal) (ix2 r k) = argD m c (ix2 (rowOf t.val (lt_eight t) r) k) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; omega
  | ⟨1, _⟩ => show win0_0.index t 1 * 1024 + 1 * k.val = k.val; omega

theorem blk1 (t : Fin cfg0.N) (r : Fin 512) (k : Fin 1024) : (iblk m c 1 t : S512x1024.Idx → EReal) (ix2 r k) = argX m c (ix2 (rowOf t.val (lt_eight t) r) k) := by
  obtain ⟨e0, e1⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 512 + 1 * r.val = t.val * 512 + r.val; omega
  | ⟨1, _⟩ => show win0_1.index t 1 * 1024 + 1 * k.val = k.val; omega

theorem blk2 (t : Fin cfg0.N) (r : Fin 512) (k : Fin 1024) : (iblk m c 2 t : S512x1024.Idx → EReal) (ix2 r k) = argZ m c (ix2 (rowOf t.val (lt_eight t) r) k) := by
  obtain ⟨e0, e1⟩ := (idx_facts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t 0 * 512 + 1 * r.val = t.val * 512 + r.val; omega
  | ⟨1, _⟩ => show win0_2.index t 1 * 1024 + 1 * k.val = k.val; omega

theorem blk3 (t : Fin cfg0.N) (k : Fin 1024) : (iblk m c 3 t : S1x1024.Idx → EReal) (ix2 0 k) = argG m c (ix2 0 k) := by
  obtain ⟨e0, e1⟩ := (idx_facts t).2.2.2.1
  unfold iblk
  rw [View.read_apply]
  show m ((c : Thread nD τ).loc main_arg3) _ = m ((c : Thread nD τ).loc main_arg3) _
  congr 1
  funext a
  apply Fin.ext
  match a with
  | ⟨0, _⟩ => show win0_3.index t 0 * 1 + 1 * 0 = 0; omega
  | ⟨1, _⟩ => show win0_3.index t 1 * 1024 + 1 * k.val = k.val; omega

theorem blk4 (t : Fin cfg0.N) (p : Fin 6) (k : Fin 1024) : (iblk m c 4 t : S6x1024.Idx → EReal) (ix2 p k) = argS m c (ix2 p k) := by
  obtain ⟨e0, e1⟩ := (idx_facts t).2.2.2.2.1
  unfold iblk
  rw [View.read_apply]
  show m ((c : Thread nD τ).loc main_arg4) _ = m ((c : Thread nD τ).loc main_arg4) _
  congr 1
  funext a
  apply Fin.ext
  match a with
  | ⟨0, _⟩ => show win0_4.index t 0 * 6 + 1 * p.val = p.val; omega
  | ⟨1, _⟩ => show win0_4.index t 1 * 1024 + 1 * k.val = k.val; omega

theorem blk5 (t : Fin cfg0.N) (r : Fin 512) (k : Fin 1024) : (iblk m c 5 t : S512x1024.Idx → EReal) (ix2 r k) = argF m c (ix2 (rowOf t.val (lt_eight t) r) k) := by
  obtain ⟨e0, e1⟩ := (idx_facts t).2.2.2.2.2.1
  unfold iblk
  rw [View.read_apply]
  show m ((c : Thread nD τ).loc main_arg5) _ = m ((c : Thread nD τ).loc main_arg5) _
  congr 1
  funext a
  apply Fin.ext
  match a with
  | ⟨0, _⟩ => show win0_5.index t 0 * 512 + 1 * r.val = t.val * 512 + r.val; omega
  | ⟨1, _⟩ => show win0_5.index t 1 * 1024 + 1 * k.val = k.val; omega

theorem blk6 (t : Fin cfg0.N) (p : Fin 6) (k : Fin 1024) : (iblk m c 6 t : S6x1024.Idx → EReal) (ix2 p k) = argB m c (ix2 p k) := by
  obtain ⟨e0, e1⟩ := (idx_facts t).2.2.2.2.2.2
  unfold iblk
  rw [View.read_apply]
  show m ((c : Thread nD τ).loc main_arg6) _ = m ((c : Thread nD τ).loc main_arg6) _
  congr 1
  funext a
  apply Fin.ext
  match a with
  | ⟨0, _⟩ => show win0_6.index t 0 * 6 + 1 * p.val = p.val; omega
  | ⟨1, _⟩ => show win0_6.index t 1 * 1024 + 1 * k.val = k.val; omega

/-- The gradient of one row. -/
def rowGrad (r : Fin 4096) (k : Fin 1024) : EReal :=
  argZ m c (ix2 r k) + grad (row (argX m c) r) (cot (row (argD m c) r) (row (argG m c) 0) (row (argS m c) 4)) k

theorem gradBlock_apply (t : Fin cfg0.N) (r : Fin 512) (k : Fin 1024) :
    gradBlock (iblk m c 0 t) (iblk m c 1 t) (iblk m c 2 t) (iblk m c 3 t) (iblk m c 4 t) r k = rowGrad m c (rowOf t.val (lt_eight t) r) k := by
  unfold gradBlock rowGrad
  rw [show row (iblk m c 0 t : S512x1024.Idx → EReal) r = _ from funext fun k => blk0 m c t r k,
    show row (iblk m c 1 t : S512x1024.Idx → EReal) r = _ from funext fun k => blk1 m c t r k,
    show row (iblk m c 3 t : S1x1024.Idx → EReal) 0 = _ from funext fun k => blk3 m c t k,
    show row (iblk m c 4 t : S6x1024.Idx → EReal) 4 = _ from funext fun k => blk4 m c t 4 k]
  congr 1
  exact blk2 m c t r k

/-- What row `r` adds to sum `q`. -/
def rowTerm (q : ℕ) (k : Fin 1024) (r : Fin 4096) : EReal :=
  term q (row (argD m c) r) (row (argX m c) r) (row (argG m c) 0) (row (argS m c) 4) (rowGrad m c r k * argF m c (ix2 r k)) k

/-- What tile `t` adds to sum `q` in sublane `j`. -/
def tileTerm (q : ℕ) (k : Fin 1024) (j : Fin 8) (t : Fin 8) : EReal :=
  ∑ y : Fin 64, rowTerm m c q k ⟨t.val * 512 + (y.val * 8 + j.val), by omega⟩

theorem tile_apply (t : Fin cfg0.N) (q : ℕ) (j : Fin 8) (k : Fin 1024) :
    blockSum (iblk m c 0 t) (iblk m c 1 t) (iblk m c 2 t) (iblk m c 3 t) (iblk m c 4 t) (iblk m c 5 t) q j k = tileTerm m c q k j ⟨t.val, lt_eight t⟩ := by
  unfold blockSum tileTerm rowTerm
  refine Finset.sum_congr rfl fun y _ => ?_
  rw [gradBlock_apply, show (iblk m c 5 t : S512x1024.Idx → EReal) (ix2 _ k) = _ from blk5 m c t _ k,
    show row (iblk m c 0 t : S512x1024.Idx → EReal) _ = _ from funext fun k => blk0 m c t _ k,
    show row (iblk m c 1 t : S512x1024.Idx → EReal) _ = _ from funext fun k => blk1 m c t _ k,
    show row (iblk m c 3 t : S1x1024.Idx → EReal) 0 = _ from funext fun k => blk3 m c t k,
    show row (iblk m c 4 t : S6x1024.Idx → EReal) 4 = _ from funext fun k => blk4 m c t 4 k]

/-- The sums after a point that is not the last: the tiles so far. -/
theorem acc_apply : ∀ (n : ℕ) (hn : n < 7) (q : Fin 4) (j : Fin 8) (k : Fin 1024) (h : n < cfg0.N),
    (outsAt0 m c n h).2.2.2 (ix3 q j k) = ∑ t : Fin (n + 1), tileTerm m c q.val k j ⟨t.val, by omega⟩
  | 0, hn, q, j, k, h => by
    have hA := outsAt0_A m c ⟨0, h⟩ (by show 0 % 8 = 0; omega) (by show ¬ 0 % 8 = 7; omega)
    rw [show outsAt0 m c 0 h = _ from hA]
    dsimp only
    rw [first_sums, tile_apply, Fin.sum_univ_one]
    rfl
  | n + 1, hn, q, j, k, h => by
    have hB := outsAt0_B m c ⟨n + 1, h⟩ (by show ¬ (n + 1) % 8 = 0; omega) (by show ¬ (n + 1) % 8 = 7; omega)
    rw [show outsAt0 m c (n + 1) h = _ from hB]
    dsimp only
    rw [next_sums, tile_apply, Fin.sum_univ_castSucc]
    exact congrArg₂ (fun a b : EReal => a + b) (acc_apply n (by omega) q j k (by omega)) rfl

/-- The sums that the last point writes. -/
theorem sums_apply (q : Fin 8) (k : Fin 1024) (h : 7 < cfg0.N) :
    (outsAt0 m c 7 h).2.1 (ix2 q k) = if q.val < 4 then ∑ r : Fin 4096, rowTerm m c q.val k r else 0 := by
  have hC := outsAt0_C m c ⟨7, h⟩ (by show ¬ 7 % 8 = 0; omega) (by show 7 % 8 = 7; omega)
  rw [show outsAt0 m c 7 h = _ from hC]
  dsimp only
  rw [last_sums]
  by_cases hq : q.val < 4
  · rw [dif_pos hq, if_pos hq, ← sum_rows]
    refine Finset.sum_congr rfl fun j _ => ?_
    rw [tile_apply, Fin.sum_univ_castSucc]
    exact congrArg₂ (fun a b : EReal => a + b) (acc_apply m c 6 (by omega) ⟨q.val, hq⟩ j k (by omega)) rfl
  · rw [dif_neg hq, if_neg hq]

/-- The gradient that a point writes. -/
theorem grads_apply (t : Fin cfg0.N) (r : Fin 512) (k : Fin 1024) :
    (outsAt0 m c t.val t.isLt).1 (ix2 r k) = rowGrad m c (rowOf t.val (lt_eight t) r) k := by
  by_cases h0 : t.val % 8 = 0
  · rw [outsAt0_A m c t h0 (by omega)]
    dsimp only
    rw [first_grad, gradBlock_apply]
  · by_cases h1 : t.val % 8 = 7
    · rw [outsAt0_C m c t h0 h1]
      dsimp only
      rw [last_grad, gradBlock_apply]
    · rw [outsAt0_B m c t h0 h1]
      dsimp only
      rw [next_grad, gradBlock_apply]

/-- The gated gradient that a point writes. -/
theorem gates_apply (t : Fin cfg0.N) (r : Fin 512) (k : Fin 1024) :
    (outsAt0 m c t.val t.isLt).2.2.1 (ix2 r k) = rowGrad m c (rowOf t.val (lt_eight t) r) k * argB m c (ix2 2 k) := by
  by_cases h0 : t.val % 8 = 0
  · rw [outsAt0_A m c t h0 (by omega)]
    dsimp only
    rw [first_gated, gradBlock_apply]
    exact congrArg (fun y : EReal => rowGrad m c _ k * y) (blk6 m c t 2 k)
  · by_cases h1 : t.val % 8 = 7
    · rw [outsAt0_C m c t h0 h1]
      dsimp only
      rw [last_gated, gradBlock_apply]
      exact congrArg (fun y : EReal => rowGrad m c _ k * y) (blk6 m c t 2 k)
    · rw [outsAt0_B m c t h0 h1]
      dsimp only
      rw [next_gated, gradBlock_apply]
      exact congrArg (fun y : EReal => rowGrad m c _ k * y) (blk6 m c t 2 k)

theorem result0 (r : Fin 4096) (k : Fin 1024) : Value.G7 m c (ix2 r k) = rowGrad m c r k := by
  have e : Value.pt7Of (ix2 r k) = r.val / 512 := by
    show 1 * (r.val / 512 - 0) + 1 * (k.val / 1024 - 0) = _
    omega
  have hN : r.val / 512 < cfg0.N := by have h : cfg0.N = 8 := N_0; omega
  unfold Value.G7
  rw [dif_pos (e ▸ hN), Value.fold0_congr m c _ _ (r.val / 512) (by omega) e]
  have hl : Value.loc7Of (ix2 r k) = (ix2 (⟨r.val % 512, by omega⟩ : Fin 512) k : S512x1024.Idx) := by
    funext a
    apply Fin.ext
    match a with
    | ⟨0, _⟩ => rfl
    | ⟨1, _⟩ => show k.val % 1024 = k.val; omega
  rw [hl, ← Value.outsAt0_sweep m c _ hN]
  refine (grads_apply m c ⟨r.val / 512, hN⟩ _ k).trans ?_
  congr 1
  exact Fin.ext (show r.val / 512 * 512 + r.val % 512 = r.val by omega)

theorem result2 (r : Fin 4096) (k : Fin 1024) : Value.G9 m c (ix2 r k) = rowGrad m c r k * argB m c (ix2 2 k) := by
  have e : Value.pt9Of (ix2 r k) = r.val / 512 := by
    show 1 * (r.val / 512 - 0) + 1 * (k.val / 1024 - 0) = _
    omega
  have hN : r.val / 512 < cfg0.N := by have h : cfg0.N = 8 := N_0; omega
  unfold Value.G9
  rw [dif_pos (e ▸ hN), Value.fold0_congr m c _ _ (r.val / 512) (by omega) e]
  have hl : Value.loc9Of (ix2 r k) = (ix2 (⟨r.val % 512, by omega⟩ : Fin 512) k : S512x1024.Idx) := by
    funext a
    apply Fin.ext
    match a with
    | ⟨0, _⟩ => rfl
    | ⟨1, _⟩ => show k.val % 1024 = k.val; omega
  rw [hl, ← Value.outsAt0_sweep m c _ hN]
  refine (gates_apply m c ⟨r.val / 512, hN⟩ _ k).trans ?_
  congr 2
  exact Fin.ext (show r.val / 512 * 512 + r.val % 512 = r.val by omega)

theorem result1 (q : Fin 8) (k : Fin 1024) :
    Value.G8 m c (ix2 q k) = if q.val < 4 then ∑ r : Fin 4096, rowTerm m c q.val k r else 0 := by
  have hN : 7 < cfg0.N := by have h : cfg0.N = 8 := N_0; omega
  rw [Value.G8_last, ← sums_apply m c q k hN, Value.outsAt0_sweep m c 7 hN]

end

/-! ## The reference -/

open Cert.Reference22Ideal.Read in
theorem reference0 (x0 x1 x2 : S4096x1024.Idx → EReal) (x3 : S1x1024.Idx → EReal) (x4 : S6x1024.Idx → EReal) (r : Fin 4096) (k : Fin 1024) :
    val_main_v59 (F := Ideal) x0 x1 x2 x3 x4 (ix2 r k) = x2 (ix2 r k) + grad (row x1 r) (cot (row x0 r) (row x3 0) (row x4 4)) k := by
  rw [← grad_eq]
  unfold val_main_v59 val_main_v58 val_main_v57 val_main_v56 val_main_v55 val_main_v54 val_main_v53 val_main_cst_12 val_main_v52 val_main_cst_11
    val_main_v51 val_main_v50 val_main_v49 val_main_v48 val_main_v47 val_main_v46 val_main_cst_10 val_main_v45 val_main_v43 val_main_v42 val_main_v37
    val_main_v36 val_main_v29 val_main_v23 val_main_v22 val_main_v21 val_main_v18 val_main_v15 val_main_v14 val_main_v13 val_main_v12 val_main_v11
    val_main_v10 val_main_v9 val_main_v8 val_main_v7 val_main_v6 val_main_v5 val_main_v4 val_main_v3 val_main_v0 val_main_cst_1 val_main_cst_0
    val_main_cst_2 val_main_cst_3 val_main_cst
  pointwise
  rfl

open Cert.Reference22Ideal.Read in
theorem reference1 (x0 x1 x2 : S4096x1024.Idx → EReal) (x3 : S1x1024.Idx → EReal) (x4 : S6x1024.Idx → EReal) (x5 : S4096x1024.Idx → EReal) (q : Fin 8) (k : Fin 1024) :
    val_main_v77 (F := Ideal) x0 x1 x2 x3 x4 x5 (ix2 q k)
      = if q.val < 4 then ∑ r : Fin 4096, term q.val (row x0 r) (row x1 r) (row x3 0) (row x4 4) (val_main_v59 (F := Ideal) x0 x1 x2 x3 x4 (ix2 r k) * x5 (ix2 r k)) k else 0 := by
  unfold val_main_v77 val_main_v76 val_main_cst_15 val_main_v75 val_main_v74 val_main_v73 val_main_v72 val_main_v71 val_main_v70 val_main_v69
    val_main_v68 val_main_v60 val_main_v44 val_main_v41 val_main_v40 val_main_v39 val_main_v38 val_main_v37 val_main_v36 val_main_v35 val_main_v34
    val_main_v33 val_main_v32 val_main_v31 val_main_v30 val_main_v29 val_main_v23 val_main_v22 val_main_v21 val_main_v20 val_main_v19 val_main_v18
    val_main_v17 val_main_v16 val_main_v12 val_main_v11 val_main_v10 val_main_v9 val_main_v8 val_main_v7 val_main_v6 val_main_v5 val_main_v4
    val_main_v3 val_main_v0 val_main_cst_0 val_main_cst_1 val_main_cst_3 val_main_cst_4 val_main_cst_5 val_main_cst_6 val_main_cst_7 val_main_cst_8
    val_main_cst_9 val_main_cst_13 val_main_cst_14 val_main_cst
  pointwise
  simp only [Fin.sum_univ_one]
  by_cases h0 : q.val < 1
  · rw [dif_pos h0, if_pos (by omega), show q.val = 0 by omega]
    rfl
  · rw [dif_neg h0]
    by_cases h1 : q.val - 1 < 1
    · rw [dif_pos h1, if_pos (by omega), show q.val = 1 by omega]
      exact Finset.sum_congr rfl fun r _ => mul_comm _ _
    · rw [dif_neg h1]
      by_cases h2 : q.val - 1 - 1 < 1
      · rw [dif_pos h2, if_pos (by omega), show q.val = 2 by omega]
        exact Finset.sum_congr rfl fun r _ => mul_comm _ _
      · rw [dif_neg h2]
        by_cases h3 : q.val - 1 - 1 - 1 < 1
        · rw [dif_pos h3, if_pos (by omega), show q.val = 3 by omega]
          rfl
        · rw [dif_neg h3, if_neg (by omega)]

open Cert.Reference22Ideal.Read in
theorem reference2 (x0 x1 x2 : S4096x1024.Idx → EReal) (x3 : S1x1024.Idx → EReal) (x4 x6 : S6x1024.Idx → EReal) (r : Fin 4096) (k : Fin 1024) :
    val_main_v78 (F := Ideal) x0 x1 x2 x3 x4 x6 (ix2 r k) = x6 (ix2 2 k) * val_main_v59 (F := Ideal) x0 x1 x2 x3 x4 (ix2 r k) := by
  unfold val_main_v78 val_main_v67 val_main_v66 val_main_v63 val_main_v62 val_main_v61
  pointwise

/-- The reference leaves its arguments as they were and ends with no semaphore raised. -/
theorem reference_frame : quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- The kernel's results are the reference's, entry by entry. -/
theorem equal : algebraic_Kernel22Ideal_Reference22Ideal := by
  intro m ρ m' ρ' _ hagree
  refine ⟨_, _, _, Value.run (F := Ideal) m ρ, ?_⟩
  refine (θ_run Cert.Reference22Ideal.defs _ _).mono (fun _ h c => ⟨?_, ?_, ?_, (h c).2.2.2⟩)
    (Cert.Reference22Ideal.Value.run (F := Ideal) m' ρ')
  · rw [(h c).1, Cert.Reference22Ideal.Read.val_main_v59_eq, (hagree c).1, (hagree c).2.1, (hagree c).2.2.1, (hagree c).2.2.2.1, (hagree c).2.2.2.2.1]
    refine funext fun i => ?_
    obtain ⟨r, k, rfl⟩ : ∃ (r : Fin 4096) (k : Fin 1024), i = ix2 r k := ⟨i 0, i 1, eq_ix2 i⟩
    exact (reference0 _ _ _ _ _ r k).trans (result0 m c r k).symm
  · rw [(h c).2.1, Cert.Reference22Ideal.Read.val_main_v77_eq, (hagree c).1, (hagree c).2.1, (hagree c).2.2.1, (hagree c).2.2.2.1, (hagree c).2.2.2.2.1, (hagree c).2.2.2.2.2.1]
    refine funext fun i => ?_
    obtain ⟨q, k, rfl⟩ : ∃ (q : Fin 8) (k : Fin 1024), i = ix2 q k := ⟨i 0, i 1, eq_ix2 i⟩
    refine (reference1 _ _ _ _ _ _ q k).trans (Eq.trans ?_ (result1 m c q k).symm)
    refine if_congr Iff.rfl (Finset.sum_congr rfl fun r _ => ?_) rfl
    rw [reference0]
    rfl
  · rw [(h c).2.2.1, Cert.Reference22Ideal.Read.val_main_v78_eq, (hagree c).1, (hagree c).2.1, (hagree c).2.2.1, (hagree c).2.2.2.1, (hagree c).2.2.2.2.1, (hagree c).2.2.2.2.2.2]
    refine funext fun i => ?_
    obtain ⟨r, k, rfl⟩ : ∃ (r : Fin 4096) (k : Fin 1024), i = ix2 r k := ⟨i 0, i 1, eq_ix2 i⟩
    refine (reference2 _ _ _ _ _ _ r k).trans ?_
    rw [reference0, mul_comm]
    exact (result2 m c r k).symm

end Cert.NormBwdMix

end
-- ==== Proof.NormBwdFfn.lean ====
/-
  The gradient of the first norm and its modulation, with the gate of the branch before it. The kernel takes 512 rows at a
  time, writes their gradient and the gated gradient, and adds up four sums over the rows in eight sublanes, which the last
  point adds together; the reference is the derivative of the plain formulas.
-/
module

public import proofs.«01_k».proof.Defs
public import proofs.«01_k».proof.Proof.NormMath
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pointwise
public import Idealize.ShloMosaic.Lib.Pipeline.ReadBack
public import Idealize.ShloMosaic.Adequacy
public import Idealize.ShloMosaic.Lib.Quiescent

@[expose] public section

set_option maxRecDepth 16384

noncomputable section

namespace Cert.NormBwdFfn

open Cert.Kernel23Ideal Cert.Kernel23Ideal.Gen Idealize.ShloMosaic Idealize.ShloMosaic.TcCoe
open Idealize.SL.Sem
open Cert.NormMath
open scoped BigOperators

theorem hz2 : (![0, 0] : Fin 2 → Nat) = fun _ => 0 := funext fun a => by fin_cases a <;> rfl

/-! ## What one point computes -/

theorem zeros_apply (q : Fin 4) (j : Fin 8) (k : Fin 1024) : k0_pay7 (F := Ideal) (ix3 q j k) = 0 := by
  unfold k0_pay7
  pointwise

theorem empty_apply (q : Fin 8) (k : Fin 1024) : k0_pay2 (F := Ideal) (ix2 q k) = 0 := by
  unfold k0_pay2
  pointwise

theorem normed_apply (x : Vec Ideal S512x1024 .f32) (r : Fin 512) (k : Fin 1024) :
    k0_pay9 (F := Ideal) x (ix2 r k) = x (ix2 r k) * scale (row x r) := by
  unfold k0_pay9 k0_pay8
  pointwise
  rfl

theorem wide_apply (dh : Vec Ideal S512x1024 .bf16) (r : Fin 512) (k : Fin 1024) : k0_pay10 (F := Ideal) dh (ix2 r k) = dh (ix2 r k) := by
  unfold k0_pay10
  pointwise

theorem modulated_apply (dh : Vec Ideal S512x1024 .bf16) (s : Vec Ideal S1x1024 .f32) (r : Fin 512) (k : Fin 1024) :
    k0_pay11 (F := Ideal) dh s (ix2 r k) = dh (ix2 r k) * (1 + s (ix2 0 k)) := by
  unfold k0_pay11 k0_pay10
  pointwise

theorem add0 (dh : Vec Ideal S512x1024 .f32) (a : Vec Ideal S1x8x1024 .f32) (j : Fin 8) (k : Fin 1024) :
    k0_pay13 (F := Ideal) dh a (ix3 0 j k) = a (ix3 0 j k) + ∑ g : Fin 64, dh (ix2 ⟨g.val * 8 + j.val, by omega⟩ k) := by
  unfold k0_pay13
  pointwise

theorem add1 (n dh : Vec Ideal S512x1024 .f32) (g : Vec Ideal S1x1024 .f32) (a : Vec Ideal S1x8x1024 .f32) (j : Fin 8) (k : Fin 1024) :
    k0_pay14 (F := Ideal) n dh g a (ix3 0 j k) = a (ix3 0 j k)
      + ∑ y : Fin 64, dh (ix2 ⟨y.val * 8 + j.val, by omega⟩ k) * (n (ix2 ⟨y.val * 8 + j.val, by omega⟩ k) * g (ix2 0 k)) := by
  unfold k0_pay14
  pointwise

theorem add2 (n d : Vec Ideal S512x1024 .f32) (a : Vec Ideal S1x8x1024 .f32) (j : Fin 8) (k : Fin 1024) :
    k0_pay15 (F := Ideal) n d a (ix3 0 j k) = a (ix3 0 j k)
      + ∑ y : Fin 64, d (ix2 ⟨y.val * 8 + j.val, by omega⟩ k) * n (ix2 ⟨y.val * 8 + j.val, by omega⟩ k) := by
  unfold k0_pay15
  pointwise

theorem add3 (d : Vec Ideal S512x1024 .f32) (f : Vec Ideal S512x1024 .bf16) (a : Vec Ideal S1x8x1024 .f32) (j : Fin 8) (k : Fin 1024) :
    k0_pay1 (F := Ideal) d a f (ix3 0 j k) = a (ix3 0 j k)
      + ∑ y : Fin 64, d (ix2 ⟨y.val * 8 + j.val, by omega⟩ k) * f (ix2 ⟨y.val * 8 + j.val, by omega⟩ k) := by
  unfold k0_pay1
  pointwise

theorem eight0 (a : Vec Ideal S1x8x1024 .f32) (k : Fin 1024) : k0_pay3 (F := Ideal) a (ix2 0 k) = ∑ j : Fin 8, a (ix3 0 j k) := by
  unfold k0_pay3
  pointwise

theorem eight1 (a : Vec Ideal S1x8x1024 .f32) (k : Fin 1024) : k0_pay4 (F := Ideal) a (ix2 0 k) = ∑ j : Fin 8, a (ix3 0 j k) := by
  unfold k0_pay4
  pointwise

theorem eight2 (a : Vec Ideal S1x8x1024 .f32) (k : Fin 1024) : k0_pay5 (F := Ideal) a (ix2 0 k) = ∑ j : Fin 8, a (ix3 0 j k) := by
  unfold k0_pay5
  pointwise

theorem eight3 (a : Vec Ideal S1x8x1024 .f32) (k : Fin 1024) : k0_pay6 (F := Ideal) a (ix2 0 k) = ∑ j : Fin 8, a (ix3 0 j k) := by
  unfold k0_pay6
  pointwise

theorem gated_apply (d : Vec Ideal S512x1024 .f32) (b : Vec Ideal S1x1024 .f32) (r : Fin 512) (k : Fin 1024) :
    k0_pay16 (F := Ideal) d b (ix2 r k) = d (ix2 r k) * b (ix2 0 k) := by
  unfold k0_pay16
  pointwise

theorem grad_apply (x : Vec Ideal S512x1024 .f32) (dh : Vec Ideal S512x1024 .bf16) (g s : Vec Ideal S1x1024 .f32) (z : Vec Ideal S512x1024 .f32) (r : Fin 512) (k : Fin 1024) :
    k0_pay12 (F := Ideal) x dh g s z (ix2 r k) = z (ix2 r k) + grad (row x r) (cot (row dh r) (row g 0) (row s 0)) k := by
  unfold k0_pay12 k0_pay9 k0_pay8 k0_pay11 k0_pay10
  pointwise
  rfl

section
variable (c : Dev nD) (i : grid0.Coords)
  (a1 : Memref sig .tc .vmem S512x1024 .bf16) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S6x1024 .f32) (h5 : a5.IsWhole) (a6 : Memref sig .tc .vmem S512x1024 .bf16) (h6 : a6.IsWhole)
  (a7 : Memref sig .tc .vmem S6x1024 .f32) (h7 : a7.IsWhole) (a8 : Memref sig .tc .vmem S512x1024 .f32) (h8 : a8.IsWhole)
  (a9 : Memref sig .tc .vmem S8x1024 .f32) (h9 : a9.IsWhole) (a10 : Memref sig .tc .vmem S512x1024 .bf16) (h10 : a10.IsWhole)
  (a11 : Memref sig .tc .vmem S4x8x1024 .f32) (h11 : a11.IsWhole)
  (x0 : Vec Ideal S512x1024 .bf16) (x1 x2 : Vec Ideal S512x1024 .f32) (x3 : Vec Ideal S1x1024 .f32) (x4 : Vec Ideal S6x1024 .f32)
  (x5 : Vec Ideal S512x1024 .bf16) (x6 : Vec Ideal S6x1024 .f32) (acc : Vec Ideal S4x8x1024 .f32)

/-- The block of the rows' gradient. -/
def gradBlock (r : Fin 512) (k : Fin 1024) : EReal := x2 (ix2 r k) + grad (row x1 r) (cot (row x0 r) (row x3 0) (row x4 1)) k

theorem gradBlock_eq (s : Vec Ideal S1x1024 .f32) (hs : ∀ k, s (ix2 0 k) = x4 (ix2 1 k)) (r : Fin 512) (k : Fin 1024) :
    k0_pay12 (F := Ideal) x1 x0 x3 s x2 (ix2 r k) = gradBlock x0 x1 x2 x3 x4 r k := by
  rw [grad_apply, show row s 0 = row x4 1 from funext hs]
  rfl

/-- What a block adds to sum `q` in sublane `j`. -/
def blockSum (q : ℕ) (j : Fin 8) (k : Fin 1024) : EReal :=
  ∑ y : Fin 64, term q (row x0 ⟨y.val * 8 + j.val, by omega⟩) (row x1 ⟨y.val * 8 + j.val, by omega⟩) (row x3 0) (row x4 1)
    (gradBlock x0 x1 x2 x3 x4 ⟨y.val * 8 + j.val, by omega⟩ k * x5 (ix2 ⟨y.val * 8 + j.val, by omega⟩ k)) k

/-- The four slabs written over an accumulator, read back. -/
theorem slabs_apply (s : Vec Ideal S1x1024 .f32) (hs : ∀ k, s (ix2 0 k) = x4 (ix2 1 k)) (b0 b1 b2 b3 : Vec Ideal S1x8x1024 .f32) (q : ℕ) (hq : q < 4) (j : Fin 8) (k : Fin 1024) (old : EReal)
    (e0 : q = 0 → b0 (ix3 0 j k) = old) (e1 : q = 1 → b1 (ix3 0 j k) = old) (e2 : q = 2 → b2 (ix3 0 j k) = old) (e3 : q = 3 → b3 (ix3 0 j k) = old) (rest : EReal) :
    (if q = 3 then k0_pay1 (F := Ideal) (k0_pay12 x1 x0 x3 s x2) b3 x5 (ix3 0 j k)
      else if q = 2 then k0_pay15 (F := Ideal) (k0_pay9 x1) (k0_pay11 x0 s) b2 (ix3 0 j k)
      else if q = 1 then k0_pay14 (F := Ideal) (k0_pay9 x1) (k0_pay10 x0) x3 b1 (ix3 0 j k)
      else if q = 0 then k0_pay13 (F := Ideal) (k0_pay10 x0) b0 (ix3 0 j k) else rest)
    = old + blockSum x0 x1 x2 x3 x4 x5 q j k := by
  unfold blockSum
  split_ifs with c3 c2 c1 c0
  · rw [add3, e3 c3, c3]
    congr 1
    refine Finset.sum_congr rfl fun y _ => ?_
    rw [gradBlock_eq _ _ _ _ _ s hs]
    rfl
  · rw [add2, e2 c2, c2]
    congr 1
    refine Finset.sum_congr rfl fun y _ => ?_
    rw [modulated_apply, normed_apply, hs]
    rfl
  · rw [add1, e1 c1, c1]
    congr 1
    refine Finset.sum_congr rfl fun y _ => ?_
    rw [normed_apply, wide_apply]
    rfl
  · rw [add0, e0 c0, c0]
    rfl
  · omega

theorem first_sums (hc0 : cond0_0 i) (hc1 : ¬cond0_1 i) (q : Fin 4) (j : Fin 8) (k : Fin 1024) :
    sout0_A_0 (F := Ideal) c i a1 h1 a2 h2 a3 h3 a4 h4 a5 h5 a6 h6 a7 h7 a8 h8 a9 h9 a10 h10 a11 h11 hc0 hc1 x0 x1 x2 x3 x4 x5 x6 (ix3 q j k) = blockSum x0 x1 x2 x3 x4 x5 q.val j k := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, View.ld_unit_zero (S := S512x1024) hz2,
    View.ld_unit_zero (S := S1x1024) hz2]
  simp (disch := decide) only [↓ View.readCov_skip, ↓ View.readCov_cons_toLoadRect, ↓ View.readCov_fill]
  rw [canon_slab, canon_slab, canon_slab, canon_slab]
  refine (slabs_apply x0 x1 x2 x3 x4 x5 _ (fun k => ld_row 1 _ x4 (by omega) k) _ _ _ _ q.val q.isLt j k 0 (fun _ => ?_) (fun _ => ?_) (fun _ => ?_) (fun _ => ?_) _).trans (zero_add _)
  · exact (ld_slab 0 _ _ (by omega) j k).trans (zeros_apply _ j k)
  · exact (ld_slab 1 _ _ (by omega) j k).trans (zeros_apply _ j k)
  · exact (ld_slab 2 _ _ (by omega) j k).trans (zeros_apply _ j k)
  · exact (ld_slab 3 _ _ (by omega) j k).trans (zeros_apply _ j k)

theorem next_sums (hc0 : ¬cond0_0 i) (hc1 : ¬cond0_1 i) (q : Fin 4) (j : Fin 8) (k : Fin 1024) :
    sout0_B_0 (F := Ideal) c i a1 h1 a2 h2 a3 h3 a4 h4 a5 h5 a6 h6 a7 h7 a8 h8 a9 h9 a10 h10 a11 h11 hc0 hc1 x0 x1 x2 x3 x4 x5 x6 acc (ix3 q j k)
      = acc (ix3 q j k) + blockSum x0 x1 x2 x3 x4 x5 q.val j k := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 x4 x5 x6 acc)]
  unfold kernelRun0_B
  dsimp only
  sl_unfold_words
  simp only [View.readAt_eq_ld, h1.read_unread, h2.read_unread, h3.read_unread, h4.read_unread, h5.read_unread, h6.read_unread, h11.read_unread, View.ld_unit_zero (S := S512x1024) hz2,
    View.ld_unit_zero (S := S1x1024) hz2]
  rw [canon_slab, canon_slab, canon_slab, canon_slab]
  have hk : ∀ (n : ℕ) (hn : n < 4), q.val = n → acc (ix3 ⟨n, hn⟩ j k) = acc (ix3 q j k) := fun n hn e =>
    congrArg (fun p => acc (ix3 p j k)) (Fin.ext e.symm)
  refine slabs_apply x0 x1 x2 x3 x4 x5 _ (fun k => ld_row 1 _ x4 (by omega) k) _ _ _ _ q.val q.isLt j k _ (fun e => ?_) (fun e => ?_) (fun e => ?_) (fun e => ?_) _
  · exact (ld_slab 0 _ _ (by omega) j k).trans (hk 0 _ e)
  · exact (ld_slab 1 _ _ (by omega) j k).trans (hk 1 _ e)
  · exact (ld_slab 2 _ _ (by omega) j k).trans (hk 2 _ e)
  · exact (ld_slab 3 _ _ (by omega) j k).trans (hk 3 _ e)

theorem last_sums (hc0 : ¬cond0_0 i) (hc1 : cond0_1 i) (q : Fin 8) (k : Fin 1024) :
    out0_C_8 (F := Ideal) c i a1 h1 a2 h2 a3 h3 a4 h4 a5 h5 a6 h6 a7 h7 a8 h8 a9 h9 a10 h10 a11 h11 hc0 hc1 x0 x1 x2 x3 x4 x5 x6 acc (ix2 q k)
      = if h : q.val < 4 then ∑ j : Fin 8, (acc (ix3 ⟨q.val, h⟩ j k) + blockSum x0 x1 x2 x3 x4 x5 q.val j k) else 0 := by
  unfold out0_C_8
  rw [View.read_writes_eq_canon _ _ _ (cover0_C_8 c i a1 h1 a2 h2 a3 h3 a4 h4 a5 h5 a6 h6 a7 h7 a8 h8 a9 h9 a10 h10 a11 h11 hc0 hc1 x0 x1 x2 x3 x4 x5 x6 acc)]
  unfold kernelRun0_C
  dsimp only
  sl_unfold_words
  simp only [View.readAt_eq_ld, h1.read_unread, h2.read_unread, h3.read_unread, h4.read_unread, h5.read_unread, h6.read_unread, h11.read_unread, View.ld_unit_zero (S := S512x1024) hz2,
    View.ld_unit_zero (S := S1x1024) hz2]
  simp (disch := decide) only [↓ View.readCov_skip, ↓ View.readCov_cons_toLoadRect, ↓ View.readCov_fill]
  rw [canon_row, canon_row, canon_row, canon_row, View.canon_unit_zero hz2, eight3, eight2, eight1, eight0, empty_apply]
  have hs := fun (b0 b1 b2 b3 : Vec Ideal S1x8x1024 .f32) (p : ℕ) hp (j : Fin 8) (old : EReal) e0 e1 e2 e3 =>
    slabs_apply x0 x1 x2 x3 x4 x5 _ (fun k => ld_row 1 inb_S6x1024_S1x1024_1_0 x4 (by omega) k) b0 b1 b2 b3 p hp j k old e0 e1 e2 e3 0
  by_cases h : q.val < 4
  · rw [dif_pos h]
    split_ifs with c3 c2 c1 c0
    · refine Finset.sum_congr rfl fun j _ => ?_
      have := hs 0 0 0 _ 3 (by omega) j (acc (ix3 ⟨q.val, h⟩ j k)) (fun e => absurd e (by decide)) (fun e => absurd e (by decide))
        (fun e => absurd e (by decide)) (fun _ => (ld_slab 3 inb_S4x8x1024_S1x8x1024_3_0_0 acc (by omega) j k).trans (congrArg (fun p => acc (ix3 p j k)) (Fin.ext c3.symm)))
      rw [if_pos rfl] at this
      exact this.trans (congrArg (fun n => acc (ix3 ⟨q.val, h⟩ j k) + blockSum x0 x1 x2 x3 x4 x5 n j k) c3.symm)
    · refine Finset.sum_congr rfl fun j _ => ?_
      have := hs 0 0 _ 0 2 (by omega) j (acc (ix3 ⟨q.val, h⟩ j k)) (fun e => absurd e (by decide)) (fun e => absurd e (by decide))
        (fun _ => (ld_slab 2 inb_S4x8x1024_S1x8x1024_2_0_0 acc (by omega) j k).trans (congrArg (fun p => acc (ix3 p j k)) (Fin.ext c2.symm))) (fun e => absurd e (by decide))
      rw [if_neg (by decide), if_pos rfl] at this
      exact this.trans (congrArg (fun n => acc (ix3 ⟨q.val, h⟩ j k) + blockSum x0 x1 x2 x3 x4 x5 n j k) c2.symm)
    · refine Finset.sum_congr rfl fun j _ => ?_
      have := hs 0 _ 0 0 1 (by omega) j (acc (ix3 ⟨q.val, h⟩ j k)) (fun e => absurd e (by decide)) (fun _ => (ld_slab 1 inb_S4x8x1024_S1x8x1024_1_0_0 acc (by omega) j k).trans (congrArg (fun p => acc (ix3 p j k)) (Fin.ext c1.symm)))
        (fun e => absurd e (by decide)) (fun e => absurd e (by decide))
      rw [if_neg (by decide), if_neg (by decide), if_pos rfl] at this
      exact this.trans (congrArg (fun n => acc (ix3 ⟨q.val, h⟩ j k) + blockSum x0 x1 x2 x3 x4 x5 n j k) c1.symm)
    · refine Finset.sum_congr rfl fun j _ => ?_
      have := hs _ 0 0 0 0 (by omega) j (acc (ix3 ⟨q.val, h⟩ j k)) (fun _ => (ld_slab 0 inb_S4x8x1024_S1x8x1024_0_0_0 acc (by omega) j k).trans (congrArg (fun p => acc (ix3 p j k)) (Fin.ext c0.symm))) (fun e => absurd e (by decide))
        (fun e => absurd e (by decide)) (fun e => absurd e (by decide))
      rw [if_neg (by decide), if_neg (by decide), if_neg (by decide), if_pos rfl] at this
      exact this.trans (congrArg (fun n => acc (ix3 ⟨q.val, h⟩ j k) + blockSum x0 x1 x2 x3 x4 x5 n j k) c0.symm)
    · omega
  · rw [dif_neg h, if_neg (by omega), if_neg (by omega), if_neg (by omega), if_neg (by omega)]

theorem first_grad (hc0 : cond0_0 i) (hc1 : ¬cond0_1 i) (r : Fin 512) (k : Fin 1024) :
    out0_A_7 (F := Ideal) c i a1 h1 a2 h2 a3 h3 a4 h4 a5 h5 a6 h6 a7 h7 a8 h8 a9 h9 a10 h10 a11 h11 hc0 hc1 x0 x1 x2 x3 x4 x5 x6 (ix2 r k) = gradBlock x0 x1 x2 x3 x4 r k := by
  unfold out0_A_7
  rw [View.read_writes_eq_canon _ _ _ (cover0_A_7 c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 1 _ x4 (by omega) k) r k

theorem next_grad (hc0 : ¬cond0_0 i) (hc1 : ¬cond0_1 i) (r : Fin 512) (k : Fin 1024) :
    out0_B_7 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k := by
  unfold out0_B_7
  rw [View.read_writes_eq_canon _ _ _ (cover0_B_7 c i a1 h1 a2 h2 a3 h3 a4 h4 a5 h5 a6 h6 a7 h7 a8 h8 a9 h9 a10 h10 a11 h11 hc0 hc1 x0 x1 x2 x3 x4 x5 x6 acc)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 1 _ x4 (by omega) k) r k

theorem last_grad (hc0 : ¬cond0_0 i) (hc1 : cond0_1 i) (r : Fin 512) (k : Fin 1024) :
    out0_C_7 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k := by
  unfold out0_C_7
  rw [View.read_writes_eq_canon _ _ _ (cover0_C_7 c i a1 h1 a2 h2 a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz2]
  simp only [View.readAt_eq_ld, h1.read_unread, h2.read_unread, h3.read_unread, h4.read_unread, h5.read_unread, View.ld_unit_zero (S := S512x1024) hz2,
    View.ld_unit_zero (S := S1x1024) hz2]
  exact gradBlock_eq x0 x1 x2 x3 x4 _ (fun k => ld_row 1 _ x4 (by omega) k) r k
theorem first_gated (hc0 : cond0_0 i) (hc1 : ¬cond0_1 i) (r : Fin 512) (k : Fin 1024) :
    out0_A_9 (F := Ideal) c i a1 h1 a2 h2 a3 h3 a4 h4 a5 h5 a6 h6 a7 h7 a8 h8 a9 h9 a10 h10 a11 h11 hc0 hc1 x0 x1 x2 x3 x4 x5 x6 (ix2 r k) = gradBlock x0 x1 x2 x3 x4 r k * x6 (ix2 5 k) := by
  unfold out0_A_9
  rw [View.read_writes_eq_canon _ _ _ (cover0_A_9 c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, h7.read_unread, View.ld_unit_zero (S := S512x1024) hz2,
    View.ld_unit_zero (S := S1x1024) hz2]
  rw [gated_apply, gradBlock_eq x0 x1 x2 x3 x4 _ (fun k => ld_row 1 _ x4 (by omega) k) r k]
  exact congrArg (fun y : EReal => gradBlock x0 x1 x2 x3 x4 r k * y) (ld_row 5 _ x6 (by omega) k)

theorem next_gated (hc0 : ¬cond0_0 i) (hc1 : ¬cond0_1 i) (r : Fin 512) (k : Fin 1024) :
    out0_B_9 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k * x6 (ix2 5 k) := by
  unfold out0_B_9
  rw [View.read_writes_eq_canon _ _ _ (cover0_B_9 c i a1 h1 a2 h2 a3 h3 a4 h4 a5 h5 a6 h6 a7 h7 a8 h8 a9 h9 a10 h10 a11 h11 hc0 hc1 x0 x1 x2 x3 x4 x5 x6 acc)]
  unfold kernelRun0_B
  dsimp only
  sl_unfold_words
  rw [View.canon_unit_zero hz2]
  simp only [View.readAt_eq_ld, h1.read_unread, h2.read_unread, h3.read_unread, h4.read_unread, h5.read_unread, h7.read_unread, View.ld_unit_zero (S := S512x1024) hz2,
    View.ld_unit_zero (S := S1x1024) hz2]
  rw [gated_apply, gradBlock_eq x0 x1 x2 x3 x4 _ (fun k => ld_row 1 _ x4 (by omega) k) r k]
  exact congrArg (fun y : EReal => gradBlock x0 x1 x2 x3 x4 r k * y) (ld_row 5 _ x6 (by omega) k)

theorem last_gated (hc0 : ¬cond0_0 i) (hc1 : cond0_1 i) (r : Fin 512) (k : Fin 1024) :
    out0_C_9 (F := Ideal) c i a1 h1 a2 h2 a3 h3 a4 h4 a5 h5 a6 h6 a7 h7 a8 h8 a9 h9 a10 h10 a11 h11 hc0 hc1 x0 x1 x2 x3 x4 x5 x6 acc (ix2 r k) = gradBlock x0 x1 x2 x3 x4 r k * x6 (ix2 5 k) := by
  unfold out0_C_9
  rw [View.read_writes_eq_canon _ _ _ (cover0_C_9 c i a1 h1 a2 h2 a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz2]
  simp only [View.readAt_eq_ld, h1.read_unread, h2.read_unread, h3.read_unread, h4.read_unread, h5.read_unread, h7.read_unread, View.ld_unit_zero (S := S512x1024) hz2,
    View.ld_unit_zero (S := S1x1024) hz2]
  rw [gated_apply, gradBlock_eq x0 x1 x2 x3 x4 _ (fun k => ld_row 1 _ x4 (by omega) k) r k]
  exact congrArg (fun y : EReal => gradBlock x0 x1 x2 x3 x4 r k * y) (ld_row 5 _ x6 (by omega) k)
end

/-! ## The arrays -/

section
variable (m : (ℓ : Loc nD τ sig) → Buf (Elt Ideal) ℓ) (c : Dev nD)

/-- The argument arrays: the cotangent, the rows, the gradient from the later uses, the gains, the modulations. -/
abbrev argD : S4096x1024.Idx → EReal := m ((c : Thread nD τ).loc main_arg0)
abbrev argX : S4096x1024.Idx → EReal := m ((c : Thread nD τ).loc main_arg1)
abbrev argZ : S4096x1024.Idx → EReal := m ((c : Thread nD τ).loc main_arg2)
abbrev argG : S1x1024.Idx → EReal := m ((c : Thread nD τ).loc main_arg3)
abbrev argS : S6x1024.Idx → EReal := m ((c : Thread nD τ).loc main_arg4)
/-- The branch's output and the modulations with its gate. -/
abbrev argF : S4096x1024.Idx → EReal := m ((c : Thread nD τ).loc main_arg5)
abbrev argB : S6x1024.Idx → EReal := m ((c : Thread nD τ).loc main_arg6)

theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = 0 ∧ win0_6.index t 1 = 0) :=
  (by decide +kernel : ∀ t : Fin grid0.N, _)

theorem lt_eight (t : Fin cfg0.N) : t.val < 8 := N_0 ▸ t.isLt

/-- The row of the arrays that row `r` of tile `t` is. -/
abbrev rowOf (t : ℕ) (ht : t < 8) (r : Fin 512) : Fin 4096 := ⟨t * 512 + r.val, by omega⟩

theorem blk0 (t : Fin cfg0.N) (r : Fin 512) (k : Fin 1024) : (iblk m c 0 t : S512x1024.Idx → EReal) (ix2 r k) = argD m c (ix2 (rowOf t.val (lt_eight t) r) k) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; omega
  | ⟨1, _⟩ => show win0_0.index t 1 * 1024 + 1 * k.val = k.val; omega

theorem blk1 (t : Fin cfg0.N) (r : Fin 512) (k : Fin 1024) : (iblk m c 1 t : S512x1024.Idx → EReal) (ix2 r k) = argX m c (ix2 (rowOf t.val (lt_eight t) r) k) := by
  obtain ⟨e0, e1⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 512 + 1 * r.val = t.val * 512 + r.val; omega
  | ⟨1, _⟩ => show win0_1.index t 1 * 1024 + 1 * k.val = k.val; omega

theorem blk2 (t : Fin cfg0.N) (r : Fin 512) (k : Fin 1024) : (iblk m c 2 t : S512x1024.Idx → EReal) (ix2 r k) = argZ m c (ix2 (rowOf t.val (lt_eight t) r) k) := by
  obtain ⟨e0, e1⟩ := (idx_facts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t 0 * 512 + 1 * r.val = t.val * 512 + r.val; omega
  | ⟨1, _⟩ => show win0_2.index t 1 * 1024 + 1 * k.val = k.val; omega

theorem blk3 (t : Fin cfg0.N) (k : Fin 1024) : (iblk m c 3 t : S1x1024.Idx → EReal) (ix2 0 k) = argG m c (ix2 0 k) := by
  obtain ⟨e0, e1⟩ := (idx_facts t).2.2.2.1
  unfold iblk
  rw [View.read_apply]
  show m ((c : Thread nD τ).loc main_arg3) _ = m ((c : Thread nD τ).loc main_arg3) _
  congr 1
  funext a
  apply Fin.ext
  match a with
  | ⟨0, _⟩ => show win0_3.index t 0 * 1 + 1 * 0 = 0; omega
  | ⟨1, _⟩ => show win0_3.index t 1 * 1024 + 1 * k.val = k.val; omega

theorem blk4 (t : Fin cfg0.N) (p : Fin 6) (k : Fin 1024) : (iblk m c 4 t : S6x1024.Idx → EReal) (ix2 p k) = argS m c (ix2 p k) := by
  obtain ⟨e0, e1⟩ := (idx_facts t).2.2.2.2.1
  unfold iblk
  rw [View.read_apply]
  show m ((c : Thread nD τ).loc main_arg4) _ = m ((c : Thread nD τ).loc main_arg4) _
  congr 1
  funext a
  apply Fin.ext
  match a with
  | ⟨0, _⟩ => show win0_4.index t 0 * 6 + 1 * p.val = p.val; omega
  | ⟨1, _⟩ => show win0_4.index t 1 * 1024 + 1 * k.val = k.val; omega

theorem blk5 (t : Fin cfg0.N) (r : Fin 512) (k : Fin 1024) : (iblk m c 5 t : S512x1024.Idx → EReal) (ix2 r k) = argF m c (ix2 (rowOf t.val (lt_eight t) r) k) := by
  obtain ⟨e0, e1⟩ := (idx_facts t).2.2.2.2.2.1
  unfold iblk
  rw [View.read_apply]
  show m ((c : Thread nD τ).loc main_arg5) _ = m ((c : Thread nD τ).loc main_arg5) _
  congr 1
  funext a
  apply Fin.ext
  match a with
  | ⟨0, _⟩ => show win0_5.index t 0 * 512 + 1 * r.val = t.val * 512 + r.val; omega
  | ⟨1, _⟩ => show win0_5.index t 1 * 1024 + 1 * k.val = k.val; omega

theorem blk6 (t : Fin cfg0.N) (p : Fin 6) (k : Fin 1024) : (iblk m c 6 t : S6x1024.Idx → EReal) (ix2 p k) = argB m c (ix2 p k) := by
  obtain ⟨e0, e1⟩ := (idx_facts t).2.2.2.2.2.2
  unfold iblk
  rw [View.read_apply]
  show m ((c : Thread nD τ).loc main_arg6) _ = m ((c : Thread nD τ).loc main_arg6) _
  congr 1
  funext a
  apply Fin.ext
  match a with
  | ⟨0, _⟩ => show win0_6.index t 0 * 6 + 1 * p.val = p.val; omega
  | ⟨1, _⟩ => show win0_6.index t 1 * 1024 + 1 * k.val = k.val; omega

/-- The gradient of one row. -/
def rowGrad (r : Fin 4096) (k : Fin 1024) : EReal :=
  argZ m c (ix2 r k) + grad (row (argX m c) r) (cot (row (argD m c) r) (row (argG m c) 0) (row (argS m c) 1)) k

theorem gradBlock_apply (t : Fin cfg0.N) (r : Fin 512) (k : Fin 1024) :
    gradBlock (iblk m c 0 t) (iblk m c 1 t) (iblk m c 2 t) (iblk m c 3 t) (iblk m c 4 t) r k = rowGrad m c (rowOf t.val (lt_eight t) r) k := by
  unfold gradBlock rowGrad
  rw [show row (iblk m c 0 t : S512x1024.Idx → EReal) r = _ from funext fun k => blk0 m c t r k,
    show row (iblk m c 1 t : S512x1024.Idx → EReal) r = _ from funext fun k => blk1 m c t r k,
    show row (iblk m c 3 t : S1x1024.Idx → EReal) 0 = _ from funext fun k => blk3 m c t k,
    show row (iblk m c 4 t : S6x1024.Idx → EReal) 1 = _ from funext fun k => blk4 m c t 1 k]
  congr 1
  exact blk2 m c t r k

/-- What row `r` adds to sum `q`. -/
def rowTerm (q : ℕ) (k : Fin 1024) (r : Fin 4096) : EReal :=
  term q (row (argD m c) r) (row (argX m c) r) (row (argG m c) 0) (row (argS m c) 1) (rowGrad m c r k * argF m c (ix2 r k)) k

/-- What tile `t` adds to sum `q` in sublane `j`. -/
def tileTerm (q : ℕ) (k : Fin 1024) (j : Fin 8) (t : Fin 8) : EReal :=
  ∑ y : Fin 64, rowTerm m c q k ⟨t.val * 512 + (y.val * 8 + j.val), by omega⟩

theorem tile_apply (t : Fin cfg0.N) (q : ℕ) (j : Fin 8) (k : Fin 1024) :
    blockSum (iblk m c 0 t) (iblk m c 1 t) (iblk m c 2 t) (iblk m c 3 t) (iblk m c 4 t) (iblk m c 5 t) q j k = tileTerm m c q k j ⟨t.val, lt_eight t⟩ := by
  unfold blockSum tileTerm rowTerm
  refine Finset.sum_congr rfl fun y _ => ?_
  rw [gradBlock_apply, show (iblk m c 5 t : S512x1024.Idx → EReal) (ix2 _ k) = _ from blk5 m c t _ k,
    show row (iblk m c 0 t : S512x1024.Idx → EReal) _ = _ from funext fun k => blk0 m c t _ k,
    show row (iblk m c 1 t : S512x1024.Idx → EReal) _ = _ from funext fun k => blk1 m c t _ k,
    show row (iblk m c 3 t : S1x1024.Idx → EReal) 0 = _ from funext fun k => blk3 m c t k,
    show row (iblk m c 4 t : S6x1024.Idx → EReal) 1 = _ from funext fun k => blk4 m c t 1 k]

/-- The sums after a point that is not the last: the tiles so far. -/
theorem acc_apply : ∀ (n : ℕ) (hn : n < 7) (q : Fin 4) (j : Fin 8) (k : Fin 1024) (h : n < cfg0.N),
    (outsAt0 m c n h).2.2.2 (ix3 q j k) = ∑ t : Fin (n + 1), tileTerm m c q.val k j ⟨t.val, by omega⟩
  | 0, hn, q, j, k, h => by
    have hA := outsAt0_A m c ⟨0, h⟩ (by show 0 % 8 = 0; omega) (by show ¬ 0 % 8 = 7; omega)
    rw [show outsAt0 m c 0 h = _ from hA]
    dsimp only
    rw [first_sums, tile_apply, Fin.sum_univ_one]
    rfl
  | n + 1, hn, q, j, k, h => by
    have hB := outsAt0_B m c ⟨n + 1, h⟩ (by show ¬ (n + 1) % 8 = 0; omega) (by show ¬ (n + 1) % 8 = 7; omega)
    rw [show outsAt0 m c (n + 1) h = _ from hB]
    dsimp only
    rw [next_sums, tile_apply, Fin.sum_univ_castSucc]
    exact congrArg₂ (fun a b : EReal => a + b) (acc_apply n (by omega) q j k (by omega)) rfl

/-- The sums that the last point writes. -/
theorem sums_apply (q : Fin 8) (k : Fin 1024) (h : 7 < cfg0.N) :
    (outsAt0 m c 7 h).2.1 (ix2 q k) = if q.val < 4 then ∑ r : Fin 4096, rowTerm m c q.val k r else 0 := by
  have hC := outsAt0_C m c ⟨7, h⟩ (by show ¬ 7 % 8 = 0; omega) (by show 7 % 8 = 7; omega)
  rw [show outsAt0 m c 7 h = _ from hC]
  dsimp only
  rw [last_sums]
  by_cases hq : q.val < 4
  · rw [dif_pos hq, if_pos hq, ← sum_rows]
    refine Finset.sum_congr rfl fun j _ => ?_
    rw [tile_apply, Fin.sum_univ_castSucc]
    exact congrArg₂ (fun a b : EReal => a + b) (acc_apply m c 6 (by omega) ⟨q.val, hq⟩ j k (by omega)) rfl
  · rw [dif_neg hq, if_neg hq]

/-- The gradient that a point writes. -/
theorem grads_apply (t : Fin cfg0.N) (r : Fin 512) (k : Fin 1024) :
    (outsAt0 m c t.val t.isLt).1 (ix2 r k) = rowGrad m c (rowOf t.val (lt_eight t) r) k := by
  by_cases h0 : t.val % 8 = 0
  · rw [outsAt0_A m c t h0 (by omega)]
    dsimp only
    rw [first_grad, gradBlock_apply]
  · by_cases h1 : t.val % 8 = 7
    · rw [outsAt0_C m c t h0 h1]
      dsimp only
      rw [last_grad, gradBlock_apply]
    · rw [outsAt0_B m c t h0 h1]
      dsimp only
      rw [next_grad, gradBlock_apply]

/-- The gated gradient that a point writes. -/
theorem gates_apply (t : Fin cfg0.N) (r : Fin 512) (k : Fin 1024) :
    (outsAt0 m c t.val t.isLt).2.2.1 (ix2 r k) = rowGrad m c (rowOf t.val (lt_eight t) r) k * argB m c (ix2 5 k) := by
  by_cases h0 : t.val % 8 = 0
  · rw [outsAt0_A m c t h0 (by omega)]
    dsimp only
    rw [first_gated, gradBlock_apply]
    exact congrArg (fun y : EReal => rowGrad m c _ k * y) (blk6 m c t 5 k)
  · by_cases h1 : t.val % 8 = 7
    · rw [outsAt0_C m c t h0 h1]
      dsimp only
      rw [last_gated, gradBlock_apply]
      exact congrArg (fun y : EReal => rowGrad m c _ k * y) (blk6 m c t 5 k)
    · rw [outsAt0_B m c t h0 h1]
      dsimp only
      rw [next_gated, gradBlock_apply]
      exact congrArg (fun y : EReal => rowGrad m c _ k * y) (blk6 m c t 5 k)

theorem result0 (r : Fin 4096) (k : Fin 1024) : Value.G7 m c (ix2 r k) = rowGrad m c r k := by
  have e : Value.pt7Of (ix2 r k) = r.val / 512 := by
    show 1 * (r.val / 512 - 0) + 1 * (k.val / 1024 - 0) = _
    omega
  have hN : r.val / 512 < cfg0.N := by have h : cfg0.N = 8 := N_0; omega
  unfold Value.G7
  rw [dif_pos (e ▸ hN), Value.fold0_congr m c _ _ (r.val / 512) (by omega) e]
  have hl : Value.loc7Of (ix2 r k) = (ix2 (⟨r.val % 512, by omega⟩ : Fin 512) k : S512x1024.Idx) := by
    funext a
    apply Fin.ext
    match a with
    | ⟨0, _⟩ => rfl
    | ⟨1, _⟩ => show k.val % 1024 = k.val; omega
  rw [hl, ← Value.outsAt0_sweep m c _ hN]
  refine (grads_apply m c ⟨r.val / 512, hN⟩ _ k).trans ?_
  congr 1
  exact Fin.ext (show r.val / 512 * 512 + r.val % 512 = r.val by omega)

theorem result2 (r : Fin 4096) (k : Fin 1024) : Value.G9 m c (ix2 r k) = rowGrad m c r k * argB m c (ix2 5 k) := by
  have e : Value.pt9Of (ix2 r k) = r.val / 512 := by
    show 1 * (r.val / 512 - 0) + 1 * (k.val / 1024 - 0) = _
    omega
  have hN : r.val / 512 < cfg0.N := by have h : cfg0.N = 8 := N_0; omega
  unfold Value.G9
  rw [dif_pos (e ▸ hN), Value.fold0_congr m c _ _ (r.val / 512) (by omega) e]
  have hl : Value.loc9Of (ix2 r k) = (ix2 (⟨r.val % 512, by omega⟩ : Fin 512) k : S512x1024.Idx) := by
    funext a
    apply Fin.ext
    match a with
    | ⟨0, _⟩ => rfl
    | ⟨1, _⟩ => show k.val % 1024 = k.val; omega
  rw [hl, ← Value.outsAt0_sweep m c _ hN]
  refine (gates_apply m c ⟨r.val / 512, hN⟩ _ k).trans ?_
  congr 2
  exact Fin.ext (show r.val / 512 * 512 + r.val % 512 = r.val by omega)

theorem result1 (q : Fin 8) (k : Fin 1024) :
    Value.G8 m c (ix2 q k) = if q.val < 4 then ∑ r : Fin 4096, rowTerm m c q.val k r else 0 := by
  have hN : 7 < cfg0.N := by have h : cfg0.N = 8 := N_0; omega
  rw [Value.G8_last, ← sums_apply m c q k hN, Value.outsAt0_sweep m c 7 hN]

end

/-! ## The reference -/

open Cert.Reference23Ideal.Read in
theorem reference0 (x0 x1 x2 : S4096x1024.Idx → EReal) (x3 : S1x1024.Idx → EReal) (x4 : S6x1024.Idx → EReal) (r : Fin 4096) (k : Fin 1024) :
    val_main_v59 (F := Ideal) x0 x1 x2 x3 x4 (ix2 r k) = x2 (ix2 r k) + grad (row x1 r) (cot (row x0 r) (row x3 0) (row x4 1)) k := by
  rw [← grad_eq]
  unfold val_main_v59 val_main_v58 val_main_v57 val_main_v56 val_main_v55 val_main_v54 val_main_v53 val_main_cst_12 val_main_v52 val_main_cst_11
    val_main_v51 val_main_v50 val_main_v49 val_main_v48 val_main_v47 val_main_v46 val_main_cst_10 val_main_v45 val_main_v43 val_main_v42 val_main_v37
    val_main_v36 val_main_v29 val_main_v23 val_main_v22 val_main_v21 val_main_v18 val_main_v15 val_main_v14 val_main_v13 val_main_v12 val_main_v11
    val_main_v10 val_main_v9 val_main_v8 val_main_v7 val_main_v6 val_main_v5 val_main_v4 val_main_v3 val_main_v0 val_main_cst_1 val_main_cst_0
    val_main_cst_2 val_main_cst_3 val_main_cst
  pointwise
  rfl

open Cert.Reference23Ideal.Read in
theorem reference1 (x0 x1 x2 : S4096x1024.Idx → EReal) (x3 : S1x1024.Idx → EReal) (x4 : S6x1024.Idx → EReal) (x5 : S4096x1024.Idx → EReal) (q : Fin 8) (k : Fin 1024) :
    val_main_v77 (F := Ideal) x0 x1 x2 x3 x4 x5 (ix2 q k)
      = if q.val < 4 then ∑ r : Fin 4096, term q.val (row x0 r) (row x1 r) (row x3 0) (row x4 1) (val_main_v59 (F := Ideal) x0 x1 x2 x3 x4 (ix2 r k) * x5 (ix2 r k)) k else 0 := by
  unfold val_main_v77 val_main_v76 val_main_cst_15 val_main_v75 val_main_v74 val_main_v73 val_main_v72 val_main_v71 val_main_v70 val_main_v69
    val_main_v68 val_main_v60 val_main_v44 val_main_v41 val_main_v40 val_main_v39 val_main_v38 val_main_v37 val_main_v36 val_main_v35 val_main_v34
    val_main_v33 val_main_v32 val_main_v31 val_main_v30 val_main_v29 val_main_v23 val_main_v22 val_main_v21 val_main_v20 val_main_v19 val_main_v18
    val_main_v17 val_main_v16 val_main_v12 val_main_v11 val_main_v10 val_main_v9 val_main_v8 val_main_v7 val_main_v6 val_main_v5 val_main_v4
    val_main_v3 val_main_v0 val_main_cst_0 val_main_cst_1 val_main_cst_3 val_main_cst_4 val_main_cst_5 val_main_cst_6 val_main_cst_7 val_main_cst_8
    val_main_cst_9 val_main_cst_13 val_main_cst_14 val_main_cst
  pointwise
  simp only [Fin.sum_univ_one]
  by_cases h0 : q.val < 1
  · rw [dif_pos h0, if_pos (by omega), show q.val = 0 by omega]
    rfl
  · rw [dif_neg h0]
    by_cases h1 : q.val - 1 < 1
    · rw [dif_pos h1, if_pos (by omega), show q.val = 1 by omega]
      exact Finset.sum_congr rfl fun r _ => mul_comm _ _
    · rw [dif_neg h1]
      by_cases h2 : q.val - 1 - 1 < 1
      · rw [dif_pos h2, if_pos (by omega), show q.val = 2 by omega]
        exact Finset.sum_congr rfl fun r _ => mul_comm _ _
      · rw [dif_neg h2]
        by_cases h3 : q.val - 1 - 1 - 1 < 1
        · rw [dif_pos h3, if_pos (by omega), show q.val = 3 by omega]
          rfl
        · rw [dif_neg h3, if_neg (by omega)]

open Cert.Reference23Ideal.Read in
theorem reference2 (x0 x1 x2 : S4096x1024.Idx → EReal) (x3 : S1x1024.Idx → EReal) (x4 x6 : S6x1024.Idx → EReal) (r : Fin 4096) (k : Fin 1024) :
    val_main_v78 (F := Ideal) x0 x1 x2 x3 x4 x6 (ix2 r k) = x6 (ix2 5 k) * val_main_v59 (F := Ideal) x0 x1 x2 x3 x4 (ix2 r k) := by
  unfold val_main_v78 val_main_v67 val_main_v66 val_main_v63 val_main_v62 val_main_v61
  pointwise

/-- The reference leaves its arguments as they were and ends with no semaphore raised. -/
theorem reference_frame : quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

/-- The kernel's results are the reference's, entry by entry. -/
theorem equal : algebraic_Kernel23Ideal_Reference23Ideal := by
  intro m ρ m' ρ' _ hagree
  refine ⟨_, _, _, Value.run (F := Ideal) m ρ, ?_⟩
  refine (θ_run Cert.Reference23Ideal.defs _ _).mono (fun _ h c => ⟨?_, ?_, ?_, (h c).2.2.2⟩)
    (Cert.Reference23Ideal.Value.run (F := Ideal) m' ρ')
  · rw [(h c).1, Cert.Reference23Ideal.Read.val_main_v59_eq, (hagree c).1, (hagree c).2.1, (hagree c).2.2.1, (hagree c).2.2.2.1, (hagree c).2.2.2.2.1]
    refine funext fun i => ?_
    obtain ⟨r, k, rfl⟩ : ∃ (r : Fin 4096) (k : Fin 1024), i = ix2 r k := ⟨i 0, i 1, eq_ix2 i⟩
    exact (reference0 _ _ _ _ _ r k).trans (result0 m c r k).symm
  · rw [(h c).2.1, Cert.Reference23Ideal.Read.val_main_v77_eq, (hagree c).1, (hagree c).2.1, (hagree c).2.2.1, (hagree c).2.2.2.1, (hagree c).2.2.2.2.1, (hagree c).2.2.2.2.2.1]
    refine funext fun i => ?_
    obtain ⟨q, k, rfl⟩ : ∃ (q : Fin 8) (k : Fin 1024), i = ix2 q k := ⟨i 0, i 1, eq_ix2 i⟩
    refine (reference1 _ _ _ _ _ _ q k).trans (Eq.trans ?_ (result1 m c q k).symm)
    refine if_congr Iff.rfl (Finset.sum_congr rfl fun r _ => ?_) rfl
    rw [reference0]
    rfl
  · rw [(h c).2.2.1, Cert.Reference23Ideal.Read.val_main_v78_eq, (hagree c).1, (hagree c).2.1, (hagree c).2.2.1, (hagree c).2.2.2.1, (hagree c).2.2.2.2.1, (hagree c).2.2.2.2.2.2]
    refine funext fun i => ?_
    obtain ⟨r, k, rfl⟩ : ∃ (r : Fin 4096) (k : Fin 1024), i = ix2 r k := ⟨i 0, i 1, eq_ix2 i⟩
    refine (reference2 _ _ _ _ _ _ r k).trans ?_
    rw [reference0, mul_comm]
    exact (result2 m c r k).symm

end Cert.NormBwdFfn

end
-- ==== Proof.FinalLoss.lean ====
/-
  The loss and its gradient. The kernel norms 512 rows at a time, adds up half of the mean square error, writes the rows'
  gradient and the gradient of the last branch, and adds up two sums over the rows in eight sublanes, which the last point
  adds together; the reference is the plain loss and its derivative.
-/
module

public import proofs.«01_k».proof.Defs
public import proofs.«01_k».proof.Proof.NormMath
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise
public import Idealize.ShloMosaic.Lib.Pipeline.ReadBack
public import Idealize.ShloMosaic.Adequacy
public import Idealize.ShloMosaic.Lib.Quiescent

@[expose] public section

set_option maxRecDepth 16384

noncomputable section

namespace Cert.FinalLoss

open Cert.Kernel20Ideal Cert.Kernel20Ideal.Gen Idealize.ShloMosaic Idealize.ShloMosaic.TcCoe
open Idealize.SL.Sem
open Cert.NormMath
open scoped BigOperators

theorem hz2 : (![0, 0] : Fin 2 → Nat) = fun _ => 0 := funext fun a => by fin_cases a <;> rfl

/-! ## What one point computes -/

/-- One half, two, and the reciprocal of the number of columns. -/
abbrev half : EReal := Ideal.ofBits .f32 1056964608#32
abbrev two : EReal := Ideal.ofBits .f32 1073741824#32
abbrev share : EReal := Ideal.ofBits .f32 981467136#32

theorem half_eq : half = ((1 / 2 : ℝ) : EReal) := by
  simp [half, Ideal.ofBits, Ideal.ieee]
  rw [← EReal.coe_mul]
  congr 1
  norm_num

theorem two_eq : two = ((2 : ℝ) : EReal) := by
  simp [two, Ideal.ofBits, Ideal.ieee]
  rw [← EReal.coe_mul]
  congr 1
  norm_num

theorem share_eq : share = ((1 / 1024 : ℝ) : EReal) := by
  simp [share, Ideal.ofBits, Ideal.ieee]
  rw [← EReal.coe_mul]
  congr 1
  norm_num

/-- The derivative of half the mean square is the error's share. -/
theorem square_grad (e : EReal) : Ideal.div half width * (two * e) = e * share := by
  rw [half_eq, width_eq, two_eq, share_eq, Ideal.div_coe (by norm_num), ← mul_assoc, ← EReal.coe_mul, ← EReal.coe_mul, mul_comm]
  congr 2
  norm_num

/-- The error of a row `x` with the gains `g` against the target `t`. -/
def err (x g t : Fin 1024 → EReal) (j : Fin 1024) : EReal := x j * scale x * g j - t j

/-- The loss of a row. -/
def rowLoss (x g t : Fin 1024 → EReal) : EReal := half * Ideal.div (∑ j, err x g t j * err x g t j) width

/-- The cotangent of the normed row. -/
def lossCot (x g t : Fin 1024 → EReal) (j : Fin 1024) : EReal := err x g t j * share * g j

/-- What one row adds to the sum number `q`: the gains' gradient, and, from `e`, the gate's. -/
def lossTerm (q : ℕ) (x g t : Fin 1024 → EReal) (e : EReal) (k : Fin 1024) : EReal :=
  if q = 0 then err x g t k * share * (x k * scale x) else e

/-! ## What one point computes -/

theorem zeros_apply (q : Fin 2) (j : Fin 8) (k : Fin 1024) : k0_pay6 (F := Ideal) (ix3 q j k) = 0 := by
  unfold k0_pay6
  pointwise

theorem zero_apply : k0_pay7 (F := Ideal) (ix2 0 0) = 0 := by
  unfold k0_pay7
  pointwise

theorem empty_apply (q : Fin 8) (k : Fin 1024) : k0_pay2 (F := Ideal) (ix2 q k) = 0 := by
  unfold k0_pay2
  pointwise

theorem normed_apply (x : Vec Ideal S512x1024 .f32) (r : Fin 512) (k : Fin 1024) :
    k0_pay9 (F := Ideal) x (ix2 r k) = x (ix2 r k) * scale (row x r) := by
  unfold k0_pay9 k0_pay8
  pointwise
  rfl

theorem err_apply (x : Vec Ideal S512x1024 .f32) (g : Vec Ideal S1x1024 .f32) (t : Vec Ideal S512x1024 .f32) (r : Fin 512) (k : Fin 1024) :
    k0_pay10 (F := Ideal) x g t (ix2 r k) = err (row x r) (row g 0) (row t r) k := by
  unfold k0_pay10
  pointwise
  rw [normed_apply]
  rfl

theorem dy_apply (x : Vec Ideal S512x1024 .f32) (g : Vec Ideal S1x1024 .f32) (t : Vec Ideal S512x1024 .f32) (r : Fin 512) (k : Fin 1024) :
    k0_pay12 (F := Ideal) x g t (ix2 r k) = err (row x r) (row g 0) (row t r) k * share := by
  unfold k0_pay12
  pointwise
  rw [err_apply]

theorem cot_apply (x : Vec Ideal S512x1024 .f32) (g : Vec Ideal S1x1024 .f32) (t : Vec Ideal S512x1024 .f32) (r : Fin 512) (k : Fin 1024) :
    k0_pay13 (F := Ideal) x g t (ix2 r k) = lossCot (row x r) (row g 0) (row t r) k := by
  unfold k0_pay13
  pointwise
  rw [dy_apply]
  rfl

theorem loss_apply (x : Vec Ideal S512x1024 .f32) (g : Vec Ideal S1x1024 .f32) (t : Vec Ideal S512x1024 .f32) (l : Vec Ideal S1x1 .f32) :
    k0_pay11 (F := Ideal) x g t l (ix2 0 0) = l (ix2 0 0) + ∑ r : Fin 512, rowLoss (row x r) (row g 0) (row t r) := by
  unfold k0_pay11
  pointwise
  simp only [err_apply]
  rfl

theorem spread_apply (l : Vec Ideal S1x1 .f32) (p : Fin 8) (k : Fin 128) : k0_pay5 (F := Ideal) l (ix2 p k) = l (ix2 0 0) := by
  unfold k0_pay5
  pointwise

theorem grad_apply (x : Vec Ideal S512x1024 .f32) (g : Vec Ideal S1x1024 .f32) (t : Vec Ideal S512x1024 .f32) (r : Fin 512) (k : Fin 1024) :
    k0_pay14 (F := Ideal) (k0_pay8 x) (k0_pay9 x) (k0_pay13 x g t) (ix2 r k) = grad (row x r) (lossCot (row x r) (row g 0) (row t r)) k := by
  unfold k0_pay14
  pointwise
  simp only [cot_apply, normed_apply]
  unfold k0_pay8
  pointwise
  rfl

theorem gated_apply (a : Vec Ideal S512x1 .f32) (n d : Vec Ideal S512x1024 .f32) (b : Vec Ideal S1x1024 .f32) (r : Fin 512) (k : Fin 1024) :
    k0_pay15 (F := Ideal) a n d b (ix2 r k) = k0_pay14 (F := Ideal) a n d (ix2 r k) * b (ix2 0 k) := by
  unfold k0_pay15
  pointwise

theorem add0 (n d : Vec Ideal S512x1024 .f32) (a : Vec Ideal S1x8x1024 .f32) (j : Fin 8) (k : Fin 1024) :
    k0_pay16 (F := Ideal) n d a (ix3 0 j k) = a (ix3 0 j k)
      + ∑ y : Fin 64, d (ix2 ⟨y.val * 8 + j.val, by omega⟩ k) * n (ix2 ⟨y.val * 8 + j.val, by omega⟩ k) := by
  unfold k0_pay16
  pointwise

theorem add1 (s : Vec Ideal S512x1 .f32) (n d : Vec Ideal S512x1024 .f32) (f : Vec Ideal S512x1024 .bf16) (a : Vec Ideal S1x8x1024 .f32) (j : Fin 8) (k : Fin 1024) :
    k0_pay1 (F := Ideal) (k0_pay17 s n d a f) (ix3 0 j k) = a (ix3 0 j k)
      + ∑ y : Fin 64, k0_pay14 (F := Ideal) s n d (ix2 ⟨y.val * 8 + j.val, by omega⟩ k) * f (ix2 ⟨y.val * 8 + j.val, by omega⟩ k) := by
  unfold k0_pay1 k0_pay17
  pointwise

theorem eight0 (a : Vec Ideal S1x8x1024 .f32) (k : Fin 1024) : k0_pay3 (F := Ideal) a (ix2 0 k) = ∑ j : Fin 8, a (ix3 0 j k) := by
  unfold k0_pay3
  pointwise

theorem eight1 (a : Vec Ideal S1x8x1024 .f32) (k : Fin 1024) : k0_pay4 (F := Ideal) a (ix2 0 k) = ∑ j : Fin 8, a (ix3 0 j k) := by
  unfold k0_pay4
  pointwise

section
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x1024 .bf16) (h4 : a4.IsWhole)
  (a5 : Memref sig .tc .vmem S6x1024 .f32) (h5 : a5.IsWhole) (a6 : Memref sig .tc .vmem S8x128 .f32) (h6 : a6.IsWhole)
  (a7 : Memref sig .tc .vmem S512x1024 .f32) (h7 : a7.IsWhole) (a8 : Memref sig .tc .vmem S8x1024 .f32) (h8 : a8.IsWhole)
  (a9 : Memref sig .tc .vmem S512x1024 .bf16) (h9 : a9.IsWhole) (a10 : Memref sig .tc .vmem S2x8x1024 .f32) (h10 : a10.IsWhole)
  (a11 : Memref sig .tc .vmem S1x1 .f32) (h11 : a11.IsWhole)
  (x0 x1 : Vec Ideal S512x1024 .f32) (x2 : Vec Ideal S1x1024 .f32) (x3 : Vec Ideal S512x1024 .bf16) (x4 : Vec Ideal S6x1024 .f32)
  (acc : Vec Ideal S2x8x1024 .f32) (lacc : Vec Ideal S1x1 .f32)

/-- The block of the rows' gradient. -/
def gradBlock (r : Fin 512) (k : Fin 1024) : EReal := grad (row x0 r) (lossCot (row x0 r) (row x2 0) (row x1 r)) k

/-- What a block adds to sum `q` in sublane `j`. -/
def blockSum (q : ℕ) (j : Fin 8) (k : Fin 1024) : EReal :=
  ∑ y : Fin 64, lossTerm q (row x0 ⟨y.val * 8 + j.val, by omega⟩) (row x2 0) (row x1 ⟨y.val * 8 + j.val, by omega⟩)
    (gradBlock x0 x1 x2 ⟨y.val * 8 + j.val, by omega⟩ k * x3 (ix2 ⟨y.val * 8 + j.val, by omega⟩ k)) k

/-- What a block adds to the loss. -/
def blockLoss : EReal := ∑ r : Fin 512, rowLoss (row x0 r) (row x2 0) (row x1 r)

/-- The two slabs written over an accumulator, read back. -/
theorem slabs_apply (b0 b1 : Vec Ideal S1x8x1024 .f32) (q : ℕ) (hq : q < 2) (j : Fin 8) (k : Fin 1024) (old : EReal)
    (e0 : q = 0 → b0 (ix3 0 j k) = old) (e1 : q = 1 → b1 (ix3 0 j k) = old) (rest : EReal) :
    (if q = 1 then k0_pay1 (F := Ideal) (k0_pay17 (k0_pay8 x0) (k0_pay9 x0) (k0_pay13 x0 x2 x1) b1 x3) (ix3 0 j k)
      else if q = 0 then k0_pay16 (F := Ideal) (k0_pay9 x0) (k0_pay12 x0 x2 x1) b0 (ix3 0 j k) else rest)
    = old + blockSum x0 x1 x2 x3 q j k := by
  unfold blockSum
  split_ifs with c1 c0
  · rw [add1, e1 c1, c1]
    congr 1
    refine Finset.sum_congr rfl fun y _ => ?_
    rw [grad_apply]
    rfl
  · rw [add0, e0 c0, c0]
    congr 1
    refine Finset.sum_congr rfl fun y _ => ?_
    rw [dy_apply, normed_apply]
    rfl
  · omega

theorem first_sums (hc0 : cond0_0 i) (hc1 : ¬cond0_1 i) (q : Fin 2) (j : Fin 8) (k : Fin 1024) :
    sout0_A_0 (F := Ideal) c i a1 h1 a2 h2 a3 h3 a4 h4 a5 h5 a6 h6 a7 h7 a8 h8 a9 h9 a10 h10 a11 h11 hc0 hc1 x0 x1 x2 x3 x4 (ix3 q j k) = blockSum x0 x1 x2 x3 q.val j k := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  simp only [View.readAt_eq_ld, h1.read_unread, h2.read_unread, h3.read_unread, h4.read_unread, View.ld_unit_zero (S := S512x1024) hz2,
    View.ld_unit_zero (S := S1x1024) hz2, View.ld_unit_zero (S := S1x1) hz2]
  simp (disch := decide) only [↓ View.readCov_skip, ↓ View.readCov_cons_toLoadRect, ↓ View.readCov_fill]
  rw [canon_slab, canon_slab]
  refine (slabs_apply x0 x1 x2 x3 _ _ q.val q.isLt j k 0 (fun _ => ?_) (fun _ => ?_) _).trans (zero_add _)
  · exact (ld_slab 0 _ _ (by omega) j k).trans (zeros_apply _ j k)
  · exact (ld_slab 1 _ _ (by omega) j k).trans (zeros_apply _ j k)

theorem next_sums (hc0 : ¬cond0_0 i) (hc1 : ¬cond0_1 i) (q : Fin 2) (j : Fin 8) (k : Fin 1024) :
    sout0_B_0 (F := Ideal) c i a1 h1 a2 h2 a3 h3 a4 h4 a5 h5 a6 h6 a7 h7 a8 h8 a9 h9 a10 h10 a11 h11 hc0 hc1 x0 x1 x2 x3 x4 acc lacc (ix3 q j k) = acc (ix3 q j k) + blockSum x0 x1 x2 x3 q.val j k := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 x4 acc lacc)]
  unfold kernelRun0_B
  dsimp only
  sl_unfold_words
  simp only [View.readAt_eq_ld, h1.read_unread, h2.read_unread, h3.read_unread, h4.read_unread, h10.read_unread, h11.read_unread, View.ld_unit_zero (S := S512x1024) hz2,
    View.ld_unit_zero (S := S1x1024) hz2, View.ld_unit_zero (S := S1x1) hz2]
  rw [canon_slab, canon_slab]
  have hk : ∀ (n : ℕ) (hn : n < 2), q.val = n → acc (ix3 ⟨n, hn⟩ j k) = acc (ix3 q j k) := fun n hn e =>
    congrArg (fun p => acc (ix3 p j k)) (Fin.ext e.symm)
  refine slabs_apply x0 x1 x2 x3 _ _ q.val q.isLt j k _ (fun e => ?_) (fun e => ?_) _
  · exact (ld_slab 0 _ _ (by omega) j k).trans (hk 0 _ e)
  · exact (ld_slab 1 _ _ (by omega) j k).trans (hk 1 _ e)

theorem last_sums (hc0 : ¬cond0_0 i) (hc1 : cond0_1 i) (q : Fin 8) (k : Fin 1024) :
    out0_C_7 (F := Ideal) c i a1 h1 a2 h2 a3 h3 a4 h4 a5 h5 a6 h6 a7 h7 a8 h8 a9 h9 a10 h10 a11 h11 hc0 hc1 x0 x1 x2 x3 x4 acc lacc (ix2 q k) = if h : q.val < 2 then ∑ j : Fin 8, (acc (ix3 ⟨q.val, h⟩ j k) + blockSum x0 x1 x2 x3 q.val j k) else 0 := by
  unfold out0_C_7
  rw [View.read_writes_eq_canon _ _ _ (cover0_C_7 c i a1 h1 a2 h2 a3 h3 a4 h4 a5 h5 a6 h6 a7 h7 a8 h8 a9 h9 a10 h10 a11 h11 hc0 hc1 x0 x1 x2 x3 x4 acc lacc)]
  unfold kernelRun0_C
  dsimp only
  sl_unfold_words
  simp only [View.readAt_eq_ld, h1.read_unread, h2.read_unread, h3.read_unread, h4.read_unread, h10.read_unread, h11.read_unread, View.ld_unit_zero (S := S512x1024) hz2,
    View.ld_unit_zero (S := S1x1024) hz2, View.ld_unit_zero (S := S1x1) hz2]
  simp (disch := decide) only [↓ View.readCov_skip, ↓ View.readCov_cons_toLoadRect, ↓ View.readCov_fill]
  rw [canon_row, canon_row, View.canon_unit_zero hz2, eight1, eight0, empty_apply]
  have hs := fun (b0 b1 : Vec Ideal S1x8x1024 .f32) (p : ℕ) hp (j : Fin 8) (old : EReal) e0 e1 =>
    slabs_apply x0 x1 x2 x3 b0 b1 p hp j k old e0 e1 0
  by_cases h : q.val < 2
  · rw [dif_pos h]
    split_ifs with c1 c0
    · refine Finset.sum_congr rfl fun j _ => ?_
      have := hs 0 _ 1 (by omega) j (acc (ix3 ⟨q.val, h⟩ j k)) (fun e => absurd e (by decide))
        (fun _ => (ld_slab 1 inb_S2x8x1024_S1x8x1024_1_0_0 acc (by omega) j k).trans (congrArg (fun p => acc (ix3 p j k)) (Fin.ext c1.symm)))
      rw [if_pos rfl] at this
      exact this.trans (congrArg (fun n => acc (ix3 ⟨q.val, h⟩ j k) + blockSum x0 x1 x2 x3 n j k) c1.symm)
    · refine Finset.sum_congr rfl fun j _ => ?_
      have := hs _ 0 0 (by omega) j (acc (ix3 ⟨q.val, h⟩ j k))
        (fun _ => (ld_slab 0 inb_S2x8x1024_S1x8x1024_0_0_0 acc (by omega) j k).trans (congrArg (fun p => acc (ix3 p j k)) (Fin.ext c0.symm)))
        (fun e => absurd e (by decide))
      rw [if_neg (by decide), if_pos rfl] at this
      exact this.trans (congrArg (fun n => acc (ix3 ⟨q.val, h⟩ j k) + blockSum x0 x1 x2 x3 n j k) c0.symm)
    · omega
  · rw [dif_neg h, if_neg (by omega), if_neg (by omega)]

theorem first_loss (hc0 : cond0_0 i) (hc1 : ¬cond0_1 i) :
    sout0_A_1 (F := Ideal) c i a1 h1 a2 h2 a3 h3 a4 h4 a5 h5 a6 h6 a7 h7 a8 h8 a9 h9 a10 h10 a11 h11 hc0 hc1 x0 x1 x2 x3 x4 (ix2 0 0) = blockLoss x0 x1 x2 := by
  unfold sout0_A_1
  rw [View.read_writes_eq_canon _ _ _ (scover0_A_1 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  simp only [View.readAt_eq_ld, h1.read_unread, h2.read_unread, h3.read_unread, View.ld_unit_zero (S := S512x1024) hz2,
    View.ld_unit_zero (S := S1x1024) hz2, View.ld_unit_zero (S := S1x1) hz2]
  simp (disch := decide) only [↓ View.readCov_skip, ↓ View.readCov_cons_toLoadRect, ↓ View.readCov_fill]
  rw [View.canon_cons_unit_zero (S := S1x1) hz2, loss_apply, zero_apply, zero_add]
  rfl

theorem next_loss (hc0 : ¬cond0_0 i) (hc1 : ¬cond0_1 i) :
    sout0_B_1 (F := Ideal) c i a1 h1 a2 h2 a3 h3 a4 h4 a5 h5 a6 h6 a7 h7 a8 h8 a9 h9 a10 h10 a11 h11 hc0 hc1 x0 x1 x2 x3 x4 acc lacc (ix2 0 0) = lacc (ix2 0 0) + blockLoss x0 x1 x2 := by
  unfold sout0_B_1
  rw [View.read_writes_eq_canon _ _ _ (scover0_B_1 c i a1 h1 a2 h2 a3 h3 a4 h4 a5 h5 a6 h6 a7 h7 a8 h8 a9 h9 a10 h10 a11 h11 hc0 hc1 x0 x1 x2 x3 x4 acc lacc)]
  unfold kernelRun0_B
  dsimp only
  sl_unfold_words
  simp only [View.readAt_eq_ld, h1.read_unread, h2.read_unread, h3.read_unread, h11.read_unread, View.ld_unit_zero (S := S512x1024) hz2,
    View.ld_unit_zero (S := S1x1024) hz2, View.ld_unit_zero (S := S1x1) hz2]
  rw [View.canon_unit_zero hz2, loss_apply]
  rfl

theorem last_loss (hc0 : ¬cond0_0 i) (hc1 : cond0_1 i) (p : Fin 8) (k : Fin 128) :
    out0_C_5 (F := Ideal) c i a1 h1 a2 h2 a3 h3 a4 h4 a5 h5 a6 h6 a7 h7 a8 h8 a9 h9 a10 h10 a11 h11 hc0 hc1 x0 x1 x2 x3 x4 acc lacc (ix2 p k) = lacc (ix2 0 0) + blockLoss x0 x1 x2 := by
  unfold out0_C_5
  rw [View.read_writes_eq_canon _ _ _ (cover0_C_5 c i a1 h1 a2 h2 a3 h3 a4 h4 a5 h5 a6 h6 a7 h7 a8 h8 a9 h9 a10 h10 a11 h11 hc0 hc1 x0 x1 x2 x3 x4 acc lacc)]
  unfold kernelRun0_C
  dsimp only
  sl_unfold_words
  simp only [View.readAt_eq_ld, h1.read_unread, h2.read_unread, h3.read_unread, h11.read_unread, View.ld_unit_zero (S := S512x1024) hz2,
    View.ld_unit_zero (S := S1x1024) hz2, View.ld_unit_zero (S := S1x1) hz2]
  simp (disch := decide) only [↓ View.readCov_skip, ↓ View.readCov_cons_toLoadRect, ↓ View.readCov_fill]
  rw [View.canon_unit_zero hz2, spread_apply, loss_apply]
  rfl

theorem first_grad (hc0 : cond0_0 i) (hc1 : ¬cond0_1 i) (r : Fin 512) (k : Fin 1024) :
    out0_A_6 (F := Ideal) c i a1 h1 a2 h2 a3 h3 a4 h4 a5 h5 a6 h6 a7 h7 a8 h8 a9 h9 a10 h10 a11 h11 hc0 hc1 x0 x1 x2 x3 x4 (ix2 r k) = gradBlock x0 x1 x2 r k := by
  unfold out0_A_6
  rw [View.read_writes_eq_canon _ _ _ (cover0_A_6 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  rw [View.canon_unit_zero hz2]
  simp only [View.readAt_eq_ld, h1.read_unread, h2.read_unread, h3.read_unread, View.ld_unit_zero (S := S512x1024) hz2,
    View.ld_unit_zero (S := S1x1024) hz2, View.ld_unit_zero (S := S1x1) hz2]
  exact grad_apply x0 x2 x1 r k

theorem next_grad (hc0 : ¬cond0_0 i) (hc1 : ¬cond0_1 i) (r : Fin 512) (k : Fin 1024) :
    out0_B_6 (F := Ideal) c i a1 h1 a2 h2 a3 h3 a4 h4 a5 h5 a6 h6 a7 h7 a8 h8 a9 h9 a10 h10 a11 h11 hc0 hc1 x0 x1 x2 x3 x4 acc lacc (ix2 r k) = gradBlock x0 x1 x2 r k := by
  unfold out0_B_6
  rw [View.read_writes_eq_canon _ _ _ (cover0_B_6 c i a1 h1 a2 h2 a3 h3 a4 h4 a5 h5 a6 h6 a7 h7 a8 h8 a9 h9 a10 h10 a11 h11 hc0 hc1 x0 x1 x2 x3 x4 acc lacc)]
  unfold kernelRun0_B
  dsimp only
  sl_unfold_words
  rw [View.canon_unit_zero hz2]
  simp only [View.readAt_eq_ld, h1.read_unread, h2.read_unread, h3.read_unread, View.ld_unit_zero (S := S512x1024) hz2,
    View.ld_unit_zero (S := S1x1024) hz2, View.ld_unit_zero (S := S1x1) hz2]
  exact grad_apply x0 x2 x1 r k

theorem last_grad (hc0 : ¬cond0_0 i) (hc1 : cond0_1 i) (r : Fin 512) (k : Fin 1024) :
    out0_C_6 (F := Ideal) c i a1 h1 a2 h2 a3 h3 a4 h4 a5 h5 a6 h6 a7 h7 a8 h8 a9 h9 a10 h10 a11 h11 hc0 hc1 x0 x1 x2 x3 x4 acc lacc (ix2 r k) = gradBlock x0 x1 x2 r k := by
  unfold out0_C_6
  rw [View.read_writes_eq_canon _ _ _ (cover0_C_6 c i a1 h1 a2 h2 a3 h3 a4 h4 a5 h5 a6 h6 a7 h7 a8 h8 a9 h9 a10 h10 a11 h11 hc0 hc1 x0 x1 x2 x3 x4 acc lacc)]
  unfold kernelRun0_C
  dsimp only
  sl_unfold_words
  rw [View.canon_unit_zero hz2]
  simp only [View.readAt_eq_ld, h1.read_unread, h2.read_unread, h3.read_unread, View.ld_unit_zero (S := S512x1024) hz2,
    View.ld_unit_zero (S := S1x1024) hz2, View.ld_unit_zero (S := S1x1) hz2]
  exact grad_apply x0 x2 x1 r k

theorem first_gated (hc0 : cond0_0 i) (hc1 : ¬cond0_1 i) (r : Fin 512) (k : Fin 1024) :
    out0_A_8 (F := Ideal) c i a1 h1 a2 h2 a3 h3 a4 h4 a5 h5 a6 h6 a7 h7 a8 h8 a9 h9 a10 h10 a11 h11 hc0 hc1 x0 x1 x2 x3 x4 (ix2 r k) = gradBlock x0 x1 x2 r k * x4 (ix2 5 k) := by
  unfold out0_A_8
  rw [View.read_writes_eq_canon _ _ _ (cover0_A_8 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  rw [View.canon_unit_zero hz2]
  simp only [View.readAt_eq_ld, h1.read_unread, h2.read_unread, h3.read_unread, h5.read_unread, View.ld_unit_zero (S := S512x1024) hz2,
    View.ld_unit_zero (S := S1x1024) hz2, View.ld_unit_zero (S := S1x1) hz2]
  rw [gated_apply, grad_apply]
  exact congrArg (fun y : EReal => gradBlock x0 x1 x2 r k * y) (ld_row 5 _ x4 (by omega) k)

theorem next_gated (hc0 : ¬cond0_0 i) (hc1 : ¬cond0_1 i) (r : Fin 512) (k : Fin 1024) :
    out0_B_8 (F := Ideal) c i a1 h1 a2 h2 a3 h3 a4 h4 a5 h5 a6 h6 a7 h7 a8 h8 a9 h9 a10 h10 a11 h11 hc0 hc1 x0 x1 x2 x3 x4 acc lacc (ix2 r k) = gradBlock x0 x1 x2 r k * x4 (ix2 5 k) := by
  unfold out0_B_8
  rw [View.read_writes_eq_canon _ _ _ (cover0_B_8 c i a1 h1 a2 h2 a3 h3 a4 h4 a5 h5 a6 h6 a7 h7 a8 h8 a9 h9 a10 h10 a11 h11 hc0 hc1 x0 x1 x2 x3 x4 acc lacc)]
  unfold kernelRun0_B
  dsimp only
  sl_unfold_words
  rw [View.canon_unit_zero hz2]
  simp only [View.readAt_eq_ld, h1.read_unread, h2.read_unread, h3.read_unread, h5.read_unread, View.ld_unit_zero (S := S512x1024) hz2,
    View.ld_unit_zero (S := S1x1024) hz2, View.ld_unit_zero (S := S1x1) hz2]
  rw [gated_apply, grad_apply]
  exact congrArg (fun y : EReal => gradBlock x0 x1 x2 r k * y) (ld_row 5 _ x4 (by omega) k)

theorem last_gated (hc0 : ¬cond0_0 i) (hc1 : cond0_1 i) (r : Fin 512) (k : Fin 1024) :
    out0_C_8 (F := Ideal) c i a1 h1 a2 h2 a3 h3 a4 h4 a5 h5 a6 h6 a7 h7 a8 h8 a9 h9 a10 h10 a11 h11 hc0 hc1 x0 x1 x2 x3 x4 acc lacc (ix2 r k) = gradBlock x0 x1 x2 r k * x4 (ix2 5 k) := by
  unfold out0_C_8
  rw [View.read_writes_eq_canon _ _ _ (cover0_C_8 c i a1 h1 a2 h2 a3 h3 a4 h4 a5 h5 a6 h6 a7 h7 a8 h8 a9 h9 a10 h10 a11 h11 hc0 hc1 x0 x1 x2 x3 x4 acc lacc)]
  unfold kernelRun0_C
  dsimp only
  sl_unfold_words
  rw [View.canon_unit_zero hz2]
  simp only [View.readAt_eq_ld, h1.read_unread, h2.read_unread, h3.read_unread, h5.read_unread, View.ld_unit_zero (S := S512x1024) hz2,
    View.ld_unit_zero (S := S1x1024) hz2, View.ld_unit_zero (S := S1x1) hz2]
  rw [gated_apply, grad_apply]
  exact congrArg (fun y : EReal => gradBlock x0 x1 x2 r k * y) (ld_row 5 _ x4 (by omega) k)

end

/-! ## The arrays -/

section
variable (m : (ℓ : Loc nD τ sig) → Buf (Elt Ideal) ℓ) (c : Dev nD)

/-- The argument arrays: the rows, the target, the gains, the last branch's output, the modulations with its gate. -/
abbrev argX : S4096x1024.Idx → EReal := m ((c : Thread nD τ).loc main_arg0)
abbrev argT : S4096x1024.Idx → EReal := m ((c : Thread nD τ).loc main_arg1)
abbrev argG : S1x1024.Idx → EReal := m ((c : Thread nD τ).loc main_arg2)
abbrev argF : S4096x1024.Idx → EReal := m ((c : Thread nD τ).loc main_arg3)
abbrev argB : S6x1024.Idx → EReal := m ((c : Thread nD τ).loc main_arg4)

theorem idx_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) ∧ (win0_4.index t 0 = 0 ∧ win0_4.index t 1 = 0) :=
  (by decide +kernel : ∀ t : Fin grid0.N, _)

theorem lt_eight (t : Fin cfg0.N) : t.val < 8 := N_0 ▸ t.isLt

/-- The row of the arrays that row `r` of tile `t` is. -/
abbrev rowOf (t : ℕ) (ht : t < 8) (r : Fin 512) : Fin 4096 := ⟨t * 512 + r.val, by omega⟩

theorem blk0 (t : Fin cfg0.N) (r : Fin 512) (k : Fin 1024) : (iblk m c 0 t : S512x1024.Idx → EReal) (ix2 r k) = argX m c (ix2 (rowOf t.val (lt_eight t) r) k) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; omega
  | ⟨1, _⟩ => show win0_0.index t 1 * 1024 + 1 * k.val = k.val; omega

theorem blk1 (t : Fin cfg0.N) (r : Fin 512) (k : Fin 1024) : (iblk m c 1 t : S512x1024.Idx → EReal) (ix2 r k) = argT m c (ix2 (rowOf t.val (lt_eight t) r) k) := by
  obtain ⟨e0, e1⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 512 + 1 * r.val = t.val * 512 + r.val; omega
  | ⟨1, _⟩ => show win0_1.index t 1 * 1024 + 1 * k.val = k.val; omega

theorem blk2 (t : Fin cfg0.N) (k : Fin 1024) : (iblk m c 2 t : S1x1024.Idx → EReal) (ix2 0 k) = argG m c (ix2 0 k) := by
  obtain ⟨e0, e1⟩ := (idx_facts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t 0 * 1 + 1 * 0 = 0; omega
  | ⟨1, _⟩ => show win0_2.index t 1 * 1024 + 1 * k.val = k.val; omega

theorem blk3 (t : Fin cfg0.N) (r : Fin 512) (k : Fin 1024) : (iblk m c 3 t : S512x1024.Idx → EReal) (ix2 r k) = argF m c (ix2 (rowOf t.val (lt_eight t) r) k) := by
  obtain ⟨e0, e1⟩ := (idx_facts t).2.2.2.1
  unfold iblk
  rw [View.read_apply]
  show m ((c : Thread nD τ).loc main_arg3) _ = m ((c : Thread nD τ).loc main_arg3) _
  congr 1
  funext a
  apply Fin.ext
  match a with
  | ⟨0, _⟩ => show win0_3.index t 0 * 512 + 1 * r.val = t.val * 512 + r.val; omega
  | ⟨1, _⟩ => show win0_3.index t 1 * 1024 + 1 * k.val = k.val; omega

theorem blk4 (t : Fin cfg0.N) (p : Fin 6) (k : Fin 1024) : (iblk m c 4 t : S6x1024.Idx → EReal) (ix2 p k) = argB m c (ix2 p k) := by
  obtain ⟨e0, e1⟩ := (idx_facts t).2.2.2.2
  unfold iblk
  rw [View.read_apply]
  show m ((c : Thread nD τ).loc main_arg4) _ = m ((c : Thread nD τ).loc main_arg4) _
  congr 1
  funext a
  apply Fin.ext
  match a with
  | ⟨0, _⟩ => show win0_4.index t 0 * 6 + 1 * p.val = p.val; omega
  | ⟨1, _⟩ => show win0_4.index t 1 * 1024 + 1 * k.val = k.val; omega

/-- The gradient of one row. -/
def rowGrad (r : Fin 4096) (k : Fin 1024) : EReal :=
  grad (row (argX m c) r) (lossCot (row (argX m c) r) (row (argG m c) 0) (row (argT m c) r)) k

theorem gradBlock_apply (t : Fin cfg0.N) (r : Fin 512) (k : Fin 1024) :
    gradBlock (iblk m c 0 t) (iblk m c 1 t) (iblk m c 2 t) r k = rowGrad m c (rowOf t.val (lt_eight t) r) k := by
  unfold gradBlock rowGrad
  rw [show row (iblk m c 0 t : S512x1024.Idx → EReal) r = _ from funext fun k => blk0 m c t r k,
    show row (iblk m c 1 t : S512x1024.Idx → EReal) r = _ from funext fun k => blk1 m c t r k,
    show row (iblk m c 2 t : S1x1024.Idx → EReal) 0 = _ from funext fun k => blk2 m c t k]

/-- What row `r` adds to sum `q`. -/
def rowTerm (q : ℕ) (k : Fin 1024) (r : Fin 4096) : EReal :=
  lossTerm q (row (argX m c) r) (row (argG m c) 0) (row (argT m c) r) (rowGrad m c r k * argF m c (ix2 r k)) k

/-- What tile `t` adds to sum `q` in sublane `j`. -/
def tileTerm (q : ℕ) (k : Fin 1024) (j : Fin 8) (t : Fin 8) : EReal :=
  ∑ y : Fin 64, rowTerm m c q k ⟨t.val * 512 + (y.val * 8 + j.val), by omega⟩

theorem tile_apply (t : Fin cfg0.N) (q : ℕ) (j : Fin 8) (k : Fin 1024) :
    blockSum (iblk m c 0 t) (iblk m c 1 t) (iblk m c 2 t) (iblk m c 3 t) q j k = tileTerm m c q k j ⟨t.val, lt_eight t⟩ := by
  unfold blockSum tileTerm rowTerm
  refine Finset.sum_congr rfl fun y _ => ?_
  rw [gradBlock_apply, show (iblk m c 3 t : S512x1024.Idx → EReal) (ix2 _ k) = _ from blk3 m c t _ k,
    show row (iblk m c 0 t : S512x1024.Idx → EReal) _ = _ from funext fun k => blk0 m c t _ k,
    show row (iblk m c 1 t : S512x1024.Idx → EReal) _ = _ from funext fun k => blk1 m c t _ k,
    show row (iblk m c 2 t : S1x1024.Idx → EReal) 0 = _ from funext fun k => blk2 m c t k]

/-- The loss of row `r`. -/
def lossOf (r : Fin 4096) : EReal := rowLoss (row (argX m c) r) (row (argG m c) 0) (row (argT m c) r)

/-- The loss of tile `t`. -/
def tileLoss (t : Fin 8) : EReal := ∑ r : Fin 512, lossOf m c ⟨t.val * 512 + r.val, by omega⟩

theorem tile_loss (t : Fin cfg0.N) : blockLoss (iblk m c 0 t) (iblk m c 1 t) (iblk m c 2 t) = tileLoss m c ⟨t.val, lt_eight t⟩ := by
  unfold blockLoss tileLoss lossOf
  refine Finset.sum_congr rfl fun r _ => ?_
  rw [show row (iblk m c 0 t : S512x1024.Idx → EReal) r = _ from funext fun k => blk0 m c t r k,
    show row (iblk m c 1 t : S512x1024.Idx → EReal) r = _ from funext fun k => blk1 m c t r k,
    show row (iblk m c 2 t : S1x1024.Idx → EReal) 0 = _ from funext fun k => blk2 m c t k]

/-- The sums after a point that is not the last: the tiles so far. -/
theorem acc_apply : ∀ (n : ℕ) (hn : n < 7) (q : Fin 2) (j : Fin 8) (k : Fin 1024) (h : n < cfg0.N),
    (outsAt0 m c n h).2.2.2.2.1 (ix3 q j k) = ∑ t : Fin (n + 1), tileTerm m c q.val k j ⟨t.val, by omega⟩
  | 0, hn, q, j, k, h => by
    have hA := outsAt0_A m c ⟨0, h⟩ (by show 0 % 8 = 0; omega) (by show ¬ 0 % 8 = 7; omega)
    rw [show outsAt0 m c 0 h = _ from hA]
    dsimp only
    rw [first_sums, tile_apply, Fin.sum_univ_one]
    rfl
  | n + 1, hn, q, j, k, h => by
    have hB := outsAt0_B m c ⟨n + 1, h⟩ (by show ¬ (n + 1) % 8 = 0; omega) (by show ¬ (n + 1) % 8 = 7; omega)
    rw [show outsAt0 m c (n + 1) h = _ from hB]
    dsimp only
    rw [next_sums, tile_apply, Fin.sum_univ_castSucc]
    exact congrArg₂ (fun a b : EReal => a + b) (acc_apply n (by omega) q j k (by omega)) rfl

/-- The loss after a point that is not the last: the tiles so far. -/
theorem lacc_apply : ∀ (n : ℕ) (hn : n < 7) (h : n < cfg0.N),
    (outsAt0 m c n h).2.2.2.2.2 (ix2 0 0) = ∑ t : Fin (n + 1), tileLoss m c ⟨t.val, by omega⟩
  | 0, hn, h => by
    have hA := outsAt0_A m c ⟨0, h⟩ (by show 0 % 8 = 0; omega) (by show ¬ 0 % 8 = 7; omega)
    rw [show outsAt0 m c 0 h = _ from hA]
    dsimp only
    rw [first_loss, tile_loss, Fin.sum_univ_one]
    rfl
  | n + 1, hn, h => by
    have hB := outsAt0_B m c ⟨n + 1, h⟩ (by show ¬ (n + 1) % 8 = 0; omega) (by show ¬ (n + 1) % 8 = 7; omega)
    rw [show outsAt0 m c (n + 1) h = _ from hB]
    dsimp only
    rw [next_loss, tile_loss, Fin.sum_univ_castSucc]
    exact congrArg₂ (fun a b : EReal => a + b) (lacc_apply n (by omega) (by omega)) rfl

/-- The sums that the last point writes. -/
theorem sums_apply (q : Fin 8) (k : Fin 1024) (h : 7 < cfg0.N) :
    (outsAt0 m c 7 h).2.2.1 (ix2 q k) = if q.val < 2 then ∑ r : Fin 4096, rowTerm m c q.val k r else 0 := by
  have hC := outsAt0_C m c ⟨7, h⟩ (by show ¬ 7 % 8 = 0; omega) (by show 7 % 8 = 7; omega)
  rw [show outsAt0 m c 7 h = _ from hC]
  dsimp only
  rw [last_sums]
  by_cases hq : q.val < 2
  · rw [dif_pos hq, if_pos hq, ← sum_rows]
    refine Finset.sum_congr rfl fun j _ => ?_
    rw [tile_apply, Fin.sum_univ_castSucc]
    exact congrArg₂ (fun a b : EReal => a + b) (acc_apply m c 6 (by omega) ⟨q.val, hq⟩ j k (by omega)) rfl
  · rw [dif_neg hq, if_neg hq]

/-- The loss that the last point writes. -/
theorem total_apply (p : Fin 8) (k : Fin 128) (h : 7 < cfg0.N) :
    (outsAt0 m c 7 h).1 (ix2 p k) = ∑ r : Fin 4096, lossOf m c r := by
  have hC := outsAt0_C m c ⟨7, h⟩ (by show ¬ 7 % 8 = 0; omega) (by show 7 % 8 = 7; omega)
  rw [show outsAt0 m c 7 h = _ from hC]
  dsimp only
  rw [last_loss, tile_loss, Cert.BlockSums.sum_blocks (a := 8) (b := 512) rfl, Fin.sum_univ_castSucc]
  exact congrArg₂ (fun a b : EReal => a + b) (lacc_apply m c 6 (by omega) (by omega)) rfl

/-- The gradient that a point writes. -/
theorem grads_apply (t : Fin cfg0.N) (r : Fin 512) (k : Fin 1024) :
    (outsAt0 m c t.val t.isLt).2.1 (ix2 r k) = rowGrad m c (rowOf t.val (lt_eight t) r) k := by
  by_cases h0 : t.val % 8 = 0
  · rw [outsAt0_A m c t h0 (by omega)]
    dsimp only
    rw [first_grad, gradBlock_apply]
  · by_cases h1 : t.val % 8 = 7
    · rw [outsAt0_C m c t h0 h1]
      dsimp only
      rw [last_grad, gradBlock_apply]
    · rw [outsAt0_B m c t h0 h1]
      dsimp only
      rw [next_grad, gradBlock_apply]

/-- The gated gradient that a point writes. -/
theorem gates_apply (t : Fin cfg0.N) (r : Fin 512) (k : Fin 1024) :
    (outsAt0 m c t.val t.isLt).2.2.2.1 (ix2 r k) = rowGrad m c (rowOf t.val (lt_eight t) r) k * argB m c (ix2 5 k) := by
  by_cases h0 : t.val % 8 = 0
  · rw [outsAt0_A m c t h0 (by omega)]
    dsimp only
    rw [first_gated, gradBlock_apply]
    exact congrArg (fun y : EReal => rowGrad m c _ k * y) (blk4 m c t 5 k)
  · by_cases h1 : t.val % 8 = 7
    · rw [outsAt0_C m c t h0 h1]
      dsimp only
      rw [last_gated, gradBlock_apply]
      exact congrArg (fun y : EReal => rowGrad m c _ k * y) (blk4 m c t 5 k)
    · rw [outsAt0_B m c t h0 h1]
      dsimp only
      rw [next_gated, gradBlock_apply]
      exact congrArg (fun y : EReal => rowGrad m c _ k * y) (blk4 m c t 5 k)

theorem result1 (r : Fin 4096) (k : Fin 1024) : Value.G6 m c (ix2 r k) = rowGrad m c r k := by
  have e : Value.pt6Of (ix2 r k) = r.val / 512 := by
    show 1 * (r.val / 512 - 0) + 1 * (k.val / 1024 - 0) = _
    omega
  have hN : r.val / 512 < cfg0.N := by have h : cfg0.N = 8 := N_0; omega
  unfold Value.G6
  rw [dif_pos (e ▸ hN), Value.fold0_congr m c _ _ (r.val / 512) (by omega) e]
  have hl : Value.loc6Of (ix2 r k) = (ix2 (⟨r.val % 512, by omega⟩ : Fin 512) k : S512x1024.Idx) := by
    funext a
    apply Fin.ext
    match a with
    | ⟨0, _⟩ => rfl
    | ⟨1, _⟩ => show k.val % 1024 = k.val; omega
  rw [hl, ← Value.outsAt0_sweep m c _ hN]
  refine (grads_apply m c ⟨r.val / 512, hN⟩ _ k).trans ?_
  congr 1
  exact Fin.ext (show r.val / 512 * 512 + r.val % 512 = r.val by omega)

theorem result3 (r : Fin 4096) (k : Fin 1024) : Value.G8 m c (ix2 r k) = rowGrad m c r k * argB m c (ix2 5 k) := by
  have e : Value.pt8Of (ix2 r k) = r.val / 512 := by
    show 1 * (r.val / 512 - 0) + 1 * (k.val / 1024 - 0) = _
    omega
  have hN : r.val / 512 < cfg0.N := by have h : cfg0.N = 8 := N_0; omega
  unfold Value.G8
  rw [dif_pos (e ▸ hN), Value.fold0_congr m c _ _ (r.val / 512) (by omega) e]
  have hl : Value.loc8Of (ix2 r k) = (ix2 (⟨r.val % 512, by omega⟩ : Fin 512) k : S512x1024.Idx) := by
    funext a
    apply Fin.ext
    match a with
    | ⟨0, _⟩ => rfl
    | ⟨1, _⟩ => show k.val % 1024 = k.val; omega
  rw [hl, ← Value.outsAt0_sweep m c _ hN]
  refine (gates_apply m c ⟨r.val / 512, hN⟩ _ k).trans ?_
  congr 2
  exact Fin.ext (show r.val / 512 * 512 + r.val % 512 = r.val by omega)

theorem result2 (q : Fin 8) (k : Fin 1024) :
    Value.G7 m c (ix2 q k) = if q.val < 2 then ∑ r : Fin 4096, rowTerm m c q.val k r else 0 := by
  have hN : 7 < cfg0.N := by have h : cfg0.N = 8 := N_0; omega
  rw [Value.G7_last, ← sums_apply m c q k hN, Value.outsAt0_sweep m c 7 hN]

theorem result0 (p : Fin 8) (k : Fin 128) : Value.G5 m c (ix2 p k) = ∑ r : Fin 4096, lossOf m c r := by
  have hN : 7 < cfg0.N := by have h : cfg0.N = 8 := N_0; omega
  rw [Value.G5_last, ← total_apply m c p k hN, Value.outsAt0_sweep m c 7 hN]

end

/-! ## The reference -/

section
open Cert.Reference20Ideal.Read
variable (x0 x1 : S4096x1024.Idx → EReal) (x2 : S1x1024.Idx → EReal) (x3 : S4096x1024.Idx → EReal) (x4 : S6x1024.Idx → EReal)

theorem root_ref (r : Fin 4096) (z : Fin 1) : val_main_v8 (F := Ideal) x0 (ix2 r z) = scale (row x0 r) := by
  unfold val_main_v8 val_main_v7 val_main_v6 val_main_v5 val_main_v4 val_main_v3 val_main_v2 val_main_v1 val_main_cst_1 val_main_cst_0 val_main_cst
  pointwise
  rfl

theorem normed_ref (r : Fin 4096) (k : Fin 1024) : val_main_v13 (F := Ideal) x0 (ix2 r k) = x0 (ix2 r k) * scale (row x0 r) := by
  unfold val_main_v13 val_main_v12
  pointwise
  rw [root_ref]

theorem err_ref (r : Fin 4096) (k : Fin 1024) : val_main_v17 (F := Ideal) x0 x1 x2 (ix2 r k) = err (row x0 r) (row x2 0) (row x1 r) k := by
  unfold val_main_v17 val_main_v16 val_main_v15 val_main_v14 val_main_v0
  pointwise
  rw [normed_ref]
  rfl

theorem dy_ref (r : Fin 4096) (k : Fin 1024) : val_main_v31 (F := Ideal) x0 x1 x2 (ix2 r k) = err (row x0 r) (row x2 0) (row x1 r) k * share := by
  rw [← square_grad]
  unfold val_main_v31 val_main_v30 val_main_v29 val_main_v28 val_main_v27 val_main_v26 val_main_v20 val_main_v19 val_main_cst_3 val_main_cst_8
    val_main_cst_9 val_main_cst_10
  pointwise
  rw [err_ref]

theorem cot_ref (r : Fin 4096) (k : Fin 1024) : val_main_v36 (F := Ideal) x0 x1 x2 (ix2 r k) = lossCot (row x0 r) (row x2 0) (row x1 r) k := by
  unfold val_main_v36 val_main_v35 val_main_v14 val_main_v0
  pointwise
  rw [dy_ref]
  rfl

theorem reference0 (p : Fin 8) (k : Fin 128) :
    val_main_v68 (F := Ideal) x0 x1 x2 (ix2 p k) = ∑ r : Fin 4096, rowLoss (row x0 r) (row x2 0) (row x1 r) := by
  unfold rowLoss
  rw [half_eq, ← mul_sum_real _ (by norm_num), ← half_eq]
  unfold val_main_v68 val_main_v25 val_main_v24 val_main_v23 val_main_v22 val_main_v21 val_main_v18 val_main_cst_4 val_main_cst_5 val_main_cst_6
    val_main_cst_7
  pointwise
  simp only [err_ref]

theorem reference1 (r : Fin 4096) (k : Fin 1024) :
    val_main_v51 (F := Ideal) x0 x1 x2 (ix2 r k) = grad (row x0 r) (lossCot (row x0 r) (row x2 0) (row x1 r)) k := by
  have h := grad_eq (row x0 r) (lossCot (row x0 r) (row x2 0) (row x1 r)) k 0
  rw [zero_add, zero_add] at h
  rw [← h]
  unfold val_main_v51 val_main_v50 val_main_v49 val_main_v48 val_main_v47 val_main_v46 val_main_v45 val_main_v44 val_main_v43 val_main_v42
    val_main_v41 val_main_v40 val_main_v39 val_main_v38 val_main_v11 val_main_v10 val_main_v9 val_main_cst_15 val_main_cst_14 val_main_cst_13
    val_main_cst_2
  pointwise
  simp only [cot_ref, root_ref]
  unfold val_main_v7 val_main_v6 val_main_v5 val_main_v4 val_main_v3 val_main_v2 val_main_v1 val_main_cst_1 val_main_cst_0 val_main_cst
  pointwise
  rfl

theorem reference2 (q : Fin 8) (k : Fin 1024) :
    val_main_v67 (F := Ideal) x0 x1 x2 x3 (ix2 q k)
      = if q.val < 2 then ∑ r : Fin 4096, lossTerm q.val (row x0 r) (row x2 0) (row x1 r) (val_main_v51 (F := Ideal) x0 x1 x2 (ix2 r k) * x3 (ix2 r k)) k else 0 := by
  unfold val_main_v67 val_main_v66 val_main_v65 val_main_v64 val_main_v63 val_main_v62 val_main_v61 val_main_v60 val_main_v52 val_main_v37 val_main_v34
    val_main_v33 val_main_v32 val_main_cst_11 val_main_cst_12 val_main_cst_16 val_main_cst_17 val_main_cst_18
  pointwise
  simp only [Fin.sum_univ_one]
  by_cases h0 : q.val < 1
  · rw [dif_pos h0, if_pos (by omega), show q.val = 0 by omega]
    refine Finset.sum_congr rfl fun r _ => ?_
    rw [normed_ref, dy_ref]
    exact mul_comm _ _
  · rw [dif_neg h0]
    by_cases h1 : q.val - 1 < 1
    · rw [dif_pos h1, if_pos (by omega), show q.val = 1 by omega]
      rfl
    · rw [dif_neg h1, if_neg (by omega)]

theorem reference3 (r : Fin 4096) (k : Fin 1024) :
    val_main_v69 (F := Ideal) x0 x1 x2 x4 (ix2 r k) = x4 (ix2 5 k) * val_main_v51 (F := Ideal) x0 x1 x2 (ix2 r k) := by
  unfold val_main_v69 val_main_v59 val_main_v58 val_main_v55 val_main_v54 val_main_v53
  pointwise

end

/-- The reference leaves its arguments as they were and ends with no semaphore raised. -/
theorem reference_frame : quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The kernel's results are the reference's, entry by entry. -/
theorem equal : algebraic_Kernel20Ideal_Reference20Ideal := by
  intro m ρ m' ρ' _ hagree
  refine ⟨_, _, _, _, Value.run (F := Ideal) m ρ, ?_⟩
  refine (θ_run Cert.Reference20Ideal.defs _ _).mono (fun _ h c => ⟨?_, ?_, ?_, ?_, (h c).2.2.2.2⟩)
    (Cert.Reference20Ideal.Value.run (F := Ideal) m' ρ')
  · rw [(h c).1, (hagree c).1, (hagree c).2.1, (hagree c).2.2.1]
    refine (Cert.Reference20Ideal.Read.val_main_v68_eq _ _ _).trans (funext fun i => ?_)
    obtain ⟨p, k, rfl⟩ : ∃ (p : Fin 8) (k : Fin 128), i = ix2 p k := ⟨i 0, i 1, eq_ix2 i⟩
    exact (reference0 _ _ _ p k).trans (result0 m c p k).symm
  · rw [(h c).2.1, Cert.Reference20Ideal.Read.val_main_v51_eq, (hagree c).1, (hagree c).2.1, (hagree c).2.2.1]
    refine funext fun i => ?_
    obtain ⟨r, k, rfl⟩ : ∃ (r : Fin 4096) (k : Fin 1024), i = ix2 r k := ⟨i 0, i 1, eq_ix2 i⟩
    exact (reference1 _ _ _ r k).trans (result1 m c r k).symm
  · rw [(h c).2.2.1, Cert.Reference20Ideal.Read.val_main_v67_eq, (hagree c).1, (hagree c).2.1, (hagree c).2.2.1, (hagree c).2.2.2.1]
    refine funext fun i => ?_
    obtain ⟨q, k, rfl⟩ : ∃ (q : Fin 8) (k : Fin 1024), i = ix2 q k := ⟨i 0, i 1, eq_ix2 i⟩
    refine (reference2 _ _ _ _ q k).trans (Eq.trans ?_ (result2 m c q k).symm)
    refine if_congr Iff.rfl (Finset.sum_congr rfl fun r _ => ?_) rfl
    rw [reference1]
    rfl
  · rw [(h c).2.2.2.1, Cert.Reference20Ideal.Read.val_main_v69_eq, (hagree c).1, (hagree c).2.1, (hagree c).2.2.1, (hagree c).2.2.2.2]
    refine funext fun i => ?_
    obtain ⟨r, k, rfl⟩ : ∃ (r : Fin 4096) (k : Fin 1024), i = ix2 r k := ⟨i 0, i 1, eq_ix2 i⟩
    refine (reference3 _ _ _ _ r k).trans ?_
    rw [reference1, mul_comm]
    exact (result3 m c r k).symm

end Cert.FinalLoss

end
-- ==== Proof.TnSsmOut.lean ====
/-
  The gradient of the weights behind the recurrence: the rows that went in, transposed, times the gradient of both halves
  that came out. The kernel takes one of the four column parts at a time.
-/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pointwise
public import Idealize.ShloMosaic.Adequacy
public import Idealize.ShloMosaic.Lib.Quiescent

@[expose] public section

set_option maxRecDepth 16384

noncomputable section

namespace Cert.TnSsmOut

open Cert.Kernel26Ideal Cert.Kernel26Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of the gradient's part `s`, at row `r` and the part's column `j`. -/
def ent (r : Fin 4096) (s : Fin 4) (j : Fin 512) : S2x4096x1024.Idx :=
  ix3 (⟨s.val / 2, by omega⟩ : Fin 2) r (⟨s.val % 2 * 512 + j.val, by omega⟩ : Fin 1024)

/-- The gradient of the weights. -/
def grad (h : S4096x1024.Idx → EReal) (g : S2x4096x1024.Idx → EReal) (i : S4x1024x512.Idx) : EReal :=
  ∑ y : Fin 4096, h (ix2 y (i 1)) * g (ent y (i 0) (i 2))

theorem pay1_apply (v0 : Vec Ideal S4096x1024 .bf16) (v1 : Vec Ideal S1x4096x512 .bf16) (k : Fin 1024) (j : Fin 512) :
    k0_pay1 (F := Ideal) v0 v1 (ix3 0 k j) = ∑ y : Fin 4096, v0 (ix2 y k) * v1 (ix3 0 y j) := by
  unfold k0_pay1
  pointwise

/-- The block that a point leaves. -/
theorem out_apply (x0 : Vec Ideal S4096x1024 .bf16) (x1 : Vec Ideal S1x4096x512 .bf16) (k : Fin 1024) (j : Fin 512) :
    out0_2 (F := Ideal) x0 x1 (ix3 0 k j) = ∑ y : Fin 4096, x0 (ix2 y k) * x1 (ix3 0 y j) := by
  unfold out0_2
  rw [View.canon_unit_zero hz3, View.ld_unit_zero (S := S4096x1024) hz2, View.ld_unit_zero (S := S1x4096x512) hz3]
  exact pay1_apply x0 x1 k j

section
variable (m : (ℓ : Loc nD τ sig) → Buf (Elt Ideal) ℓ) (ρ : Dev nD → PrngReg) (c : Dev nD)

/-- The two argument arrays. -/
abbrev argH : S4096x1024.Idx → EReal := m ((c : Thread nD τ).loc main_arg0)
abbrev argG : S2x4096x1024.Idx → EReal := m ((c : Thread nD τ).loc main_arg1)

theorem idx_facts : ∀ t : Fin cfg0.N, (win0_0.index t 0 = 0 ∧ win0_0.index t 1 = 0)
    ∧ (win0_1.index t 0 = t.val / 2 ∧ win0_1.index t 1 = 0 ∧ win0_1.index t 2 = t.val % 2)
    ∧ (win0_2.index t 0 = t.val ∧ win0_2.index t 1 = 0 ∧ win0_2.index t 2 = 0) :=
  (by decide +kernel : ∀ t : Fin grid0.N, _)

/-- The column part that a point takes. -/
def part (t : Fin cfg0.N) : Fin 4 := ⟨t.val, by have h : t.val < 4 := N_0 ▸ t.isLt; omega⟩

/-- The first window's block at a point. -/
theorem blk0 (t : Fin cfg0.N) (r : Fin 4096) (k : Fin 1024) : (iblk m c 0 t : S4096x1024.Idx → EReal) (ix2 r k)
    = argH m c (ix2 r k) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * r.val = r.val; omega
  | ⟨1, _⟩ => show win0_0.index t 1 * 1024 + 1 * k.val = k.val; omega

/-- The second window's block at a point. -/
theorem blk1 (t : Fin cfg0.N) (r : Fin 4096) (j : Fin 512) : (iblk m c 1 t : S1x4096x512.Idx → EReal) (ix3 0 r j)
    = argG m c (ent r (part t) j) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = t.val / 2; omega
  | ⟨1, _⟩ => show win0_1.index t 1 * 4096 + 1 * r.val = r.val; omega
  | ⟨2, _⟩ => show win0_1.index t 2 * 512 + 1 * j.val = t.val % 2 * 512 + j.val; omega

/-- What a point writes back is its block of the gradient. -/
theorem flushed (t : Fin cfg0.N) : (dats m 0 c).flushed 2 t
    = ((cfg0.win 2).blk t).view.read (Elt Ideal) (grad (argH m c) (argG m c)) := by
  rw [Value.flushed2]
  refine funext fun (y : S1x1024x512.Idx) => ?_
  obtain ⟨z, k, j, rfl⟩ : ∃ (z : Fin 1) (k : Fin 1024) (j : Fin 512), y = ix3 z k j := ⟨y 0, y 1, y 2, eq_ix3 y⟩
  obtain rfl : z = 0 := Subsingleton.elim _ _
  obtain ⟨e0, e1, e2⟩ := (idx_facts t).2.2
  have ey : ((cfg0.win 2).blk t).view.emb (ix3 0 k j : S1x1024x512.Idx) = (ix3 (part t) k j : S4x1024x512.Idx) := by
    funext a
    apply Fin.ext
    match a with
    | ⟨0, _⟩ => show win0_2.index t 0 * 1 + 1 * 0 = t.val; omega
    | ⟨1, _⟩ => show win0_2.index t 1 * 1024 + 1 * k.val = k.val; omega
    | ⟨2, _⟩ => show win0_2.index t 2 * 512 + 1 * j.val = j.val; omega
  refine (out_apply (iblk m c 0 t) (iblk m c 1 t) k j).trans ?_
  refine Eq.trans (Finset.sum_congr rfl fun r _ => congrArg₂ (fun a b : EReal => a * b) (blk0 m c t r k) (blk1 m c t r j)) ?_
  exact (congrArg (grad (argH m c) (argG m c)) ey).symm

theorem mem_blk (t : Fin cfg0.N) (i : S4x1024x512.Idx) : i ∈ ((cfg0.win 2).blk t).view.set
    ↔ ∀ a : Fin 3, win0_2.index t a * S1x1024x512.size a ≤ (i a).val ∧ (i a).val < win0_2.index t a * S1x1024x512.size a + S1x1024x512.size a := by
  show i ∈ ((View.whole main_v0).slice (win0_2.rect t)).set ↔ _
  rw [View.set_slice_whole, Rect.mem_set_unit]
  exact Iff.rfl

/-- So the result array is the gradient. -/
theorem final : (dats m 0 c).arrAt 2 cfg0.N = grad (argH m c) (argG m c) :=
  (dats m 0 c).arrAt_eq_of_cover 2 _ (fun t _ => flushed m c t) fun (i : S4x1024x512.Idx) => by
    have h0 : (i 0).val < 4 := (i 0).isLt
    have h1 : (i 1).val < 1024 := (i 1).isLt
    have h2 : (i 2).val < 512 := (i 2).isLt
    have hN : cfg0.N = 4 := N_0
    have hp : (i 0).val < cfg0.N := by omega
    refine ⟨⟨(i 0).val, hp⟩, flush0_2 _, ?_⟩
    rw [mem_blk]
    obtain ⟨e0, e1, e2⟩ := (idx_facts ⟨(i 0).val, hp⟩).2.2
    dsimp only at e0 e1 e2
    intro a
    match a with
    | ⟨0, _⟩ => show win0_2.index _ 0 * 1 ≤ (i 0).val ∧ (i 0).val < win0_2.index _ 0 * 1 + 1; omega
    | ⟨1, _⟩ => show win0_2.index _ 1 * 1024 ≤ (i 1).val ∧ (i 1).val < win0_2.index _ 1 * 1024 + 1024; omega
    | ⟨2, _⟩ => show win0_2.index _ 2 * 512 ≤ (i 2).val ∧ (i 2).val < win0_2.index _ 2 * 512 + 512; omega

/-- The run: the result is the gradient, the arguments unchanged. -/
theorem run : θ_run defs (onTc (τ := τ) (main (F := Ideal))) ⟨m, fun _ => 0, ρ⟩ fun r => ∀ c : Dev nD,
      r.2.mem ((c : Thread nD τ).loc main_v0) = grad (argH m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end

/-- The reference's result is the gradient. -/
theorem reference_apply (x0 : S4096x1024.Idx → EReal) (x1 : S2x4096x1024.Idx → EReal) (s : Fin 4) (k : Fin 1024) (j : Fin 512) :
    Cert.Reference26Ideal.Read.val_main_v15 (F := Ideal) x0 x1 (ix3 s k j) = grad x0 x1 (ix3 s k j) := by
  rw [← Cert.Reference26Ideal.Read.val_main_v15_eq]
  pointwise
  refine Finset.sum_congr rfl fun y _ => (mul_comm _ _).trans (congrArg₂ (fun a b : EReal => a * b) rfl ?_)
  split
  · next h =>
      refine congrArg x1 (show (ix3 0 y _ : S2x4096x1024.Idx) = ent y s j from ?_)
      unfold ent
      congr 1
      · exact Fin.ext (show 0 = s.val / 2 by omega)
      · exact Fin.ext (show s.val * 512 + j.val = s.val % 2 * 512 + j.val by omega)
  · next h =>
      refine congrArg x1 (show (ix3 1 y _ : S2x4096x1024.Idx) = ent y s j from ?_)
      unfold ent
      congr 1
      · exact Fin.ext (show 1 = s.val / 2 by omega)
      · exact Fin.ext (show s.val * 512 + j.val - 1024 = s.val % 2 * 512 + j.val by omega)

/-- The reference leaves its arguments as they were and ends with no semaphore raised. -/
theorem reference_frame : quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- The kernel's result is the reference's, entry by entry. -/
theorem equal : algebraic_Kernel26Ideal_Reference26Ideal := by
  intro m ρ m' ρ' _ hagree
  refine ⟨_, run m ρ, ?_⟩
  refine (θ_run Cert.Reference26Ideal.defs _ _).mono (fun _ h c => ⟨?_, (h c).2⟩)
    (Cert.Reference26Ideal.Value.run (F := Ideal) m' ρ')
  rw [(h c).1, (hagree c).1, (hagree c).2]
  refine (Cert.Reference26Ideal.Read.val_main_v15_eq _ _).trans (funext fun i => ?_)
  obtain ⟨s, k, j, rfl⟩ : ∃ (s : Fin 4) (k : Fin 1024) (j : Fin 512), i = ix3 s k j := ⟨i 0, i 1, i 2, eq_ix3 i⟩
  exact reference_apply _ _ s k j

end Cert.TnSsmOut

end
-- ==== Proof.NtSsmOut.lean ====
/-
  The gradient of the rows that went into the product behind the recurrence. The kernel adds the products of four column
  blocks one after the other into an accumulator; the reference contracts over each half's columns at once.
-/
module

public import proofs.«01_k».proof.Defs
public import proofs.«01_k».proof.Proof.BlockSums
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pointwise
public import Idealize.ShloMosaic.Adequacy
public import Idealize.ShloMosaic.Lib.Quiescent

@[expose] public section

set_option maxRecDepth 16384

noncomputable section

namespace Cert.NtSsmOut

open Cert.Kernel27Ideal Cert.Kernel27Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (i : S2048x1024.Idx) : k0_pay1 (F := Ideal) i = 0 := by
  unfold k0_pay1
  pointwise

theorem pay2_apply (v3 : Vec Ideal S2048x1024 .f32) (v4 : Vec Ideal S1x2048x512 .bf16) (v6 : Vec Ideal S1x1024x512 .bf16) (r : Fin 2048) (k : Fin 1024) :
    k0_pay2 (F := Ideal) v3 v4 v6 (ix2 r k) = v3 (ix2 r k) + ∑ y : Fin 512, v4 (ix3 0 r y) * v6 (ix3 0 k y) := by
  unfold k0_pay2
  pointwise

theorem ref_apply (x0 : S2x4096x1024.Idx → EReal) (x1 : S4x1024x512.Idx → EReal) (r : Fin 4096) (k : Fin 1024) :
    Cert.Reference27Ideal.Read.val_main_v14 (F := Ideal) x0 x1 (ix2 r k)
      = (∑ j : Fin 1024, x0 (ix3 0 r j) * x1 (ix3 ⟨j.val / 512, by omega⟩ k ⟨j.val % 512, by omega⟩))
        + ∑ j : Fin 1024, x0 (ix3 1 r j) * x1 (ix3 ⟨(1024 + j.val) / 512, by omega⟩ k ⟨(1024 + j.val) % 512, by omega⟩) := by
  rw [← Cert.Reference27Ideal.Read.val_main_v14_eq]
  pointwise

section
variable (c : Dev nD) (i : grid0.Coords)
  (a2 : Memref sig .tc .vmem S1x2048x512 .bf16) (h2 : a2.IsWhole) (a3 : Memref sig .tc .vmem S1x1024x512 .bf16) (h3 : a3.IsWhole)
  (a4 : Memref sig .tc .vmem S2048x1024 .bf16) (h4 : a4.IsWhole) (a5 : Memref sig .tc .vmem S2048x1024 .f32) (h5 : a5.IsWhole)
  (x0 : Vec Ideal S1x2048x512 .bf16) (x1 : Vec Ideal S1x1024x512 .bf16) (acc : Vec Ideal S2048x1024 .f32)

theorem first_sum (hc0 : cond0_0 i) (hc1 : ¬ cond0_1 i) :
    sout0_A_0 (F := Ideal) c i a2 h2 a3 h3 a4 h4 a5 h5 hc0 hc1 x0 x1 = k0_pay2 (k0_pay1 (F := Ideal)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1024) hz2]
  simp only [View.readAt_eq_ld, h2.read_unread, h3.read_unread, View.ld_unit_zero (S := S1x2048x512) hz3,
    View.ld_unit_zero (S := S1x1024x512) hz3]
  rw [View.readCov_unit_zero (S := S2048x1024) _ hz2]

theorem next_sum (hc0 : ¬ cond0_0 i) (hc1 : ¬ cond0_1 i) :
    sout0_B_0 (F := Ideal) c i a2 h2 a3 h3 a4 h4 a5 h5 hc0 hc1 x0 x1 acc = k0_pay2 acc x0 x1 := by
  unfold sout0_B_0
  rw [View.read_writes_eq_canon _ _ _ (scover0_B_0 c i a2 h2 a3 h3 a4 h4 a5 h5 hc0 hc1 x0 x1 acc)]
  unfold kernelRun0_B
  dsimp only
  sl_unfold_words
  rw [View.canon_unit_zero hz2]
  simp only [View.readAt_eq_ld, h2.read_unread, h3.read_unread, h5.read_unread, View.ld_unit_zero (S := S2048x1024) hz2,
    View.ld_unit_zero (S := S1x2048x512) hz3, View.ld_unit_zero (S := S1x1024x512) hz3]

theorem last_out (hc0 : ¬ cond0_0 i) (hc1 : cond0_1 i) :
    out0_C_2 (F := Ideal) c i a2 h2 a3 h3 a4 h4 a5 h5 hc0 hc1 x0 x1 acc = k0_pay3 (k0_pay2 acc x0 x1) := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero hz2]
  simp only [View.readAt_eq_ld, h2.read_unread, h3.read_unread, h5.read_unread, View.ld_unit_zero (S := S2048x1024) hz2,
    View.ld_unit_zero (S := S1x2048x512) hz3, View.ld_unit_zero (S := S1x1024x512) hz3]
  rw [View.readCov_unit_zero (S := S2048x1024) _ hz2]
end
section
variable (m : (ℓ : Loc nD τ sig) → Buf (Elt Ideal) ℓ) (c : Dev nD)

/-- The two argument arrays. -/
abbrev argD : S2x4096x1024.Idx → EReal := m ((c : Thread nD τ).loc main_arg0)
abbrev argW : S4x1024x512.Idx → EReal := m ((c : Thread nD τ).loc main_arg1)

theorem idx_facts : ∀ t : Fin cfg0.N, (win0_0.index t 0 = t.val % 4 / 2 ∧ win0_0.index t 1 = t.val / 4 ∧ win0_0.index t 2 = t.val % 4 % 2)
    ∧ (win0_1.index t 0 = t.val % 4 ∧ win0_1.index t 1 = 0 ∧ win0_1.index t 2 = 0) :=
  (by decide +kernel : ∀ t : Fin grid0.N, _)

/-- The row of the array that row `r` of point `t`'s block is. -/
def row (t : Fin cfg0.N) (r : Fin 2048) : Fin 4096 := ⟨t.val / 4 * 2048 + r.val, by have h : t.val < 8 := N_0 ▸ t.isLt; omega⟩

/-- The entry of the first array's part `s`, at row `r` and the part's column `y`. -/
def ent (r : Fin 4096) (s : Fin 4) (y : Fin 512) : S2x4096x1024.Idx :=
  ix3 (⟨s.val / 2, by omega⟩ : Fin 2) r (⟨s.val % 2 * 512 + y.val, by omega⟩ : Fin 1024)

/-- The first window's block at a point. -/
theorem blk0 (t : Fin cfg0.N) (r : Fin 2048) (y : Fin 512) : (iblk m c 0 t : S1x2048x512.Idx → EReal) (ix3 0 r y)
    = argD m c (ent (row t r) ⟨t.val % 4, by omega⟩ y) := by
  obtain ⟨e0, e1, e2⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 1 + 1 * 0 = t.val % 4 / 2; omega
  | ⟨1, _⟩ => show win0_0.index t 1 * 2048 + 1 * r.val = t.val / 4 * 2048 + r.val; omega
  | ⟨2, _⟩ => show win0_0.index t 2 * 512 + 1 * y.val = t.val % 4 % 2 * 512 + y.val; omega

/-- The second window's block at a point. -/
theorem blk1 (t : Fin cfg0.N) (k : Fin 1024) (y : Fin 512) : (iblk m c 1 t : S1x1024x512.Idx → EReal) (ix3 0 k y)
    = argW m c (ix3 ⟨t.val % 4, by omega⟩ k y) := by
  obtain ⟨e0, e1, e2⟩ := (idx_facts t).2
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = t.val % 4; omega
  | ⟨1, _⟩ => show win0_1.index t 1 * 1024 + 1 * k.val = k.val; omega
  | ⟨2, _⟩ => show win0_1.index t 2 * 512 + 1 * y.val = y.val; omega

/-- What column block `s` adds to the entry at row `r` and column `k`. -/
def part (r : Fin 4096) (k : Fin 1024) (s : Fin 4) : EReal :=
  ∑ y : Fin 512, argD m c (ent r s y) * argW m c (ix3 s k y)

/-- One point's product, added to what the accumulator held. -/
theorem step_apply (t : Fin cfg0.N) (acc : Vec Ideal S2048x1024 .f32) (r : Fin 2048) (k : Fin 1024) :
    k0_pay2 (F := Ideal) acc (iblk m c 0 t) (iblk m c 1 t) (ix2 r k) = acc (ix2 r k) + part m c (row t r) k ⟨t.val % 4, by omega⟩ := by
  rw [pay2_apply]
  congr 1
  exact Finset.sum_congr rfl fun y _ => congrArg₂ (fun a b : EReal => a * b) (blk0 m c t r y) (blk1 m c t k y)

/-- The accumulator after a point that is not the last of its four: the parts so far. -/
theorem acc_apply (b : ℕ) (hb : b < 2) : ∀ (j : ℕ) (hj : j < 3) (r : Fin 2048) (k : Fin 1024) (h : 4 * b + j < cfg0.N),
    (outsAt0 m c (4 * b + j) h).2 (ix2 r k)
      = ∑ s : Fin (j + 1), part m c ⟨b * 2048 + r.val, by omega⟩ k ⟨s.val, by omega⟩
  | 0, hj, r, k, h => by
    have hA := outsAt0_A m c ⟨4 * b + 0, h⟩ (by show (4 * b + 0) % 4 = 0; omega) (by show ¬ (4 * b + 0) % 4 = 3; omega)
    rw [show outsAt0 m c (4 * b + 0) h = _ from hA]
    dsimp only
    rw [first_sum, step_apply, pay1_apply, zero_add, Fin.sum_univ_one]
    congr 1
    · exact Fin.ext (show (4 * b + 0) / 4 * 2048 + r.val = b * 2048 + r.val by omega)
    · exact Fin.ext (show (4 * b + 0) % 4 = 0 by omega)
  | j + 1, hj, r, k, h => by
    have hB := outsAt0_B m c ⟨4 * b + (j + 1), h⟩ (by show ¬ (4 * b + (j + 1)) % 4 = 0; omega) (by show ¬ (4 * b + (j + 1)) % 4 = 3; omega)
    rw [show outsAt0 m c (4 * b + (j + 1)) h = _ from hB]
    dsimp only
    rw [next_sum, step_apply, Fin.sum_univ_castSucc]
    have ih := acc_apply b hb j (by omega) r k (by omega)
    refine congrArg₂ (fun a b : EReal => a + b) ih ?_
    · congr 1
      · exact Fin.ext (show (4 * b + (j + 1)) / 4 * 2048 + r.val = b * 2048 + r.val by omega)
      · exact Fin.ext (show (4 * b + (j + 1)) % 4 = j + 1 by omega)

/-- All four parts together. -/
def total (r : Fin 4096) (k : Fin 1024) : EReal := ∑ s : Fin 4, part m c r k s

/-- The block that the last of four points leaves. -/
theorem last_apply (b : ℕ) (hb : b < 2) (r : Fin 2048) (k : Fin 1024) (h : 4 * b + 3 < cfg0.N) :
    (outsAt0 m c (4 * b + 3) h).1 (ix2 r k) = total m c ⟨b * 2048 + r.val, by omega⟩ k := by
  have hC := outsAt0_C m c ⟨4 * b + 3, h⟩ (by show ¬ (4 * b + 3) % 4 = 0; omega) (by show (4 * b + 3) % 4 = 3; omega)
  rw [show outsAt0 m c (4 * b + 3) h = _ from hC]
  dsimp only
  rw [last_out]
  show k0_pay2 (F := Ideal) _ _ _ (ix2 r k) = _
  unfold total
  rw [step_apply, Fin.sum_univ_castSucc]
  congr 1
  · exact acc_apply m c b hb 2 (by omega) r k (by omega)
  · congr 1
    · exact Fin.ext (show (4 * b + 3) / 4 * 2048 + r.val = b * 2048 + r.val by omega)
    · exact Fin.ext (show (4 * b + 3) % 4 = 3 by omega)

/-- The result array, entry by entry. -/
theorem result_apply (r : Fin 4096) (k : Fin 1024) : Value.G2 m c (ix2 r k) = total m c r k := by
  have e : Value.pt2Of (ix2 r k) = 4 * (r.val / 2048) + 3 := by
    show 4 * (1 * (r.val / 2048 - 0) + 1 * (k.val / 1024 - 0)) + 3 = _
    omega
  have hN : 4 * (r.val / 2048) + 3 < cfg0.N := by have h : cfg0.N = 8 := N_0; omega
  unfold Value.G2
  rw [dif_pos (e ▸ hN)]
  rw [Value.fold0_congr m c _ _ (4 * (r.val / 2048) + 3) (by omega) e]
  rw [← Value.outsAt0_sweep m c _ hN]
  have hl : Value.loc2Of (ix2 r k) = (ix2 (⟨r.val % 2048, by omega⟩ : Fin 2048) k : S2048x1024.Idx) := by
    funext a
    apply Fin.ext
    match a with
    | ⟨0, _⟩ => rfl
    | ⟨1, _⟩ => show k.val % 1024 = k.val; omega
  rw [hl, last_apply m c _ (by omega)]
  congr 1
  exact Fin.ext (show r.val / 2048 * 2048 + r.val % 2048 = r.val by omega)

end

/-- The reference's result, in column blocks. -/
theorem reference_apply (x0 : S2x4096x1024.Idx → EReal) (x1 : S4x1024x512.Idx → EReal) (r : Fin 4096) (k : Fin 1024) :
    Cert.Reference27Ideal.Read.val_main_v14 (F := Ideal) x0 x1 (ix2 r k)
      = ∑ s : Fin 4, ∑ y : Fin 512, x0 (ent r s y) * x1 (ix3 s k y) := by
  have half : ∀ (p : Fin 2) (s : Fin 2), (∑ y : Fin 512, x0 (ix3 p r (⟨s.val * 512 + y.val, by omega⟩ : Fin 1024))
      * x1 (ix3 (⟨(p.val * 1024 + (s.val * 512 + y.val)) / 512, by omega⟩ : Fin 4) k (⟨(p.val * 1024 + (s.val * 512 + y.val)) % 512, by omega⟩ : Fin 512)))
      = ∑ y : Fin 512, x0 (ent r ⟨p.val * 2 + s.val, by omega⟩ y) * x1 (ix3 ⟨p.val * 2 + s.val, by omega⟩ k y) := by
    intro p s
    refine Finset.sum_congr rfl fun y _ => ?_
    have e0 : (ix3 p r (⟨s.val * 512 + y.val, by omega⟩ : Fin 1024) : S2x4096x1024.Idx) = ent r ⟨p.val * 2 + s.val, by omega⟩ y := by
      unfold ent
      congr 1
      · exact Fin.ext (show p.val = (p.val * 2 + s.val) / 2 by omega)
      · exact Fin.ext (show s.val * 512 + y.val = (p.val * 2 + s.val) % 2 * 512 + y.val by omega)
    have e1 : (ix3 (⟨(p.val * 1024 + (s.val * 512 + y.val)) / 512, by omega⟩ : Fin 4) k (⟨(p.val * 1024 + (s.val * 512 + y.val)) % 512, by omega⟩ : Fin 512) : S4x1024x512.Idx)
        = ix3 ⟨p.val * 2 + s.val, by omega⟩ k y := by
      congr 1
      · exact Fin.ext (show (p.val * 1024 + (s.val * 512 + y.val)) / 512 = p.val * 2 + s.val by omega)
      · exact Fin.ext (show (p.val * 1024 + (s.val * 512 + y.val)) % 512 = y.val by omega)
    exact congrArg₂ (fun a b : EReal => a * b) (congrArg x0 e0) (congrArg x1 e1)
  rw [ref_apply, Cert.BlockSums.sum_blocks (a := 2) (b := 512) rfl, Cert.BlockSums.sum_blocks (a := 2) (b := 512) rfl,
    Fin.sum_univ_two, Fin.sum_univ_two, Fin.sum_univ_four, ← add_assoc]
  refine congrArg₂ (fun a b : EReal => a + b) (congrArg₂ (fun a b : EReal => a + b) (congrArg₂ (fun a b : EReal => a + b) ?_ ?_) ?_) ?_
  · refine Eq.trans (Finset.sum_congr rfl fun y _ => ?_) (half 0 0)
    simp only [Fin.val_zero, Nat.zero_mul, Nat.zero_add]
  · refine Eq.trans (Finset.sum_congr rfl fun y _ => ?_) (half 0 1)
    simp only [Fin.val_zero, Nat.zero_mul, Nat.zero_add]
  · refine Eq.trans (Finset.sum_congr rfl fun y _ => ?_) (half 1 0)
    simp only [Fin.val_one, Nat.one_mul]
  · refine Eq.trans (Finset.sum_congr rfl fun y _ => ?_) (half 1 1)
    simp only [Fin.val_one, Nat.one_mul]

/-- The reference leaves its arguments as they were and ends with no semaphore raised. -/
theorem reference_frame : quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- The kernel's result is the reference's, entry by entry. -/
theorem equal : algebraic_Kernel27Ideal_Reference27Ideal := by
  intro m ρ m' ρ' _ hagree
  refine ⟨_, Value.run (F := Ideal) m ρ, ?_⟩
  refine (θ_run Cert.Reference27Ideal.defs _ _).mono (fun _ h c => ⟨?_, (h c).2⟩)
    (Cert.Reference27Ideal.Value.run (F := Ideal) m' ρ')
  rw [(h c).1, (hagree c).1, (hagree c).2]
  refine (Cert.Reference27Ideal.Read.val_main_v14_eq _ _).trans (funext fun i => ?_)
  obtain ⟨r, k, rfl⟩ : ∃ (r : Fin 4096) (k : Fin 1024), i = ix2 r k := ⟨i 0, i 1, eq_ix2 i⟩
  exact (reference_apply _ _ r k).trans (result_apply m c r k).symm

end Cert.NtSsmOut

end
-- ==== Proof.TnConvOut.lean ====
/-
  The gradient of the weights behind the convolution: the rows that went in, transposed, times the gradient of what came
  out. The kernel takes a block of weight rows at a time.
-/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pointwise
public import Idealize.ShloMosaic.Adequacy
public import Idealize.ShloMosaic.Lib.Quiescent

@[expose] public section

set_option maxRecDepth 16384

noncomputable section

namespace Cert.TnConvOut

open Cert.Kernel28Ideal Cert.Kernel28Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of the gradient's part `s`, at row `r` and the part's column `j`. -/
def ent (r : Fin 4096) (s : Fin 1) (j : Fin 1024) : S4096x1024.Idx :=
  ix2 r (⟨s.val * 1024 + j.val, by omega⟩ : Fin 1024)

/-- The gradient of the weights. -/
def grad (h : S4096x1024.Idx → EReal) (g : S4096x1024.Idx → EReal) (i : S1x1024x1024.Idx) : EReal :=
  ∑ y : Fin 4096, h (ix2 y (i 1)) * g (ent y (i 0) (i 2))

theorem pay1_apply (v0 : Vec Ideal S4096x512 .bf16) (v1 : Vec Ideal S1x4096x1024 .bf16) (k : Fin 512) (j : Fin 1024) :
    k0_pay1 (F := Ideal) v0 v1 (ix3 0 k j) = ∑ y : Fin 4096, v0 (ix2 y k) * v1 (ix3 0 y j) := by
  unfold k0_pay1
  pointwise

/-- The block that a point leaves. -/
theorem out_apply (x0 : Vec Ideal S4096x512 .bf16) (x1 : Vec Ideal S1x4096x1024 .bf16) (k : Fin 512) (j : Fin 1024) :
    out0_2 (F := Ideal) x0 x1 (ix3 0 k j) = ∑ y : Fin 4096, x0 (ix2 y k) * x1 (ix3 0 y j) := by
  unfold out0_2
  rw [View.canon_unit_zero hz3, View.ld_unit_zero (S := S4096x512) hz2, View.ld_unit_zero (S := S1x4096x1024) hz3]
  exact pay1_apply x0 x1 k j

section
variable (m : (ℓ : Loc nD τ sig) → Buf (Elt Ideal) ℓ) (ρ : Dev nD → PrngReg) (c : Dev nD)

/-- The two argument arrays. -/
abbrev argH : S4096x1024.Idx → EReal := m ((c : Thread nD τ).loc main_arg0)
abbrev argG : S4096x1024.Idx → EReal := m ((c : Thread nD τ).loc main_arg1)

theorem idx_facts : ∀ t : Fin cfg0.N, (win0_0.index t 0 = 0 ∧ win0_0.index t 1 = t.val)
    ∧ (win0_1.index t 0 = 0 ∧ win0_1.index t 1 = 0 ∧ win0_1.index t 2 = 0)
    ∧ (win0_2.index t 0 = 0 ∧ win0_2.index t 1 = t.val ∧ win0_2.index t 2 = 0) :=
  (by decide +kernel : ∀ t : Fin grid0.N, _)

/-- The column part that a point takes. -/
def part (t : Fin cfg0.N) : Fin 1 := ⟨0, by have h : t.val < 2 := N_0 ▸ t.isLt; omega⟩

/-- The weight row that row `k` of a point's block is. -/
def row (t : Fin cfg0.N) (k : Fin 512) : Fin 1024 := ⟨t.val * 512 + k.val, by have h : t.val < 2 := N_0 ▸ t.isLt; omega⟩

/-- The first window's block at a point. -/
theorem blk0 (t : Fin cfg0.N) (r : Fin 4096) (k : Fin 512) : (iblk m c 0 t : S4096x512.Idx → EReal) (ix2 r k)
    = argH m c (ix2 r (row t k)) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * r.val = r.val; omega
  | ⟨1, _⟩ => show win0_0.index t 1 * 512 + 1 * k.val = t.val * 512 + k.val; omega

/-- The array that the kernel's second window is cut from, after the host's lines. -/
theorem V1 (i : S1x4096x1024.Idx) : (V m c (Pipeline.arrRef spec0 1) : S1x4096x1024.Idx → EReal) i = argG m c (ix2 (i 1) (i 2)) := by
  show StableHlo.after hostOps0 (fun b => m (c, b)) main_v0 i = _
  simp only [hostOps0, StableHlo.after_cons, StableHlo.after_nil]
  rw [StableHlo.unary_result]
  refine broadcastInDim_apply _ _ _ i (ix2 (i 1) (i 2)) fun a => ?_
  match a with
  | ⟨0, _⟩ => rfl
  | ⟨1, _⟩ => rfl

/-- The second window's block at a point. -/
theorem blk1 (t : Fin cfg0.N) (r : Fin 4096) (j : Fin 1024) : (iblk m c 1 t : S1x4096x1024.Idx → EReal) (ix3 0 r j)
    = argG m c (ent r (part t) j) := by
  obtain ⟨e0, e1, e2⟩ := (idx_facts t).2.1
  have e : ((cfg0.win 1).blk t).view.emb (ix3 0 r j : S1x4096x1024.Idx)
      = (ix3 0 r (⟨(part t).val * 1024 + j.val, by have := (part t).isLt; omega⟩ : Fin 1024) : S1x4096x1024.Idx) := by
    funext a
    apply Fin.ext
    match a with
    | ⟨0, _⟩ => show win0_1.index t 0 * 1 + 1 * 0 = 0; omega
    | ⟨1, _⟩ => show win0_1.index t 1 * 4096 + 1 * r.val = r.val; omega
    | ⟨2, _⟩ => show win0_1.index t 2 * 1024 + 1 * j.val = 0 * 1024 + j.val; omega
  unfold iblk
  rw [View.read_apply, e]
  exact V1 m c _

/-- What a point writes back is its block of the gradient. -/
theorem flushed (t : Fin cfg0.N) : (dats m 0 c).flushed 2 t
    = ((cfg0.win 2).blk t).view.read (Elt Ideal) (grad (argH m c) (argG m c)) := by
  rw [Value.flushed2]
  refine funext fun (y : S1x512x1024.Idx) => ?_
  obtain ⟨z, k, j, rfl⟩ : ∃ (z : Fin 1) (k : Fin 512) (j : Fin 1024), y = ix3 z k j := ⟨y 0, y 1, y 2, eq_ix3 y⟩
  obtain rfl : z = 0 := Subsingleton.elim _ _
  obtain ⟨e0, e1, e2⟩ := (idx_facts t).2.2
  have ey : ((cfg0.win 2).blk t).view.emb (ix3 0 k j : S1x512x1024.Idx) = (ix3 (part t) (row t k) j : S1x1024x1024.Idx) := by
    funext a
    apply Fin.ext
    match a with
    | ⟨0, _⟩ => show win0_2.index t 0 * 1 + 1 * 0 = 0; omega
    | ⟨1, _⟩ => show win0_2.index t 1 * 512 + 1 * k.val = t.val * 512 + k.val; omega
    | ⟨2, _⟩ => show win0_2.index t 2 * 1024 + 1 * j.val = j.val; omega
  refine (out_apply (iblk m c 0 t) (iblk m c 1 t) k j).trans ?_
  refine Eq.trans (Finset.sum_congr rfl fun r _ => congrArg₂ (fun a b : EReal => a * b) (blk0 m c t r k) (blk1 m c t r j)) ?_
  exact (congrArg (grad (argH m c) (argG m c)) ey).symm

theorem mem_blk (t : Fin cfg0.N) (i : S1x1024x1024.Idx) : i ∈ ((cfg0.win 2).blk t).view.set
    ↔ ∀ a : Fin 3, win0_2.index t a * S1x512x1024.size a ≤ (i a).val ∧ (i a).val < win0_2.index t a * S1x512x1024.size a + S1x512x1024.size a := by
  show i ∈ ((View.whole main_v1).slice (win0_2.rect t)).set ↔ _
  rw [View.set_slice_whole, Rect.mem_set_unit]
  exact Iff.rfl

/-- So the result array is the gradient. -/
theorem final : (dats m 0 c).arrAt 2 cfg0.N = grad (argH m c) (argG m c) :=
  (dats m 0 c).arrAt_eq_of_cover 2 _ (fun t _ => flushed m c t) fun (i : S1x1024x1024.Idx) => by
    have h0 : (i 0).val < 1 := (i 0).isLt
    have h1 : (i 1).val < 1024 := (i 1).isLt
    have h2 : (i 2).val < 1024 := (i 2).isLt
    have hN : cfg0.N = 2 := N_0
    have hp : (i 1).val / 512 < cfg0.N := by omega
    refine ⟨⟨(i 1).val / 512, hp⟩, flush0_2 _, ?_⟩
    rw [mem_blk]
    obtain ⟨e0, e1, e2⟩ := (idx_facts ⟨(i 1).val / 512, hp⟩).2.2
    dsimp only at e0 e1 e2
    intro a
    match a with
    | ⟨0, _⟩ => show win0_2.index _ 0 * 1 ≤ (i 0).val ∧ (i 0).val < win0_2.index _ 0 * 1 + 1; omega
    | ⟨1, _⟩ => show win0_2.index _ 1 * 512 ≤ (i 1).val ∧ (i 1).val < win0_2.index _ 1 * 512 + 512; omega
    | ⟨2, _⟩ => show win0_2.index _ 2 * 1024 ≤ (i 2).val ∧ (i 2).val < win0_2.index _ 2 * 1024 + 1024; omega

/-- The run: the result is the gradient, the arguments unchanged. -/
theorem run : θ_run defs (onTc (τ := τ) (main (F := Ideal))) ⟨m, fun _ => 0, ρ⟩ fun r => ∀ c : Dev nD,
      r.2.mem ((c : Thread nD τ).loc main_v1) = grad (argH m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end

/-- The reference's result is the gradient. -/
theorem reference_apply (x0 : S4096x1024.Idx → EReal) (x1 : S4096x1024.Idx → EReal) (s : Fin 1) (k : Fin 1024) (j : Fin 1024) :
    Cert.Reference28Ideal.Read.val_main_v7 (F := Ideal) x0 x1 (ix3 s k j) = grad x0 x1 (ix3 s k j) := by
  have e : Cert.Reference28Ideal.Read.val_main_v7 (F := Ideal) x0 x1 (ix3 s k j) = ∑ y : Fin 4096, x1 (ix2 y j) * x0 (ix2 y k) := by
    rw [← Cert.Reference28Ideal.Read.val_main_v7_eq]
    pointwise
  obtain rfl : s = 0 := Subsingleton.elim _ _
  rw [e]
  refine Finset.sum_congr rfl fun y _ => (mul_comm _ _).trans (congrArg₂ (fun a b : EReal => a * b) rfl (congrArg x1 ?_))
  show (ix2 y j : S4096x1024.Idx) = ent y 0 j
  unfold ent
  congr 1
  exact Fin.ext (show j.val = 0 * 1024 + j.val by omega)

/-- The reference leaves its arguments as they were and ends with no semaphore raised. -/
theorem reference_frame : quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-- The kernel's result is the reference's, entry by entry. -/
theorem equal : algebraic_Kernel28Ideal_Reference28Ideal := by
  intro m ρ m' ρ' _ hagree
  refine ⟨_, run m ρ, ?_⟩
  refine (θ_run Cert.Reference28Ideal.defs _ _).mono (fun _ h c => ⟨?_, (h c).2⟩)
    (Cert.Reference28Ideal.Value.run (F := Ideal) m' ρ')
  rw [(h c).1, (hagree c).1, (hagree c).2]
  refine (Cert.Reference28Ideal.Read.val_main_v7_eq _ _).trans (funext fun i => ?_)
  obtain ⟨s, k, j, rfl⟩ : ∃ (s : Fin 1) (k : Fin 1024) (j : Fin 1024), i = ix3 s k j := ⟨i 0, i 1, i 2, eq_ix3 i⟩
  exact reference_apply _ _ s k j

end Cert.TnConvOut

end
-- ==== Proof.NtConvOut.lean ====
/-
  The gradient of the rows that went into the product behind the convolution. The kernel takes 2048 rows at a time and
  adds the whole product to an accumulator it has just cleared; the reference contracts over all the columns at once.
-/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pointwise
public import Idealize.ShloMosaic.Adequacy
public import Idealize.ShloMosaic.Lib.Quiescent

@[expose] public section

set_option maxRecDepth 16384

noncomputable section

namespace Cert.NtConvOut

open Cert.Kernel29Ideal Cert.Kernel29Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (i : S2048x1024.Idx) : k0_pay1 (F := Ideal) i = 0 := by
  unfold k0_pay1
  pointwise

theorem pay2_apply (v3 : Vec Ideal S2048x1024 .f32) (v4 : Vec Ideal S1x2048x1024 .bf16) (v6 : Vec Ideal S1x1024x1024 .bf16) (r : Fin 2048) (k : Fin 1024) :
    k0_pay2 (F := Ideal) v3 v4 v6 (ix2 r k) = v3 (ix2 r k) + ∑ y : Fin 1024, v4 (ix3 0 r y) * v6 (ix3 0 k y) := by
  unfold k0_pay2
  pointwise

theorem ref_apply (x0 : S4096x1024.Idx → EReal) (x1 : S1x1024x1024.Idx → EReal) (r : Fin 4096) (k : Fin 1024) :
    Cert.Reference29Ideal.Read.val_main_v6 (F := Ideal) x0 x1 (ix2 r k) = ∑ y : Fin 1024, x0 (ix2 r y) * x1 (ix3 0 k y) := by
  rw [← Cert.Reference29Ideal.Read.val_main_v6_eq]
  pointwise

section
variable (c : Dev nD) (i : grid0.Coords)
  (a2 : Memref sig .tc .vmem S1x2048x1024 .bf16) (h2 : a2.IsWhole) (a3 : Memref sig .tc .vmem S1x1024x1024 .bf16) (h3 : a3.IsWhole)
  (a4 : Memref sig .tc .vmem S2048x1024 .bf16) (h4 : a4.IsWhole) (a5 : Memref sig .tc .vmem S2048x1024 .f32) (h5 : a5.IsWhole)
  (x0 : Vec Ideal S1x2048x1024 .bf16) (x1 : Vec Ideal S1x1024x1024 .bf16)

theorem out_eq (hc0 : cond0_0 i) (hc1 : cond0_1 i) :
    out0_A_2 (F := Ideal) c i a2 h2 a3 h3 a4 h4 a5 h5 hc0 hc1 x0 x1 = k0_pay3 (k0_pay2 (k0_pay1 (F := Ideal)) x0 x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero hz2]
  simp only [View.readAt_eq_ld, h2.read_unread, h3.read_unread, View.ld_unit_zero (S := S1x2048x1024) hz3,
    View.ld_unit_zero (S := S1x1024x1024) hz3]
  simp only [View.readCov_cons_toLoadRect]

theorem out_apply (hc0 : cond0_0 i) (hc1 : cond0_1 i) (r : Fin 2048) (k : Fin 1024) :
    out0_A_2 (F := Ideal) c i a2 h2 a3 h3 a4 h4 a5 h5 hc0 hc1 x0 x1 (ix2 r k) = ∑ y : Fin 1024, x0 (ix3 0 r y) * x1 (ix3 0 k y) := by
  rw [out_eq]
  show k0_pay2 (F := Ideal) _ _ _ (ix2 r k) = _
  rw [pay2_apply, pay1_apply, zero_add]
end

/-- The product of the rows and the transposed weights. -/
def prod (x : S4096x1024.Idx → EReal) (w : S1x1024x1024.Idx → EReal) (i : S4096x1024.Idx) : EReal :=
  ∑ y : Fin 1024, x (ix2 (i 0) y) * w (ix3 0 (i 1) y)

section
variable (m : (ℓ : Loc nD τ sig) → Buf (Elt Ideal) ℓ) (ρ : Dev nD → PrngReg) (c : Dev nD)

/-- The two argument arrays. -/
abbrev argD : S4096x1024.Idx → EReal := m ((c : Thread nD τ).loc main_arg0)
abbrev argW : S1x1024x1024.Idx → EReal := m ((c : Thread nD τ).loc main_arg1)

/-- The array that the kernel's first window is cut from, after the host's lines. -/
theorem V0 (i : S1x4096x1024.Idx) : (V m c (Pipeline.arrRef spec0 0) : S1x4096x1024.Idx → EReal) i = argD m c (ix2 (i 1) (i 2)) := by
  show StableHlo.after hostOps0 (fun b => m (c, b)) main_v0 i = _
  simp only [hostOps0, StableHlo.after_cons, StableHlo.after_nil]
  rw [StableHlo.unary_result]
  refine broadcastInDim_apply _ _ _ i (ix2 (i 1) (i 2)) fun a => ?_
  match a with
  | ⟨0, _⟩ => rfl
  | ⟨1, _⟩ => rfl

theorem idx_facts : ∀ t : Fin cfg0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, _)

/-- The row of the array that row `r` of point `t`'s block is. -/
def row (t : Fin cfg0.N) (r : Fin 2048) : Fin 4096 := ⟨t.val * 2048 + r.val, by have h : t.val < 2 := N_0 ▸ t.isLt; omega⟩

/-- The first window's block at a point. -/
theorem blk0 (t : Fin cfg0.N) (r : Fin 2048) (y : Fin 1024) : (iblk m c 0 t : S1x2048x1024.Idx → EReal) (ix3 0 r y)
    = argD m c (ix2 (row t r) y) := by
  obtain ⟨e0, e1, e2⟩ := (idx_facts t).1
  have e : ((cfg0.win 0).blk t).view.emb (ix3 0 r y : S1x2048x1024.Idx) = (ix3 0 (row t r) y : S1x4096x1024.Idx) := by
    funext a
    apply Fin.ext
    match a with
    | ⟨0, _⟩ => show win0_0.index t 0 * 1 + 1 * 0 = 0; omega
    | ⟨1, _⟩ => show win0_0.index t 1 * 2048 + 1 * r.val = t.val * 2048 + r.val; omega
    | ⟨2, _⟩ => show win0_0.index t 2 * 1024 + 1 * y.val = y.val; omega
  unfold iblk
  rw [View.read_apply, e]
  exact V0 m c _

/-- The second window's block at a point. -/
theorem blk1 (t : Fin cfg0.N) (k : Fin 1024) (y : Fin 1024) : (iblk m c 1 t : S1x1024x1024.Idx → EReal) (ix3 0 k y)
    = argW m c (ix3 0 k y) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 0; omega
  | ⟨1, _⟩ => show win0_1.index t 1 * 1024 + 1 * k.val = k.val; omega
  | ⟨2, _⟩ => show win0_1.index t 2 * 1024 + 1 * y.val = y.val; omega

theorem flushed (t : Fin cfg0.N) : (dats m 0 c).flushed 2 t = ((cfg0.win 2).blk t).view.read (Elt Ideal) (prod (argD m c) (argW m c)) := by
  rw [Value.flushed2_A]
  refine funext fun (y : S2048x1024.Idx) => ?_
  obtain ⟨r, k, rfl⟩ : ∃ (r : Fin 2048) (k : Fin 1024), y = ix2 r k := ⟨y 0, y 1, eq_ix2 y⟩
  obtain ⟨e0, e1⟩ := (idx_facts t).2.2
  have ey : ((cfg0.win 2).blk t).view.emb (ix2 r k : S2048x1024.Idx) = (ix2 (row t r) k : S4096x1024.Idx) := by
    funext a
    apply Fin.ext
    match a with
    | ⟨0, _⟩ => show win0_2.index t 0 * 2048 + 1 * r.val = t.val * 2048 + r.val; omega
    | ⟨1, _⟩ => show win0_2.index t 1 * 1024 + 1 * k.val = k.val; omega
  refine Eq.trans ?_ (congrArg (prod (argD m c) (argW m c)) ey).symm
  refine (out_apply c (grid0.coords t) _ (hs0_0 t) _ (hs0_1 t) _ (hs0_2 t) _ (Memref.isWhole_whole _) (iblk m c 0 t) (iblk m c 1 t)
    (hcond0_0 t) (hcond0_1 t) r k).trans ?_
  exact Finset.sum_congr rfl fun y _ => congrArg₂ (fun a b : EReal => a * b) (blk0 m c t r y) (blk1 m c t k y)

theorem mem_blk (t : Fin cfg0.N) (i : S4096x1024.Idx) : i ∈ ((cfg0.win 2).blk t).view.set
    ↔ ∀ a : Fin 2, win0_2.index t a * S2048x1024.size a ≤ (i a).val ∧ (i a).val < win0_2.index t a * S2048x1024.size a + S2048x1024.size a := by
  show i ∈ ((View.whole main_v1).slice (win0_2.rect t)).set ↔ _
  rw [View.set_slice_whole, Rect.mem_set_unit]
  exact Iff.rfl

theorem final : (dats m 0 c).arrAt 2 cfg0.N = prod (argD m c) (argW m c) :=
  (dats m 0 c).arrAt_eq_of_cover 2 _ (fun t _ => flushed m c t) fun (i : S4096x1024.Idx) => by
    have h0 : (i 0).val < 4096 := (i 0).isLt
    have h1 : (i 1).val < 1024 := (i 1).isLt
    have hN : cfg0.N = 2 := N_0
    have hp : (i 0).val / 2048 < cfg0.N := by omega
    refine ⟨⟨(i 0).val / 2048, hp⟩, flush0_2 _, ?_⟩
    rw [mem_blk]
    obtain ⟨e0, e1⟩ := (idx_facts ⟨(i 0).val / 2048, hp⟩).2.2
    dsimp only at e0 e1
    intro a
    match a with
    | ⟨0, _⟩ => show win0_2.index _ 0 * 2048 ≤ (i 0).val ∧ (i 0).val < win0_2.index _ 0 * 2048 + 2048; omega
    | ⟨1, _⟩ => show win0_2.index _ 1 * 1024 ≤ (i 1).val ∧ (i 1).val < win0_2.index _ 1 * 1024 + 1024; omega

/-- The run: the result, the arguments unchanged. -/
theorem run : θ_run defs (onTc (τ := τ) (main (F := Ideal))) ⟨m, fun _ => 0, ρ⟩ fun r => ∀ c : Dev nD,
      r.2.mem ((c : Thread nD τ).loc main_v1) = prod (argD m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end

/-- The reference leaves its arguments as they were and ends with no semaphore raised. -/
theorem reference_frame : quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

/-- The kernel's result is the reference's, entry by entry. -/
theorem equal : algebraic_Kernel29Ideal_Reference29Ideal := by
  intro m ρ m' ρ' _ hagree
  refine ⟨_, run m ρ, ?_⟩
  refine (θ_run Cert.Reference29Ideal.defs _ _).mono (fun _ h c => ⟨?_, (h c).2⟩)
    (Cert.Reference29Ideal.Value.run (F := Ideal) m' ρ')
  rw [(h c).1, (hagree c).1, (hagree c).2]
  refine (Cert.Reference29Ideal.Read.val_main_v6_eq _ _).trans (funext fun i => ?_)
  obtain ⟨r, k, rfl⟩ : ∃ (r : Fin 4096) (k : Fin 1024), i = ix2 r k := ⟨i 0, i 1, eq_ix2 i⟩
  exact ref_apply _ _ r k

end Cert.NtConvOut

end
-- ==== Proof.ConvOut.lean ====
/-
  The product behind the convolution, and the rows it is added to. The kernel takes 1024 rows at a time.
-/
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pointwise
public import Idealize.ShloMosaic.Adequacy
public import Idealize.ShloMosaic.Lib.Quiescent

@[expose] public section

set_option maxRecDepth 16384

noncomputable section

namespace Cert.ConvOut

open Cert.Kernel30Ideal Cert.Kernel30Ideal.Gen Idealize.ShloMosaic Idealize.ShloMosaic.TcCoe
open Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The product. -/
def prod (x : S4096x1024.Idx → EReal) (w : S1x1024x1024.Idx → EReal) (i : S4096x1024.Idx) : EReal :=
  ∑ y : Fin 1024, x (ix2 (i 0) y) * w (ix3 0 y (i 1))

/-- The rows plus the gated product. -/
def gated (x : S4096x1024.Idx → EReal) (w : S1x1024x1024.Idx → EReal) (r : S4096x1024.Idx → EReal) (g : S1x1024.Idx → EReal)
    (i : S4096x1024.Idx) : EReal :=
  r i + g (ix2 0 (i 1)) * prod x w i

/-- The product of a block of rows. -/
def dots (x : S1024x1024.Idx → EReal) (w : S1x1024x1024.Idx → EReal) (r : Fin 1024) (j : Fin 1024) : EReal :=
  ∑ y : Fin 1024, x (ix2 r y) * w (ix3 0 y j)

theorem pay2_apply (v0 : Vec Ideal S1024x1024 .bf16) (v1 : Vec Ideal S1x1024x1024 .bf16) (r : Fin 1024) (j : Fin 1024) :
    k0_pay2 (F := Ideal) v0 v1 (ix2 r j) = ∑ y : Fin 1024, v0 (ix2 r y) * v1 (ix3 0 y j) := by
  unfold k0_pay2 k0_pay1
  pointwise

theorem pay3_apply (v0 : Vec Ideal S1024x1024 .bf16) (v1 : Vec Ideal S1x1024x1024 .bf16) (v6 : Vec Ideal S1024x1024 .f32) (v7 : Vec Ideal S1x1024 .f32)
    (r : Fin 1024) (j : Fin 1024) :
    k0_pay3 (F := Ideal) v0 v1 v6 v7 (ix2 r j) = v6 (ix2 r j) + v7 (ix2 0 j) * ∑ y : Fin 1024, v0 (ix2 r y) * v1 (ix3 0 y j) := by
  unfold k0_pay3 k0_pay1
  pointwise

section
variable (x0 : Vec Ideal S1024x1024 .bf16) (x1 : Vec Ideal S1x1024x1024 .bf16) (x2 : Vec Ideal S1024x1024 .f32) (x3 : Vec Ideal S1x1024 .f32)

theorem out4_apply (r : Fin 1024) (j : Fin 1024) : out0_4 (F := Ideal) x0 x1 x2 x3 (ix2 r j) = ∑ y : Fin 1024, x0 (ix2 r y) * x1 (ix3 0 y j) := by
  unfold out0_4
  rw [View.canon_unit_zero hz2, View.ld_unit_zero (S := S1024x1024) hz2, View.ld_unit_zero (S := S1x1024x1024) hz3]
  exact pay2_apply x0 x1 r j

theorem out5_apply (r : Fin 1024) (j : Fin 1024) : out0_5 (F := Ideal) x0 x1 x2 x3 (ix2 r j)
    = x2 (ix2 r j) + x3 (ix2 0 j) * ∑ y : Fin 1024, x0 (ix2 r y) * x1 (ix3 0 y j) := by
  unfold out0_5
  rw [View.canon_unit_zero hz2, View.ld_unit_zero (S := S1024x1024) hz2, View.ld_unit_zero (S := S1x1024x1024) hz3,
    View.ld_unit_zero (S := S1024x1024) hz2, View.ld_unit_zero (S := S1x1024) hz2]
  exact pay3_apply x0 x1 x2 x3 r j

end

section
variable (m : (ℓ : Loc nD τ sig) → Buf (Elt Ideal) ℓ) (ρ : Dev nD → PrngReg) (c : Dev nD)

/-- The four argument arrays. -/
abbrev argX : S4096x1024.Idx → EReal := m ((c : Thread nD τ).loc main_arg0)
abbrev argW : S1x1024x1024.Idx → EReal := m ((c : Thread nD τ).loc main_arg1)
abbrev argR : S4096x1024.Idx → EReal := m ((c : Thread nD τ).loc main_arg2)
abbrev argG : S1x1024.Idx → EReal := m ((c : Thread nD τ).loc main_arg3)

theorem idx_facts : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) :=
  (by decide +kernel : ∀ t : Fin grid0.N, _)

/-- The array row that row `r` of a point's block is. -/
def row (t : Fin cfg0.N) (r : Fin 1024) : Fin 4096 := ⟨t.val * 1024 + r.val, by have h : t.val < 4 := N_0 ▸ t.isLt; omega⟩

theorem blk0 (t : Fin cfg0.N) (r : Fin 1024) (j : Fin 1024) : (iblk m c 0 t : S1024x1024.Idx → EReal) (ix2 r j) = argX m c (ix2 (row t r) j) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = t.val * 1024 + r.val; omega
  | ⟨1, _⟩ => show win0_0.index t 1 * 1024 + 1 * j.val = j.val; omega

theorem blk1 (t : Fin cfg0.N) (y : Fin 1024) (j : Fin 1024) : (iblk m c 1 t : S1x1024x1024.Idx → EReal) (ix3 0 y j) = argW m c (ix3 0 y j) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 0; omega
  | ⟨1, _⟩ => show win0_1.index t 1 * 1024 + 1 * y.val = y.val; omega
  | ⟨2, _⟩ => show win0_1.index t 2 * 1024 + 1 * j.val = j.val; omega

theorem blk2 (t : Fin cfg0.N) (r : Fin 1024) (j : Fin 1024) : (iblk m c 2 t : S1024x1024.Idx → EReal) (ix2 r j) = argR m c (ix2 (row t r) j) := by
  obtain ⟨e0, e1⟩ := (idx_facts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t 0 * 1024 + 1 * r.val = t.val * 1024 + r.val; omega
  | ⟨1, _⟩ => show win0_2.index t 1 * 1024 + 1 * j.val = j.val; omega

theorem blk3 (t : Fin cfg0.N) (j : Fin 1024) : (iblk m c 3 t : S1x1024.Idx → EReal) (ix2 0 j) = argG m c (ix2 0 j) := by
  obtain ⟨e0, e1⟩ := (idx_facts t).2.2.2.1
  unfold iblk
  rw [View.read_apply]
  show m ((c : Thread nD τ).loc main_arg3) _ = m ((c : Thread nD τ).loc main_arg3) _
  congr 1
  funext a
  apply Fin.ext
  match a with
  | ⟨0, _⟩ => show win0_3.index t 0 * 1 + 1 * 0 = 0; omega
  | ⟨1, _⟩ => show win0_3.index t 1 * 1024 + 1 * j.val = j.val; omega

/-- One point's product. -/
theorem prod_blk (t : Fin cfg0.N) (r : Fin 1024) (j : Fin 1024) :
    dots (iblk m c 0 t) (iblk m c 1 t) r j
      = prod (argX m c) (argW m c) (ix2 (row t r) j) :=
  Finset.sum_congr rfl fun y _ => congrArg₂ (fun a b : EReal => a * b) (blk0 m c t r y) (blk1 m c t y j)

theorem flushed4 (t : Fin cfg0.N) : (dats m 0 c).flushed 4 t = ((cfg0.win 4).blk t).view.read (Elt Ideal) (prod (argX m c) (argW m c)) := by
  rw [Value.flushed4]
  refine funext fun (y : S1024x1024.Idx) => ?_
  obtain ⟨r, j, rfl⟩ : ∃ (r : Fin 1024) (j : Fin 1024), y = ix2 r j := ⟨y 0, y 1, eq_ix2 y⟩
  obtain ⟨e0, e1⟩ := (idx_facts t).2.2.2.2.1
  have ey : ((cfg0.win 4).blk t).view.emb (ix2 r j : S1024x1024.Idx) = (ix2 (row t r) j : S4096x1024.Idx) := by
    funext a
    apply Fin.ext
    match a with
    | ⟨0, _⟩ => show win0_4.index t 0 * 1024 + 1 * r.val = t.val * 1024 + r.val; omega
    | ⟨1, _⟩ => show win0_4.index t 1 * 1024 + 1 * j.val = j.val; omega
  refine Eq.trans ?_ (congrArg (prod (argX m c) (argW m c)) ey).symm
  exact (out4_apply (iblk m c 0 t) (iblk m c 1 t) (iblk m c 2 t) (iblk m c 3 t) r j).trans
    (prod_blk m c t r j)

theorem mem_blk4 (t : Fin cfg0.N) (i : S4096x1024.Idx) : i ∈ ((cfg0.win 4).blk t).view.set
    ↔ ∀ a : Fin 2, win0_4.index t a * S1024x1024.size a ≤ (i a).val ∧ (i a).val < win0_4.index t a * S1024x1024.size a + S1024x1024.size a := by
  show i ∈ ((View.whole main_v0_0).slice (win0_4.rect t)).set ↔ _
  rw [View.set_slice_whole, Rect.mem_set_unit]
  exact Iff.rfl

theorem final4 : (dats m 0 c).arrAt 4 cfg0.N = prod (argX m c) (argW m c) :=
  (dats m 0 c).arrAt_eq_of_cover 4 _ (fun t _ => flushed4 m c t) fun (i : S4096x1024.Idx) => by
    have h0 : (i 0).val < 4096 := (i 0).isLt
    have h1 : (i 1).val < 1024 := (i 1).isLt
    have hN : cfg0.N = 4 := N_0
    have hp : (i 0).val / 1024 < cfg0.N := by omega
    refine ⟨⟨(i 0).val / 1024, hp⟩, flush0_4 _, ?_⟩
    rw [mem_blk4]
    obtain ⟨e0, e1⟩ := (idx_facts ⟨(i 0).val / 1024, hp⟩).2.2.2.2.1
    dsimp only at e0 e1
    intro a
    match a with
    | ⟨0, _⟩ => show win0_4.index _ 0 * 1024 ≤ (i 0).val ∧ (i 0).val < win0_4.index _ 0 * 1024 + 1024; omega
    | ⟨1, _⟩ => show win0_4.index _ 1 * 1024 ≤ (i 1).val ∧ (i 1).val < win0_4.index _ 1 * 1024 + 1024; omega

theorem flushed5 (t : Fin cfg0.N) : (dats m 0 c).flushed 5 t = ((cfg0.win 5).blk t).view.read (Elt Ideal) (gated (argX m c) (argW m c) (argR m c) (argG m c)) := by
  rw [Value.flushed5]
  refine funext fun (y : S1024x1024.Idx) => ?_
  obtain ⟨r, j, rfl⟩ : ∃ (r : Fin 1024) (j : Fin 1024), y = ix2 r j := ⟨y 0, y 1, eq_ix2 y⟩
  obtain ⟨e0, e1⟩ := (idx_facts t).2.2.2.2.2
  have ey : ((cfg0.win 5).blk t).view.emb (ix2 r j : S1024x1024.Idx) = (ix2 (row t r) j : S4096x1024.Idx) := by
    funext a
    apply Fin.ext
    match a with
    | ⟨0, _⟩ => show win0_5.index t 0 * 1024 + 1 * r.val = t.val * 1024 + r.val; omega
    | ⟨1, _⟩ => show win0_5.index t 1 * 1024 + 1 * j.val = j.val; omega
  refine Eq.trans ?_ (congrArg (gated (argX m c) (argW m c) (argR m c) (argG m c)) ey).symm
  exact (out5_apply (iblk m c 0 t) (iblk m c 1 t) (iblk m c 2 t) (iblk m c 3 t) r j).trans
    (congrArg₂ (fun a b : EReal => a + b) (blk2 m c t r j) (congrArg₂ (fun a b : EReal => a * b) (blk3 m c t j) (prod_blk m c t r j)))

theorem mem_blk5 (t : Fin cfg0.N) (i : S4096x1024.Idx) : i ∈ ((cfg0.win 5).blk t).view.set
    ↔ ∀ a : Fin 2, win0_5.index t a * S1024x1024.size a ≤ (i a).val ∧ (i a).val < win0_5.index t a * S1024x1024.size a + S1024x1024.size a := by
  show i ∈ ((View.whole main_v0_1).slice (win0_5.rect t)).set ↔ _
  rw [View.set_slice_whole, Rect.mem_set_unit]
  exact Iff.rfl

theorem final5 : (dats m 0 c).arrAt 5 cfg0.N = gated (argX m c) (argW m c) (argR m c) (argG m c) :=
  (dats m 0 c).arrAt_eq_of_cover 5 _ (fun t _ => flushed5 m c t) fun (i : S4096x1024.Idx) => by
    have h0 : (i 0).val < 4096 := (i 0).isLt
    have h1 : (i 1).val < 1024 := (i 1).isLt
    have hN : cfg0.N = 4 := N_0
    have hp : (i 0).val / 1024 < cfg0.N := by omega
    refine ⟨⟨(i 0).val / 1024, hp⟩, flush0_5 _, ?_⟩
    rw [mem_blk5]
    obtain ⟨e0, e1⟩ := (idx_facts ⟨(i 0).val / 1024, hp⟩).2.2.2.2.2
    dsimp only at e0 e1
    intro a
    match a with
    | ⟨0, _⟩ => show win0_5.index _ 0 * 1024 ≤ (i 0).val ∧ (i 0).val < win0_5.index _ 0 * 1024 + 1024; omega
    | ⟨1, _⟩ => show win0_5.index _ 1 * 1024 ≤ (i 1).val ∧ (i 1).val < win0_5.index _ 1 * 1024 + 1024; omega

/-- The run: the two results, the arguments unchanged. -/
theorem run : θ_run defs (onTc (τ := τ) (main (F := Ideal))) ⟨m, fun _ => 0, ρ⟩ fun r => ∀ c : Dev nD,
      r.2.mem ((c : Thread nD τ).loc main_v0_0) = prod (argX m c) (argW m c)
      ∧ r.2.mem ((c : Thread nD τ).loc main_v0_1) = gated (argX m c) (argW m c) (argR m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end

/-! ## The reference -/

theorem ref4 (x0 : S4096x1024.Idx → EReal) (x1 : S1x1024x1024.Idx → EReal)  (r : Fin 4096) (j : Fin 1024) :
    Cert.Reference30Ideal.Read.val_main_v4 (F := Ideal) x0 x1 (ix2 r j) = ∑ y : Fin 1024, x0 (ix2 r y) * x1 (ix3 0 y j) := by
  rw [← Cert.Reference30Ideal.Read.val_main_v4_eq]
  pointwise

theorem ref7 (x0 : S4096x1024.Idx → EReal) (x1 : S1x1024x1024.Idx → EReal) (x2 : S4096x1024.Idx → EReal) (x3 : S1x1024.Idx → EReal) (r : Fin 4096) (j : Fin 1024) :
    Cert.Reference30Ideal.Read.val_main_v7 (F := Ideal) x0 x1 x2 x3 (ix2 r j) = x2 (ix2 r j) + x3 (ix2 0 j) * ∑ y : Fin 1024, x0 (ix2 r y) * x1 (ix3 0 y j) := by
  rw [← Cert.Reference30Ideal.Read.val_main_v7_eq]
  pointwise

/-- The reference leaves its arguments as they were and ends with no semaphore raised. -/
theorem reference_frame : quiescent_Reference30Ideal := fun m ρ _ =>
  (θ_run Cert.Reference30Ideal.defs _ _).mono (fun r h => ⟨fun c => (h c).2.2, sem_eq_zero_of_no_sems (by decide) r.2⟩)
    (Cert.Reference30Ideal.Value.run (F := Ideal) m ρ)

/-- The kernel's two results are the reference's, entry by entry. -/
theorem equal : algebraic_Kernel30Ideal_Reference30Ideal := by
  intro m ρ m' ρ' _ hagree
  refine ⟨_, _, run m ρ, ?_⟩
  refine (θ_run Cert.Reference30Ideal.defs _ _).mono (fun _ h c => ⟨?_, ?_, (h c).2.2⟩)
    (Cert.Reference30Ideal.Value.run (F := Ideal) m' ρ')
  · rw [(h c).1, (hagree c).1, (hagree c).2.1]
    refine (Cert.Reference30Ideal.Read.val_main_v4_eq _ _).trans (funext fun i => ?_)
    obtain ⟨r, j, rfl⟩ : ∃ (r : Fin 4096) (j : Fin 1024), i = ix2 r j := ⟨i 0, i 1, eq_ix2 i⟩
    exact ref4 _ _ r j
  · rw [(h c).2.1, (hagree c).1, (hagree c).2.1, (hagree c).2.2.1, (hagree c).2.2.2]
    refine (Cert.Reference30Ideal.Read.val_main_v7_eq _ _ _ _).trans (funext fun i => ?_)
    obtain ⟨r, j, rfl⟩ : ∃ (r : Fin 4096) (j : Fin 1024), i = ix2 r j := ⟨i 0, i 1, eq_ix2 i⟩
    exact ref7 _ _ _ _ r j

end Cert.ConvOut

end
-- ==== Proof.ConvFwd.lean ====
/-
  The convolution step itself: the gate times the causal convolution of the gated input. The kernel takes 128 channels at
  a time and moves the rows of a block around its end; the reference puts two zero rows in front.
-/
module

public import proofs.«01_k».proof.Defs
public import proofs.«01_k».proof.Proof.ConvMath
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.Value
public import Idealize.ShloMosaic.Lib.ValueIdx
public import Idealize.ShloMosaic.Lib.KernelVsHost
public import Idealize.ShloMosaic.Adequacy
public import Idealize.ShloMosaic.Lib.Quiescent

@[expose] public section

set_option maxRecDepth 16384

noncomputable section

namespace Cert.ConvFwd

open Cert.Kernel25Ideal Cert.Kernel25Ideal.Gen Idealize.ShloMosaic Idealize.ShloMosaic.TcCoe Idealize.ShloMosaic.ValueIdx Cert.ConvMath
open Idealize.SL.Sem
open scoped BigOperators

theorem hz : (![0, 0] : Fin 2 → Nat) = fun _ => 0 := funext fun a => by fin_cases a <;> rfl

/-- The gated convolution, entry by entry. -/
def step (p : S4096x3072.Idx → EReal) (w : S3x1024.Idx → EReal) (i : S4096x1024.Idx) : EReal :=
  pCol p 0 (i 1) (i 0) * conv (pCol p 1 (i 1)) (pCol p 2 (i 1)) (wCol w (i 1)) (i 0)

/-- The channel `q` of a block. -/
abbrev col (x : S4096x128.Idx → EReal) (q : Fin 128) : Fin 4096 → EReal := fun r => x (ix2 r q)

/-- Small words compare as the numbers they hold. -/
theorem toInt_small (n : ℕ) (h : n < 5000) : (BitVec.ofNat 32 n).toInt = n := by
  rw [BitVec.toInt_eq_toNat_of_lt] <;> simp [BitVec.toNat_ofNat] <;> omega

theorem ofBool_one (b : Bool) : BitVec.ofBool b = 1#1 ↔ b = true := by cases b <;> decide

/-- A choice on "row at least `k`". -/
theorem sel_ge {α : Type} (r k : ℕ) (hr : r < 5000) (hk : k < 5000) (a b : α) :
    Scalar.select (IntOp.cmpi .sge (BitVec.ofNat 32 r) (BitVec.ofNat 32 k)) a b = if k ≤ r then a else b := by
  unfold Scalar.select
  refine if_congr ?_ rfl rfl
  show IntOp.cmpi .sge _ _ = 1#1 ↔ _
  simp only [IntOp.cmpi, ofBool_one, BitVec.sle_iff_toInt_le, toInt_small r hr, toInt_small k hk]
  omega

/-- The zero word is the number zero. -/
theorem zero_word : Ideal.ofBits .f32 0x00000000#32 = 0 := by simp [Ideal.ofBits, Ideal.ieee]

/-- The rows of a block moved down by `k` around the end, and zero in the first `k` rows: the channel's past. -/
theorem shifted_down (k : ℕ) (hk : k ≤ 2) (x : FVec Ideal S4096x128 .f32) (r : Fin 4096) (q : Fin 128) :
    select (cmpi .sge (iota .tc S4096x128 32 [0] iota_S4096x128_d0_w32) (broadcast S4096x128 (BitVec.ofNat 32 k)))
      (dynamicRotate 0 (BitVec.ofNat 32 k) none x rotates_S4096x128_d0)
      (broadcast S4096x128 (Scalar.ofBits (F := Ideal) .f32 0x00000000#32)) (ix2 r q) = past (col x q) (r.val + 2 - k) := by
  have hr := r.isLt
  show Scalar.select (IntOp.cmpi .sge (BitVec.ofNat 32 (0 * 4096 + r.val)) (BitVec.ofNat 32 k)) _ _ = _
  rw [Nat.zero_mul, Nat.zero_add, sel_ge _ _ (by omega) (by omega)]
  unfold past
  by_cases h : k ≤ r.val
  · rw [if_pos h, dif_pos ⟨by omega, by omega⟩]
    refine dynamicRotate_apply 0 _ x rotates_S4096x128_d0 (ix2 r q) (ix2 (⟨r.val + 2 - k - 2, by omega⟩ : Fin 4096) q) fun b => ?_
    match b with
    | ⟨0, _⟩ =>
      have e : (BitVec.ofNat 32 k).toNat = k := by rw [BitVec.toNat_ofNat]; omega
      show r.val + 2 - k - 2 = (r.val + 4096 - (BitVec.ofNat 32 k).toNat % 4096) % 4096
      rw [e]; omega
    | ⟨1, _⟩ => rfl
  · rw [if_neg h, dif_neg (by omega)]
    exact zero_word

/-- A row laid along every row of a block. -/
theorem row_apply (y : FVec Ideal S1x128 .f32) (r : Fin 4096) (q : Fin 128) :
    broadcastTo S4096x128 y broadcasts_S1x128_S4096x128 (ix2 r q) = y (ix2 (0 : Fin 1) q) := by
  refine broadcastTo_apply y _ _ _ fun a => ?_
  match a with
  | ⟨0, _⟩ => rfl
  | ⟨1, _⟩ => rfl

section
variable (x1 x3 x27 : Vec Ideal S4096x128 .bf16) (y2 y1 y0 : Vec Ideal S1x128 .f32) (r : Fin 4096) (q : Fin 128)

/-- The three taps of channel `q`. -/
abbrev taps (y2 y1 y0 : S1x128.Idx → EReal) (q : Fin 128) : Fin 3 → EReal :=
  ![y0 (ix2 (0 : Fin 1) q), y1 (ix2 (0 : Fin 1) q), y2 (ix2 (0 : Fin 1) q)]

/-- The gated input of a block. -/
abbrev gatedIn : FVec Ideal S4096x128 .f32 := mulf (extf .f32 x1 bitsLt_bf16_f32) (extf .f32 x3 bitsLt_bf16_f32)

theorem pay1_apply : k0_pay1 (F := Ideal) x1 x3 y2 y1 y0 x27 (ix2 r q)
    = col x27 q r * conv (col x1 q) (col x3 q) (taps y2 y1 y0 q) r := by
  have e1 := shifted_down 1 (by omega) (gatedIn x1 x3) r q
  have e2 := shifted_down 2 (by omega) (gatedIn x1 x3) r q
  show x27 (ix2 r q) * ((broadcastTo S4096x128 y2 broadcasts_S1x128_S4096x128 (ix2 r q) * (x1 (ix2 r q) * x3 (ix2 r q))
    + broadcastTo S4096x128 y1 broadcasts_S1x128_S4096x128 (ix2 r q) * _)
    + broadcastTo S4096x128 y0 broadcasts_S1x128_S4096x128 (ix2 r q) * _) = _
  rw [row_apply, row_apply, row_apply, e1, e2]
  rfl

end

section
variable (x0 x1 x2 : Vec Ideal S4096x128 .bf16) (x3 : Vec Ideal S3x128 .f32)

/-- The taps of channel `q` of the block. -/
theorem taps_eq (q : Fin 128) : taps (View.ld x3 r0_1) (View.ld x3 r0_2) (View.ld x3 r0_3) q = fun k : Fin 3 => x3 (ix2 k q) := by
  funext k
  have e : ∀ (n : ℕ) (h : ∀ a, (![n, 0] : Fin 2 → ℕ) a + S1x128.size a ≤ S3x128.size a) (hn : n < 3),
      View.ld x3 (Rect.unit (s := S3x128) ![n, 0] S1x128.size h) (ix2 (0 : Fin 1) q) = x3 (ix2 (⟨n, hn⟩ : Fin 3) q) := by
    intro n h hn
    show x3 _ = x3 _
    congr 1
    funext a
    apply Fin.ext
    match a with
    | ⟨0, _⟩ => show n + 1 * 0 = n; omega
    | ⟨1, _⟩ => show 0 + 1 * q.val = q.val; omega
  match k with
  | ⟨0, _⟩ => exact e 0 _ (by omega)
  | ⟨1, _⟩ => exact e 1 _ (by omega)
  | ⟨2, _⟩ => exact e 2 _ (by omega)

/-- What a point leaves, index by index. -/
theorem out_apply (r : Fin 4096) (q : Fin 128) : out0_4 (F := Ideal) x0 x1 x2 x3 (ix2 r q)
    = col x0 q r * conv (col x1 q) (col x2 q) (fun k => x3 (ix2 k q)) r := by
  rw [← taps_eq, ← pay1_apply]
  unfold out0_4
  rw [View.canon_unit_zero hz]
  simp only [View.ld_unit_zero (S := S4096x128) hz]

end

section
variable (m : (ℓ : Loc nD τ sig) → Buf (Elt Ideal) ℓ) (ρ : Dev nD → PrngReg) (c : Dev nD)

/-- The two argument arrays. -/
abbrev argP : S4096x3072.Idx → EReal := m ((c : Thread nD τ).loc main_arg0)
abbrev argW : S3x1024.Idx → EReal := m ((c : Thread nD τ).loc main_arg1)

theorem idx_facts : ∀ t : Fin cfg0.N, (win0_0.index t 0 = 0 ∧ win0_0.index t 1 = t.val)
    ∧ (win0_1.index t 0 = 0 ∧ win0_1.index t 1 = t.val + 8)
    ∧ (win0_2.index t 0 = 0 ∧ win0_2.index t 1 = t.val + 16)
    ∧ (win0_3.index t 0 = 0 ∧ win0_3.index t 1 = t.val)
    ∧ (win0_4.index t 0 = 0 ∧ win0_4.index t 1 = t.val) :=
  (by decide +kernel : ∀ t : Fin grid0.N, _)

/-- The channel that column `q` of a point's block is. -/
def channel (t : Fin cfg0.N) (q : Fin 128) : Fin 1024 := ⟨t.val * 128 + q.val, by have h : t.val < 8 := N_0 ▸ t.isLt; omega⟩

theorem blk0 (t : Fin cfg0.N) (q : Fin 128) : col (iblk m c 0 t) q = pCol (argP m c) 0 (channel t q) := by
  funext r
  obtain ⟨e0, e1⟩ := (idx_facts t).1
  show (iblk m c 0 t : S4096x128.Idx → EReal) (ix2 r q) = argP m c _
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * r.val = r.val; omega
  | ⟨1, _⟩ => show win0_0.index t 1 * 128 + 1 * q.val = 0 * 1024 + (t.val * 128 + q.val); omega

theorem blk1 (t : Fin cfg0.N) (q : Fin 128) : col (iblk m c 1 t) q = pCol (argP m c) 1 (channel t q) := by
  funext r
  obtain ⟨e0, e1⟩ := (idx_facts t).2.1
  show (iblk m c 1 t : S4096x128.Idx → EReal) (ix2 r q) = argP m c _
  unfold iblk
  rw [View.read_apply]
  show m ((c : Thread nD τ).loc main_arg0) _ = m ((c : Thread nD τ).loc main_arg0) _
  congr 1
  funext a
  apply Fin.ext
  match a with
  | ⟨0, _⟩ => show win0_1.index t 0 * 4096 + 1 * r.val = r.val; omega
  | ⟨1, _⟩ => show win0_1.index t 1 * 128 + 1 * q.val = 1 * 1024 + (t.val * 128 + q.val); omega

theorem blk2 (t : Fin cfg0.N) (q : Fin 128) : col (iblk m c 2 t) q = pCol (argP m c) 2 (channel t q) := by
  funext r
  obtain ⟨e0, e1⟩ := (idx_facts t).2.2.1
  show (iblk m c 2 t : S4096x128.Idx → EReal) (ix2 r q) = argP m c _
  unfold iblk
  rw [View.read_apply]
  show m ((c : Thread nD τ).loc main_arg0) _ = m ((c : Thread nD τ).loc main_arg0) _
  congr 1
  funext a
  apply Fin.ext
  match a with
  | ⟨0, _⟩ => show win0_2.index t 0 * 4096 + 1 * r.val = r.val; omega
  | ⟨1, _⟩ => show win0_2.index t 1 * 128 + 1 * q.val = 2 * 1024 + (t.val * 128 + q.val); omega

theorem blk3 (t : Fin cfg0.N) (q : Fin 128) : (fun k : Fin 3 => (iblk m c 3 t : S3x128.Idx → EReal) (ix2 k q)) = wCol (argW m c) (channel t q) := by
  funext k
  obtain ⟨e0, e1⟩ := (idx_facts t).2.2.2.1
  show (iblk m c 3 t : S3x128.Idx → EReal) (ix2 k q) = argW m c _
  unfold iblk
  rw [View.read_apply]
  show m ((c : Thread nD τ).loc main_arg1) _ = m ((c : Thread nD τ).loc main_arg1) _
  congr 1
  funext a
  apply Fin.ext
  match a with
  | ⟨0, _⟩ => show win0_3.index t 0 * 3 + 1 * k.val = k.val; omega
  | ⟨1, _⟩ => show win0_3.index t 1 * 128 + 1 * q.val = t.val * 128 + q.val; omega

theorem flushed (t : Fin cfg0.N) : (dats m 0 c).flushed 4 t = ((cfg0.win 4).blk t).view.read (Elt Ideal) (step (argP m c) (argW m c)) := by
  rw [Value.flushed4]
  refine funext fun (y : S4096x128.Idx) => ?_
  obtain ⟨r, q, rfl⟩ : ∃ (r : Fin 4096) (q : Fin 128), y = ix2 r q := ⟨y 0, y 1, eq_ix2 y⟩
  obtain ⟨e0, e1⟩ := (idx_facts t).2.2.2.2
  have ey : ((cfg0.win 4).blk t).view.emb (ix2 r q : S4096x128.Idx) = (ix2 r (channel t q) : S4096x1024.Idx) := by
    funext a
    apply Fin.ext
    match a with
    | ⟨0, _⟩ => show win0_4.index t 0 * 4096 + 1 * r.val = r.val; omega
    | ⟨1, _⟩ => show win0_4.index t 1 * 128 + 1 * q.val = t.val * 128 + q.val; omega
  refine Eq.trans ?_ (congrArg (step (argP m c) (argW m c)) ey).symm
  refine (out_apply (iblk m c 0 t) (iblk m c 1 t) (iblk m c 2 t) (iblk m c 3 t) r q).trans ?_
  rw [blk0 m c t q, blk1 m c t q, blk2 m c t q, blk3 m c t q]
  rfl

theorem mem_blk (t : Fin cfg0.N) (i : S4096x1024.Idx) : i ∈ ((cfg0.win 4).blk t).view.set
    ↔ ∀ a : Fin 2, win0_4.index t a * S4096x128.size a ≤ (i a).val ∧ (i a).val < win0_4.index t a * S4096x128.size a + S4096x128.size a := by
  show i ∈ ((View.whole main_v0).slice (win0_4.rect t)).set ↔ _
  rw [View.set_slice_whole, Rect.mem_set_unit]
  exact Iff.rfl

theorem final : (dats m 0 c).arrAt 4 cfg0.N = step (argP m c) (argW m c) :=
  (dats m 0 c).arrAt_eq_of_cover 4 _ (fun t _ => flushed m c t) fun (i : S4096x1024.Idx) => by
    have h0 : (i 0).val < 4096 := (i 0).isLt
    have h1 : (i 1).val < 1024 := (i 1).isLt
    have hN : cfg0.N = 8 := N_0
    have hp : (i 1).val / 128 < cfg0.N := by omega
    refine ⟨⟨(i 1).val / 128, hp⟩, flush0_4 _, ?_⟩
    rw [mem_blk]
    obtain ⟨e0, e1⟩ := (idx_facts ⟨(i 1).val / 128, hp⟩).2.2.2.2
    dsimp only at e0 e1
    intro a
    match a with
    | ⟨0, _⟩ => show win0_4.index _ 0 * 4096 ≤ (i 0).val ∧ (i 0).val < win0_4.index _ 0 * 4096 + 4096; omega
    | ⟨1, _⟩ => show win0_4.index _ 1 * 128 ≤ (i 1).val ∧ (i 1).val < win0_4.index _ 1 * 128 + 128; omega

/-- The run: the result, the arguments unchanged. -/
theorem run : θ_run defs (onTc (τ := τ) (main (F := Ideal))) ⟨m, fun _ => 0, ρ⟩ fun r => ∀ c : Dev nD,
      r.2.mem ((c : Thread nD τ).loc main_v0) = step (argP m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end

/-! ## The reference -/

section
open Cert.Reference25Ideal.Read
open Cert.Reference25Ideal (S4098x1024 S2x1024)

variable (x1 : (⟨S4096x3072, .bf16⟩ : BufTy).Contents (Elt Ideal)) (x2 : (⟨S3x1024, .f32⟩ : BufTy).Contents (Elt Ideal)) (r : Fin 4096) (j : Fin 1024)

theorem b_at : val_main_v1 (F := Ideal) x1 (ix2 r j) = pCol x1 0 j r := by
  rw [val_main_v1_apply]
  refine congrArg x1 (funext fun a => Fin.ext ?_)
  match a with
  | ⟨0, _⟩ => rfl
  | ⟨1, _⟩ => show j.val = 0 * 1024 + j.val; omega

theorem c_at : val_main_v2 (F := Ideal) x1 (ix2 r j) = pCol x1 1 j r := by
  rw [val_main_v2_apply]
  refine congrArg x1 (funext fun a => Fin.ext ?_)
  match a with
  | ⟨0, _⟩ => rfl
  | ⟨1, _⟩ => show 1024 + j.val = 1 * 1024 + j.val; omega

theorem v_at : val_main_v3 (F := Ideal) x1 (ix2 r j) = pCol x1 2 j r := by
  rw [val_main_v3_apply]
  refine congrArg x1 (funext fun a => Fin.ext ?_)
  match a with
  | ⟨0, _⟩ => rfl
  | ⟨1, _⟩ => show 2048 + j.val = 2 * 1024 + j.val; omega

theorem cv_at : val_main_v4 (F := Ideal) x1 (ix2 r j) = cv (pCol x1 1 j) (pCol x1 2 j) r := by
  rw [val_main_v4_apply, c_at, v_at]
  rfl

/-- The gated input with two zero rows in front. -/
theorem past_at (n : Fin 4098) : val_main_v6 (F := Ideal) x1 (ix2 n j) = past (cv (pCol x1 1 j) (pCol x1 2 j)) n.val := by
  unfold val_main_v6 past
  by_cases h : n.val < 2
  · rw [dif_neg (by omega)]
    refine (concatenate_pair_apply_left (t := S4098x1024) (s₁ := S2x1024) (s₂ := S4096x1024) 0 _ _ _ (ix2 n j) rfl (ix2 (⟨n.val, h⟩ : Fin 2) j) fun b => ?_).trans ?_
    · match b with
      | ⟨0, _⟩ => rfl
      | ⟨1, _⟩ => rfl
    · rw [val_main_v5_apply]
      exact zero_word
  · have := n.isLt
    rw [dif_pos ⟨by omega, by omega⟩, ← cv_at]
    refine concatenate_pair_apply_right (t := S4098x1024) (s₁ := S2x1024) (s₂ := S4096x1024) 0 _ _ _ (ix2 n j) rfl rfl (ix2 (⟨n.val - 2, by omega⟩ : Fin 4096) j) (fun b hb => ?_) ?_
    · match b with
      | ⟨0, _⟩ => exact absurd rfl hb
      | ⟨1, _⟩ => rfl
    · show n.val - 2 + 2 = n.val
      omega

theorem past0_at : val_main_v9 (F := Ideal) x1 (ix2 r j) = past (cv (pCol x1 1 j) (pCol x1 2 j)) r.val := by
  rw [val_main_v9_apply, ← past_at x1 j ⟨r.val, by omega⟩]
  exact congrArg _ (funext fun a => Fin.ext (by match a with | ⟨0, _⟩ => rfl | ⟨1, _⟩ => rfl))

theorem past1_at : val_main_v15 (F := Ideal) x1 (ix2 r j) = past (cv (pCol x1 1 j) (pCol x1 2 j)) (r.val + 1) := by
  rw [val_main_v15_apply, ← past_at x1 j ⟨r.val + 1, by omega⟩]
  exact congrArg _ (funext fun a => Fin.ext (by match a with | ⟨0, _⟩ => exact Nat.add_comm _ _ | ⟨1, _⟩ => rfl))

theorem past2_at : val_main_v22 (F := Ideal) x1 (ix2 r j) = past (cv (pCol x1 1 j) (pCol x1 2 j)) (r.val + 2) := by
  rw [val_main_v22_apply, ← past_at x1 j ⟨r.val + 2, by omega⟩]
  exact congrArg _ (funext fun a => Fin.ext (by match a with | ⟨0, _⟩ => exact Nat.add_comm _ _ | ⟨1, _⟩ => rfl))

theorem row0_at (k : Fin 1) : val_main_v10 (F := Ideal) x2 (ix2 k j) = wCol x2 j 0 := by
  rw [val_main_v10_apply, val_main_v8_apply, val_main_v7_apply]
  refine congrArg x2 (funext fun a => Fin.ext ?_)
  match a with
  | ⟨0, _⟩ => rfl
  | ⟨1, _⟩ => exact Nat.mod_eq_of_lt j.isLt

theorem row1_at (k : Fin 1) : val_main_v16 (F := Ideal) x2 (ix2 k j) = wCol x2 j 1 := by
  rw [val_main_v16_apply, val_main_v14_apply, val_main_v13_apply]
  refine congrArg x2 (funext fun a => Fin.ext ?_)
  match a with
  | ⟨0, _⟩ => rfl
  | ⟨1, _⟩ => exact Nat.mod_eq_of_lt j.isLt

theorem row2_at (k : Fin 1) : val_main_v23 (F := Ideal) x2 (ix2 k j) = wCol x2 j 2 := by
  rw [val_main_v23_apply, val_main_v21_apply, val_main_v20_apply]
  refine congrArg x2 (funext fun a => Fin.ext ?_)
  match a with
  | ⟨0, _⟩ => rfl
  | ⟨1, _⟩ => exact Nat.mod_eq_of_lt j.isLt

theorem ref_apply : val_main_v28 (F := Ideal) x1 x2 (ix2 r j) = step x1 x2 (ix2 r j) := by
  have e0 : val_main_v11 (F := Ideal) x2 (ix2 r j) = wCol x2 j 0 := (val_main_v11_apply _ _).trans ((congrArg _ (eq_ix2 _)).trans (row0_at x2 j _))
  have e1 : val_main_v17 (F := Ideal) x2 (ix2 r j) = wCol x2 j 1 := (val_main_v17_apply _ _).trans ((congrArg _ (eq_ix2 _)).trans (row1_at x2 j _))
  have e2 : val_main_v24 (F := Ideal) x2 (ix2 r j) = wCol x2 j 2 := (val_main_v24_apply _ _).trans ((congrArg _ (eq_ix2 _)).trans (row2_at x2 j _))
  rw [val_main_v28_apply, val_main_v27_apply, val_main_v26_apply, val_main_v19_apply, val_main_v12_apply, val_main_v18_apply, val_main_v25_apply,
    e0, e1, e2, past0_at, past1_at, past2_at, past_add_two, b_at]
  show pCol x1 0 j r * ((wCol x2 j 0 * past (cv (pCol x1 1 j) (pCol x1 2 j)) r.val + wCol x2 j 1 * past (cv (pCol x1 1 j) (pCol x1 2 j)) (r.val + 1))
    + wCol x2 j 2 * cv (pCol x1 1 j) (pCol x1 2 j) r) = pCol x1 0 j r * conv _ _ _ r
  unfold conv
  congr 1
  ac_rfl

end

/-- The reference leaves its arguments as they were and ends with no semaphore raised. -/
theorem reference_frame : quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- The kernel's result is the reference's, entry by entry. -/
theorem equal : algebraic_Kernel25Ideal_Reference25Ideal := by
  intro m ρ m' ρ' _ hagree
  refine ⟨_, run m ρ, ?_⟩
  refine (θ_run Cert.Reference25Ideal.defs _ _).mono (fun _ h c => ⟨?_, (h c).2⟩)
    (Cert.Reference25Ideal.Value.run (F := Ideal) m' ρ')
  rw [(h c).1, (hagree c).1, (hagree c).2]
  refine (Cert.Reference25Ideal.Read.val_main_v28_eq _ _).trans (funext fun i => ?_)
  obtain ⟨r, k, rfl⟩ : ∃ (r : Fin 4096) (k : Fin 1024), i = ix2 r k := ⟨i 0, i 1, eq_ix2 i⟩
  exact ref_apply _ _ r k

end Cert.ConvFwd

end
-- ==== Proof.SsmOutGlu.lean ====
/-
  The state-space layer's output product with its gate and the residual stream after it. The kernel takes a quarter of
  the rows and one column part of each half at a time, the columns in two pieces; the reference multiplies by all the
  columns and splits the product.
-/
module

public import proofs.«01_k».proof.Defs
public import proofs.«01_k».proof.Proof.Sigmoid
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Adequacy
public import Idealize.ShloMosaic.Lib.Quiescent

@[expose] public section

set_option maxRecDepth 16384

noncomputable section

namespace Cert.SsmOutGlu

open Cert.Kernel24Ideal Cert.Kernel24Ideal.Gen Idealize.ShloMosaic Idealize.ShloMosaic.TcCoe
open Idealize.SL.Sem
open scoped BigOperators

theorem hz2 : (![0, 0] : Fin 2 → Nat) = fun _ => 0 := funext fun a => by fin_cases a <;> rfl

/-- The product of a row with a weight column: column `j` of the half `p`, which is a column of the weights' part. -/
def prod (z : S4096x1024.Idx → EReal) (w : S4x1024x512.Idx → EReal) (p : Fin 2) (r : Fin 4096) (j : Fin 1024) : EReal :=
  ∑ y : Fin 1024, z (ix2 r y) * w (ix3 (⟨2 * p.val + j.val / 512, by omega⟩ : Fin 4) y (⟨j.val % 512, by omega⟩ : Fin 512))

/-- The value gated by the logistic function. -/
def gated (a b : EReal) : EReal := a * Ideal.logistic b

/-- Both halves of the product. -/
def both (z : S4096x1024.Idx → EReal) (w : S4x1024x512.Idx → EReal) (i : S2x4096x1024.Idx) : EReal := prod z w (i 0) (i 1) (i 2)

/-- The gated half. -/
def mix (z : S4096x1024.Idx → EReal) (w : S4x1024x512.Idx → EReal) (i : S4096x1024.Idx) : EReal :=
  gated (prod z w 0 (i 0) (i 1)) (prod z w 1 (i 0) (i 1))

/-- The residual stream with the gated half, scaled, added. -/
def res (z : S4096x1024.Idx → EReal) (w : S4x1024x512.Idx → EReal) (x : S4096x1024.Idx → EReal) (s : S6x1024.Idx → EReal)
    (i : S4096x1024.Idx) : EReal :=
  x i + s (ix2 2 (i 1)) * mix z w i

/-- The product for a block of rows and a block of one part's columns. -/
def dots (x : S1024x1024.Idx → EReal) (w : S1x1024x512.Idx → EReal) (r : Fin 1024) (j : Fin 512) : EReal :=
  ∑ y : Fin 1024, x (ix2 r y) * w (ix3 0 y j)

/-! ## The payloads, entry by entry -/

theorem pay1_apply (v0 : Vec Ideal S1024x1024 .bf16) (v1 : Vec Ideal S1x1024x256 .bf16) (r : Fin 1024) (q : Fin 256) :
    k0_pay1 (F := Ideal) v0 v1 (ix2 r q) = ∑ y : Fin 1024, v0 (ix2 r y) * v1 (ix3 0 y q) := by
  unfold k0_pay1
  pointwise

theorem pay3_apply (v0 : Vec Ideal S1024x1024 .bf16) (v1 : Vec Ideal S1x1024x256 .bf16) (r : Fin 1024) (q : Fin 256) :
    k0_pay3 (F := Ideal) v0 v1 (ix2 r q) = ∑ y : Fin 1024, v0 (ix2 r y) * v1 (ix3 0 y q) := by
  unfold k0_pay3
  pointwise

theorem pay4_apply (v0 : Vec Ideal S1024x1024 .bf16) (v1 : Vec Ideal S1x1024x256 .bf16) (r : Fin 1024) (q : Fin 256) :
    k0_pay4 (F := Ideal) v0 v1 (ix2 r q) = ∑ y : Fin 1024, v0 (ix2 r y) * v1 (ix3 0 y q) := by
  unfold k0_pay4
  pointwise

theorem pay5_apply (v0 : Vec Ideal S1024x1024 .bf16) (v1 : Vec Ideal S1x1024x256 .bf16) (r : Fin 1024) (q : Fin 256) :
    k0_pay5 (F := Ideal) v0 v1 (ix3 0 r q) = ∑ y : Fin 1024, v0 (ix2 r y) * v1 (ix3 0 y q) := by
  unfold k0_pay5 k0_pay1
  pointwise

theorem pay6_apply (v0 : Vec Ideal S1024x1024 .bf16) (v1 : Vec Ideal S1x1024x256 .bf16) (r : Fin 1024) (q : Fin 256) :
    k0_pay6 (F := Ideal) v0 v1 (ix3 0 r q) = ∑ y : Fin 1024, v0 (ix2 r y) * v1 (ix3 0 y q) := by
  unfold k0_pay6 k0_pay2
  pointwise

theorem pay7_apply (v0 : Vec Ideal S1024x1024 .bf16) (v1 : Vec Ideal S1x1024x256 .bf16) (r : Fin 1024) (q : Fin 256) :
    k0_pay7 (F := Ideal) v0 v1 (ix2 r q) = Ideal.logistic (∑ y : Fin 1024, v0 (ix2 r y) * v1 (ix3 0 y q)) := by
  rw [← Cert.Sigmoid.tanh_form]
  unfold k0_pay7 k0_pay2
  pointwise

theorem pay9_apply (a g : FVec Ideal S1024x256 .f32) (i : S1024x256.Idx) :
    k0_pay9 (F := Ideal) a g i = a i * g i := by
  unfold k0_pay9 k0_pay8
  pointwise

theorem pay10_apply (a g : FVec Ideal S1024x256 .f32) (x : Vec Ideal S1024x256 .f32) (s : Vec Ideal S1x256 .f32) (r : Fin 1024)
    (q : Fin 256) : k0_pay10 (F := Ideal) a g x s (ix2 r q) = x (ix2 r q) + s (ix2 0 q) * (a (ix2 r q) * g (ix2 r q)) := by
  unfold k0_pay10 k0_pay8
  pointwise

theorem pay11_apply (a : FVec Ideal S1024x256 .f32) (r : Fin 1024) (q : Fin 256) :
    k0_pay11 (F := Ideal) a (ix3 0 r q) = a (ix2 r q) := by
  unfold k0_pay11
  pointwise

theorem pay12_apply (a : FVec Ideal S1024x256 .f32) (r : Fin 1024) (q : Fin 256) :
    k0_pay12 (F := Ideal) a (ix3 0 r q) = a (ix2 r q) := by
  unfold k0_pay12
  pointwise

theorem pay14_apply (a b : FVec Ideal S1024x256 .f32) (i : S1024x256.Idx) :
    k0_pay14 (F := Ideal) a b i = gated (a i) (b i) := by
  unfold gated
  rw [← Cert.Sigmoid.tanh_form]
  unfold k0_pay14 k0_pay13
  pointwise

theorem pay15_apply (a b : FVec Ideal S1024x256 .f32) (x : Vec Ideal S1024x256 .f32) (s : Vec Ideal S1x256 .f32) (r : Fin 1024)
    (q : Fin 256) : k0_pay15 (F := Ideal) a b x s (ix2 r q) = x (ix2 r q) + s (ix2 0 q) * gated (a (ix2 r q)) (b (ix2 r q)) := by
  unfold gated
  rw [← Cert.Sigmoid.tanh_form]
  unfold k0_pay15 k0_pay13
  pointwise

/-! ## What one point leaves in the three staging buffers -/

/-- A column of the first piece, and one of the second, as columns of the block. -/
def lo (q : Fin 256) : Fin 512 := ⟨q.val, by omega⟩
def hi (q : Fin 256) : Fin 512 := ⟨256 + q.val, by omega⟩

theorem lo_or_hi (j : Fin 512) : (∃ q : Fin 256, j = lo q) ∨ ∃ q : Fin 256, j = hi q := by
  rcases Nat.lt_or_ge j.val 256 with h | h
  · exact Or.inl ⟨⟨j.val, h⟩, rfl⟩
  · exact Or.inr ⟨⟨j.val - 256, by omega⟩, Fin.ext (show j.val = 256 + (j.val - 256) by omega)⟩

theorem emb_lo (r : Fin 1024) (q : Fin 256) : (ix2 r (lo q) : S1024x512.Idx) = r0_5.emb (ix2 r q : S1024x256.Idx) := by
  funext a
  apply Fin.ext
  match a with
  | ⟨0, _⟩ => show r.val = 0 + 1 * r.val; omega
  | ⟨1, _⟩ => show q.val = 0 + 1 * q.val; omega

theorem emb_hi (r : Fin 1024) (q : Fin 256) : (ix2 r (hi q) : S1024x512.Idx) = r0_9.emb (ix2 r q : S1024x256.Idx) := by
  funext a
  apply Fin.ext
  match a with
  | ⟨0, _⟩ => show r.val = 0 + 1 * r.val; omega
  | ⟨1, _⟩ => show 256 + q.val = 256 + 1 * q.val; omega

theorem not_hi (r : Fin 1024) (q : Fin 256) : (ix2 r (lo q) : S1024x512.Idx) ∉ r0_9.set := fun hm => by
  have h : 256 ≤ q.val := (Rect.mem_set_unit (s := S1024x512) (off := ![0, 256]) (size := S1024x256.size)
    (inb := inb_S1024x512_S1024x256_0_256) |>.mp hm 1).1
  omega

section
variable (x0 : Vec Ideal S1024x1024 .bf16) (x1 x2 : Vec Ideal S1x1024x512 .bf16) (x3 : Vec Ideal S1024x512 .f32) (x4 : Vec Ideal S6x512 .f32)

theorem ld_lo (w : Vec Ideal S1x1024x512 .bf16) (y : Fin 1024) (q : Fin 256) :
    View.ld w r0_1 (ix3 0 y q : S1x1024x256.Idx) = w (ix3 0 y (lo q)) := by
  show w (r0_1.emb (ix3 0 y q : S1x1024x256.Idx)) = _
  congr 1
  funext a
  apply Fin.ext
  match a with
  | ⟨0, _⟩ => rfl
  | ⟨1, _⟩ => show 0 + 1 * y.val = y.val; omega
  | ⟨2, _⟩ => show 0 + 1 * q.val = q.val; omega

theorem ld_hi (w : Vec Ideal S1x1024x512 .bf16) (y : Fin 1024) (q : Fin 256) :
    View.ld w r0_2 (ix3 0 y q : S1x1024x256.Idx) = w (ix3 0 y (hi q)) := by
  show w (r0_2.emb (ix3 0 y q : S1x1024x256.Idx)) = _
  congr 1
  funext a
  apply Fin.ext
  match a with
  | ⟨0, _⟩ => rfl
  | ⟨1, _⟩ => show 0 + 1 * y.val = y.val; omega
  | ⟨2, _⟩ => show 256 + 1 * q.val = 256 + q.val; omega

theorem ld_mods_lo (q : Fin 256) : View.ld x4 r0_6 (ix2 0 q : S1x256.Idx) = x4 (ix2 2 (lo q)) := by
  show x4 (r0_6.emb (ix2 0 q : S1x256.Idx)) = _
  congr 1
  funext a
  apply Fin.ext
  match a with
  | ⟨0, _⟩ => rfl
  | ⟨1, _⟩ => show 0 + 1 * q.val = q.val; omega

theorem ld_mods_hi (q : Fin 256) : View.ld x4 r0_10 (ix2 0 q : S1x256.Idx) = x4 (ix2 2 (hi q)) := by
  show x4 (r0_10.emb (ix2 0 q : S1x256.Idx)) = _
  congr 1
  funext a
  apply Fin.ext
  match a with
  | ⟨0, _⟩ => rfl
  | ⟨1, _⟩ => show 256 + 1 * q.val = 256 + q.val; omega

theorem sum_lo (w : Vec Ideal S1x1024x512 .bf16) (r : Fin 1024) (q : Fin 256) :
    (∑ y : Fin 1024, x0 (ix2 r y) * View.ld w r0_1 (ix3 0 y q : S1x1024x256.Idx)) = dots x0 w r (lo q) :=
  Finset.sum_congr rfl fun y _ => congrArg (fun b : EReal => x0 (ix2 r y) * b) (ld_lo w y q)

theorem sum_hi (w : Vec Ideal S1x1024x512 .bf16) (r : Fin 1024) (q : Fin 256) :
    (∑ y : Fin 1024, x0 (ix2 r y) * View.ld w r0_2 (ix3 0 y q : S1x1024x256.Idx)) = dots x0 w r (hi q) :=
  Finset.sum_congr rfl fun y _ => congrArg (fun b : EReal => x0 (ix2 r y) * b) (ld_hi w y q)

theorem pay16_apply (r : Fin 1024) (q : Fin 256) : k0_pay16 (F := Ideal) x0 x1 x2 x3 x4 (ix2 r q) = dots x0 x1 r (lo q) := by
  unfold k0_pay16
  rw [View.ld_unit_zero (S := S1024x1024) hz2, pay1_apply]
  exact sum_lo x0 x1 r q

theorem pay17_apply (r : Fin 1024) (q : Fin 256) : k0_pay17 (F := Ideal) x0 x1 x2 x3 x4 (ix2 r q) = dots x0 x1 r (hi q) := by
  unfold k0_pay17
  rw [View.ld_unit_zero (S := S1024x1024) hz2, pay3_apply]
  exact sum_hi x0 x1 r q

theorem pay18_apply (r : Fin 1024) (q : Fin 256) : k0_pay18 (F := Ideal) x0 x1 x2 x3 x4 (ix2 r q) = dots x0 x2 r (hi q) := by
  unfold k0_pay18
  rw [View.ld_unit_zero (S := S1024x1024) hz2, pay4_apply]
  exact sum_hi x0 x2 r q

theorem pay19_apply (r : Fin 1024) (q : Fin 256) :
    k0_pay19 (F := Ideal) x0 x1 x2 x3 x4 (ix2 r q) = Ideal.logistic (dots x0 x2 r (lo q)) := by
  unfold k0_pay19
  rw [View.ld_unit_zero (S := S1024x1024) hz2, pay7_apply]
  exact congrArg Ideal.logistic (sum_lo x0 x2 r q)

/-- The gated half of a block. -/
theorem out6_apply (r : Fin 1024) (j : Fin 512) :
    out0_6 (F := Ideal) x0 x1 x2 x3 x4 (ix2 r j) = gated (dots x0 x1 r j) (dots x0 x2 r j) := by
  unfold out0_6
  rcases lo_or_hi j with ⟨q, rfl⟩ | ⟨q, rfl⟩
  · refine (View.canon_cons_of_not_mem ⟨r0_9, _⟩ _ (not_hi r q)).trans ?_
    rw [emb_lo, View.canon_cons_emb, pay9_apply, pay16_apply, pay19_apply]
    rfl
  · rw [emb_hi, View.canon_cons_emb, pay14_apply, pay17_apply, pay18_apply]

/-- The residual stream of a block. -/
theorem out7_apply (r : Fin 1024) (j : Fin 512) : out0_7 (F := Ideal) x0 x1 x2 x3 x4 (ix2 r j)
    = x3 (ix2 r j) + x4 (ix2 2 j) * gated (dots x0 x1 r j) (dots x0 x2 r j) := by
  unfold out0_7
  rcases lo_or_hi j with ⟨q, rfl⟩ | ⟨q, rfl⟩
  · refine (View.canon_cons_of_not_mem ⟨r0_9, _⟩ _ (not_hi r q)).trans ?_
    rw [emb_lo, View.canon_cons_emb, pay10_apply, pay16_apply, pay19_apply, ld_mods_lo]
    rfl
  · rw [emb_hi, View.canon_cons_emb, pay15_apply, pay17_apply, pay18_apply, ld_mods_hi]
    rfl

theorem emb3 (r : Fin 1024) (q : Fin 256) : (ix3 0 r (lo q) : S2x1024x512.Idx) = r0_3.emb (ix3 0 r q : S1x1024x256.Idx) := by
  funext a
  apply Fin.ext
  match a with
  | ⟨0, _⟩ => rfl
  | ⟨1, _⟩ => show r.val = 0 + 1 * r.val; omega
  | ⟨2, _⟩ => show q.val = 0 + 1 * q.val; omega

theorem emb4 (r : Fin 1024) (q : Fin 256) : (ix3 1 r (lo q) : S2x1024x512.Idx) = r0_4.emb (ix3 0 r q : S1x1024x256.Idx) := by
  funext a
  apply Fin.ext
  match a with
  | ⟨0, _⟩ => rfl
  | ⟨1, _⟩ => show r.val = 0 + 1 * r.val; omega
  | ⟨2, _⟩ => show q.val = 0 + 1 * q.val; omega

theorem emb7 (r : Fin 1024) (q : Fin 256) : (ix3 0 r (hi q) : S2x1024x512.Idx) = r0_7.emb (ix3 0 r q : S1x1024x256.Idx) := by
  funext a
  apply Fin.ext
  match a with
  | ⟨0, _⟩ => rfl
  | ⟨1, _⟩ => show r.val = 0 + 1 * r.val; omega
  | ⟨2, _⟩ => show 256 + q.val = 256 + 1 * q.val; omega

theorem emb8 (r : Fin 1024) (q : Fin 256) : (ix3 1 r (hi q) : S2x1024x512.Idx) = r0_8.emb (ix3 0 r q : S1x1024x256.Idx) := by
  funext a
  apply Fin.ext
  match a with
  | ⟨0, _⟩ => rfl
  | ⟨1, _⟩ => show r.val = 0 + 1 * r.val; omega
  | ⟨2, _⟩ => show 256 + q.val = 256 + 1 * q.val; omega

theorem not8_lo (p : Fin 2) (r : Fin 1024) (q : Fin 256) : (ix3 p r (lo q) : S2x1024x512.Idx) ∉ r0_8.set := fun hm => by
  have h : 256 ≤ q.val := (Rect.mem_set_unit (s := S2x1024x512) (off := ![1, 0, 256]) (size := S1x1024x256.size)
    (inb := inb_S2x1024x512_S1x1024x256_1_0_256) |>.mp hm 2).1
  omega

theorem not7_lo (p : Fin 2) (r : Fin 1024) (q : Fin 256) : (ix3 p r (lo q) : S2x1024x512.Idx) ∉ r0_7.set := fun hm => by
  have h : 256 ≤ q.val := (Rect.mem_set_unit (s := S2x1024x512) (off := ![0, 0, 256]) (size := S1x1024x256.size)
    (inb := inb_S2x1024x512_S1x1024x256_0_0_256) |>.mp hm 2).1
  omega

theorem not8_zero (r : Fin 1024) (j : Fin 512) : (ix3 0 r j : S2x1024x512.Idx) ∉ r0_8.set := fun hm => by
  have h : 1 ≤ 0 := (Rect.mem_set_unit (s := S2x1024x512) (off := ![1, 0, 256]) (size := S1x1024x256.size)
    (inb := inb_S2x1024x512_S1x1024x256_1_0_256) |>.mp hm 0).1
  omega

theorem not4_zero (r : Fin 1024) (j : Fin 512) : (ix3 0 r j : S2x1024x512.Idx) ∉ r0_4.set := fun hm => by
  have h : 1 ≤ 0 := (Rect.mem_set_unit (s := S2x1024x512) (off := ![1, 0, 0]) (size := S1x1024x256.size)
    (inb := inb_S2x1024x512_S1x1024x256_1_0_0) |>.mp hm 0).1
  omega

/-- The first half of a block. -/
theorem out5_zero (r : Fin 1024) (j : Fin 512) : out0_5 (F := Ideal) x0 x1 x2 x3 x4 (ix3 0 r j) = dots x0 x1 r j := by
  unfold out0_5
  rcases lo_or_hi j with ⟨q, rfl⟩ | ⟨q, rfl⟩
  · refine (View.canon_cons_of_not_mem ⟨r0_8, _⟩ _ (not8_lo 0 r q)).trans ?_
    refine (View.canon_cons_of_not_mem ⟨r0_7, _⟩ _ (not7_lo 0 r q)).trans ?_
    refine (View.canon_cons_of_not_mem ⟨r0_4, _⟩ _ (not4_zero r (lo q))).trans ?_
    rw [emb3, View.canon_cons_emb, pay5_apply, View.ld_unit_zero (S := S1024x1024) hz2]
    exact sum_lo x0 x1 r q
  · refine (View.canon_cons_of_not_mem ⟨r0_8, _⟩ _ (not8_zero r (hi q))).trans ?_
    rw [emb7, View.canon_cons_emb, pay11_apply, pay17_apply]

/-- The second half of a block. -/
theorem out5_one (r : Fin 1024) (j : Fin 512) : out0_5 (F := Ideal) x0 x1 x2 x3 x4 (ix3 1 r j) = dots x0 x2 r j := by
  unfold out0_5
  rcases lo_or_hi j with ⟨q, rfl⟩ | ⟨q, rfl⟩
  · refine (View.canon_cons_of_not_mem ⟨r0_8, _⟩ _ (not8_lo 1 r q)).trans ?_
    refine (View.canon_cons_of_not_mem ⟨r0_7, _⟩ _ (not7_lo 1 r q)).trans ?_
    rw [emb4, View.canon_cons_emb, pay6_apply, View.ld_unit_zero (S := S1024x1024) hz2]
    exact sum_lo x0 x2 r q
  · rw [emb8, View.canon_cons_emb, pay12_apply, pay18_apply]

end

/-! ## The arrays -/

section
variable (m : (ℓ : Loc nD τ sig) → Buf (Elt Ideal) ℓ) (ρ : Dev nD → PrngReg) (c : Dev nD)

/-- The four argument arrays. -/
abbrev argZ : S4096x1024.Idx → EReal := m ((c : Thread nD τ).loc main_arg0)
abbrev argW : S4x1024x512.Idx → EReal := m ((c : Thread nD τ).loc main_arg1)
abbrev argX : S4096x1024.Idx → EReal := m ((c : Thread nD τ).loc main_arg2)
abbrev argS : S6x1024.Idx → EReal := m ((c : Thread nD τ).loc main_arg3)

theorem idx_facts : ∀ t : Fin cfg0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 + 2 ∧ win0_2.index t 1 = 0 ∧ win0_2.index t 2 = 0)
    ∧ (win0_3.index t 0 = t.val % 4 ∧ win0_3.index t 1 = t.val / 4)
    ∧ (win0_4.index t 0 = 0 ∧ win0_4.index t 1 = t.val / 4)
    ∧ (win0_5.index t 0 = 0 ∧ win0_5.index t 1 = t.val % 4 ∧ win0_5.index t 2 = t.val / 4)
    ∧ (win0_6.index t 0 = t.val % 4 ∧ win0_6.index t 1 = t.val / 4)
    ∧ (win0_7.index t 0 = t.val % 4 ∧ win0_7.index t 1 = t.val / 4) :=
  (by decide +kernel : ∀ t : Fin grid0.N, _)

/-- The array row that row `r` of a point's block is. -/
def row (t : Fin cfg0.N) (r : Fin 1024) : Fin 4096 := ⟨t.val % 4 * 1024 + r.val, by omega⟩

/-- The array column that column `j` of a point's block is. -/
def column (t : Fin cfg0.N) (j : Fin 512) : Fin 1024 := ⟨t.val / 4 * 512 + j.val, by have h : t.val < 8 := N_0 ▸ t.isLt; omega⟩

theorem blk0 (t : Fin cfg0.N) (r y : Fin 1024) : (iblk m c 0 t : S1024x1024.Idx → EReal) (ix2 r y) = argZ m c (ix2 (row t r) y) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = t.val % 4 * 1024 + r.val; omega
  | ⟨1, _⟩ => show win0_0.index t 1 * 1024 + 1 * y.val = y.val; omega

theorem blk1 (t : Fin cfg0.N) (y : Fin 1024) (j : Fin 512) : (iblk m c 1 t : S1x1024x512.Idx → EReal) (ix3 0 y j)
    = argW m c (ix3 (⟨2 * (0 : Fin 2).val + (column t j).val / 512, by have := (column t j).isLt; omega⟩ : Fin 4) y (⟨(column t j).val % 512, by omega⟩ : Fin 512)) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 2 * 0 + (t.val / 4 * 512 + j.val) / 512; omega
  | ⟨1, _⟩ => show win0_1.index t 1 * 1024 + 1 * y.val = y.val; omega
  | ⟨2, _⟩ => show win0_1.index t 2 * 512 + 1 * j.val = (t.val / 4 * 512 + j.val) % 512; omega

theorem blk2 (t : Fin cfg0.N) (y : Fin 1024) (j : Fin 512) : (iblk m c 2 t : S1x1024x512.Idx → EReal) (ix3 0 y j)
    = argW m c (ix3 (⟨2 * (1 : Fin 2).val + (column t j).val / 512, by have := (column t j).isLt; show 2 * 1 + _ / 512 < 4; omega⟩ : Fin 4) y (⟨(column t j).val % 512, by omega⟩ : Fin 512)) := by
  obtain ⟨e0, e1, e2⟩ := (idx_facts t).2.2.1
  unfold iblk
  rw [View.read_apply]
  show m ((c : Thread nD τ).loc main_arg1) _ = m ((c : Thread nD τ).loc main_arg1) _
  congr 1
  funext a
  apply Fin.ext
  match a with
  | ⟨0, _⟩ => show win0_2.index t 0 * 1 + 1 * 0 = 2 * 1 + (t.val / 4 * 512 + j.val) / 512; omega
  | ⟨1, _⟩ => show win0_2.index t 1 * 1024 + 1 * y.val = y.val; omega
  | ⟨2, _⟩ => show win0_2.index t 2 * 512 + 1 * j.val = (t.val / 4 * 512 + j.val) % 512; omega

theorem blk3 (t : Fin cfg0.N) (r : Fin 1024) (j : Fin 512) :
    (iblk m c 3 t : S1024x512.Idx → EReal) (ix2 r j) = argX m c (ix2 (row t r) (column t j)) := by
  obtain ⟨e0, e1⟩ := (idx_facts t).2.2.2.1
  unfold iblk
  rw [View.read_apply]
  show m ((c : Thread nD τ).loc main_arg2) _ = m ((c : Thread nD τ).loc main_arg2) _
  congr 1
  funext a
  apply Fin.ext
  match a with
  | ⟨0, _⟩ => show win0_3.index t 0 * 1024 + 1 * r.val = t.val % 4 * 1024 + r.val; omega
  | ⟨1, _⟩ => show win0_3.index t 1 * 512 + 1 * j.val = t.val / 4 * 512 + j.val; omega

theorem blk4 (t : Fin cfg0.N) (p : Fin 6) (j : Fin 512) :
    (iblk m c 4 t : S6x512.Idx → EReal) (ix2 p j) = argS m c (ix2 p (column t j)) := by
  obtain ⟨e0, e1⟩ := (idx_facts t).2.2.2.2.1
  unfold iblk
  rw [View.read_apply]
  show m ((c : Thread nD τ).loc main_arg3) _ = m ((c : Thread nD τ).loc main_arg3) _
  congr 1
  funext a
  apply Fin.ext
  match a with
  | ⟨0, _⟩ => show win0_4.index t 0 * 6 + 1 * p.val = p.val; omega
  | ⟨1, _⟩ => show win0_4.index t 1 * 512 + 1 * j.val = t.val / 4 * 512 + j.val; omega

/-- One point's product with its part of the first half of the weights, and with that of the second half. -/
theorem prod0 (t : Fin cfg0.N) (r : Fin 1024) (j : Fin 512) :
    dots (iblk m c 0 t) (iblk m c 1 t) r j = prod (argZ m c) (argW m c) 0 (row t r) (column t j) :=
  Finset.sum_congr rfl fun y _ => congrArg₂ (fun a b : EReal => a * b) (blk0 m c t r y) (blk1 m c t y j)

theorem prod1 (t : Fin cfg0.N) (r : Fin 1024) (j : Fin 512) :
    dots (iblk m c 0 t) (iblk m c 2 t) r j = prod (argZ m c) (argW m c) 1 (row t r) (column t j) :=
  Finset.sum_congr rfl fun y _ => congrArg₂ (fun a b : EReal => a * b) (blk0 m c t r y) (blk2 m c t y j)

/-- What a point writes back to the first result is its block of both halves of the product. -/
theorem flushed5 (t : Fin cfg0.N) : (dats m 0 c).flushed 5 t
    = ((cfg0.win 5).blk t).view.read (Elt Ideal) (both (argZ m c) (argW m c)) := by
  rw [Value.flushed5]
  refine funext fun (y : S2x1024x512.Idx) => ?_
  obtain ⟨p, r, j, rfl⟩ : ∃ (p : Fin 2) (r : Fin 1024) (j : Fin 512), y = ix3 p r j := ⟨y 0, y 1, y 2, eq_ix3 y⟩
  obtain ⟨e0, e1, e2⟩ := (idx_facts t).2.2.2.2.2.1
  have ey : ((cfg0.win 5).blk t).view.emb (ix3 p r j : S2x1024x512.Idx) = (ix3 p (row t r) (column t j) : S2x4096x1024.Idx) := by
    funext a
    apply Fin.ext
    match a with
    | ⟨0, _⟩ => show win0_5.index t 0 * 2 + 1 * p.val = p.val; omega
    | ⟨1, _⟩ => show win0_5.index t 1 * 1024 + 1 * r.val = t.val % 4 * 1024 + r.val; omega
    | ⟨2, _⟩ => show win0_5.index t 2 * 512 + 1 * j.val = t.val / 4 * 512 + j.val; omega
  refine Eq.trans ?_ (congrArg (both (argZ m c) (argW m c)) ey).symm
  match p with
  | ⟨0, _⟩ => exact (out5_zero (iblk m c 0 t) (iblk m c 1 t) (iblk m c 2 t) (iblk m c 3 t) (iblk m c 4 t) r j).trans (prod0 m c t r j)
  | ⟨1, _⟩ => exact (out5_one (iblk m c 0 t) (iblk m c 1 t) (iblk m c 2 t) (iblk m c 3 t) (iblk m c 4 t) r j).trans (prod1 m c t r j)

theorem mem_blk5 (t : Fin cfg0.N) (i : S2x4096x1024.Idx) : i ∈ ((cfg0.win 5).blk t).view.set
    ↔ ∀ a : Fin 3, win0_5.index t a * S2x1024x512.size a ≤ (i a).val ∧ (i a).val < win0_5.index t a * S2x1024x512.size a + S2x1024x512.size a := by
  show i ∈ ((View.whole main_v0_0).slice (win0_5.rect t)).set ↔ _
  rw [View.set_slice_whole, Rect.mem_set_unit]
  exact Iff.rfl

theorem final5 : (dats m 0 c).arrAt 5 cfg0.N = both (argZ m c) (argW m c) :=
  (dats m 0 c).arrAt_eq_of_cover 5 _ (fun t _ => flushed5 m c t) fun (i : S2x4096x1024.Idx) => by
    have h0 : (i 0).val < 2 := (i 0).isLt
    have h1 : (i 1).val < 4096 := (i 1).isLt
    have h2 : (i 2).val < 1024 := (i 2).isLt
    have hN : cfg0.N = 8 := N_0
    have hp : (i 2).val / 512 * 4 + (i 1).val / 1024 < cfg0.N := by omega
    refine ⟨⟨(i 2).val / 512 * 4 + (i 1).val / 1024, hp⟩, flush0_5 _, ?_⟩
    rw [mem_blk5]
    obtain ⟨e0, e1, e2⟩ := (idx_facts ⟨(i 2).val / 512 * 4 + (i 1).val / 1024, hp⟩).2.2.2.2.2.1
    dsimp only at e0 e1 e2
    intro a
    match a with
    | ⟨0, _⟩ => show win0_5.index _ 0 * 2 ≤ (i 0).val ∧ (i 0).val < win0_5.index _ 0 * 2 + 2; omega
    | ⟨1, _⟩ => show win0_5.index _ 1 * 1024 ≤ (i 1).val ∧ (i 1).val < win0_5.index _ 1 * 1024 + 1024; omega
    | ⟨2, _⟩ => show win0_5.index _ 2 * 512 ≤ (i 2).val ∧ (i 2).val < win0_5.index _ 2 * 512 + 512; omega

/-- What a point writes back to the second result is its block of the gated half. -/
theorem flushed6 (t : Fin cfg0.N) : (dats m 0 c).flushed 6 t
    = ((cfg0.win 6).blk t).view.read (Elt Ideal) (mix (argZ m c) (argW m c)) := by
  rw [Value.flushed6]
  refine funext fun (y : S1024x512.Idx) => ?_
  obtain ⟨r, j, rfl⟩ : ∃ (r : Fin 1024) (j : Fin 512), y = ix2 r j := ⟨y 0, y 1, eq_ix2 y⟩
  obtain ⟨e0, e1⟩ := (idx_facts t).2.2.2.2.2.2.1
  have ey : ((cfg0.win 6).blk t).view.emb (ix2 r j : S1024x512.Idx) = (ix2 (row t r) (column t j) : S4096x1024.Idx) := by
    funext a
    apply Fin.ext
    match a with
    | ⟨0, _⟩ => show win0_6.index t 0 * 1024 + 1 * r.val = t.val % 4 * 1024 + r.val; omega
    | ⟨1, _⟩ => show win0_6.index t 1 * 512 + 1 * j.val = t.val / 4 * 512 + j.val; omega
  refine Eq.trans ?_ (congrArg (mix (argZ m c) (argW m c)) ey).symm
  exact (out6_apply (iblk m c 0 t) (iblk m c 1 t) (iblk m c 2 t) (iblk m c 3 t) (iblk m c 4 t) r j).trans
    (congrArg₂ gated (prod0 m c t r j) (prod1 m c t r j))

theorem mem_blk6 (t : Fin cfg0.N) (i : S4096x1024.Idx) : i ∈ ((cfg0.win 6).blk t).view.set
    ↔ ∀ a : Fin 2, win0_6.index t a * S1024x512.size a ≤ (i a).val ∧ (i a).val < win0_6.index t a * S1024x512.size a + S1024x512.size a := by
  show i ∈ ((View.whole main_v0_1).slice (win0_6.rect t)).set ↔ _
  rw [View.set_slice_whole, Rect.mem_set_unit]
  exact Iff.rfl

theorem final6 : (dats m 0 c).arrAt 6 cfg0.N = mix (argZ m c) (argW m c) :=
  (dats m 0 c).arrAt_eq_of_cover 6 _ (fun t _ => flushed6 m c t) fun (i : S4096x1024.Idx) => by
    have h0 : (i 0).val < 4096 := (i 0).isLt
    have h1 : (i 1).val < 1024 := (i 1).isLt
    have hN : cfg0.N = 8 := N_0
    have hp : (i 1).val / 512 * 4 + (i 0).val / 1024 < cfg0.N := by omega
    refine ⟨⟨(i 1).val / 512 * 4 + (i 0).val / 1024, hp⟩, flush0_6 _, ?_⟩
    rw [mem_blk6]
    obtain ⟨e0, e1⟩ := (idx_facts ⟨(i 1).val / 512 * 4 + (i 0).val / 1024, hp⟩).2.2.2.2.2.2.1
    dsimp only at e0 e1
    intro a
    match a with
    | ⟨0, _⟩ => show win0_6.index _ 0 * 1024 ≤ (i 0).val ∧ (i 0).val < win0_6.index _ 0 * 1024 + 1024; omega
    | ⟨1, _⟩ => show win0_6.index _ 1 * 512 ≤ (i 1).val ∧ (i 1).val < win0_6.index _ 1 * 512 + 512; omega

/-- What a point writes back to the third result is its block of the residual stream. -/
theorem flushed7 (t : Fin cfg0.N) : (dats m 0 c).flushed 7 t
    = ((cfg0.win 7).blk t).view.read (Elt Ideal) (res (argZ m c) (argW m c) (argX m c) (argS m c)) := by
  rw [Value.flushed7]
  refine funext fun (y : S1024x512.Idx) => ?_
  obtain ⟨r, j, rfl⟩ : ∃ (r : Fin 1024) (j : Fin 512), y = ix2 r j := ⟨y 0, y 1, eq_ix2 y⟩
  obtain ⟨e0, e1⟩ := (idx_facts t).2.2.2.2.2.2.2
  have ey : ((cfg0.win 7).blk t).view.emb (ix2 r j : S1024x512.Idx) = (ix2 (row t r) (column t j) : S4096x1024.Idx) := by
    funext a
    apply Fin.ext
    match a with
    | ⟨0, _⟩ => show win0_7.index t 0 * 1024 + 1 * r.val = t.val % 4 * 1024 + r.val; omega
    | ⟨1, _⟩ => show win0_7.index t 1 * 512 + 1 * j.val = t.val / 4 * 512 + j.val; omega
  refine Eq.trans ?_ (congrArg (res (argZ m c) (argW m c) (argX m c) (argS m c)) ey).symm
  exact (out7_apply (iblk m c 0 t) (iblk m c 1 t) (iblk m c 2 t) (iblk m c 3 t) (iblk m c 4 t) r j).trans
    (congrArg₂ (fun a b : EReal => a + b) (blk3 m c t r j) (congrArg₂ (fun a b : EReal => a * b) (blk4 m c t 2 j)
      (congrArg₂ gated (prod0 m c t r j) (prod1 m c t r j))))

theorem mem_blk7 (t : Fin cfg0.N) (i : S4096x1024.Idx) : i ∈ ((cfg0.win 7).blk t).view.set
    ↔ ∀ a : Fin 2, win0_7.index t a * S1024x512.size a ≤ (i a).val ∧ (i a).val < win0_7.index t a * S1024x512.size a + S1024x512.size a := by
  show i ∈ ((View.whole main_v0_2).slice (win0_7.rect t)).set ↔ _
  rw [View.set_slice_whole, Rect.mem_set_unit]
  exact Iff.rfl

theorem final7 : (dats m 0 c).arrAt 7 cfg0.N = res (argZ m c) (argW m c) (argX m c) (argS m c) :=
  (dats m 0 c).arrAt_eq_of_cover 7 _ (fun t _ => flushed7 m c t) fun (i : S4096x1024.Idx) => by
    have h0 : (i 0).val < 4096 := (i 0).isLt
    have h1 : (i 1).val < 1024 := (i 1).isLt
    have hN : cfg0.N = 8 := N_0
    have hp : (i 1).val / 512 * 4 + (i 0).val / 1024 < cfg0.N := by omega
    refine ⟨⟨(i 1).val / 512 * 4 + (i 0).val / 1024, hp⟩, flush0_7 _, ?_⟩
    rw [mem_blk7]
    obtain ⟨e0, e1⟩ := (idx_facts ⟨(i 1).val / 512 * 4 + (i 0).val / 1024, hp⟩).2.2.2.2.2.2.2
    dsimp only at e0 e1
    intro a
    match a with
    | ⟨0, _⟩ => show win0_7.index _ 0 * 1024 ≤ (i 0).val ∧ (i 0).val < win0_7.index _ 0 * 1024 + 1024; omega
    | ⟨1, _⟩ => show win0_7.index _ 1 * 512 ≤ (i 1).val ∧ (i 1).val < win0_7.index _ 1 * 512 + 512; omega

/-- The run: the three results, the arguments unchanged. -/
theorem run : θ_run defs (onTc (τ := τ) (main (F := Ideal))) ⟨m, fun _ => 0, ρ⟩ fun r => ∀ c : Dev nD,
      r.2.mem ((c : Thread nD τ).loc main_v0_0) = both (argZ m c) (argW m c)
      ∧ r.2.mem ((c : Thread nD τ).loc main_v0_1) = mix (argZ m c) (argW m c)
      ∧ r.2.mem ((c : Thread nD τ).loc main_v0_2) = res (argZ m c) (argW m c) (argX m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2.1.trans (final6 m c), (h c).2.2.1.trans (final7 m c), (h c).2.2.2⟩)
    (Value.run_blocks m ρ)

end

/-! ## The reference -/

theorem half0 (x0 : S4096x1024.Idx → EReal) (x1 : S4x1024x512.Idx → EReal) (r : Fin 4096) (j : Fin 1024) :
    (∑ y : Fin 1024, x0 (ix2 r y) * x1 (ix3 (⟨j.val / 512, by omega⟩ : Fin 4) y (⟨j.val % 512, by omega⟩ : Fin 512))) = prod x0 x1 0 r j := by
  unfold prod
  refine Finset.sum_congr rfl fun y _ => congrArg (fun a => x0 (ix2 r y) * x1 (ix3 a y _)) ?_
  exact Fin.ext (show j.val / 512 = 2 * 0 + j.val / 512 by omega)

theorem half1 (x0 : S4096x1024.Idx → EReal) (x1 : S4x1024x512.Idx → EReal) (r : Fin 4096) (j : Fin 1024) :
    (∑ y : Fin 1024, x0 (ix2 r y) * x1 (ix3 (⟨(1024 + j.val) / 512, by omega⟩ : Fin 4) y (⟨(1024 + j.val) % 512, by omega⟩ : Fin 512))) = prod x0 x1 1 r j := by
  unfold prod
  refine Finset.sum_congr rfl fun y _ => congrArg₂ (fun a b => x0 (ix2 r y) * x1 (ix3 a y b)) ?_ ?_
  · exact Fin.ext (show (1024 + j.val) / 512 = 2 * 1 + j.val / 512 by omega)
  · exact Fin.ext (show (1024 + j.val) % 512 = j.val % 512 by omega)

theorem reference_both (x0 : S4096x1024.Idx → EReal) (x1 : S4x1024x512.Idx → EReal) (p : Fin 2) (r : Fin 4096) (j : Fin 1024) :
    Cert.Reference24Ideal.Read.val_main_v17 (F := Ideal) x0 x1 (ix3 p r j) = both x0 x1 (ix3 p r j) := by
  rw [← Cert.Reference24Ideal.Read.val_main_v17_eq]
  pointwise
  split
  · next h =>
      obtain rfl : p = 0 := Fin.ext (show p.val = 0 by omega)
      exact half0 x0 x1 r j
  · next h =>
      obtain rfl : p = 1 := Fin.ext (show p.val = 1 by omega)
      exact half1 x0 x1 r j

theorem reference_mix (x0 : S4096x1024.Idx → EReal) (x1 : S4x1024x512.Idx → EReal) (r : Fin 4096) (j : Fin 1024) :
    Cert.Reference24Ideal.Read.val_main_v18 (F := Ideal) x0 x1 (ix2 r j) = mix x0 x1 (ix2 r j) := by
  rw [← Cert.Reference24Ideal.Read.val_main_v18_eq]
  pointwise
  exact congrArg₂ gated (half0 x0 x1 r j) (half1 x0 x1 r j)

theorem reference_res (x0 : S4096x1024.Idx → EReal) (x1 : S4x1024x512.Idx → EReal) (x2 : S4096x1024.Idx → EReal) (x3 : S6x1024.Idx → EReal)
    (r : Fin 4096) (j : Fin 1024) :
    Cert.Reference24Ideal.Read.val_main_v24 (F := Ideal) x0 x1 x2 x3 (ix2 r j) = res x0 x1 x2 x3 (ix2 r j) := by
  rw [← Cert.Reference24Ideal.Read.val_main_v24_eq]
  pointwise
  exact congrArg (fun a : EReal => x2 (ix2 r j) + x3 (ix2 2 j) * a) (congrArg₂ gated (half0 x0 x1 r j) (half1 x0 x1 r j))

/-- The reference leaves its arguments as they were and ends with no semaphore raised. -/
theorem reference_frame : quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

/-- The kernel's three results are the reference's, entry by entry. -/
theorem equal : algebraic_Kernel24Ideal_Reference24Ideal := by
  intro m ρ m' ρ' _ hagree
  refine ⟨_, _, _, run m ρ, ?_⟩
  refine (θ_run Cert.Reference24Ideal.defs _ _).mono (fun _ h c => ⟨?_, ?_, ?_, (h c).2.2.2⟩)
    (Cert.Reference24Ideal.Value.run (F := Ideal) m' ρ')
  · rw [(h c).1, (hagree c).1, (hagree c).2.1]
    refine (Cert.Reference24Ideal.Read.val_main_v17_eq _ _).trans (funext fun i => ?_)
    obtain ⟨p, r, j, rfl⟩ : ∃ (p : Fin 2) (r : Fin 4096) (j : Fin 1024), i = ix3 p r j := ⟨i 0, i 1, i 2, eq_ix3 i⟩
    exact reference_both _ _ p r j
  · rw [(h c).2.1, (hagree c).1, (hagree c).2.1]
    refine (Cert.Reference24Ideal.Read.val_main_v18_eq _ _).trans (funext fun i => ?_)
    obtain ⟨r, j, rfl⟩ : ∃ (r : Fin 4096) (j : Fin 1024), i = ix2 r j := ⟨i 0, i 1, eq_ix2 i⟩
    exact reference_mix _ _ r j
  · rw [(h c).2.2.1, (hagree c).1, (hagree c).2.1, (hagree c).2.2.1, (hagree c).2.2.2]
    refine (Cert.Reference24Ideal.Read.val_main_v24_eq _ _ _ _).trans (funext fun i => ?_)
    obtain ⟨r, j, rfl⟩ : ∃ (r : Fin 4096) (j : Fin 1024), i = ix2 r j := ⟨i 0, i 1, eq_ix2 i⟩
    exact reference_res _ _ _ _ r j

end Cert.SsmOutGlu

end
-- ==== Proof.Folds.lean ====
/-
  The host's sums start at zero and run over an index; the kernels add the same terms from the left.
-/
module

public import Idealize.ShloMosaic.PureOps.Ideal

@[expose] public section

noncomputable section

namespace Cert.Folds

open Idealize.ShloMosaic

/-- The word of zero. -/
theorem zero_word : Ideal.ofBits .f32 0x00000000#32 = (0 : EReal) := by
  simp [Ideal.ofBits, Ideal.ieee]

/-- A sum of four terms. -/
theorem four (f : Fin 4 → EReal) : Ideal.ofBits .f32 0x00000000#32 + ∑ k : Fin 4, f k = f 0 + f 1 + f 2 + f 3 := by
  rw [zero_word, zero_add, Fin.sum_univ_four]

/-- A sum of eight terms. -/
theorem eight (f : Fin 8 → EReal) : Ideal.ofBits .f32 0x00000000#32 + ∑ k : Fin 8, f k
    = f 0 + f 1 + f 2 + f 3 + f 4 + f 5 + f 6 + f 7 := by
  rw [zero_word, zero_add, Fin.sum_univ_eight]

/-! ## The parts of the four chips -/

section
variable {n R C n' R' C' : Nat}

/-- The entry of part `k` that is added into an entry of the result. -/
abbrev part (i : (⟨3, ![n, R, C]⟩ : Shape).Idx) (k : Fin 4) : (⟨4, ![n, 4, R, C]⟩ : Shape).Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩

/-- The sum of the four parts at an entry. -/
def total (x : (⟨4, ![n, 4, R, C]⟩ : Shape).Idx → EReal) (i : (⟨3, ![n, R, C]⟩ : Shape).Idx) : EReal :=
  x (part i 0) + x (part i 1) + x (part i 2) + x (part i 3)

theorem total_eq (x : (⟨4, ![n, 4, R, C]⟩ : Shape).Idx → EReal) (i : (⟨3, ![n, R, C]⟩ : Shape).Idx) (f : Fin 4 → EReal)
    (h : ∀ k, f k = x (part i k)) : Ideal.ofBits .f32 0x00000000#32 + ∑ k : Fin 4, f k = total x i := by
  rw [four, h, h, h, h]
  rfl

/-- Equal parts have equal sums. -/
theorem total_congr {x : (⟨4, ![n, 4, R, C]⟩ : Shape).Idx → EReal} {y : (⟨4, ![n', 4, R', C']⟩ : Shape).Idx → EReal}
    {i : (⟨3, ![n, R, C]⟩ : Shape).Idx} {j : (⟨3, ![n', R', C']⟩ : Shape).Idx} (h : ∀ k, x (part i k) = y (part j k)) :
    total x i = total y j := by
  unfold total
  rw [h, h, h, h]

theorem part_eq (i : (⟨3, ![n, R, C]⟩ : Shape).Idx) (k : Fin 4) (j : (⟨4, ![n, 4, R, C]⟩ : Shape).Idx) (h0 : (j 0).val = (i 0).val)
    (h1 : (j 1).val = k.val) (h2 : (j 2).val = (i 1).val) (h3 : (j 3).val = (i 2).val) : j = part i k := by
  funext a
  apply Fin.ext
  match a with
  | ⟨0, _⟩ => exact h0
  | ⟨1, _⟩ => exact h1
  | ⟨2, _⟩ => exact h2
  | ⟨3, _⟩ => exact h3

/-- Reading at the coordinates of a part's entry, counted from a start of zero, is reading the entry. -/
theorem read_part (x : (⟨4, ![n, 4, R, C]⟩ : Shape).Idx → EReal) (i : (⟨3, ![n, R, C]⟩ : Shape).Idx) (k : Fin 4)
    (j : (⟨4, ![n, 4, R, C]⟩ : Shape).Idx) (h0 : (j 0).val = (i 0).val) (h1 : (j 1).val = k.val)
    (h2 : (j 2).val = 0 + 1 * (i 1).val) (h3 : (j 3).val = 0 + 1 * (i 2).val) : x j = x (part i k) :=
  congrArg x (part_eq i k j h0 h1 (h2.trans (by rw [Nat.zero_add, Nat.one_mul])) (h3.trans (by rw [Nat.zero_add, Nat.one_mul])))

/-- A part of an entry of a block of `r` rows is the part of the array's entry, when the two blocks start at the same
    layer, row and column and the block holds all four parts. -/
theorem place_part {r : Nat} (j : (⟨4, ![n, 4, R, C]⟩ : Shape).Idx) (i : (⟨3, ![n, R, C]⟩ : Shape).Idx) (k : Fin 4) (b : Fin 4 → Nat)
    (p : Fin 3 → Nat) (y : Fin 3 → Nat) (e0 : b 0 = p 0) (e1 : b 1 = 0) (e2 : b 2 = p 1) (e3 : b 3 = p 2)
    (j0 : (j 0).val = b 0 * 1 + 1 * y 0) (j1 : (j 1).val = b 1 * 4 + 1 * k.val) (j2 : (j 2).val = b 2 * r + 1 * y 1)
    (j3 : (j 3).val = b 3 * C + 1 * y 2) (i0 : (i 0).val = p 0 * 1 + 1 * y 0) (i1 : (i 1).val = p 1 * r + 1 * y 1)
    (i2 : (i 2).val = p 2 * C + 1 * y 2) : j = part i k := by
  funext a
  apply Fin.ext
  match a with
  | ⟨0, _⟩ => exact j0.trans ((congrArg (· * 1 + 1 * y 0) e0).trans i0.symm)
  | ⟨1, _⟩ => exact j1.trans (by rw [e1, Nat.zero_mul, Nat.zero_add, Nat.one_mul])
  | ⟨2, _⟩ => exact j2.trans ((congrArg (· * r + 1 * y 1) e2).trans i1.symm)
  | ⟨3, _⟩ => exact j3.trans ((congrArg (· * C + 1 * y 2) e3).trans i2.symm)

/-- An entry lies in the block of its layer and its rows. -/
theorem in_block {r : Nat} (hr : 0 < r) (i : (⟨3, ![n, R, C]⟩ : Shape).Idx) (p : Fin 3 → Nat) (e0 : p 0 = (i 0).val)
    (e1 : p 1 = (i 1).val / r) (e2 : p 2 = 0) : ∀ a : Fin 3, p a * (![1, r, C] : Fin 3 → Nat) a ≤ (i a).val
      ∧ (i a).val < p a * (![1, r, C] : Fin 3 → Nat) a + (![1, r, C] : Fin 3 → Nat) a := by
  have h2 : (i 2).val < C := (i 2).isLt
  have d := Nat.div_add_mod' (i 1).val r
  have d' := Nat.mod_lt (i 1).val hr
  intro a
  match a with
  | ⟨0, _⟩ => show p 0 * 1 ≤ (i 0).val ∧ (i 0).val < p 0 * 1 + 1; omega
  | ⟨1, _⟩ => show p 1 * r ≤ (i 1).val ∧ (i 1).val < p 1 * r + r; rw [e1]; omega
  | ⟨2, _⟩ => show p 2 * C ≤ (i 2).val ∧ (i 2).val < p 2 * C + C; rw [e2, Nat.zero_mul]; omega

end

end Cert.Folds

end
-- ==== Proof.SumSmall.lean ====
/-
  The sum over the eight devices of the small weights' gradients.
-/
module

public import proofs.«01_k».proof.Defs
public import proofs.«01_k».proof.Proof.Folds
public import proofs.«01_k».proof.Proof.Gen.Kernel31Ideal.Value
public import proofs.«01_k».proof.Proof.Gen.Reference31Ideal.Run
public import proofs.«01_k».proof.Proof.Gen.Reference31Ideal.Read
public import Idealize.ShloMosaic.Adequacy
public import Idealize.ShloMosaic.Lib.Quiescent

@[expose] public section

set_option maxRecDepth 16384

noncomputable section

namespace Cert.SumSmall

open Cert.Kernel31Ideal Cert.Kernel31Ideal.Gen Idealize.ShloMosaic Idealize.ShloMosaic.TcCoe
open Idealize.SL.Sem
open Cert.Reference31Ideal.Read (idx_main_v0 val_main_v0)

/-- The kernel's sum, entry by entry. -/
theorem kernel_total (x : S8x80x1024.Idx → EReal) (i : S80x1024.Idx) : Value.G1 (F := Ideal) x i
    = x (idx_main_v0 i 0) + x (idx_main_v0 i 1) + x (idx_main_v0 i 2) + x (idx_main_v0 i 3)
      + x (idx_main_v0 i 4) + x (idx_main_v0 i 5) + x (idx_main_v0 i 6) + x (idx_main_v0 i 7) := by
  rw [← Value.out1_eq]
  unfold out0_1
  rw [Value.canon1_eq]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;>
  · refine congrArg x (funext fun a => Fin.ext ?_)
    match a with
    | ⟨0, _⟩ => rfl
    | ⟨1, _⟩ => show 0 + 1 * (i 0).val = (i 0).val; omega
    | ⟨2, _⟩ => show 0 + 1 * (i 1).val = (i 1).val; omega

/-- The reference's sum is the kernel's. -/
theorem reference_total (x : S8x80x1024.Idx → EReal) : val_main_v0 (F := Ideal) x = Value.G1 (F := Ideal) x :=
  funext fun i => ((Cert.Reference31Ideal.Read.val_main_v0_apply x i).trans (Cert.Folds.eight _)).trans (kernel_total x i).symm

/-- The reference leaves its argument as it was and ends with no semaphore raised. -/
theorem reference_frame : quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

/-- The kernel's result is the reference's, entry by entry. -/
theorem equal : algebraic_Kernel31Ideal_Reference31Ideal := by
  intro m ρ m' ρ' _ hagree
  refine ⟨_, Cert.Kernel31Ideal.Value.run (F := Ideal) m ρ, ?_⟩
  refine (θ_run Cert.Reference31Ideal.defs _ _).mono (fun _ h c => ⟨?_, (h c).2⟩)
    (Cert.Reference31Ideal.Value.run (F := Ideal) m' ρ')
  rw [(h c).1]
  simp only [hagree c]
  exact reference_total _

end Cert.SumSmall

end
-- ==== Proof.ReduceSsmOut.lean ====
/-
  The sum over the four chips of the parts of the state-space layer's output weights' gradient. The kernel takes 512 rows
  of one layer's four parts at a time; the reference sums the whole array.
-/
module

public import proofs.«01_k».proof.Defs
public import proofs.«01_k».proof.Proof.Folds
public import proofs.«01_k».proof.Proof.Gen.Kernel32Ideal.Value
public import proofs.«01_k».proof.Proof.Gen.Reference32Ideal.Run
public import proofs.«01_k».proof.Proof.Gen.Reference32Ideal.Read
public import Idealize.ShloMosaic.Adequacy
public import Idealize.ShloMosaic.Lib.Quiescent

@[expose] public section

set_option maxRecDepth 16384

noncomputable section

namespace Cert.ReduceSsmOut

open Cert.Kernel32Ideal Cert.Kernel32Ideal.Gen Idealize.ShloMosaic Idealize.ShloMosaic.TcCoe
open Idealize.SL.Sem Cert.Folds

/-- One block's sum. -/
theorem out_apply (x : S1x4x512x512.Idx → EReal) (y : S1x512x512.Idx) : out0_1 (F := Ideal) x y = total x y := by
  have h : 0 = (y 0).val := (Nat.lt_one_iff.mp (y 0).isLt).symm
  unfold out0_1
  rw [Value.canon1_eq]
  exact congrArg₂ (· + ·) (congrArg₂ (· + ·) (congrArg₂ (· + ·) (read_part x y 0 _ h rfl rfl rfl) (read_part x y 1 _ h rfl rfl rfl))
    (read_part x y 2 _ h rfl rfl rfl)) (read_part x y 3 _ h rfl rfl rfl)

/-- Where a point's blocks lie. -/
theorem idx_facts : ∀ t : Fin cfg0.N, win0_1.index t 0 = t.val / 2 ∧ win0_1.index t 1 = t.val % 2 ∧ win0_1.index t 2 = 0
    ∧ win0_0.index t 1 = 0 :=
  (by decide +kernel : ∀ t : Fin grid0.N, _)

section
variable (m : (ℓ : Loc nD τ sig) → Buf (Elt Ideal) ℓ) (ρ : Dev nD → PrngReg) (c : Dev nD)

abbrev arg : S2x4x1024x512.Idx → EReal := m ((c : Thread nD τ).loc main_arg0)

/-- A point's parts are its block of the whole parts. -/
theorem blk (t : Fin cfg0.N) (y : S1x512x512.Idx) (k : Fin 4) :
    (iblk m c 0 t : S1x4x512x512.Idx → EReal) (part y k) = arg m c (part (((cfg0.win 1).blk t).view.emb y) k) := by
  unfold iblk
  rw [View.read_apply]
  exact congrArg (arg m c) (place_part _ _ k (win0_0.index t) (win0_1.index t) (fun a => (y a).val) rfl (idx_facts t).2.2.2 rfl rfl
    rfl rfl rfl rfl rfl rfl rfl)

/-- Every entry lies in the block of a point. -/
theorem covered (i : S2x1024x512.Idx) : ∃ t : Fin cfg0.N, i ∈ ((cfg0.win 1).blk t).view.set := by
  have h0 : (i 0).val < 2 := (i 0).isLt
  have h1 : (i 1).val < 1024 := (i 1).isLt
  have hN : cfg0.N = 4 := N_0
  have hp : (i 0).val * 2 + (i 1).val / 512 < cfg0.N := by omega
  refine ⟨⟨(i 0).val * 2 + (i 1).val / 512, hp⟩, ?_⟩
  show i ∈ ((View.whole main_v0).slice (win0_1.rect (⟨(i 0).val * 2 + (i 1).val / 512, hp⟩ : Fin cfg0.N))).set
  rw [View.set_slice_whole, Rect.mem_set_unit]
  obtain ⟨e0, e1, e2, _⟩ := idx_facts ⟨(i 0).val * 2 + (i 1).val / 512, hp⟩
  dsimp only at e0 e1
  exact in_block (by decide) i _ (e0.trans (by omega)) (e1.trans (by omega)) e2

theorem final : (dats m 0 c).arrAt 1 cfg0.N = total (arg m c) :=
  (dats m 0 c).arrAt_eq_of_cover 1 _ (fun t _ => by
    rw [Value.flushed1]
    exact funext fun (y : S1x512x512.Idx) => (out_apply (iblk m c 0 t) y).trans (total_congr (blk m c t y)))
    fun (i : S2x1024x512.Idx) => (covered i).imp fun t h => ⟨flush0_1 t, h⟩

/-- The run: the sum, the argument unchanged. -/
theorem run : θ_run defs (onTc (τ := τ) (main (F := Ideal))) ⟨m, fun _ => 0, ρ⟩ fun r => ∀ c : Dev nD,
      r.2.mem ((c : Thread nD τ).loc main_v0) = total (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

/-- The reference's sum. -/
theorem reference_total : Cert.Reference32Ideal.Read.val_main_v1 (F := Ideal) (arg m c) = total (arg m c) :=
  funext fun i => (Cert.Reference32Ideal.Read.val_main_v1_apply _ i).trans (total_eq (arg m c) i _
    fun k => congrArg (arg m c) (part_eq i k _ rfl rfl rfl rfl))

end

/-- The reference leaves its argument as it was and ends with no semaphore raised. -/
theorem reference_frame : quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

/-- The kernel's result is the reference's, entry by entry. -/
theorem equal : algebraic_Kernel32Ideal_Reference32Ideal := by
  intro m ρ m' ρ' _ hagree
  refine ⟨_, run m ρ, ?_⟩
  refine (θ_run Cert.Reference32Ideal.defs _ _).mono (fun _ h c => ⟨?_, (h c).2⟩)
    (Cert.Reference32Ideal.Value.run (F := Ideal) m' ρ')
  rw [(h c).1]
  simp only [hagree c]
  exact reference_total m c

end Cert.ReduceSsmOut

end
-- ==== Proof.ReduceConvIn.lean ====
/-
  The sum over the four chips of the parts of the convolution layer's input weights' gradient. The kernel takes 256 rows of
  one layer's four parts at a time; the reference sums the whole array.
-/
module

public import proofs.«01_k».proof.Defs
public import proofs.«01_k».proof.Proof.Folds
public import proofs.«01_k».proof.Proof.Gen.Kernel33Ideal.Value
public import proofs.«01_k».proof.Proof.Gen.Reference33Ideal.Run
public import proofs.«01_k».proof.Proof.Gen.Reference33Ideal.Read
public import Idealize.ShloMosaic.Adequacy
public import Idealize.ShloMosaic.Lib.Quiescent

@[expose] public section

set_option maxRecDepth 16384

noncomputable section

namespace Cert.ReduceConvIn

open Cert.Kernel33Ideal Cert.Kernel33Ideal.Gen Idealize.ShloMosaic Idealize.ShloMosaic.TcCoe
open Idealize.SL.Sem Cert.Folds

/-- One block's sum. -/
theorem out_apply (x : S1x4x256x768.Idx → EReal) (y : S1x256x768.Idx) : out0_1 (F := Ideal) x y = total x y := by
  have h : 0 = (y 0).val := (Nat.lt_one_iff.mp (y 0).isLt).symm
  unfold out0_1
  rw [Value.canon1_eq]
  exact congrArg₂ (· + ·) (congrArg₂ (· + ·) (congrArg₂ (· + ·) (read_part x y 0 _ h rfl rfl rfl) (read_part x y 1 _ h rfl rfl rfl))
    (read_part x y 2 _ h rfl rfl rfl)) (read_part x y 3 _ h rfl rfl rfl)

/-- Where a point's blocks lie. -/
theorem idx_facts : ∀ t : Fin cfg0.N, win0_1.index t 0 = t.val / 4 ∧ win0_1.index t 1 = t.val % 4 ∧ win0_1.index t 2 = 0
    ∧ win0_0.index t 1 = 0 :=
  (by decide +kernel : ∀ t : Fin grid0.N, _)

section
variable (m : (ℓ : Loc nD τ sig) → Buf (Elt Ideal) ℓ) (ρ : Dev nD → PrngReg) (c : Dev nD)

abbrev arg : S2x4x1024x768.Idx → EReal := m ((c : Thread nD τ).loc main_arg0)

/-- A point's parts are its block of the whole parts. -/
theorem blk (t : Fin cfg0.N) (y : S1x256x768.Idx) (k : Fin 4) :
    (iblk m c 0 t : S1x4x256x768.Idx → EReal) (part y k) = arg m c (part (((cfg0.win 1).blk t).view.emb y) k) := by
  unfold iblk
  rw [View.read_apply]
  exact congrArg (arg m c) (place_part _ _ k (win0_0.index t) (win0_1.index t) (fun a => (y a).val) rfl (idx_facts t).2.2.2 rfl rfl
    rfl rfl rfl rfl rfl rfl rfl)

/-- Every entry lies in the block of a point. -/
theorem covered (i : S2x1024x768.Idx) : ∃ t : Fin cfg0.N, i ∈ ((cfg0.win 1).blk t).view.set := by
  have h0 : (i 0).val < 2 := (i 0).isLt
  have h1 : (i 1).val < 1024 := (i 1).isLt
  have hN : cfg0.N = 8 := N_0
  have hp : (i 0).val * 4 + (i 1).val / 256 < cfg0.N := by omega
  refine ⟨⟨(i 0).val * 4 + (i 1).val / 256, hp⟩, ?_⟩
  show i ∈ ((View.whole main_v0).slice (win0_1.rect (⟨(i 0).val * 4 + (i 1).val / 256, hp⟩ : Fin cfg0.N))).set
  rw [View.set_slice_whole, Rect.mem_set_unit]
  obtain ⟨e0, e1, e2, _⟩ := idx_facts ⟨(i 0).val * 4 + (i 1).val / 256, hp⟩
  dsimp only at e0 e1
  exact in_block (by decide) i _ (e0.trans (by omega)) (e1.trans (by omega)) e2

theorem final : (dats m 0 c).arrAt 1 cfg0.N = total (arg m c) :=
  (dats m 0 c).arrAt_eq_of_cover 1 _ (fun t _ => by
    rw [Value.flushed1]
    exact funext fun (y : S1x256x768.Idx) => (out_apply (iblk m c 0 t) y).trans (total_congr (blk m c t y)))
    fun (i : S2x1024x768.Idx) => (covered i).imp fun t h => ⟨flush0_1 t, h⟩

/-- The run: the sum, the argument unchanged. -/
theorem run : θ_run defs (onTc (τ := τ) (main (F := Ideal))) ⟨m, fun _ => 0, ρ⟩ fun r => ∀ c : Dev nD,
      r.2.mem ((c : Thread nD τ).loc main_v0) = total (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

/-- The reference's sum. -/
theorem reference_total : Cert.Reference33Ideal.Read.val_main_v1 (F := Ideal) (arg m c) = total (arg m c) :=
  funext fun i => (Cert.Reference33Ideal.Read.val_main_v1_apply _ i).trans (total_eq (arg m c) i _
    fun k => congrArg (arg m c) (part_eq i k _ rfl rfl rfl rfl))

end

/-- The reference leaves its argument as it was and ends with no semaphore raised. -/
theorem reference_frame : quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

/-- The kernel's result is the reference's, entry by entry. -/
theorem equal : algebraic_Kernel33Ideal_Reference33Ideal := by
  intro m ρ m' ρ' _ hagree
  refine ⟨_, run m ρ, ?_⟩
  refine (θ_run Cert.Reference33Ideal.defs _ _).mono (fun _ h c => ⟨?_, (h c).2⟩)
    (Cert.Reference33Ideal.Value.run (F := Ideal) m' ρ')
  rw [(h c).1]
  simp only [hagree c]
  exact reference_total m c

end Cert.ReduceConvIn

end
-- ==== Proof.ReduceConvOut.lean ====
/-
  The sum over the four chips of the parts of the convolution layer's output weights' gradient. The kernel takes one layer's
  four parts at a time; the reference sums the whole array.
-/
module

public import proofs.«01_k».proof.Defs
public import proofs.«01_k».proof.Proof.Folds
public import proofs.«01_k».proof.Proof.Gen.Kernel34Ideal.Value
public import proofs.«01_k».proof.Proof.Gen.Reference34Ideal.Run
public import proofs.«01_k».proof.Proof.Gen.Reference34Ideal.Read
public import Idealize.ShloMosaic.Adequacy
public import Idealize.ShloMosaic.Lib.Quiescent

@[expose] public section

set_option maxRecDepth 16384

noncomputable section

namespace Cert.ReduceConvOut

open Cert.Kernel34Ideal Cert.Kernel34Ideal.Gen Idealize.ShloMosaic Idealize.ShloMosaic.TcCoe
open Idealize.SL.Sem Cert.Folds

/-- One block's sum. -/
theorem out_apply (x : S1x4x256x1024.Idx → EReal) (y : S1x256x1024.Idx) : out0_1 (F := Ideal) x y = total x y := by
  have h : 0 = (y 0).val := (Nat.lt_one_iff.mp (y 0).isLt).symm
  unfold out0_1
  rw [Value.canon1_eq]
  exact congrArg₂ (· + ·) (congrArg₂ (· + ·) (congrArg₂ (· + ·) (read_part x y 0 _ h rfl rfl rfl) (read_part x y 1 _ h rfl rfl rfl))
    (read_part x y 2 _ h rfl rfl rfl)) (read_part x y 3 _ h rfl rfl rfl)

/-- Where a point's blocks lie. -/
theorem idx_facts : ∀ t : Fin cfg0.N, win0_1.index t 0 = t.val / 1 ∧ win0_1.index t 1 = t.val % 1 ∧ win0_1.index t 2 = 0
    ∧ win0_0.index t 1 = 0 :=
  (by decide +kernel : ∀ t : Fin grid0.N, _)

section
variable (m : (ℓ : Loc nD τ sig) → Buf (Elt Ideal) ℓ) (ρ : Dev nD → PrngReg) (c : Dev nD)

abbrev arg : S2x4x256x1024.Idx → EReal := m ((c : Thread nD τ).loc main_arg0)

/-- A point's parts are its block of the whole parts. -/
theorem blk (t : Fin cfg0.N) (y : S1x256x1024.Idx) (k : Fin 4) :
    (iblk m c 0 t : S1x4x256x1024.Idx → EReal) (part y k) = arg m c (part (((cfg0.win 1).blk t).view.emb y) k) := by
  unfold iblk
  rw [View.read_apply]
  exact congrArg (arg m c) (place_part _ _ k (win0_0.index t) (win0_1.index t) (fun a => (y a).val) rfl (idx_facts t).2.2.2 rfl rfl
    rfl rfl rfl rfl rfl rfl rfl)

/-- Every entry lies in the block of a point. -/
theorem covered (i : S2x256x1024.Idx) : ∃ t : Fin cfg0.N, i ∈ ((cfg0.win 1).blk t).view.set := by
  have h0 : (i 0).val < 2 := (i 0).isLt
  have h1 : (i 1).val < 256 := (i 1).isLt
  have hN : cfg0.N = 2 := N_0
  have hp : (i 0).val * 1 + (i 1).val / 256 < cfg0.N := by omega
  refine ⟨⟨(i 0).val * 1 + (i 1).val / 256, hp⟩, ?_⟩
  show i ∈ ((View.whole main_v0).slice (win0_1.rect (⟨(i 0).val * 1 + (i 1).val / 256, hp⟩ : Fin cfg0.N))).set
  rw [View.set_slice_whole, Rect.mem_set_unit]
  obtain ⟨e0, e1, e2, _⟩ := idx_facts ⟨(i 0).val * 1 + (i 1).val / 256, hp⟩
  dsimp only at e0 e1
  exact in_block (by decide) i _ (e0.trans (by omega)) (e1.trans (by omega)) e2

theorem final : (dats m 0 c).arrAt 1 cfg0.N = total (arg m c) :=
  (dats m 0 c).arrAt_eq_of_cover 1 _ (fun t _ => by
    rw [Value.flushed1]
    exact funext fun (y : S1x256x1024.Idx) => (out_apply (iblk m c 0 t) y).trans (total_congr (blk m c t y)))
    fun (i : S2x256x1024.Idx) => (covered i).imp fun t h => ⟨flush0_1 t, h⟩

/-- The run: the sum, the argument unchanged. -/
theorem run : θ_run defs (onTc (τ := τ) (main (F := Ideal))) ⟨m, fun _ => 0, ρ⟩ fun r => ∀ c : Dev nD,
      r.2.mem ((c : Thread nD τ).loc main_v0) = total (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

/-- The reference's sum. -/
theorem reference_total : Cert.Reference34Ideal.Read.val_main_v1 (F := Ideal) (arg m c) = total (arg m c) :=
  funext fun i => (Cert.Reference34Ideal.Read.val_main_v1_apply _ i).trans (total_eq (arg m c) i _
    fun k => congrArg (arg m c) (part_eq i k _ rfl rfl rfl rfl))

end

/-- The reference leaves its argument as it was and ends with no semaphore raised. -/
theorem reference_frame : quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

/-- The kernel's result is the reference's, entry by entry. -/
theorem equal : algebraic_Kernel34Ideal_Reference34Ideal := by
  intro m ρ m' ρ' _ hagree
  refine ⟨_, run m ρ, ?_⟩
  refine (θ_run Cert.Reference34Ideal.defs _ _).mono (fun _ h c => ⟨?_, (h c).2⟩)
    (Cert.Reference34Ideal.Value.run (F := Ideal) m' ρ')
  rw [(h c).1]
  simp only [hagree c]
  exact reference_total m c

end Cert.ReduceConvOut

end
-- ==== Proof.ReduceFfnIn.lean ====
/-
  The sum over the four chips of the parts of the feed-forward layer's first weights' gradient. The kernel takes 128 rows of
  one slice's four parts at a time; the reference sums the whole array.
-/
module

public import proofs.«01_k».proof.Defs
public import proofs.«01_k».proof.Proof.Folds
public import proofs.«01_k».proof.Proof.Gen.Kernel35Ideal.Value
public import proofs.«01_k».proof.Proof.Gen.Reference35Ideal.Run
public import proofs.«01_k».proof.Proof.Gen.Reference35Ideal.Read
public import Idealize.ShloMosaic.Adequacy
public import Idealize.ShloMosaic.Lib.Quiescent

@[expose] public section

set_option maxRecDepth 16384

noncomputable section

namespace Cert.ReduceFfnIn

open Cert.Kernel35Ideal Cert.Kernel35Ideal.Gen Idealize.ShloMosaic Idealize.ShloMosaic.TcCoe
open Idealize.SL.Sem Cert.Folds

/-- One block's sum. -/
theorem out_apply (x : S1x4x128x1408.Idx → EReal) (y : S1x128x1408.Idx) : out0_1 (F := Ideal) x y = total x y := by
  have h : 0 = (y 0).val := (Nat.lt_one_iff.mp (y 0).isLt).symm
  unfold out0_1
  rw [Value.canon1_eq]
  exact congrArg₂ (· + ·) (congrArg₂ (· + ·) (congrArg₂ (· + ·) (read_part x y 0 _ h rfl rfl rfl) (read_part x y 1 _ h rfl rfl rfl))
    (read_part x y 2 _ h rfl rfl rfl)) (read_part x y 3 _ h rfl rfl rfl)

/-- Where a point's blocks lie. -/
theorem idx_facts : ∀ t : Fin cfg0.N, win0_1.index t 0 = t.val / 8 ∧ win0_1.index t 1 = t.val % 8 ∧ win0_1.index t 2 = 0
    ∧ win0_0.index t 1 = 0 :=
  (by decide +kernel : ∀ t : Fin grid0.N, _)

section
variable (m : (ℓ : Loc nD τ sig) → Buf (Elt Ideal) ℓ) (ρ : Dev nD → PrngReg) (c : Dev nD)

abbrev arg : S4x4x1024x1408.Idx → EReal := m ((c : Thread nD τ).loc main_arg0)

/-- A point's parts are its block of the whole parts. -/
theorem blk (t : Fin cfg0.N) (y : S1x128x1408.Idx) (k : Fin 4) :
    (iblk m c 0 t : S1x4x128x1408.Idx → EReal) (part y k) = arg m c (part (((cfg0.win 1).blk t).view.emb y) k) := by
  unfold iblk
  rw [View.read_apply]
  exact congrArg (arg m c) (place_part _ _ k (win0_0.index t) (win0_1.index t) (fun a => (y a).val) rfl (idx_facts t).2.2.2 rfl rfl
    rfl rfl rfl rfl rfl rfl rfl)

/-- Every entry lies in the block of a point. -/
theorem covered (i : S4x1024x1408.Idx) : ∃ t : Fin cfg0.N, i ∈ ((cfg0.win 1).blk t).view.set := by
  have h0 : (i 0).val < 4 := (i 0).isLt
  have h1 : (i 1).val < 1024 := (i 1).isLt
  have hN : cfg0.N = 32 := N_0
  have hp : (i 0).val * 8 + (i 1).val / 128 < cfg0.N := by omega
  refine ⟨⟨(i 0).val * 8 + (i 1).val / 128, hp⟩, ?_⟩
  show i ∈ ((View.whole main_v0).slice (win0_1.rect (⟨(i 0).val * 8 + (i 1).val / 128, hp⟩ : Fin cfg0.N))).set
  rw [View.set_slice_whole, Rect.mem_set_unit]
  obtain ⟨e0, e1, e2, _⟩ := idx_facts ⟨(i 0).val * 8 + (i 1).val / 128, hp⟩
  dsimp only at e0 e1
  exact in_block (by decide) i _ (e0.trans (by omega)) (e1.trans (by omega)) e2

theorem final : (dats m 0 c).arrAt 1 cfg0.N = total (arg m c) :=
  (dats m 0 c).arrAt_eq_of_cover 1 _ (fun t _ => by
    rw [Value.flushed1]
    exact funext fun (y : S1x128x1408.Idx) => (out_apply (iblk m c 0 t) y).trans (total_congr (blk m c t y)))
    fun (i : S4x1024x1408.Idx) => (covered i).imp fun t h => ⟨flush0_1 t, h⟩

/-- The run: the sum, the argument unchanged. -/
theorem run : θ_run defs (onTc (τ := τ) (main (F := Ideal))) ⟨m, fun _ => 0, ρ⟩ fun r => ∀ c : Dev nD,
      r.2.mem ((c : Thread nD τ).loc main_v0) = total (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

/-- The reference's sum. -/
theorem reference_total : Cert.Reference35Ideal.Read.val_main_v1 (F := Ideal) (arg m c) = total (arg m c) :=
  funext fun i => (Cert.Reference35Ideal.Read.val_main_v1_apply _ i).trans (total_eq (arg m c) i _
    fun k => congrArg (arg m c) (part_eq i k _ rfl rfl rfl rfl))

end

/-- The reference leaves its argument as it was and ends with no semaphore raised. -/
theorem reference_frame : quiescent_Reference35Ideal := fun m ρ _ =>
  (θ_run Cert.Reference35Ideal.defs _ _).mono (fun r h => ⟨fun c => (h c).2, sem_eq_zero_of_no_sems (by decide) r.2⟩)
    (Cert.Reference35Ideal.Value.run (F := Ideal) m ρ)

/-- The kernel's result is the reference's, entry by entry. -/
theorem equal : algebraic_Kernel35Ideal_Reference35Ideal := by
  intro m ρ m' ρ' _ hagree
  refine ⟨_, run m ρ, ?_⟩
  refine (θ_run Cert.Reference35Ideal.defs _ _).mono (fun _ h c => ⟨?_, (h c).2⟩)
    (Cert.Reference35Ideal.Value.run (F := Ideal) m' ρ')
  rw [(h c).1]
  simp only [hagree c]
  exact reference_total m c

end Cert.ReduceFfnIn

end
-- ==== Proof.ReduceFfnOut.lean ====
/-
  The sum over the four chips of the parts of the feed-forward layer's second weights' gradient. The kernel takes 176 rows of
  one slice's four parts at a time; the reference sums the whole array.
-/
module

public import proofs.«01_k».proof.Defs
public import proofs.«01_k».proof.Proof.Folds
public import proofs.«01_k».proof.Proof.Gen.Kernel36Ideal.Value
public import proofs.«01_k».proof.Proof.Gen.Reference36Ideal.Run
public import proofs.«01_k».proof.Proof.Gen.Reference36Ideal.Read
public import Idealize.ShloMosaic.Adequacy
public import Idealize.ShloMosaic.Lib.Quiescent

@[expose] public section

set_option maxRecDepth 16384

noncomputable section

namespace Cert.ReduceFfnOut

open Cert.Kernel36Ideal Cert.Kernel36Ideal.Gen Idealize.ShloMosaic Idealize.ShloMosaic.TcCoe
open Idealize.SL.Sem Cert.Folds

/-- One block's sum. -/
theorem out_apply (x : S1x4x176x1024.Idx → EReal) (y : S1x176x1024.Idx) : out0_1 (F := Ideal) x y = total x y := by
  have h : 0 = (y 0).val := (Nat.lt_one_iff.mp (y 0).isLt).symm
  unfold out0_1
  rw [Value.canon1_eq]
  exact congrArg₂ (· + ·) (congrArg₂ (· + ·) (congrArg₂ (· + ·) (read_part x y 0 _ h rfl rfl rfl) (read_part x y 1 _ h rfl rfl rfl))
    (read_part x y 2 _ h rfl rfl rfl)) (read_part x y 3 _ h rfl rfl rfl)

/-- Where a point's blocks lie. -/
theorem idx_facts : ∀ t : Fin cfg0.N, win0_1.index t 0 = t.val / 4 ∧ win0_1.index t 1 = t.val % 4 ∧ win0_1.index t 2 = 0
    ∧ win0_0.index t 1 = 0 :=
  (by decide +kernel : ∀ t : Fin grid0.N, _)

section
variable (m : (ℓ : Loc nD τ sig) → Buf (Elt Ideal) ℓ) (ρ : Dev nD → PrngReg) (c : Dev nD)

abbrev arg : S4x4x704x1024.Idx → EReal := m ((c : Thread nD τ).loc main_arg0)

/-- A point's parts are its block of the whole parts. -/
theorem blk (t : Fin cfg0.N) (y : S1x176x1024.Idx) (k : Fin 4) :
    (iblk m c 0 t : S1x4x176x1024.Idx → EReal) (part y k) = arg m c (part (((cfg0.win 1).blk t).view.emb y) k) := by
  unfold iblk
  rw [View.read_apply]
  exact congrArg (arg m c) (place_part _ _ k (win0_0.index t) (win0_1.index t) (fun a => (y a).val) rfl (idx_facts t).2.2.2 rfl rfl
    rfl rfl rfl rfl rfl rfl rfl)

/-- Every entry lies in the block of a point. -/
theorem covered (i : S4x704x1024.Idx) : ∃ t : Fin cfg0.N, i ∈ ((cfg0.win 1).blk t).view.set := by
  have h0 : (i 0).val < 4 := (i 0).isLt
  have h1 : (i 1).val < 704 := (i 1).isLt
  have hN : cfg0.N = 16 := N_0
  have hp : (i 0).val * 4 + (i 1).val / 176 < cfg0.N := by omega
  refine ⟨⟨(i 0).val * 4 + (i 1).val / 176, hp⟩, ?_⟩
  show i ∈ ((View.whole main_v0).slice (win0_1.rect (⟨(i 0).val * 4 + (i 1).val / 176, hp⟩ : Fin cfg0.N))).set
  rw [View.set_slice_whole, Rect.mem_set_unit]
  obtain ⟨e0, e1, e2, _⟩ := idx_facts ⟨(i 0).val * 4 + (i 1).val / 176, hp⟩
  dsimp only at e0 e1
  exact in_block (by decide) i _ (e0.trans (by omega)) (e1.trans (by omega)) e2

theorem final : (dats m 0 c).arrAt 1 cfg0.N = total (arg m c) :=
  (dats m 0 c).arrAt_eq_of_cover 1 _ (fun t _ => by
    rw [Value.flushed1]
    exact funext fun (y : S1x176x1024.Idx) => (out_apply (iblk m c 0 t) y).trans (total_congr (blk m c t y)))
    fun (i : S4x704x1024.Idx) => (covered i).imp fun t h => ⟨flush0_1 t, h⟩

/-- The run: the sum, the argument unchanged. -/
theorem run : θ_run defs (onTc (τ := τ) (main (F := Ideal))) ⟨m, fun _ => 0, ρ⟩ fun r => ∀ c : Dev nD,
      r.2.mem ((c : Thread nD τ).loc main_v0) = total (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

/-- The reference's sum. -/
theorem reference_total : Cert.Reference36Ideal.Read.val_main_v1 (F := Ideal) (arg m c) = total (arg m c) :=
  funext fun i => (Cert.Reference36Ideal.Read.val_main_v1_apply _ i).trans (total_eq (arg m c) i _
    fun k => congrArg (arg m c) (part_eq i k _ rfl rfl rfl rfl))

end

/-- The reference leaves its argument as it was and ends with no semaphore raised. -/
theorem reference_frame : quiescent_Reference36Ideal := fun m ρ _ =>
  (θ_run Cert.Reference36Ideal.defs _ _).mono (fun r h => ⟨fun c => (h c).2, sem_eq_zero_of_no_sems (by decide) r.2⟩)
    (Cert.Reference36Ideal.Value.run (F := Ideal) m ρ)

/-- The kernel's result is the reference's, entry by entry. -/
theorem equal : algebraic_Kernel36Ideal_Reference36Ideal := by
  intro m ρ m' ρ' _ hagree
  refine ⟨_, run m ρ, ?_⟩
  refine (θ_run Cert.Reference36Ideal.defs _ _).mono (fun _ h c => ⟨?_, (h c).2⟩)
    (Cert.Reference36Ideal.Value.run (F := Ideal) m' ρ')
  rw [(h c).1]
  simp only [hagree c]
  exact reference_total m c

end Cert.ReduceFfnOut

end
-- ==== Proof.AdaMods.lean ====
/-
  The modulations: the conditions' activation times the conditioning weights, plus the bias. The kernel takes one layer
  at a time; the reference takes the whole arrays.
-/
module

public import proofs.«01_k».proof.Defs
public import proofs.«01_k».proof.Proof.Sigmoid
public import proofs.«01_k».proof.Proof.Gen.Kernel37Ideal.Value
public import proofs.«01_k».proof.Proof.Gen.Reference37Ideal.Run
public import proofs.«01_k».proof.Proof.Gen.Reference37Ideal.Read
public import Idealize.ShloMosaic.Lib.Pointwise
public import Idealize.ShloMosaic.Adequacy
public import Idealize.ShloMosaic.Lib.Quiescent

@[expose] public section

set_option maxRecDepth 16384

noncomputable section

namespace Cert.AdaMods

open Cert.Kernel37Ideal Cert.Kernel37Ideal.Gen Idealize.ShloMosaic Idealize.ShloMosaic.TcCoe
open Idealize.SL.Sem

theorem hz3 : (![0, 0, 0] : Fin 3 → Nat) = fun _ => 0 := funext fun a => by fin_cases a <;> rfl

theorem hz2 : (![0, 0] : Fin 2 → Nat) = fun _ => 0 := funext fun a => by fin_cases a <;> rfl

/-- One modulation: the sum over the conditions' entries of the activated entry times its weight, plus the bias. -/
def total (x w : Fin 1024 → EReal) (b : EReal) : EReal := (∑ k : Fin 1024, x k * Ideal.logistic (x k) * w k) + b

/-! ## One block -/

theorem out_apply (x : Vec Ideal S8x1024 .f32) (w : Vec Ideal S1x1024x1536 .f32) (b : Vec Ideal S1x1x1536 .f32) (y : Fin 8) (j : Fin 1536) :
    out0_3 (F := Ideal) x w b (ix3 0 y j) = total (fun k => x (ix2 y k)) (fun k => w (ix3 0 k j)) (b (ix3 0 0 j)) := by
  unfold out0_3
  rw [View.canon_unit_zero hz3, View.ld_unit_zero (S := S8x1024) hz2, View.ld_unit_zero (S := S1x1024x1536) hz3,
    View.ld_unit_zero (S := S1x1x1536) hz3]
  unfold total
  simp only [← Cert.Sigmoid.tanh_form]
  unfold k0_pay1
  pointwise

/-! ## The whole arrays -/

section
variable (m : (ℓ : Loc nD τ sig) → Buf (Elt Ideal) ℓ) (ρ : Dev nD → PrngReg) (c : Dev nD)

abbrev argX : S8x1024.Idx → EReal := m ((c : Thread nD τ).loc main_arg0)
abbrev argW : S4x1024x1536.Idx → EReal := m ((c : Thread nD τ).loc main_arg1)
abbrev argB : S4x1x1536.Idx → EReal := m ((c : Thread nD τ).loc main_arg2)

/-- The result, entry by entry. -/
def result (i : S4x8x1536.Idx) : EReal :=
  total (fun k => argX m c (ix2 (i 1) k)) (fun k => argW m c (ix3 (i 0) k (i 2))) (argB m c (ix3 (i 0) 0 (i 2)))

/-- Where a point's blocks lie. -/
theorem idx_facts : ∀ t : Fin cfg0.N, (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) :=
  (by decide +kernel : ∀ t : Fin grid0.N, _)

/-- The layer of a point. -/
def layer (t : Fin cfg0.N) : Fin 4 := ⟨t.val, t.isLt.trans_eq N_0⟩

theorem blkX (t : Fin cfg0.N) (y : Fin 8) (k : Fin 1024) : (iblk m c 0 t : S8x1024.Idx → EReal) (ix2 y k) = argX m c (ix2 y k) := by
  obtain ⟨e0, e1⟩ := (idx_facts t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 8 + 1 * y.val = y.val; omega
  | ⟨1, _⟩ => show win0_0.index t 1 * 1024 + 1 * k.val = k.val; omega

theorem blkW (t : Fin cfg0.N) (k : Fin 1024) (j : Fin 1536) :
    (iblk m c 1 t : S1x1024x1536.Idx → EReal) (ix3 0 k j) = argW m c (ix3 (layer t) k j) := by
  obtain ⟨e0, e1, e2⟩ := (idx_facts t).2.1
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = t.val; omega
  | ⟨1, _⟩ => show win0_1.index t 1 * 1024 + 1 * k.val = k.val; omega
  | ⟨2, _⟩ => show win0_1.index t 2 * 1536 + 1 * j.val = j.val; omega

theorem blkB (t : Fin cfg0.N) (j : Fin 1536) :
    (iblk m c 2 t : S1x1x1536.Idx → EReal) (ix3 0 0 j) = argB m c (ix3 (layer t) 0 j) := by
  obtain ⟨e0, e1, e2⟩ := (idx_facts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t 0 * 1 + 1 * 0 = t.val; omega
  | ⟨1, _⟩ => show win0_2.index t 1 * 1 + 1 * 0 = 0; omega
  | ⟨2, _⟩ => show win0_2.index t 2 * 1536 + 1 * j.val = j.val; omega

theorem flushed (t : Fin cfg0.N) : (dats m 0 c).flushed 3 t = ((cfg0.win 3).blk t).view.read (Elt Ideal) (result m c) := by
  rw [Value.flushed3]
  refine funext fun (y : S1x8x1536.Idx) => ?_
  obtain ⟨z, r, j, rfl⟩ : ∃ (z : Fin 1) (r : Fin 8) (j : Fin 1536), y = ix3 z r j := ⟨y 0, y 1, y 2, eq_ix3 y⟩
  obtain rfl : z = 0 := Subsingleton.elim _ _
  obtain ⟨e0, e1, e2⟩ := (idx_facts t).2.2.2
  have ey : ((cfg0.win 3).blk t).view.emb (ix3 0 r j : S1x8x1536.Idx) = (ix3 (layer t) r j : S4x8x1536.Idx) := by
    funext a
    apply Fin.ext
    match a with
    | ⟨0, _⟩ => show win0_3.index t 0 * 1 + 1 * 0 = t.val; omega
    | ⟨1, _⟩ => show win0_3.index t 1 * 8 + 1 * r.val = r.val; omega
    | ⟨2, _⟩ => show win0_3.index t 2 * 1536 + 1 * j.val = j.val; omega
  refine (out_apply (iblk m c 0 t) (iblk m c 1 t) (iblk m c 2 t) r j).trans ?_
  simp only [blkX, blkW, blkB]
  exact (congrArg (result m c) ey).symm

/-- So the result array holds the modulations. -/
theorem final : (dats m 0 c).arrAt 3 cfg0.N = result m c :=
  (dats m 0 c).arrAt_eq_of_cover 3 _ (fun t _ => flushed m c t) fun (i : S4x8x1536.Idx) => by
    have h0 : (i 0).val < 4 := (i 0).isLt
    have h1 : (i 1).val < 8 := (i 1).isLt
    have h2 : (i 2).val < 1536 := (i 2).isLt
    have hN : cfg0.N = 4 := N_0
    have hp : (i 0).val < cfg0.N := by omega
    refine ⟨⟨(i 0).val, hp⟩, flush0_3 _, ?_⟩
    show i ∈ ((View.whole main_v0).slice (win0_3.rect (⟨(i 0).val, hp⟩ : Fin cfg0.N))).set
    rw [View.set_slice_whole, Rect.mem_set_unit]
    obtain ⟨e0, e1, e2⟩ := (idx_facts ⟨(i 0).val, hp⟩).2.2.2
    dsimp only at e0 e1 e2
    intro a
    match a with
    | ⟨0, _⟩ => show win0_3.index _ 0 * 1 ≤ (i 0).val ∧ (i 0).val < win0_3.index _ 0 * 1 + 1; omega
    | ⟨1, _⟩ => show win0_3.index _ 1 * 8 ≤ (i 1).val ∧ (i 1).val < win0_3.index _ 1 * 8 + 8; omega
    | ⟨2, _⟩ => show win0_3.index _ 2 * 1536 ≤ (i 2).val ∧ (i 2).val < win0_3.index _ 2 * 1536 + 1536; omega

/-- The run: the modulations, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end

/-- The word of one. -/
theorem one_word : Ideal.ofBits .f32 0x3F800000#32 = (1 : EReal) := by
  simp [Ideal.ofBits, Ideal.ieee]
  rw [← EReal.coe_mul, ← EReal.coe_one]
  congr 1
  norm_num

/-- The reference's activation. -/
theorem reference_silu (x : S8x1024.Idx → EReal) (i : S8x1024.Idx) :
    Cert.Reference37Ideal.Read.val_main_v0 (F := Ideal) x i = x i * Ideal.logistic (x i) := by
  show x i * Ideal.div (Ideal.ofBits .f32 0x3F800000#32) (Ideal.ofBits .f32 0x3F800000#32 + Ideal.exp (-(x i))) = _
  rw [one_word]
  rfl

/-- The reference's modulations. -/
theorem reference_apply (x : S8x1024.Idx → EReal) (w : S4x1024x1536.Idx → EReal) (b : S4x1x1536.Idx → EReal) (s : Fin 4) (y : Fin 8) (j : Fin 1536) :
    Cert.Reference37Ideal.Read.val_main_v4 (F := Ideal) x w b (ix3 s y j)
      = total (fun k => x (ix2 y k)) (fun k => w (ix3 s k j)) (b (ix3 s 0 j)) := by
  rw [Cert.Reference37Ideal.Read.val_main_v4_apply, Cert.Reference37Ideal.Read.val_main_v2_apply,
    Cert.Reference37Ideal.Read.val_main_v3_apply, Cert.Reference37Ideal.Read.val_main_v1_apply]
  refine congrArg₂ (fun p q : EReal => p + q) (Finset.sum_congr rfl fun k _ => congrArg₂ (fun p q : EReal => p * q) ?_ ?_) ?_
  · rw [reference_silu]
    exact congrArg (fun i => x i * Ideal.logistic (x i)) (eq_ix2 _)
  · exact congrArg w (eq_ix3 _)
  · exact congrArg b (eq_ix3 _)

/-- The reference leaves its arguments as they were and ends with no semaphore raised. -/
theorem reference_frame : quiescent_Reference37Ideal := fun m ρ _ =>
  (θ_run Cert.Reference37Ideal.defs _ _).mono (fun r h => ⟨fun c => (h c).2, sem_eq_zero_of_no_sems (by decide) r.2⟩)
    (Cert.Reference37Ideal.Value.run (F := Ideal) m ρ)

/-- The kernel's result is the reference's, entry by entry. -/
theorem equal : algebraic_Kernel37Ideal_Reference37Ideal := by
  intro m ρ m' ρ' _ hagree
  refine ⟨_, run m ρ, ?_⟩
  refine (θ_run Cert.Reference37Ideal.defs _ _).mono (fun _ h c => ⟨?_, (h c).2⟩)
    (Cert.Reference37Ideal.Value.run (F := Ideal) m' ρ')
  rw [(h c).1]
  simp only [hagree c]
  refine (Cert.Reference37Ideal.Read.val_main_v4_eq _ _ _).trans (funext fun i => ?_)
  obtain ⟨s, y, j, rfl⟩ : ∃ (s : Fin 4) (y : Fin 8) (j : Fin 1536), i = ix3 s y j := ⟨i 0, i 1, i 2, eq_ix3 i⟩
  exact reference_apply _ _ _ s y j

end Cert.AdaMods

end
-- ==== Proof.lean ====
/-
  The claims of this certificate, put together: each call's frames, and its kernel equal to its plain reference.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvClaim
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.NtFfnIn
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.TnFfnIn
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.TnFfnOut
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.FfnAct
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.FfnOut
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.NtConvIn
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.TnConvIn
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.ConvIn
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.GluBwd
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.AdamFfnIn
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.AdamFfnOut
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.AdamConvIn
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.AdamConvOut
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.AdamSsmOut
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.AdamConv
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.AdamAda
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.AdamSlab
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.NormBwd
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.NormBwdMix
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.NormBwdFfn
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.FinalLoss
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.TnSsmOut
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.NtSsmOut
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.TnConvOut
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.NtConvOut
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.ConvOut
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.ConvFwd
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.SsmOutGlu
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.SumSmall
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.ReduceSsmOut
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.ReduceConvIn
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.ReduceConvOut
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.ReduceFfnIn
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.ReduceFfnOut
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.AdaMods
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts,
  Cert.KernelIdeal.Gen.facts,
  Cert.ReferenceIdeal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel11.Gen.facts,
  Cert.Kernel11Ideal.Gen.facts,
  Cert.Reference11Ideal.Gen.facts,
  Cert.Kernel10.Gen.facts,
  Cert.Kernel10Ideal.Gen.facts,
  Cert.Reference10Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel20.Gen.facts,
  Cert.Kernel20Ideal.Gen.facts,
  Cert.Reference20Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel25.Gen.facts,
  Cert.Kernel25Ideal.Gen.facts,
  Cert.Reference25Ideal.Gen.facts,
  Cert.Kernel24.Gen.facts,
  Cert.Kernel24Ideal.Gen.facts,
  Cert.Reference24Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Kernel37.Gen.facts,
  Cert.Kernel37Ideal.Gen.facts,
  Cert.Reference37Ideal.Gen.facts,
  fun m ρ _ => Cert.Kernel.Gen.frame m ρ, fun m ρ _ => Cert.KernelIdeal.Gen.frame m ρ, Cert.ConvClaim.reference_frame,
  fun m ρ _ => Cert.Kernel3.Gen.frame m ρ, fun m ρ _ => Cert.Kernel3Ideal.Gen.frame m ρ, Cert.NtFfnIn.reference_frame,
  fun m ρ _ => Cert.Kernel4.Gen.frame m ρ, fun m ρ _ => Cert.Kernel4Ideal.Gen.frame m ρ, Cert.TnFfnIn.reference_frame,
  fun m ρ _ => Cert.Kernel5.Gen.frame m ρ, fun m ρ _ => Cert.Kernel5Ideal.Gen.frame m ρ, Cert.TnFfnOut.reference_frame,
  fun m ρ _ => Cert.Kernel6.Gen.frame m ρ, fun m ρ _ => Cert.Kernel6Ideal.Gen.frame m ρ, Cert.FfnAct.reference_frame,
  fun m ρ _ => Cert.Kernel7.Gen.frame m ρ, fun m ρ _ => Cert.Kernel7Ideal.Gen.frame m ρ, Cert.FfnOut.reference_frame,
  fun m ρ _ => Cert.Kernel8.Gen.frame m ρ, fun m ρ _ => Cert.Kernel8Ideal.Gen.frame m ρ, Cert.NtConvIn.reference_frame,
  fun m ρ _ => Cert.Kernel9.Gen.frame m ρ, fun m ρ _ => Cert.Kernel9Ideal.Gen.frame m ρ, Cert.TnConvIn.reference_frame,
  fun m ρ _ => Cert.Kernel11.Gen.frame m ρ, fun m ρ _ => Cert.Kernel11Ideal.Gen.frame m ρ, Cert.ConvIn.reference_frame,
  fun m ρ _ => Cert.Kernel10.Gen.frame m ρ, fun m ρ _ => Cert.Kernel10Ideal.Gen.frame m ρ, Cert.GluBwd.reference_frame,
  fun m ρ _ => Cert.Kernel12.Gen.frame m ρ, fun m ρ _ => Cert.Kernel12Ideal.Gen.frame m ρ, Cert.AdamFfnIn.reference_frame,
  fun m ρ _ => Cert.Kernel13.Gen.frame m ρ, fun m ρ _ => Cert.Kernel13Ideal.Gen.frame m ρ, Cert.AdamFfnOut.reference_frame,
  fun m ρ _ => Cert.Kernel14.Gen.frame m ρ, fun m ρ _ => Cert.Kernel14Ideal.Gen.frame m ρ, Cert.AdamConvIn.reference_frame,
  fun m ρ _ => Cert.Kernel15.Gen.frame m ρ, fun m ρ _ => Cert.Kernel15Ideal.Gen.frame m ρ, Cert.AdamConvOut.reference_frame,
  fun m ρ _ => Cert.Kernel16.Gen.frame m ρ, fun m ρ _ => Cert.Kernel16Ideal.Gen.frame m ρ, Cert.AdamSsmOut.reference_frame,
  fun m ρ _ => Cert.Kernel17.Gen.frame m ρ, fun m ρ _ => Cert.Kernel17Ideal.Gen.frame m ρ, Cert.AdamConv.reference_frame,
  fun m ρ _ => Cert.Kernel18.Gen.frame m ρ, fun m ρ _ => Cert.Kernel18Ideal.Gen.frame m ρ, Cert.AdamAda.reference_frame,
  fun m ρ _ => Cert.Kernel19.Gen.frame m ρ, fun m ρ _ => Cert.Kernel19Ideal.Gen.frame m ρ, Cert.AdamSlab.reference_frame,
  fun m ρ _ => Cert.Kernel21.Gen.frame m ρ, fun m ρ _ => Cert.Kernel21Ideal.Gen.frame m ρ, Cert.NormBwd.reference_frame,
  fun m ρ _ => Cert.Kernel22.Gen.frame m ρ, fun m ρ _ => Cert.Kernel22Ideal.Gen.frame m ρ, Cert.NormBwdMix.reference_frame,
  fun m ρ _ => Cert.Kernel23.Gen.frame m ρ, fun m ρ _ => Cert.Kernel23Ideal.Gen.frame m ρ, Cert.NormBwdFfn.reference_frame,
  fun m ρ _ => Cert.Kernel20.Gen.frame m ρ, fun m ρ _ => Cert.Kernel20Ideal.Gen.frame m ρ, Cert.FinalLoss.reference_frame,
  fun m ρ _ => Cert.Kernel26.Gen.frame m ρ, fun m ρ _ => Cert.Kernel26Ideal.Gen.frame m ρ, Cert.TnSsmOut.reference_frame,
  fun m ρ _ => Cert.Kernel27.Gen.frame m ρ, fun m ρ _ => Cert.Kernel27Ideal.Gen.frame m ρ, Cert.NtSsmOut.reference_frame,
  fun m ρ _ => Cert.Kernel28.Gen.frame m ρ, fun m ρ _ => Cert.Kernel28Ideal.Gen.frame m ρ, Cert.TnConvOut.reference_frame,
  fun m ρ _ => Cert.Kernel29.Gen.frame m ρ, fun m ρ _ => Cert.Kernel29Ideal.Gen.frame m ρ, Cert.NtConvOut.reference_frame,
  fun m ρ _ => Cert.Kernel30.Gen.frame m ρ, fun m ρ _ => Cert.Kernel30Ideal.Gen.frame m ρ, Cert.ConvOut.reference_frame,
  fun m ρ _ => Cert.Kernel25.Gen.frame m ρ, fun m ρ _ => Cert.Kernel25Ideal.Gen.frame m ρ, Cert.ConvFwd.reference_frame,
  fun m ρ _ => Cert.Kernel24.Gen.frame m ρ, fun m ρ _ => Cert.Kernel24Ideal.Gen.frame m ρ, Cert.SsmOutGlu.reference_frame,
  fun m ρ _ => Cert.Kernel31.Gen.frame m ρ, fun m ρ _ => Cert.Kernel31Ideal.Gen.frame m ρ, Cert.SumSmall.reference_frame,
  fun m ρ _ => Cert.Kernel32.Gen.frame m ρ, fun m ρ _ => Cert.Kernel32Ideal.Gen.frame m ρ, Cert.ReduceSsmOut.reference_frame,
  fun m ρ _ => Cert.Kernel33.Gen.frame m ρ, fun m ρ _ => Cert.Kernel33Ideal.Gen.frame m ρ, Cert.ReduceConvIn.reference_frame,
  fun m ρ _ => Cert.Kernel34.Gen.frame m ρ, fun m ρ _ => Cert.Kernel34Ideal.Gen.frame m ρ, Cert.ReduceConvOut.reference_frame,
  fun m ρ _ => Cert.Kernel35.Gen.frame m ρ, fun m ρ _ => Cert.Kernel35Ideal.Gen.frame m ρ, Cert.ReduceFfnIn.reference_frame,
  fun m ρ _ => Cert.Kernel36.Gen.frame m ρ, fun m ρ _ => Cert.Kernel36Ideal.Gen.frame m ρ, Cert.ReduceFfnOut.reference_frame,
  fun m ρ _ => Cert.Kernel37.Gen.frame m ρ, fun m ρ _ => Cert.Kernel37Ideal.Gen.frame m ρ, Cert.AdaMods.reference_frame,
  trivial, Cert.ConvClaim.equal,
  trivial, Cert.NtFfnIn.equal,
  trivial, Cert.TnFfnIn.equal,
  trivial, Cert.TnFfnOut.equal,
  trivial, Cert.FfnAct.equal,
  trivial, Cert.FfnOut.equal,
  trivial, Cert.NtConvIn.equal,
  trivial, Cert.TnConvIn.equal,
  trivial, Cert.ConvIn.equal,
  trivial, Cert.GluBwd.equal,
  trivial, Cert.AdamFfnIn.equal,
  trivial, Cert.AdamFfnOut.equal,
  trivial, Cert.AdamConvIn.equal,
  trivial, Cert.AdamConvOut.equal,
  trivial, Cert.AdamSsmOut.equal,
  trivial, Cert.AdamConv.equal,
  trivial, Cert.AdamAda.equal,
  trivial, Cert.AdamSlab.equal,
  trivial, Cert.NormBwd.equal,
  trivial, Cert.NormBwdMix.equal,
  trivial, Cert.NormBwdFfn.equal,
  trivial, Cert.FinalLoss.equal,
  trivial, Cert.TnSsmOut.equal,
  trivial, Cert.NtSsmOut.equal,
  trivial, Cert.TnConvOut.equal,
  trivial, Cert.NtConvOut.equal,
  trivial, Cert.ConvOut.equal,
  trivial, Cert.ConvFwd.equal,
  trivial, Cert.SsmOutGlu.equal,
  trivial, Cert.SumSmall.equal,
  trivial, Cert.ReduceSsmOut.equal,
  trivial, Cert.ReduceConvIn.equal,
  trivial, Cert.ReduceConvOut.equal,
  trivial, Cert.ReduceFfnIn.equal,
  trivial, Cert.ReduceFfnOut.equal,
  trivial, Cert.AdaMods.equal⟩

end Cert.Proof

end
